-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 [hPre_a_core : Cert.Pre_a_core.Facts] (m : (ℓ : Loc Cert.Kernel29.nD Cert.Kernel29.τ Cert.Kernel29.sig) → Buf (Elt Bits) ℓ) : Prop :=
  ∀ c : Dev Cert.Kernel29.nD,
    (Cert.Pre_a_core.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2))) = (fun _ => 1#1)

def Pre_Kernel29Ideal [hPre_a_core : Cert.Pre_a_core.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_a_core.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_a_core [hPre_a_core : Cert.Pre_a_core.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_a_core.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 [hPre_a_chip : Cert.Pre_a_chip.Facts] (m : (ℓ : Loc Cert.Kernel30.nD Cert.Kernel30.τ Cert.Kernel30.sig) → Buf (Elt Bits) ℓ) : Prop :=
  ∀ c : Dev Cert.Kernel30.nD,
    (Cert.Pre_a_chip.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2))) = (fun _ => 1#1)

def Pre_Kernel30Ideal [hPre_a_chip : Cert.Pre_a_chip.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_a_chip.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_a_chip [hPre_a_chip : Cert.Pre_a_chip.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_a_chip.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))) = (fun _ => 1#1)

def Pre_Kernel31 [hPre_a_place : Cert.Pre_a_place.Facts] (m : (ℓ : Loc Cert.Kernel31.nD Cert.Kernel31.τ Cert.Kernel31.sig) → Buf (Elt Bits) ℓ) : Prop :=
  ∀ c : Dev Cert.Kernel31.nD,
    (Cert.Pre_a_place.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2))) = (fun _ => 1#1)

def Pre_Kernel31Ideal [hPre_a_place : Cert.Pre_a_place.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_a_place.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_a_place [hPre_a_place : Cert.Pre_a_place.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_a_place.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] [hPre_a_core : Cert.Pre_a_core.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] [hPre_a_core : Cert.Pre_a_core.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_a_core [hReference29Ideal : Cert.Reference29Ideal.Facts] [hPre_a_core : Cert.Pre_a_core.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_a_core m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] [hPre_a_chip : Cert.Pre_a_chip.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] [hPre_a_chip : Cert.Pre_a_chip.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Reference30Ideal_pre_a_chip [hReference30Ideal : Cert.Reference30Ideal.Facts] [hPre_a_chip : Cert.Pre_a_chip.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_a_chip m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] [hPre_a_place : Cert.Pre_a_place.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] [hPre_a_place : Cert.Pre_a_place.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_a_place [hReference31Ideal : Cert.Reference31Ideal.Facts] [hPre_a_place : Cert.Pre_a_place.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_a_place m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v63) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v79) = v1 c
          ∧ r.2.mem ((c.tc : Thread Cert.Reference4Ideal.nD Cert.Reference4Ideal.τ).loc Cert.Reference4Ideal.main_v78) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v11) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_v11) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v15_0)) (v1 : (c : Dev Cert.Kernel14Ideal.nD) → Buf (Elt Ideal) ((c.tc : Thread Cert.Kernel14Ideal.nD Cert.Kernel14Ideal.τ).loc Cert.Kernel14Ideal.main_v15_1)) (v2 : (c : Dev Cert.Kernel14Ideal.nD) → Buf (Elt Ideal) ((c.tc : Thread Cert.Kernel14Ideal.nD Cert.Kernel14Ideal.τ).loc Cert.Kernel14Ideal.main_v15_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15_0) = v0 c
          ∧ r.2.mem ((c.tc : Thread Cert.Kernel14Ideal.nD Cert.Kernel14Ideal.τ).loc Cert.Kernel14Ideal.main_v15_1) = v1 c
          ∧ r.2.mem ((c.tc : Thread Cert.Kernel14Ideal.nD Cert.Kernel14Ideal.τ).loc Cert.Kernel14Ideal.main_v15_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_v29) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_v37) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v15_0)) (v1 : (c : Dev Cert.Kernel16Ideal.nD) → Buf (Elt Ideal) ((c.tc : Thread Cert.Kernel16Ideal.nD Cert.Kernel16Ideal.τ).loc Cert.Kernel16Ideal.main_v15_1)) (v2 : (c : Dev Cert.Kernel16Ideal.nD) → Buf (Elt Ideal) ((c.tc : Thread Cert.Kernel16Ideal.nD Cert.Kernel16Ideal.τ).loc Cert.Kernel16Ideal.main_v15_2)) (v3 : (c : Dev Cert.Kernel16Ideal.nD) → Buf (Elt Ideal) ((c.tc : Thread Cert.Kernel16Ideal.nD Cert.Kernel16Ideal.τ).loc Cert.Kernel16Ideal.main_v15_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v15_0) = v0 c
          ∧ r.2.mem ((c.tc : Thread Cert.Kernel16Ideal.nD Cert.Kernel16Ideal.τ).loc Cert.Kernel16Ideal.main_v15_1) = v1 c
          ∧ r.2.mem ((c.tc : Thread Cert.Kernel16Ideal.nD Cert.Kernel16Ideal.τ).loc Cert.Kernel16Ideal.main_v15_2) = v2 c
          ∧ r.2.mem ((c.tc : Thread Cert.Kernel16Ideal.nD Cert.Kernel16Ideal.τ).loc Cert.Kernel16Ideal.main_v15_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v59) = v0 c
          ∧ r.2.mem ((c.tc : Thread Cert.Reference16Ideal.nD Cert.Reference16Ideal.τ).loc Cert.Reference16Ideal.main_v68) = v1 c
          ∧ r.2.mem ((c.tc : Thread Cert.Reference16Ideal.nD Cert.Reference16Ideal.τ).loc Cert.Reference16Ideal.main_v73) = v2 c
          ∧ r.2.mem ((c.tc : Thread Cert.Reference16Ideal.nD Cert.Reference16Ideal.τ).loc Cert.Reference16Ideal.main_v74) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v8)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v21) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_v30) = v1 c
          ∧ r.2.mem ((c.tc : Thread Cert.Reference26Ideal.nD Cert.Reference26Ideal.τ).loc Cert.Reference26Ideal.main_v11) = v2 c
          ∧ r.2.mem ((c.tc : Thread Cert.Reference26Ideal.nD Cert.Reference26Ideal.τ).loc Cert.Reference26Ideal.main_v17) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_v30) = v1 c
          ∧ r.2.mem ((c.tc : Thread Cert.Reference27Ideal.nD Cert.Reference27Ideal.τ).loc Cert.Reference27Ideal.main_v11) = v2 c
          ∧ r.2.mem ((c.tc : Thread Cert.Reference27Ideal.nD Cert.Reference27Ideal.τ).loc Cert.Reference27Ideal.main_v17) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] [hPre_a_core : Cert.Pre_a_core.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v10) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] [hPre_a_chip : Cert.Pre_a_chip.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] [hPre_a_place : Cert.Pre_a_place.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite5 : Cert.Pre_finite5.Facts) (hPre_a_core : Cert.Pre_a_core.Facts) (hPre_a_chip : Cert.Pre_a_chip.Facts) (hPre_a_place : Cert.Pre_a_place.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29) (hPre_a_core := hPre_a_core)
    ∧ quiescent_Kernel29Ideal (hKernel29Ideal := hKernel29Ideal) (hPre_a_core := hPre_a_core)
    ∧ quiescent_Reference29Ideal (hReference29Ideal := hReference29Ideal)
    ∧ quiescent_Reference29Ideal_pre_a_core (hReference29Ideal := hReference29Ideal) (hPre_a_core := hPre_a_core)
    ∧ quiescent_Kernel30 (hKernel30 := hKernel30) (hPre_a_chip := hPre_a_chip)
    ∧ quiescent_Kernel30Ideal (hKernel30Ideal := hKernel30Ideal) (hPre_a_chip := hPre_a_chip)
    ∧ quiescent_Reference30Ideal (hReference30Ideal := hReference30Ideal)
    ∧ quiescent_Reference30Ideal_pre_a_chip (hReference30Ideal := hReference30Ideal) (hPre_a_chip := hPre_a_chip)
    ∧ quiescent_Kernel31 (hKernel31 := hKernel31) (hPre_a_place := hPre_a_place)
    ∧ quiescent_Kernel31Ideal (hKernel31Ideal := hKernel31Ideal) (hPre_a_place := hPre_a_place)
    ∧ quiescent_Reference31Ideal (hReference31Ideal := hReference31Ideal)
    ∧ quiescent_Reference31Ideal_pre_a_place (hReference31Ideal := hReference31Ideal) (hPre_a_place := hPre_a_place)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal) (hPre_a_core := hPre_a_core)
    ∧ preserves_Kernel30_Kernel30Ideal
    ∧ algebraic_Kernel30Ideal_Reference30Ideal (hKernel30Ideal := hKernel30Ideal) (hReference30Ideal := hReference30Ideal) (hPre_a_chip := hPre_a_chip)
    ∧ preserves_Kernel31_Kernel31Ideal
    ∧ algebraic_Kernel31Ideal_Reference31Ideal (hKernel31Ideal := hKernel31Ideal) (hReference31Ideal := hReference31Ideal) (hPre_a_place := hPre_a_place)
-- ==== Pre_a_chip.lean ====
abbrev S1 : Shape := ⟨1, ![1]⟩
abbrev S4x512x1280 : Shape := ⟨3, ![4, 512, 1280]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x1280 .bf16) (main_arg2 : FVec F S4x512x1280 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_a_core.lean ====
abbrev S1 : Shape := ⟨1, ![1]⟩
abbrev S4x2x512x1280 : Shape := ⟨4, ![4, 2, 512, 1280]⟩
abbrev S4x512x1280 : Shape := ⟨3, ![4, 512, 1280]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x512x1280 .bf16) (main_arg2 : FVec F S4x512x1280 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_a_place.lean ====
abbrev S2 : Shape := ⟨1, ![2]⟩
abbrev S4x2x128x1024 : Shape := ⟨4, ![4, 2, 128, 1024]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : IVec S2 32) (main_arg1 : FVec F S4x2x128x1024 .bf16) (main_arg2 : FVec F S4x2x128x1024 .bf16) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg0 main_v0
  let main_v2 : IVec S2 1 := cmpi .slt main_arg0 main_c
  let main_v3 : IVec S2 1 := andi main_v1 main_v2
  main_v3
-- ==== Pre_finite5.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := (extf .f32 · bitsLt_bf16_f32) main_arg0
  let main_v2 : FVec F S4096x1024 .f32 := subf main_v0 main_v1
  let main_cst : FVec F S_ .f32 := constant S_ .f32 0x00000000#32
  let main_v3 : FVec F S4096x1024 .f32 := broadcastInDim S4096x1024 ![] bcast_S_S4096x1024 main_cst
  let main_v4 : IVec S4096x1024 1 := cmpf .oeq main_v2 main_v3
  let main_v5 : FVec F S2816x1024 .f32 := (extf .f32 · bitsLt_bf16_f32) main_arg1
  let main_v6 : FVec F S2816x1024 .f32 := (extf .f32 · bitsLt_bf16_f32) main_arg1
  let main_v7 : FVec F S2816x1024 .f32 := subf main_v5 main_v6
  let main_cst_0 : FVec F S_ .f32 := constant S_ .f32 0x00000000#32
  let main_v8 : FVec F S2816x1024 .f32 := broadcastInDim S2816x1024 ![] bcast_S_S2816x1024 main_cst_0
  let main_v9 : IVec S2816x1024 1 := cmpf .oeq main_v7 main_v8
  let main_v10 : FVec F S2x4096x2816 .f32 := (extf .f32 · bitsLt_bf16_f32) main_arg2
  let main_v11 : FVec F S2x4096x2816 .f32 := (extf .f32 · bitsLt_bf16_f32) main_arg2
  let main_v12 : FVec F S2x4096x2816 .f32 := subf main_v10 main_v11
  let main_cst_1 : FVec F S_ .f32 := constant S_ .f32 0x00000000#32
  let main_v13 : FVec F S2x4096x2816 .f32 := broadcastInDim S2x4096x2816 ![] bcast_S_S2x4096x2816 main_cst_1
  let main_v14 : IVec S2x4096x2816 1 := cmpf .oeq main_v12 main_v13
  (main_v4, main_v9, main_v14)
-- ==== Kernel.lean ====
abbrev S4096x512 : Shape := ⟨2, ![4096, 512]⟩
abbrev S4096x5120 : Shape := ⟨2, ![4096, 5120]⟩
abbrev S3x512 : Shape := ⟨2, ![3, 512]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x5120, .bf16⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x512 : Shape := ⟨2, ![4096, 512]⟩
abbrev S4096x5120 : Shape := ⟨2, ![4096, 5120]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x5120, .bf16⟩
  | .hbm, ⟨2, _⟩ => ⟨S3x512, .f32⟩
  | .hbm, ⟨3, _⟩ => ⟨S4096x5120, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S512, .f32⟩
  | .hbm, ⟨45, _⟩ => ⟨S_, .f32⟩
  | .hbm, ⟨46, _⟩ => ⟨S4098x512, .f32⟩
  | .hbm, ⟨47, _⟩ => ⟨S1x512, .f32⟩
  | .hbm, ⟨48, _⟩ => ⟨S_, .f32⟩
  | .hbm, ⟨49, _⟩ => ⟨S3x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S4098x512, .f32⟩
  | .hbm, ⟨60, _⟩ => ⟨S4098x512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S4098x512, .f32⟩
  | .hbm, ⟨75, _⟩ => ⟨S4098x512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S2x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .bf16⟩
  | .hbm, ⟨85, _⟩ => ⟨S4096x512, .bf16⟩
  | .hbm, ⟨86, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S4096x5120 : Shape := ⟨2, ![4096, 5120]⟩
abbrev S2x1024 : Shape := ⟨2, ![2, 1024]⟩
abbrev S8x1024 : Shape := ⟨2, ![8, 1024]⟩
abbrev S512x1024 : Shape := ⟨2, ![512, 1024]⟩
abbrev S512x256 : Shape := ⟨2, ![512, 256]⟩
abbrev S1x256 : Shape := ⟨2, ![1, 256]⟩
abbrev S256 : Shape := ⟨1, ![256]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5120, .bf16⟩
  | .hbm, ⟨5, _⟩ => ⟨S2x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S2x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1024x1024 : Shape := ⟨2, ![1024, 1024]⟩
abbrev S4096x5120 : Shape := ⟨2, ![4096, 5120]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S6x1024 : Shape := ⟨2, ![6, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5120, .bf16⟩
  | .hbm, ⟨5, _⟩ => ⟨S2x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S2x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S2x1024, .f32⟩
  | .hbm, ⟨75, _⟩ => ⟨S2x1024, .f32⟩
  | .hbm, ⟨76, _⟩ => ⟨S4096x1024, .bf16⟩
  | .hbm, ⟨77, _⟩ => ⟨S4096x1024, .bf16⟩
  | .hbm, ⟨78, _⟩ => ⟨S4096x1024, .bf16⟩
  | .hbm, ⟨79, _⟩ => ⟨S4096x1024, .bf16⟩
  | .hbm, ⟨80, _⟩ => ⟨S_, .f32⟩
  | .hbm, ⟨81, _⟩ => ⟨S6x1024, .f32⟩
  | .hbm, ⟨82, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel3.lean ====
abbrev S4096x5120 : Shape := ⟨2, ![4096, 5120]⟩
abbrev S1024x5120 : Shape := ⟨2, ![1024, 5120]⟩
abbrev S4096x1024 : Shape := ⟨2, ![4096, 1024]⟩
abbrev S1024 : Shape := ⟨1, ![1024]⟩
abbrev S1024x4x1280 : Shape := ⟨3, ![1024, 4, 1280]⟩
abbrev S4x1024x1280 : Shape := ⟨3, ![4, 1024, 1280]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S256x5120 : Shape := ⟨2, ![256, 5120]⟩
abbrev S256x1024 : Shape := ⟨2, ![256, 1024]⟩
abbrev S256x1280 : Shape := ⟨2, ![256, 1280]⟩
abbrev S1x1024x1280 : Shape := ⟨3, ![1, 1024, 1280]⟩
abbrev S1024x1280 : Shape := ⟨2, ![1024, 1280]⟩
abbrev S256 : Shape := ⟨1, ![256]⟩
abbrev S256x1 : Shape := ⟨2, ![256, 1]⟩

abbrev nBuf : Space → Nat
  | .hbm => 32
  | .vmem => 16
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .bf16⟩
  | .hbm, ⟨9, _⟩ => ⟨S1024x4x1280, .bf16⟩
  | .hbm, ⟨10, _⟩ => ⟨S4x1024x1280, .bf16⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S8x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S8x1024, .f32⟩
  | .hbm, ⟨29, _⟩ => ⟨S4096x1024, .f32⟩
  | .hbm, ⟨30, _⟩ => ⟨S4096x1024, .bf16⟩
  | .hbm, ⟨31, _⟩ => ⟨S8x1024, .f32⟩
  | .local _ .vmem, ⟨0, _⟩ => ⟨S256x5120, .bf16⟩
  | .local _ .vmem, ⟨1, _⟩ => ⟨S256x5120, .bf16⟩
  | .local _ .vmem, ⟨2, _⟩ => ⟨S4x1024x1280, .bf16⟩
  | .local _ .vmem, ⟨3, _⟩ => ⟨S256x1024, .f32⟩
  | .local _ .vmem, ⟨4, _⟩ => ⟨S256x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x5120 : Shape := ⟨2, ![4096, 5120]⟩
abbrev S1024x5120 : Shape := ⟨2, ![1024, 5120]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .bf16⟩
  | .hbm, ⟨9, _⟩ => ⟨S1024x5120, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x5120, .f32⟩
  | .hbm, ⟨40, _⟩ => ⟨S4096x5120, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S4x1024, .f32⟩
  | .hbm, ⟨104, _⟩ => ⟨S_, .f32⟩
  | .hbm, ⟨105, _⟩ => ⟨S4x1024, .f32⟩
  | .hbm, ⟨106, _⟩ => ⟨S8x1024, .f32⟩
  | .hbm, ⟨107, _⟩ => ⟨S4096x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel4.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S2x256x2816 : Shape := ⟨3, ![2, 256, 2816]⟩
abbrev S256x1024 : Shape := ⟨2, ![256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 34
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .bf16⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x1024, .f32⟩
  | .hbm, ⟨16, _⟩ => ⟨S_, .f32⟩
  | .hbm, ⟨17, _⟩ => ⟨S4x1024, .f32⟩
  | .hbm, ⟨18, _⟩ => ⟨S8x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S8x1024, .f32⟩
  | .hbm, ⟨27, _⟩ => ⟨S4096x2x2816, .bf16⟩
  | .hbm, ⟨28, _⟩ => ⟨S2x4096x2816, .bf16⟩
  | .hbm, ⟨29, _⟩ => ⟨S1024x4x1408, .bf16⟩
  | .hbm, ⟨30, _⟩ => ⟨S4x1024x1408, .bf16⟩
  | .hbm, ⟨31, _⟩ => ⟨S4096x1024, .f32⟩
  | .hbm, ⟨32, _⟩ => ⟨S4096x1024, .bf16⟩
  | .hbm, ⟨33, _⟩ => ⟨S8x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .bf16⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x5632, .f32⟩
  | .hbm, ⟨40, _⟩ => ⟨S4096x5632, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S4x1024, .f32⟩
  | .hbm, ⟨104, _⟩ => ⟨S_, .f32⟩
  | .hbm, ⟨105, _⟩ => ⟨S4x1024, .f32⟩
  | .hbm, ⟨106, _⟩ => ⟨S8x1024, .f32⟩
  | .hbm, ⟨107, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x4096x2816, .f32⟩
  | .hbm, ⟨34, _⟩ => ⟨S1x4096x2816, .f32⟩
  | .hbm, ⟨35, _⟩ => ⟨S2x4096x2816, .f32⟩
  | .hbm, ⟨36, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2x2816, .bf16⟩
  | .hbm, ⟨3, _⟩ => ⟨S2x4096x2816, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1024x4x1408, .bf16⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S4096x5120 : Shape := ⟨2, ![4096, 5120]⟩
abbrev S4x1024x1280 : Shape := ⟨3, ![4, 1024, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4x1024x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩
abbrev S1024x4x1280 : Shape := ⟨3, ![1024, 4, 1280]⟩
abbrev S4x1024x1280 : Shape := ⟨3, ![4, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S_, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | .hbm, ⟨10, _⟩ => ⟨S1024x4x1280, .bf16⟩
  | .hbm, ⟨11, _⟩ => ⟨S4x1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S512x1024 : Shape := ⟨2, ![512, 1024]⟩
abbrev S512x4x256 : Shape := ⟨3, ![512, 4, 256]⟩
abbrev S4x512x256 : Shape := ⟨3, ![4, 512, 256]⟩
abbrev S4096x512 : Shape := ⟨2, ![4096, 512]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S512x1024, .bf16⟩
  | .hbm, ⟨3, _⟩ => ⟨S512x1024, .bf16⟩
  | .hbm, ⟨4, _⟩ => ⟨S512x4x256, .bf16⟩
  | .hbm, ⟨5, _⟩ => ⟨S4x512x256, .bf16⟩
  | .hbm, ⟨6, _⟩ => ⟨S512x4x256, .bf16⟩
  | .hbm, ⟨7, _⟩ => ⟨S4x512x256, .bf16⟩
  | .hbm, ⟨8, _⟩ => ⟨S4096x512, .bf16⟩
  | .hbm, ⟨9, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x512x256, .bf16⟩
  | .local _ .vmem, ⟨5, _⟩ => ⟨S4x512x256, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S512x1024, .bf16⟩
  | .hbm, ⟨3, _⟩ => ⟨S512x1024, .bf16⟩
  | .hbm, ⟨4, _⟩ => ⟨S_, .f32⟩
  | .hbm, ⟨5, _⟩ => ⟨S4096x512, .f32⟩
  | .hbm, ⟨6, _⟩ => ⟨S512x1024, .f32⟩
  | .hbm, ⟨7, _⟩ => ⟨S4096x1024, .f32⟩
  | .hbm, ⟨8, _⟩ => ⟨S4096x1024, .f32⟩
  | .hbm, ⟨9, _⟩ => ⟨S4096x512, .f32⟩
  | .hbm, ⟨10, _⟩ => ⟨S4096x512, .bf16⟩
  | .hbm, ⟨11, _⟩ => ⟨S_, .f32⟩
  | .hbm, ⟨12, _⟩ => ⟨S4096x512, .f32⟩
  | .hbm, ⟨13, _⟩ => ⟨S512x1024, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S4x512x256 : Shape := ⟨3, ![4, 512, 256]⟩
abbrev S2048x512 : Shape := ⟨2, ![2048, 512]⟩
abbrev S2048x1024 : Shape := ⟨2, ![2048, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4x512x256, .bf16⟩
  | .hbm, ⟨5, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S4x512x256, .bf16⟩
  | .local _ .vmem, ⟨9, _⟩ => ⟨S4x512x256, .bf16⟩
  | .local _ .vmem, ⟨10, _⟩ => ⟨S512x1024, .f32⟩
  | .local _ .vmem, ⟨11, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S_, .f32⟩
  | .hbm, ⟨5, _⟩ => ⟨S512x1024, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S512x4x256, .bf16⟩
  | .hbm, ⟨13, _⟩ => ⟨S4x512x256, .bf16⟩
  | .hbm, ⟨14, _⟩ => ⟨S_, .f32⟩
  | .hbm, ⟨15, _⟩ => ⟨S512x1024, .f32⟩
  | .hbm, ⟨16, _⟩ => ⟨S4096x512, .f32⟩
  | .hbm, ⟨17, _⟩ => ⟨S4096x1024, .f32⟩
  | .hbm, ⟨18, _⟩ => ⟨S4096x1024, .f32⟩
  | .hbm, ⟨19, _⟩ => ⟨S1024x512, .f32⟩
  | .hbm, ⟨20, _⟩ => ⟨S512x1024, .f32⟩
  | .hbm, ⟨21, _⟩ => ⟨S512x1024, .bf16⟩
  | .hbm, ⟨22, _⟩ => ⟨S512x4x256, .bf16⟩
  | .hbm, ⟨23, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S2x4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel13.lean ====
abbrev S4096x1024 : Shape := ⟨2, ![4096, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S4096x5120 : Shape := ⟨2, ![4096, 5120]⟩
abbrev S512x1024 : Shape := ⟨2, ![512, 1024]⟩
abbrev S512x5120 : Shape := ⟨2, ![512, 5120]⟩
abbrev S1x1024x1280 : Shape := ⟨3, ![1, 1024, 1280]⟩
abbrev S1024x1280 : Shape := ⟨2, ![1024, 1280]⟩
abbrev S512x1280 : Shape := ⟨2, ![512, 1280]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S1024x4x1280, .bf16⟩
  | .hbm, ⟨3, _⟩ => ⟨S4x1024x1280, .bf16⟩
  | .hbm, ⟨4, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1280, .bf16⟩
  | .local _ .vmem, ⟨3, _⟩ => ⟨S512x5120, .bf16⟩
  | .local _ .vmem, ⟨4, _⟩ => ⟨S512x5120, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x1024, .f32⟩
  | .hbm, ⟨14, _⟩ => ⟨S_, .f32⟩
  | .hbm, ⟨15, _⟩ => ⟨S4x1024, .f32⟩
  | .hbm, ⟨16, _⟩ => ⟨S8x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S8x1024, .f32⟩
  | .hbm, ⟨25, _⟩ => ⟨S4096x1024, .bf16⟩
  | .hbm, ⟨26, _⟩ => ⟨S4096x1024, .f32⟩
  | .hbm, ⟨27, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x5120 : Shape := ⟨2, ![4096, 5120]⟩
abbrev S2x1024 : Shape := ⟨2, ![2, 1024]⟩
abbrev S512x4x256 : Shape := ⟨3, ![512, 4, 256]⟩
abbrev S4x512x256 : Shape := ⟨3, ![4, 512, 256]⟩
abbrev S4096x1024 : Shape := ⟨2, ![4096, 1024]⟩
abbrev S512x512 : Shape := ⟨2, ![512, 512]⟩
abbrev S1x512x256 : Shape := ⟨3, ![1, 512, 256]⟩
abbrev S512x256 : Shape := ⟨2, ![512, 256]⟩
abbrev S1x256 : Shape := ⟨2, ![1, 256]⟩

abbrev nBuf : Space → Nat
  | .hbm => 13
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x5120, .bf16⟩
  | .hbm, ⟨5, _⟩ => ⟨S2x1024, .f32⟩
  | .hbm, ⟨6, _⟩ => ⟨S512x4x256, .bf16⟩
  | .hbm, ⟨7, _⟩ => ⟨S4x512x256, .bf16⟩
  | .hbm, ⟨8, _⟩ => ⟨S512x4x256, .bf16⟩
  | .hbm, ⟨9, _⟩ => ⟨S4x512x256, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x512x256, .bf16⟩
  | .local _ .vmem, ⟨5, _⟩ => ⟨S4x512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x512 : Shape := ⟨2, ![4096, 512]⟩
abbrev S512x1024 : Shape := ⟨2, ![512, 1024]⟩
abbrev S4096x5120 : Shape := ⟨2, ![4096, 5120]⟩
abbrev S2x1024 : Shape := ⟨2, ![2, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x5120, .bf16⟩
  | .hbm, ⟨5, _⟩ => ⟨S2x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x512, .f32⟩
  | .hbm, ⟨11, _⟩ => ⟨S512x1024, .f32⟩
  | .hbm, ⟨12, _⟩ => ⟨S4096x1024, .f32⟩
  | .hbm, ⟨13, _⟩ => ⟨S4096x512, .f32⟩
  | .hbm, ⟨14, _⟩ => ⟨S512x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | .hbm, ⟨47, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 28
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S8x1024, .f32⟩
  | .hbm, ⟨24, _⟩ => ⟨S4096x1024, .f32⟩
  | .hbm, ⟨25, _⟩ => ⟨S4096x1024, .bf16⟩
  | .hbm, ⟨26, _⟩ => ⟨S8x1024, .f32⟩
  | .hbm, ⟨27, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x1024 : Shape := ⟨2, ![2, 1024]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1024, .f32⟩
  | .hbm, ⟨95, _⟩ => ⟨S4096x1024, .bf16⟩
  | .hbm, ⟨96, _⟩ => ⟨S1x1024, .f32⟩
  | .hbm, ⟨97, _⟩ => ⟨S1x1024, .f32⟩
  | .hbm, ⟨98, _⟩ => ⟨S2x1024, .f32⟩
  | .hbm, ⟨99, _⟩ => ⟨S_, .f32⟩
  | .hbm, ⟨100, _⟩ => ⟨S6x1024, .f32⟩
  | .hbm, ⟨101, _⟩ => ⟨S8x1024, .f32⟩
  | .hbm, ⟨102, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_cst_9 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel17.lean ====
abbrev S4096x5120 : Shape := ⟨2, ![4096, 5120]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4096x5120 : Shape := ⟨2, ![4096, 5120]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 32
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x5120, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel19.lean ====
abbrev S8x1024 : Shape := ⟨2, ![8, 1024]⟩
abbrev S1024x2304 : Shape := ⟨2, ![1024, 2304]⟩
abbrev S2304 : Shape := ⟨1, ![2304]⟩
abbrev S1x2304 : Shape := ⟨2, ![1, 2304]⟩
abbrev S8x2304 : Shape := ⟨2, ![8, 2304]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S2304, .f32⟩
  | .hbm, ⟨3, _⟩ => ⟨S1x2304, .f32⟩
  | .hbm, ⟨4, _⟩ => ⟨S8x2304, .f32⟩
  | .local _ .vmem, ⟨0, _⟩ => ⟨S8x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S8x1024 : Shape := ⟨2, ![8, 1024]⟩
abbrev S1024x2304 : Shape := ⟨2, ![1024, 2304]⟩
abbrev S2304 : Shape := ⟨1, ![2304]⟩
abbrev S_ : Shape := ⟨0, ![]⟩
abbrev S8x2304 : Shape := ⟨2, ![8, 2304]⟩
abbrev S1x2304 : Shape := ⟨2, ![1, 2304]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S2304, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .bf16⟩
  | .hbm, ⟨13, _⟩ => ⟨S8x1024, .f32⟩
  | .hbm, ⟨14, _⟩ => ⟨S1024x2304, .bf16⟩
  | .hbm, ⟨15, _⟩ => ⟨S1024x2304, .f32⟩
  | .hbm, ⟨16, _⟩ => ⟨S8x2304, .f32⟩
  | .hbm, ⟨17, _⟩ => ⟨S1x2304, .f32⟩
  | .hbm, ⟨18, _⟩ => ⟨S8x2304, .f32⟩
  | .hbm, ⟨19, _⟩ => ⟨S8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel20.lean ====
abbrev S8x1024 : Shape := ⟨2, ![8, 1024]⟩
abbrev S8x2304 : Shape := ⟨2, ![8, 2304]⟩
abbrev S1024x8 : Shape := ⟨2, ![1024, 8]⟩
abbrev S1024x2304 : Shape := ⟨2, ![1024, 2304]⟩
abbrev S8x768 : Shape := ⟨2, ![8, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x8, .f32⟩
  | .hbm, ⟨3, _⟩ => ⟨S1024x2304, .f32⟩
  | .local _ .vmem, ⟨0, _⟩ => ⟨S1024x8, .f32⟩
  | .local _ .vmem, ⟨1, _⟩ => ⟨S8x768, .f32⟩
  | .local _ .vmem, ⟨2, _⟩ => ⟨S8x768, .f32⟩
  | .local _ .vmem, ⟨3, _⟩ => ⟨S1024x768, .f32⟩
  | .local _ .vmem, ⟨4, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8x1024 : Shape := ⟨2, ![8, 1024]⟩
abbrev S8x2304 : Shape := ⟨2, ![8, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S_, .f32⟩
  | .hbm, ⟨3, _⟩ => ⟨S1024x2304, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .bf16⟩
  | .hbm, ⟨14, _⟩ => ⟨S8x1024, .f32⟩
  | .hbm, ⟨15, _⟩ => ⟨S8x2304, .f32⟩
  | .hbm, ⟨16, _⟩ => ⟨S8x2304, .bf16⟩
  | .hbm, ⟨17, _⟩ => ⟨S8x2304, .f32⟩
  | .hbm, ⟨18, _⟩ => ⟨S2304x1024, .f32⟩
  | .hbm, ⟨19, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel21.lean ====
abbrev S1024x2304 : Shape := ⟨2, ![1024, 2304]⟩
abbrev S64x2304 : Shape := ⟨2, ![64, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x14208 : Shape := ⟨2, ![1, 14208]⟩

abbrev nBuf : Space → Nat
  | .hbm => 7
  | .vmem => 7
  | .smem => 0
  | _ => 0

abbrev bufTy : (tb : Table) → Fin (tcTables nBuf tb) → BufTy
  | .hbm, ⟨0, _⟩ => ⟨S1x14208, .f32⟩
  | .hbm, ⟨1, _⟩ => ⟨S1x14208, .f32⟩
  | .hbm, ⟨2, _⟩ => ⟨S1x14208, .f32⟩
  | .hbm, ⟨3, _⟩ => ⟨S1x14208, .f32⟩
  | .hbm, ⟨4, _⟩ => ⟨S1x14208, .f32⟩
  | .hbm, ⟨5, _⟩ => ⟨S1x14208, .f32⟩
  | .hbm, ⟨6, _⟩ => ⟨S1x14208, .f32⟩
  | .local _ .vmem, ⟨0, _⟩ => ⟨S1x14208, .f32⟩
  | .local _ .vmem, ⟨1, _⟩ => ⟨S1x14208, .f32⟩
  | .local _ .vmem, ⟨2, _⟩ => ⟨S1x14208, .f32⟩
  | .local _ .vmem, ⟨3, _⟩ => ⟨S1x14208, .f32⟩
  | .local _ .vmem, ⟨4, _⟩ => ⟨S1x14208, .f32⟩
  | .local _ .vmem, ⟨5, _⟩ => ⟨S1x14208, .f32⟩
  | .local _ .vmem, ⟨6, _⟩ => ⟨S1x14208, .f32⟩
  | _, _ => ⟨S1x14208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x14208 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x14208 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x14208 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x14208 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x14208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x14208 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x14208 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x14208 : Shape := ⟨2, ![1, 14208]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x14208, .f32⟩
  | .hbm, ⟨1, _⟩ => ⟨S1x14208, .f32⟩
  | .hbm, ⟨2, _⟩ => ⟨S1x14208, .f32⟩
  | .hbm, ⟨3, _⟩ => ⟨S1x14208, .f32⟩
  | .hbm, ⟨4, _⟩ => ⟨S_, .f32⟩
  | .hbm, ⟨5, _⟩ => ⟨S1x14208, .f32⟩
  | .hbm, ⟨6, _⟩ => ⟨S1x14208, .f32⟩
  | .hbm, ⟨7, _⟩ => ⟨S_, .f32⟩
  | .hbm, ⟨8, _⟩ => ⟨S1x14208, .f32⟩
  | .hbm, ⟨9, _⟩ => ⟨S1x14208, .f32⟩
  | .hbm, ⟨10, _⟩ => ⟨S1x14208, .f32⟩
  | .hbm, ⟨11, _⟩ => ⟨S_, .f32⟩
  | .hbm, ⟨12, _⟩ => ⟨S1x14208, .f32⟩
  | .hbm, ⟨13, _⟩ => ⟨S1x14208, .f32⟩
  | .hbm, ⟨14, _⟩ => ⟨S1x14208, .f32⟩
  | .hbm, ⟨15, _⟩ => ⟨S_, .f32⟩
  | .hbm, ⟨16, _⟩ => ⟨S1x14208, .f32⟩
  | .hbm, ⟨17, _⟩ => ⟨S1x14208, .f32⟩
  | .hbm, ⟨18, _⟩ => ⟨S1x14208, .f32⟩
  | .hbm, ⟨19, _⟩ => ⟨S_, .f32⟩
  | .hbm, ⟨20, _⟩ => ⟨S1x14208, .f32⟩
  | .hbm, ⟨21, _⟩ => ⟨S1x14208, .f32⟩
  | .hbm, ⟨22, _⟩ => ⟨S_, .f32⟩
  | .hbm, ⟨23, _⟩ => ⟨S1x14208, .f32⟩
  | .hbm, ⟨24, _⟩ => ⟨S1x14208, .f32⟩
  | .hbm, ⟨25, _⟩ => ⟨S1x14208, .f32⟩
  | .hbm, ⟨26, _⟩ => ⟨S_, .f32⟩
  | .hbm, ⟨27, _⟩ => ⟨S1x14208, .f32⟩
  | .hbm, ⟨28, _⟩ => ⟨S1x14208, .f32⟩
  | .hbm, ⟨29, _⟩ => ⟨S1x14208, .f32⟩
  | .hbm, ⟨30, _⟩ => ⟨S_, .f32⟩
  | .hbm, ⟨31, _⟩ => ⟨S1x14208, .f32⟩
  | .hbm, ⟨32, _⟩ => ⟨S1x14208, .f32⟩
  | .hbm, ⟨33, _⟩ => ⟨S1x14208, .f32⟩
  | .hbm, ⟨34, _⟩ => ⟨S_, .f32⟩
  | .hbm, ⟨35, _⟩ => ⟨S1x14208, .f32⟩
  | .hbm, ⟨36, _⟩ => ⟨S1x14208, .f32⟩
  | _, _ => ⟨S1x14208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1 : Shape := ⟨1, ![1]⟩
abbrev S1024x1280 : Shape := ⟨2, ![1024, 1280]⟩
abbrev S512x1280 : Shape := ⟨2, ![512, 1280]⟩
abbrev S128x1280 : Shape := ⟨2, ![128, 1280]⟩

abbrev nBuf : Space → Nat
  | .hbm => 9
  | .vmem => 18
  | .smem => 1
  | _ => 0

abbrev bufTy : (tb : Table) → Fin (tcTables nBuf tb) → BufTy
  | .hbm, ⟨0, _⟩ => ⟨S1024x1280, .f32⟩
  | .hbm, ⟨1, _⟩ => ⟨S512x1280, .f32⟩
  | .hbm, ⟨2, _⟩ => ⟨S512x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .hbm, ⟨8, _⟩ => ⟨S1024x1280, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | .local _ .vmem, ⟨16, _⟩ => ⟨S128x1280, .f32⟩
  | .local _ .vmem, ⟨17, _⟩ => ⟨S128x1280, .f32⟩
  | .local _ .smem, ⟨0, _⟩ => ⟨S1, .i32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1 : Shape := ⟨1, ![1]⟩
abbrev S1024x1280 : Shape := ⟨2, ![1024, 1280]⟩
abbrev S512x1280 : Shape := ⟨2, ![512, 1280]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1280, .f32⟩
  | .hbm, ⟨2, _⟩ => ⟨S512x1280, .f32⟩
  | .hbm, ⟨3, _⟩ => ⟨S512x1280, .f32⟩
  | .hbm, ⟨4, _⟩ => ⟨S1024x1280, .f32⟩
  | .hbm, ⟨5, _⟩ => ⟨S1024x1280, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1280, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S_, .f32⟩
  | .hbm, ⟨19, _⟩ => ⟨S1024x1280, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S_, .f32⟩
  | .hbm, ⟨34, _⟩ => ⟨S1024x1280, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | .hbm, ⟨40, _⟩ => ⟨S1024x1280, .f32⟩
  | .hbm, ⟨41, _⟩ => ⟨S_, .f32⟩
  | .hbm, ⟨42, _⟩ => ⟨S1024x1280, .f32⟩
  | .hbm, ⟨43, _⟩ => ⟨S1024x1280, .f32⟩
  | .hbm, ⟨44, _⟩ => ⟨S1024x1280, .f32⟩
  | .hbm, ⟨45, _⟩ => ⟨S_, .f32⟩
  | .hbm, ⟨46, _⟩ => ⟨S1024x1280, .f32⟩
  | .hbm, ⟨47, _⟩ => ⟨S1024x1280, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel24.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S1 : Shape := ⟨1, ![1]⟩
abbrev S704x1024 : Shape := ⟨2, ![704, 1024]⟩
abbrev S352x1024 : Shape := ⟨2, ![352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel25.lean ====
abbrev S1 : Shape := ⟨1, ![1]⟩
abbrev S1024x1408 : Shape := ⟨2, ![1024, 1408]⟩
abbrev S512x1408 : Shape := ⟨2, ![512, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S1 : Shape := ⟨1, ![1]⟩
abbrev S1024x1408 : Shape := ⟨2, ![1024, 1408]⟩
abbrev S512x1408 : Shape := ⟨2, ![512, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1408, .f32⟩
  | .hbm, ⟨2, _⟩ => ⟨S512x1408, .f32⟩
  | .hbm, ⟨3, _⟩ => ⟨S512x1408, .f32⟩
  | .hbm, ⟨4, _⟩ => ⟨S1024x1408, .f32⟩
  | .hbm, ⟨5, _⟩ => ⟨S1024x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S1024x1408, .f32⟩
  | .hbm, ⟨43, _⟩ => ⟨S1024x1408, .f32⟩
  | .hbm, ⟨44, _⟩ => ⟨S1024x1408, .f32⟩
  | .hbm, ⟨45, _⟩ => ⟨S_, .f32⟩
  | .hbm, ⟨46, _⟩ => ⟨S1024x1408, .f32⟩
  | .hbm, ⟨47, _⟩ => ⟨S1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel26.lean ====
abbrev S1 : Shape := ⟨1, ![1]⟩
abbrev S512x256 : Shape := ⟨2, ![512, 256]⟩
abbrev S256x256 : Shape := ⟨2, ![256, 256]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S1 : Shape := ⟨1, ![1]⟩
abbrev S512x256 : Shape := ⟨2, ![512, 256]⟩
abbrev S256x256 : Shape := ⟨2, ![256, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel27.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel28.lean ====
abbrev S8x17408 : Shape := ⟨2, ![8, 17408]⟩
abbrev S1x17408 : Shape := ⟨2, ![1, 17408]⟩

abbrev nBuf : Space → Nat
  | .hbm => 2
  | .vmem => 2
  | .smem => 0
  | _ => 0

abbrev bufTy : (tb : Table) → Fin (tcTables nBuf tb) → BufTy
  | .hbm, ⟨0, _⟩ => ⟨S8x17408, .f32⟩
  | .hbm, ⟨1, _⟩ => ⟨S1x17408, .f32⟩
  | .local _ .vmem, ⟨0, _⟩ => ⟨S8x17408, .f32⟩
  | .local _ .vmem, ⟨1, _⟩ => ⟨S1x17408, .f32⟩
  | _, _ => ⟨S8x17408, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x17408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x17408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference28Ideal.lean ====
abbrev S8x17408 : Shape := ⟨2, ![8, 17408]⟩
abbrev S_ : Shape := ⟨0, ![]⟩
abbrev S17408 : Shape := ⟨1, ![17408]⟩
abbrev S1x17408 : Shape := ⟨2, ![1, 17408]⟩

abbrev nBuf : Space → Nat
  | .hbm => 4
  | .vmem => 0
  | .smem => 0
  | _ => 0

abbrev bufTy : (tb : Table) → Fin (tcTables nBuf tb) → BufTy
  | .hbm, ⟨0, _⟩ => ⟨S8x17408, .f32⟩
  | .hbm, ⟨1, _⟩ => ⟨S_, .f32⟩
  | .hbm, ⟨2, _⟩ => ⟨S17408, .f32⟩
  | .hbm, ⟨3, _⟩ => ⟨S1x17408, .f32⟩
  | _, _ => ⟨S8x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S1 : Shape := ⟨1, ![1]⟩
abbrev S4x2x512x1280 : Shape := ⟨4, ![4, 2, 512, 1280]⟩
abbrev S4x512x1280 : Shape := ⟨3, ![4, 512, 1280]⟩
abbrev S1x1x512x1280 : Shape := ⟨4, ![1, 1, 512, 1280]⟩
abbrev S1x512x1280 : Shape := ⟨3, ![1, 512, 1280]⟩
abbrev S512x1280 : Shape := ⟨2, ![512, 1280]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x1280, .bf16⟩
  | .hbm, ⟨1, _⟩ => ⟨S4x512x1280, .bf16⟩
  | .hbm, ⟨2, _⟩ => ⟨S4x512x1280, .bf16⟩
  | .local _ .vmem, ⟨0, _⟩ => ⟨S1x1x512x1280, .bf16⟩
  | .local _ .vmem, ⟨1, _⟩ => ⟨S1x1x512x1280, .bf16⟩
  | .local _ .vmem, ⟨2, _⟩ => ⟨S1x512x1280, .bf16⟩
  | .local _ .vmem, ⟨3, _⟩ => ⟨S1x512x1280, .bf16⟩
  | .local _ .vmem, ⟨4, _⟩ => ⟨S1x512x1280, .bf16⟩
  | .local _ .vmem, ⟨5, _⟩ => ⟨S1x512x1280, .bf16⟩
  | .local _ .smem, ⟨0, _⟩ => ⟨S1, .i32⟩
  | _, _ => ⟨S4x2x512x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S1 : Shape := ⟨1, ![1]⟩
abbrev S4x2x512x1280 : Shape := ⟨4, ![4, 2, 512, 1280]⟩
abbrev S4x512x1280 : Shape := ⟨3, ![4, 512, 1280]⟩
abbrev S_ : Shape := ⟨0, ![]⟩
abbrev S4x1x512x1280 : Shape := ⟨4, ![4, 1, 512, 1280]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x512x1280, .bf16⟩
  | .hbm, ⟨2, _⟩ => ⟨S4x512x1280, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x512x1280, .bf16⟩
  | .hbm, ⟨7, _⟩ => ⟨S4x512x1280, .bf16⟩
  | .hbm, ⟨8, _⟩ => ⟨S4x1x512x1280, .bf16⟩
  | .hbm, ⟨9, _⟩ => ⟨S4x512x1280, .bf16⟩
  | .hbm, ⟨10, _⟩ => ⟨S4x512x1280, .bf16⟩
  | .hbm, ⟨11, _⟩ => ⟨S4x512x1280, .f32⟩
  | .hbm, ⟨12, _⟩ => ⟨S4x512x1280, .f32⟩
  | .hbm, ⟨13, _⟩ => ⟨S4x512x1280, .f32⟩
  | .hbm, ⟨14, _⟩ => ⟨S4x512x1280, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel30.lean ====
abbrev S1 : Shape := ⟨1, ![1]⟩
abbrev S4x512x1280 : Shape := ⟨3, ![4, 512, 1280]⟩
abbrev S512x1280 : Shape := ⟨2, ![512, 1280]⟩
abbrev S1x512x1280 : Shape := ⟨3, ![1, 512, 1280]⟩

abbrev nBuf : Space → Nat
  | .hbm => 3
  | .vmem => 3
  | .smem => 1
  | _ => 0

abbrev bufTy : (tb : Table) → Fin (tcTables nBuf tb) → BufTy
  | .hbm, ⟨0, _⟩ => ⟨S4x512x1280, .bf16⟩
  | .hbm, ⟨1, _⟩ => ⟨S4x512x1280, .bf16⟩
  | .hbm, ⟨2, _⟩ => ⟨S512x1280, .f32⟩
  | .local _ .vmem, ⟨0, _⟩ => ⟨S4x512x1280, .bf16⟩
  | .local _ .vmem, ⟨1, _⟩ => ⟨S1x512x1280, .bf16⟩
  | .local _ .vmem, ⟨2, _⟩ => ⟨S512x1280, .f32⟩
  | .local _ .smem, ⟨0, _⟩ => ⟨S1, .i32⟩
  | _, _ => ⟨S4x512x1280, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference30Ideal.lean ====
abbrev S1 : Shape := ⟨1, ![1]⟩
abbrev S4x512x1280 : Shape := ⟨3, ![4, 512, 1280]⟩
abbrev S4 : Shape := ⟨1, ![4]⟩
abbrev S4x1x1 : Shape := ⟨3, ![4, 1, 1]⟩
abbrev S_ : Shape := ⟨0, ![]⟩
abbrev S512x1280 : Shape := ⟨2, ![512, 1280]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x1280, .bf16⟩
  | .hbm, ⟨2, _⟩ => ⟨S4x512x1280, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x512x1280, .i1⟩
  | .hbm, ⟨9, _⟩ => ⟨S4x512x1280, .bf16⟩
  | .hbm, ⟨10, _⟩ => ⟨S4x512x1280, .f32⟩
  | .hbm, ⟨11, _⟩ => ⟨S_, .f32⟩
  | .hbm, ⟨12, _⟩ => ⟨S512x1280, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel31.lean ====
abbrev S2 : Shape := ⟨1, ![2]⟩
abbrev S4x2x128x1024 : Shape := ⟨4, ![4, 2, 128, 1024]⟩
abbrev S128x1024 : Shape := ⟨2, ![128, 1024]⟩
abbrev S1x1x128x1024 : Shape := ⟨4, ![1, 1, 128, 1024]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S4x2x128x1024, .bf16⟩
  | .hbm, ⟨1, _⟩ => ⟨S4x2x128x1024, .bf16⟩
  | .hbm, ⟨2, _⟩ => ⟨S128x1024, .f32⟩
  | .local _ .vmem, ⟨0, _⟩ => ⟨S4x2x128x1024, .bf16⟩
  | .local _ .vmem, ⟨1, _⟩ => ⟨S1x1x128x1024, .bf16⟩
  | .local _ .vmem, ⟨2, _⟩ => ⟨S128x1024, .f32⟩
  | .local _ .smem, ⟨0, _⟩ => ⟨S2, .i32⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S2 : Shape := ⟨1, ![2]⟩
abbrev S4x2x128x1024 : Shape := ⟨4, ![4, 2, 128, 1024]⟩
abbrev S4 : Shape := ⟨1, ![4]⟩
abbrev S4x1x1x1 : Shape := ⟨4, ![4, 1, 1, 1]⟩
abbrev S1 : Shape := ⟨1, ![1]⟩
abbrev S_ : Shape := ⟨0, ![]⟩
abbrev S1x2x1x1 : Shape := ⟨4, ![1, 2, 1, 1]⟩
abbrev S4x2x1x1 : Shape := ⟨4, ![4, 2, 1, 1]⟩
abbrev S128x1024 : Shape := ⟨2, ![128, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x128x1024, .bf16⟩
  | .hbm, ⟨2, _⟩ => ⟨S4x2x128x1024, .bf16⟩
  | .hbm, ⟨3, _⟩ => ⟨S4, .i32⟩
  | .hbm, ⟨4, _⟩ => ⟨S4x1x1x1, .i32⟩
  | .hbm, ⟨5, _⟩ => ⟨S1, .i32⟩
  | .hbm, ⟨6, _⟩ => ⟨S_, .i32⟩
  | .hbm, ⟨7, _⟩ => ⟨S4x1x1x1, .i32⟩
  | .hbm, ⟨8, _⟩ => ⟨S4x1x1x1, .i1⟩
  | .hbm, ⟨9, _⟩ => ⟨S2, .i32⟩
  | .hbm, ⟨10, _⟩ => ⟨S1x2x1x1, .i32⟩
  | .hbm, ⟨11, _⟩ => ⟨S1, .i32⟩
  | .hbm, ⟨12, _⟩ => ⟨S_, .i32⟩
  | .hbm, ⟨13, _⟩ => ⟨S1x2x1x1, .i32⟩
  | .hbm, ⟨14, _⟩ => ⟨S1x2x1x1, .i1⟩
  | .hbm, ⟨15, _⟩ => ⟨S4x2x1x1, .i1⟩
  | .hbm, ⟨16, _⟩ => ⟨S4x2x1x1, .i1⟩
  | .hbm, ⟨17, _⟩ => ⟨S4x2x1x1, .i1⟩
  | .hbm, ⟨18, _⟩ => ⟨S4x2x128x1024, .i1⟩
  | .hbm, ⟨19, _⟩ => ⟨S4x2x128x1024, .bf16⟩
  | .hbm, ⟨20, _⟩ => ⟨S4x2x128x1024, .f32⟩
  | .hbm, ⟨21, _⟩ => ⟨S_, .f32⟩
  | .hbm, ⟨22, _⟩ => ⟨S128x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.ShortConv.lean ====
/- The gradient of the gated short convolution, by its formulas: over a sequence of 4096 positions and 512 channels. -/
module

public import proofs.«01_k».proof.Proof.Gen.KernelIdeal.Value
public import Idealize.ShloMosaic.Lib.Pipeline.ValueKit

@[expose] public section

set_option maxRecDepth 16384

noncomputable section

namespace Cert.ShortConv

open Idealize.ShloMosaic Cert.KernelIdeal

variable (d : S4096x512.Idx → EReal) (p : S4096x5120.Idx → EReal) (w : S3x512.Idx → EReal)

/-- The convolution's input: `C · x`, the second and third 512 columns of the projection. -/
def input (r : Fin 4096) (c : Fin 512) : EReal := p (ix2 r ⟨512 + c.val, by omega⟩) * p (ix2 r ⟨1024 + c.val, by omega⟩)

/-- The value `k` positions back, zero before the first. -/
def back (k : Nat) (f : Fin 4096 → Fin 512 → EReal) (r : Fin 4096) (c : Fin 512) : EReal :=
  if k ≤ r.val then f ⟨r.val - k, by omega⟩ c else 0

/-- The value `k` positions ahead, zero after the last. -/
def ahead (k : Nat) (f : Fin 4096 → Fin 512 → EReal) (r : Fin 4096) (c : Fin 512) : EReal :=
  if h : r.val + k < 4096 then f ⟨r.val + k, h⟩ c else 0

/-- The cotangent of the convolution's output: what comes in, times the gate `B`, the first 512 columns. -/
def gated (r : Fin 4096) (c : Fin 512) : EReal := d (ix2 r c) * p (ix2 r ⟨c.val, by omega⟩)

/-- The gate's gradient: what comes in, times the convolution's output. -/
def dGate (r : Fin 4096) (c : Fin 512) : EReal :=
  d (ix2 r c) * (w (ix2 0 c) * back 2 (input p) r c + w (ix2 1 c) * back 1 (input p) r c + w (ix2 2 c) * input p r c)

/-- The gradient at the convolution's input. -/
def dInput (r : Fin 4096) (c : Fin 512) : EReal :=
  w (ix2 2 c) * gated d p r c + w (ix2 1 c) * ahead 1 (gated d p) r c + w (ix2 0 c) * ahead 2 (gated d p) r c

/-- The weights' gradient: tap `k` meets the input `2 - k` positions back. -/
def dWeight (k : Fin 3) (c : Fin 512) : EReal := ∑ r : Fin 4096, gated d p r c * back (2 - k.val) (input p) r c

end Cert.ShortConv

end
-- ==== Proof.ShortConvKernel.lean ====
/- What the kernel's four result arrays hold, by the formulas of the short convolution's gradient: each grid point
   leaves the 128 channels of its block. -/
module

public import proofs.«01_k».proof.Proof.ShortConv
public import Idealize.ShloMosaic.Lib.KernelVsHost

@[expose] public section

set_option maxRecDepth 16384

noncomputable section

namespace Cert.ShortConv

open Idealize.ShloMosaic Idealize.ShloMosaic.TcCoe Cert.KernelIdeal Cert.KernelIdeal.Gen

variable (m : (ℓ : Loc nD τ sig) → Buf (Elt Ideal) ℓ)

/-- The incoming cotangent, the projection and the weights, as the arguments hold them. -/
abbrev dArr (c : Dev nD) : S4096x512.Idx → EReal := m ((c : Thread nD τ).loc main_arg0)
abbrev pArr (c : Dev nD) : S4096x5120.Idx → EReal := m ((c : Thread nD τ).loc main_arg1)
abbrev wArr (c : Dev nD) : S3x512.Idx → EReal := m ((c : Thread nD τ).loc main_arg2)

/-! ## The masks the kernel compares row numbers for -/

theorem select_sge (n k : Nat) (hn : n < 4096) (hk : k < 4096) (a b : EReal) :
    Scalar.select (IntOp.cmpi .sge (BitVec.ofNat 32 n) (BitVec.ofNat 32 k)) a b = if k ≤ n then a else b := by
  have hs : (BitVec.ofNat 32 k).sle (BitVec.ofNat 32 n) = decide (k ≤ n) := by
    rw [BitVec.sle_eq_decide, decide_eq_decide, BitVec.toInt_eq_toNat_cond, BitVec.toInt_eq_toNat_cond]
    simp only [BitVec.toNat_ofNat]
    omega
  by_cases h : k ≤ n <;> simp [IntOp.cmpi, Scalar.select, hs, h]

theorem select_slt (n k : Nat) (hn : n < 4096) (hk : k < 4096) (a b : EReal) :
    Scalar.select (IntOp.cmpi .slt (BitVec.ofNat 32 n) (BitVec.ofNat 32 k)) a b = if n < k then a else b := by
  have hs : (BitVec.ofNat 32 n).slt (BitVec.ofNat 32 k) = decide (n < k) := by
    rw [BitVec.slt_eq_decide, decide_eq_decide, BitVec.toInt_eq_toNat_cond, BitVec.toInt_eq_toNat_cond]
    simp only [BitVec.toNat_ofNat]
    omega
  by_cases h : n < k <;> simp [IntOp.cmpi, Scalar.select, hs, h]

/-! ## Where a point's blocks lie -/

theorem index0 : ∀ t : Fin grid0.N, win0_0.index t = ![0, t.val] := by decide +kernel
theorem index1 : ∀ t : Fin grid0.N, win0_1.index t = ![0, t.val] := by decide +kernel
theorem index2 : ∀ t : Fin grid0.N, win0_2.index t = ![0, 4 + t.val] := by decide +kernel
theorem index3 : ∀ t : Fin grid0.N, win0_3.index t = ![0, 8 + t.val] := by decide +kernel
theorem index4 : ∀ t : Fin grid0.N, win0_4.index t = ![0, t.val] := by decide +kernel
theorem index5 : ∀ t : Fin grid0.N, win0_5.index t = ![0, t.val] := by decide +kernel
theorem index6 : ∀ t : Fin grid0.N, win0_6.index t = ![0, t.val] := by decide +kernel
theorem index7 : ∀ t : Fin grid0.N, win0_7.index t = ![0, t.val] := by decide +kernel
theorem index8 : ∀ t : Fin grid0.N, win0_8.index t = ![0, t.val] := by decide +kernel

/-- The channel that lane `l` of point `t`'s blocks is. -/
def chan (t : Fin grid0.N) (l : Fin 128) : Fin 512 := ⟨t.val * 128 + l.val, by
  have : t.val < 4 := t.isLt
  omega⟩

theorem read0 (c : Dev nD) (t : Fin grid0.N) (y : S4096x128.Idx) :
    iblk m c 0 t y = dArr m c (ix2 (y 0) (chan t (y 1))) := by
  blk_ext [iblk, V, index0 t, chan]

theorem read1 (c : Dev nD) (t : Fin grid0.N) (y : S4096x128.Idx) :
    iblk m c 1 t y = pArr m c (ix2 (y 0) ⟨(chan t (y 1)).val, by omega⟩) := by
  blk_ext [iblk, V, index1 t, chan]

theorem read2 (c : Dev nD) (t : Fin grid0.N) (y : S4096x128.Idx) :
    iblk m c 2 t y = pArr m c (ix2 (y 0) ⟨512 + (chan t (y 1)).val, by omega⟩) := by
  blk_ext [iblk, V, index2 t, chan]

theorem read3 (c : Dev nD) (t : Fin grid0.N) (y : S4096x128.Idx) :
    iblk m c 3 t y = pArr m c (ix2 (y 0) ⟨1024 + (chan t (y 1)).val, by omega⟩) := by
  blk_ext [iblk, V, index3 t, chan]

theorem read4 (c : Dev nD) (t : Fin grid0.N) (y : S3x128.Idx) :
    iblk m c 4 t y = wArr m c (ix2 (y 0) (chan t (y 1))) := by
  blk_ext [iblk, V, index4 t, chan]

/-! ## The rotations: of the 4096 rows by `k`, behind a mask -/

theorem back_eq (f : Fin 4096 → EReal) (g : Fin 4096 → Fin 512 → EReal) (k : Nat) (hk : k < 4096) (r : Fin 4096) (j : Fin 512)
    (h : (r.val + 4096 - k) % 4096 < 4096) (a : EReal) (hf : ∀ r, f r = a * g r j) :
    Scalar.select (IntOp.cmpi .sge (BitVec.ofNat 32 r.val) (BitVec.ofNat 32 k)) (f ⟨(r.val + 4096 - k) % 4096, h⟩) 0
      = a * back k g r j := by
  rw [select_sge _ _ r.isLt hk, back]
  split
  · rw [hf]
    exact congrArg (fun q => a * g q j) (Fin.ext (by have := r.isLt; show (r.val + 4096 - k) % 4096 = r.val - k; omega))
  · rw [mul_zero]

theorem rotate_eq (n : BitVec 32) (N : Nat) (hN : n.toNat = N) (hlt : N < 4096) (x : S4096x128.Idx → EReal) :
    dynamicRotate 0 n none x rotates_S4096x128_d0
      = fun y => x (ix2 ⟨((y 0).val + 4096 - N) % 4096, by omega⟩ (y 1)) := by
  funext y
  refine dynamicRotate_apply (s := S4096x128) 0 n x _ y _ fun b => ?_
  match b with
  | ⟨0, _⟩ => simp [hN, Nat.mod_eq_of_lt hlt]
  | ⟨1, _⟩ => simp

theorem ahead_eq (f : Fin 4096 → EReal) (g : Fin 4096 → Fin 512 → EReal) (k n : Nat) (hk : k + n = 4096) (hn : n < 4096) (r : Fin 4096)
    (j : Fin 512) (a b : EReal) (hb : b = f ⟨(r.val + 4096 - n) % 4096, by omega⟩) (hf : ∀ r, f r = g r j) :
    Scalar.select (IntOp.cmpi .slt (BitVec.ofNat 32 r.val) (BitVec.ofNat 32 n)) (a * b) 0 = a * ahead k g r j := by
  rw [select_slt _ _ r.isLt hn, ahead, hb]
  by_cases hr : r.val < n
  · rw [if_pos hr, dif_pos (by omega), hf]
    exact congrArg (fun q => a * g q j) (Fin.ext (by show (r.val + 4096 - n) % 4096 = r.val + k; omega))
  · rw [if_neg hr, dif_neg (by omega), mul_zero]

/-- The gradient at the convolution's input, of a block whose gated cotangent `g` is the array's and whose weights are the array's. -/
theorem pay13_apply (w0 w1 w2 : S1x128.Idx → EReal) (g : S4096x128.Idx → EReal) (y : S4096x128.Idx) (j : Fin 512)
    (d : S4096x512.Idx → EReal) (p : S4096x5120.Idx → EReal) (w : S3x512.Idx → EReal)
    (hg : ∀ r, g (ix2 r (y 1)) = gated d p r j) (h0 : w0 (ix2 0 (y 1)) = w (ix2 0 j)) (h1 : w1 (ix2 0 (y 1)) = w (ix2 1 j))
    (h2 : w2 (ix2 0 (y 1)) = w (ix2 2 j)) :
    k0_pay13 (F := Ideal) (iota .tc S4096x128 32 [0] iota_S4096x128_d0_w32) w0 w1 w2 g y = dInput d p w (y 0) j := by
  unfold k0_pay13
  rw [rotate_eq 4095#32 4095 rfl (by omega), rotate_eq 4094#32 4094 rfl (by omega)]
  generalize e1 : (fun y : S4096x128.Idx => g (ix2 ⟨((y 0).val + 4096 - 4095) % 4096, by omega⟩ (y 1))) = g1
  generalize e2 : (fun y : S4096x128.Idx => g (ix2 ⟨((y 0).val + 4096 - 4094) % 4096, by omega⟩ (y 1))) = g2
  pointwise
  rw [ahead_eq (fun r => g (ix2 r (y 1))) (gated d p) 1 4095 rfl (by omega) (y 0) j _ _ (congrFun e1 y).symm hg,
    ahead_eq (fun r => g (ix2 r (y 1))) (gated d p) 2 4094 rfl (by omega) (y 0) j _ _ (congrFun e2 y).symm hg,
    h0, h1, h2]
  show _ * g y + _ + _ = _ * gated d p (y 0) j + _ + _
  rw [← hg (y 0), ← eq_ix2 y]

/-! ## The result arrays -/

theorem kernel_dGate (c : Dev nD) :
    (dats m 0 c).arrAt 5 cfg0.N = fun i : S4096x512.Idx => dGate (dArr m c) (pArr m c) (wArr m c) (i 0) (i 1) := by
  refine (dats m 0 c).arrAt_eq_of_covers 5 _ (by decide +kernel) fun t hf y => ?_
  have e : ((cfg0.win 5).blk t).view.emb y = (ix2 (y 0) (chan t (y 1)) : S4096x512.Idx) := by
    blk_ext [index5 t, chan]
  rw [e]
  blk_simp
  rw [after0_5]
  frame_out
  pointwise [k0_pay7, k0_pay6, k0_pay5, k0_pay4, k0_pay3, k0_pay2, k0_pay1]
  simp only [read0, read2, read3, read4]
  pointwise
  rw [back_eq (fun q => wArr m c (ix2 0 (chan t (y 1))) * (pArr m c (ix2 q ⟨512 + (chan t (y 1)).val, by omega⟩) * pArr m c (ix2 q ⟨1024 + (chan t (y 1)).val, by omega⟩)))
      (input (pArr m c)) 2 (by omega) (y 0) (chan t (y 1)) _ _ (fun _ => rfl),
    back_eq (fun q => wArr m c (ix2 1 (chan t (y 1))) * (pArr m c (ix2 q ⟨512 + (chan t (y 1)).val, by omega⟩) * pArr m c (ix2 q ⟨1024 + (chan t (y 1)).val, by omega⟩)))
      (input (pArr m c)) 1 (by omega) (y 0) (chan t (y 1)) _ _ (fun _ => rfl)]
  rfl

theorem kernel_dC (c : Dev nD) :
    (dats m 0 c).arrAt 6 cfg0.N = fun i : S4096x512.Idx => dInput (dArr m c) (pArr m c) (wArr m c) (i 0) (i 1)
      * pArr m c (ix2 (i 0) ⟨1024 + (i 1).val, by have : (i 1).val < 512 := (i 1).isLt; omega⟩) := by
  refine (dats m 0 c).arrAt_eq_of_covers 6 _ (by decide +kernel) fun t hf y => ?_
  have e : ((cfg0.win 6).blk t).view.emb y = (ix2 (y 0) (chan t (y 1)) : S4096x512.Idx) := by
    blk_ext [index6 t, chan]
  rw [e]
  blk_simp
  rw [after0_6]
  frame_out
  unfold k0_pay14 k0_pay16
  show k0_pay13 (F := Ideal) _ _ _ _ _ y * k0_pay2 (F := Ideal) _ y = _
  rw [pay13_apply _ _ _ _ y (chan t (y 1)) (dArr m c) (pArr m c) (wArr m c)]
  · pointwise [k0_pay2]
    rw [read3]
  · intro r
    pointwise [k0_pay17, k0_pay8, k0_pay3]
    rw [read0, read1]
    rfl
  all_goals
    pointwise
    rw [read4]
    rfl

theorem kernel_dX (c : Dev nD) :
    (dats m 0 c).arrAt 7 cfg0.N = fun i : S4096x512.Idx => dInput (dArr m c) (pArr m c) (wArr m c) (i 0) (i 1)
      * pArr m c (ix2 (i 0) ⟨512 + (i 1).val, by have : (i 1).val < 512 := (i 1).isLt; omega⟩) := by
  refine (dats m 0 c).arrAt_eq_of_covers 7 _ (by decide +kernel) fun t hf y => ?_
  have e : ((cfg0.win 7).blk t).view.emb y = (ix2 (y 0) (chan t (y 1)) : S4096x512.Idx) := by
    blk_ext [index7 t, chan]
  rw [e]
  blk_simp
  rw [after0_7]
  frame_out
  unfold k0_pay15 k0_pay16
  show k0_pay13 (F := Ideal) _ _ _ _ _ y * k0_pay1 (F := Ideal) _ y = _
  rw [pay13_apply _ _ _ _ y (chan t (y 1)) (dArr m c) (pArr m c) (wArr m c)]
  · pointwise [k0_pay1]
    rw [read2]
  · intro r
    pointwise [k0_pay17, k0_pay8, k0_pay3]
    rw [read0, read1]
    rfl
  all_goals
    pointwise
    rw [read4]
    rfl

/-! ## The weights' gradient -/

/-- A row's sum: of the gated cotangent times the input `k` positions back, every row. -/
theorem sum_back (f g : Fin 4096 → EReal) (d : S4096x512.Idx → EReal) (p : S4096x5120.Idx → EReal) (j : Fin 512) (k : Nat)
    (hf : ∀ r, f r = gated d p r j) (hg : ∀ r, g r = back k (input p) r j) :
    ∑ r, f r * g r = ∑ r, gated d p r j * back k (input p) r j :=
  Finset.sum_congr rfl fun r _ => by rw [hf, hg]

theorem pay12_apply (f g: S4096x128.Idx → EReal) (x : S1x128.Idx) :
    k0_pay12 (F := Ideal) f g x = ∑ r : Fin 4096, g (ix2 r (x 1)) * f (ix2 r (x 1)) := by
  pointwise [k0_pay12]

theorem pay11_apply (f g: S4096x128.Idx → EReal) (x : S1x128.Idx) :
    k0_pay11 (F := Ideal) f g x = ∑ r : Fin 4096, g (ix2 r (x 1)) * f (ix2 r (x 1)) := by
  pointwise [k0_pay11]

theorem pay10_apply (f : S4096x128.Idx → EReal) (x : S1x128.Idx) :
    k0_pay10 (F := Ideal) f x = ∑ r : Fin 4096, f (ix2 r (x 1)) := by
  pointwise [k0_pay10]

theorem kernel_dW (c : Dev nD) :
    (dats m 0 c).arrAt 8 cfg0.N = fun i : S3x512.Idx => dWeight (dArr m c) (pArr m c) (i 0) (i 1) := by
  refine (dats m 0 c).arrAt_eq_of_covers 8 _ (by decide +kernel) fun t hf y => ?_
  have e : ((cfg0.win 8).blk t).view.emb y = (ix2 (y 0) (chan t (y 1)) : S3x512.Idx) := by
    blk_ext [index8 t, chan]
  rw [e]
  blk_simp
  rw [after0_8]
  unfold_out out0_8
  have hin : ∀ (r : Fin 4096) (l : Fin 128), k0_pay4 (F := Ideal) (View.ld (iblk m c 2 t) r0_0) (View.ld (iblk m c 3 t) r0_0) (ix2 r l)
      = input (pArr m c) r (chan t l) := fun r l => by
    pointwise [k0_pay4, k0_pay2, k0_pay1]
    rw [read2, read3]
    rfl
  have hgt : ∀ (r : Fin 4096) (l : Fin 128), k0_pay8 (F := Ideal) (View.ld (iblk m c 0 t) r0_0) (View.ld (iblk m c 1 t) r0_0) (ix2 r l)
      = gated (dArr m c) (pArr m c) r (chan t l) := fun r l => by
    pointwise [k0_pay8, k0_pay3]
    rw [read0, read1]
    rfl
  have back1 : ∀ (r : Fin 4096) (l : Fin 128), k0_pay5 (F := Ideal) (View.ld (iblk m c 2 t) r0_0) (View.ld (iblk m c 3 t) r0_0) (ix2 r l)
      = back 1 (input (pArr m c)) r (chan t l) := fun r l => by
    unfold k0_pay5
    generalize hx : k0_pay4 (F := Ideal) (View.ld (iblk m c 2 t) r0_0) (View.ld (iblk m c 3 t) r0_0) = x at hin
    pointwise
    refine (back_eq (fun q => x (ix2 q l)) (input (pArr m c)) 1 (by omega) r (chan t l) _ 1 fun q => ?_).trans (one_mul _)
    rw [one_mul, hin]
  have back2 : ∀ (r : Fin 4096) (l : Fin 128), k0_pay6 (F := Ideal) (View.ld (iblk m c 2 t) r0_0) (View.ld (iblk m c 3 t) r0_0) (ix2 r l)
      = back 2 (input (pArr m c)) r (chan t l) := fun r l => by
    unfold k0_pay6
    generalize hx : k0_pay4 (F := Ideal) (View.ld (iblk m c 2 t) r0_0) (View.ld (iblk m c 3 t) r0_0) = x at hin
    pointwise
    refine (back_eq (fun q => x (ix2 q l)) (input (pArr m c)) 2 (by omega) r (chan t l) _ 1 fun q => ?_).trans (one_mul _)
    rw [one_mul, hin]
  canon_tiles x h
  · have hy : y 0 = (2 : Fin 3) := Fin.ext (by show (y 0).val = 2; omega)
    rw [pay12_apply, show y 1 = x 1 from Fin.ext h1, hy]
    exact sum_back _ _ _ _ _ 0 (fun r => hgt r _) fun r => (hin r _).trans (if_pos (Nat.zero_le _)).symm
  · have hy : y 0 = (1 : Fin 3) := Fin.ext (by show (y 0).val = 1; omega)
    rw [pay11_apply, show y 1 = x 1 from Fin.ext h1, hy]
    exact sum_back _ _ _ _ _ 1 (fun r => hgt r _) fun r => back1 r _
  · have hy : y 0 = (0 : Fin 3) := Fin.ext (by show (y 0).val = 0; omega)
    rw [pay10_apply, show y 1 = x 1 from Fin.ext h1, hy]
    exact sum_back _ _ _ _ _ 2 (fun r => hgt r _) fun r => back2 r _

end Cert.ShortConv

end
-- ==== Proof.ShortConvReference.lean ====
/- What the reference's four results hold, by the formulas of the short convolution's gradient. -/
module

public import proofs.«01_k».proof.Proof.ShortConv
public import proofs.«01_k».proof.Proof.Gen.ReferenceIdeal.Run

@[expose] public section

set_option maxRecDepth 16384

noncomputable section

namespace Cert.ShortConv

open Idealize.ShloMosaic Idealize.ShloMosaic.TcCoe Idealize.SL.Sem Cert.ReferenceIdeal

/-- A padded array read two rows from its start, as the value `k` positions back. -/
theorem back_dite (f : Fin 4096 → Fin 512 → EReal) (r : Fin 4096) (c : Fin 512) (k n : Nat) (hn : n + k = r.val + 2) (a : ¬ n < 2 → EReal)
    (ha : ∀ h, a h = f ⟨r.val - k, by omega⟩ c) : (if h : n < 2 then 0 else a h) = back k f r c := by
  unfold back
  by_cases h : n < 2
  · rw [dif_pos h, if_neg (by omega)]
  · rw [dif_neg h, if_pos (by omega), ha]

/-- A padded product read past its start, as the weight times the value `k` positions ahead. -/
theorem ahead_dite (f : Fin 4096 → Fin 512 → EReal) (r : Fin 4096) (c : Fin 512) (k : Nat) (w : EReal) (q : Prop) [Decidable q]
    (hq : q ↔ r.val + k < 4096) (a : q → EReal) (ha : ∀ (h : q) (h' : r.val + k < 4096), a h = w * f ⟨r.val + k, h'⟩ c) :
    (if h : q then a h else 0) = w * ahead k f r c := by
  unfold ahead
  by_cases h : q
  · rw [dif_pos h, dif_pos (hq.1 h), ha]
  · rw [dif_neg h, dif_neg (mt hq.2 h), mul_zero]

/-- The gated cotangent with its factors the other way round. -/
theorem gated_comm (d : S4096x512.Idx → EReal) (p : S4096x5120.Idx → EReal) (r r' : Fin 4096) (c : Fin 512) (hr : r' = r) :
    p (ix2 r' ⟨c.val, by omega⟩) * d (ix2 r' c) = gated d p r c := by
  rw [hr, gated, mul_comm]

variable (d : S4096x512.Idx → EReal) (p : S4096x5120.Idx → EReal) (w : S3x512.Idx → EReal)

/-- The gate's gradient, as the padded convolution reads its input. -/
theorem dGate_read (r : Fin 4096) (c : Fin 512) :
    d (ix2 r c) * (((w (ix2 0 c) * if h : r.val < 2 then 0 else input p ⟨r.val - 2, by omega⟩ c)
      + w (ix2 1 c) * if h : 1 + r.val < 2 then 0 else input p ⟨1 + r.val - 2, by omega⟩ c) + w (ix2 2 c) * input p r c)
    = dGate d p w r c := by
  rw [dGate, back_dite (input p) r c 2 r.val rfl _ fun _ => rfl,
    back_dite (input p) r c 1 (1 + r.val) (by omega) _ fun h => congrArg (fun q => input p q c) (Fin.ext (by show _ - 2 = _ - 1; omega))]

/-- The gradient at the convolution's input, as the three padded products add up. -/
theorem dInput_read (r : Fin 4096) (c : Fin 512) :
    ((w (ix2 2 c) * (p (ix2 r ⟨c.val, by omega⟩) * d (ix2 r c)) +
        if h : 1 ≤ 2 + r.val ∧ 2 + r.val - 1 < 4096 then
          w (ix2 1 c) * (p (ix2 ⟨2 + r.val - 1, h.2⟩ ⟨c.val, by omega⟩) * d (ix2 ⟨2 + r.val - 1, h.2⟩ c))
        else 0) +
      if h : 2 + r.val < 4096 then
        w (ix2 0 c) * (p (ix2 ⟨2 + r.val, h⟩ ⟨c.val, by omega⟩) * d (ix2 ⟨2 + r.val, h⟩ c))
      else 0) = dInput d p w r c := by
  rw [ahead_dite (gated d p) r c 1 (w (ix2 1 c)) _ (by omega) _ fun h h' =>
      congrArg (w (ix2 1 c) * ·) (gated_comm d p ⟨r.val + 1, h'⟩ _ c (Fin.ext (by show 2 + r.val - 1 = r.val + 1; omega))),
    ahead_dite (gated d p) r c 2 (w (ix2 0 c)) _ (by omega) _ fun h h' =>
      congrArg (w (ix2 0 c) * ·) (gated_comm d p ⟨r.val + 2, h'⟩ _ c (Fin.ext (by show 2 + r.val = r.val + 2; omega))),
    gated_comm d p r r c rfl, dInput]

/-- The last tap's gradient. -/
theorem dWeight_last (c : Fin 512) :
    ∑ x : Fin 4096, p (ix2 x ⟨c.val, by omega⟩) * d (ix2 x c) * (p (ix2 x ⟨512 + c.val, by omega⟩) * p (ix2 x ⟨1024 + c.val, by omega⟩))
      = dWeight d p 2 c :=
  Finset.sum_congr rfl fun x _ => by rw [gated_comm d p x x c rfl]; rfl

/-- The middle tap's gradient. -/
theorem dWeight_mid (c : Fin 512) :
    ∑ x : Fin 4096, p (ix2 x ⟨c.val, by omega⟩) * d (ix2 x c) *
        (if h : 1 + x.val < 2 then 0 else input p ⟨1 + x.val - 2, by omega⟩ c) = dWeight d p 1 c :=
  Finset.sum_congr rfl fun x _ => by
    rw [gated_comm d p x x c rfl, back_dite (input p) x c 1 (1 + x.val) (by omega) _ fun h =>
      congrArg (fun q => input p q c) (Fin.ext (by show _ - 2 = _ - 1; omega))]
    rfl

/-- The first tap's gradient: the first two positions meet the padding. -/
theorem dWeight_first (c : Fin 512) :
    (∑ x : Fin 2, p (ix2 ⟨x.val, by omega⟩ ⟨c.val, by omega⟩) * d (ix2 ⟨x.val, by omega⟩ c) * 0) +
      (∑ x : Fin 4094, p (ix2 ⟨2 + x.val, by omega⟩ ⟨c.val, by omega⟩) * d (ix2 ⟨2 + x.val, by omega⟩ c) *
        input p ⟨x.val, by omega⟩ c) = dWeight d p 0 c := by
  rw [dWeight, Fin.sum_univ_two_halves 2 4094 rfl]
  refine congrArg₂ (· + ·) (Finset.sum_congr rfl fun x _ => ?_) (Finset.sum_congr rfl fun x _ => ?_)
  · rw [mul_zero, back, if_neg (by show ¬ 2 ≤ x.val; omega), mul_zero]
  · rw [gated_comm d p _ _ c rfl, back, if_pos (by show 2 ≤ 2 + x.val; omega)]
    exact congrArg (_ * input p · c) (Fin.ext (by show x.val = 2 + x.val - 2; omega))

set_option maxHeartbeats 1000000 in
/-- The reference ends with the four gradients in its results, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v67) = fun i : S4096x512.Idx =>
        dGate (m ((c.tc : Thread nD τ).loc main_arg0)) (m ((c.tc : Thread nD τ).loc main_arg1)) (m ((c.tc : Thread nD τ).loc main_arg2)) (i 0) (i 1))
      ∧ (r.2.mem ((c.tc : Thread nD τ).loc main_v68) = fun i : S4096x512.Idx =>
        dInput (m ((c.tc : Thread nD τ).loc main_arg0)) (m ((c.tc : Thread nD τ).loc main_arg1)) (m ((c.tc : Thread nD τ).loc main_arg2)) (i 0) (i 1)
          * m ((c.tc : Thread nD τ).loc main_arg1) (ix2 (i 0) ⟨1024 + (i 1).val, by have : (i 1).val < 512 := (i 1).isLt; omega⟩ : S4096x5120.Idx))
      ∧ (r.2.mem ((c.tc : Thread nD τ).loc main_v69) = fun i : S4096x512.Idx =>
        dInput (m ((c.tc : Thread nD τ).loc main_arg0)) (m ((c.tc : Thread nD τ).loc main_arg1)) (m ((c.tc : Thread nD τ).loc main_arg2)) (i 0) (i 1)
          * m ((c.tc : Thread nD τ).loc main_arg1) (ix2 (i 0) ⟨512 + (i 1).val, by have : (i 1).val < 512 := (i 1).isLt; omega⟩ : S4096x5120.Idx))
      ∧ (r.2.mem ((c.tc : Thread nD τ).loc main_v62) = fun i : S3x512.Idx =>
        dWeight (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h67, h68, h69, h62, h⟩ := h c
    refine ⟨h67.trans (funext fun i => ?_), h68.trans (funext fun i => ?_), h69.trans (funext fun i => ?_), h62.trans (funext fun i => ?_), h⟩
    all_goals
      clear h67 h68 h69 h62 h
      generalize (m ((c.tc : Thread nD τ).loc main_arg0)) = d
      generalize (m ((c.tc : Thread nD τ).loc main_arg1)) = p
      generalize (m ((c.tc : Thread nD τ).loc main_arg2)) = w
      pointwise
    · obtain ⟨r, c, rfl⟩ : ∃ (r : Fin 4096) (c : Fin 512), i = ix2 r c := ⟨_, _, eq_ix2 i⟩
      exact dGate_read d p w r c
    · obtain ⟨r, c, rfl⟩ : ∃ (r : Fin 4096) (c : Fin 512), i = ix2 r c := ⟨_, _, eq_ix2 i⟩
      exact congrArg (· * _) (dInput_read d p w r c)
    · obtain ⟨r, c, rfl⟩ : ∃ (r : Fin 4096) (c : Fin 512), i = ix2 r c := ⟨_, _, eq_ix2 i⟩
      rw [mul_comm]
      exact congrArg (· * _) (dInput_read d p w r c)
    · obtain ⟨k, c, rfl⟩ : ∃ (k : Fin 3) (c : Fin 512), i = ix2 k c := ⟨_, _, eq_ix2 i⟩
      match k with
      | ⟨0, _⟩ =>
        refine Eq.trans ?_ (dWeight_first d p c)
        simp
        rfl
      | ⟨1, _⟩ =>
        refine Eq.trans ?_ (dWeight_mid d p c)
        simp
        rfl
      | ⟨2, _⟩ =>
        refine Eq.trans ?_ (dWeight_last d p c)
        simp)
    (Value.run m ρ)

end Cert.ShortConv

end
-- ==== Proof.WeightGrad.lean ====
/- The gradient at a product's weights, by its formula: rows of inputs against rows of cotangents. -/
module

public import Idealize.ShloMosaic.Lib.Pipeline.ValueKit

@[expose] public section

noncomputable section

namespace Cert.WeightGrad

open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

/-- A read of part of an accumulator that was just stored whole is that cut of the stored array. -/
theorem read_stored {sg : RefSig} {κ : Kind} {sp : Space} {S : Shape} {e : EltTy} (v : View sg κ sp S e) (w : S.Idx → Elt Ideal e) (r : Rect S)
    {off : Fin S.rank → Nat} (h : off = fun _ => 0) (inb : ∀ a, off a + S.size a ≤ S.size a) :
    v.readCov [(⟨Rect.unit off S.size inb, w⟩ : View.Piece (Elt Ideal) S e)] r.toLoadRect = View.ld (Val := Elt Ideal) (e' := e) w r := by
  rw [View.readCov_eq_canon_ld _ _ _ fun y => ⟨_, List.mem_singleton_self _, View.mem_set_unit_zero h inb y⟩, View.canon_unit_zero h]

/-- Entry `(i, j)` of the weights' gradient: over the 4096 rows, input column `i` times cotangent column `j`. -/
def dWeight (a b : Fin 4096 → EReal) : EReal := ∑ r : Fin 4096, a r * b r

/-- The sum taken in two halves of 2048 rows, as two steps of an accumulator leave it. -/
theorem dWeight_halves (a b : Fin 4096 → EReal) :
    (∑ r : Fin 2048, a ⟨r.val, by omega⟩ * b ⟨r.val, by omega⟩) + (∑ r : Fin 2048, a ⟨2048 + r.val, by omega⟩ * b ⟨2048 + r.val, by omega⟩)
      = dWeight a b :=
  (Fin.sum_univ_two_halves 2048 2048 rfl fun r => a r * b r).symm

end Cert.WeightGrad

end
-- ==== Proof.DwDownKernel.lean ====
/- What the down projection's weight gradient kernel leaves: per output block two row blocks of 2048, the first stored, the second added. -/
module

public import proofs.«01_k».proof.Proof.WeightGrad
public import proofs.«01_k».proof.Proof.Gen.Kernel6Ideal.Value

@[expose] public section

set_option maxRecDepth 16384

noncomputable section

namespace Cert.DwDown

open Idealize.ShloMosaic Idealize.ShloMosaic.TcCoe Idealize.SL.Sem Cert.Kernel6Ideal Cert.Kernel6Ideal.Gen Cert.WeightGrad

section Points

variable (c : Dev nD) (i : grid0.Coords) (a2 : Memref sig .tc .vmem S2048x1408 .bf16) (h2 : a2.IsWhole)
  (a3 : Memref sig .tc .vmem S2048x1024 .bf16) (h3 : a3.IsWhole) (a4 : Memref sig .tc .vmem S1408x1024 .bf16) (h4 : a4.IsWhole)
  (a5 : Memref sig .tc .vmem S1408x1024 .f32) (h5 : a5.IsWhole) (x : Vec Ideal S2048x1408 .bf16) (y : Vec Ideal S2048x1024 .bf16)
  (acc : Vec Ideal S1408x1024 .f32)

/-- The first block's point leaves the product in the accumulator. -/
theorem first_acc (hc0 : cond0_0 i) (hc1 : ¬cond0_1 i) (hc2 : ¬cond0_2 i) :
    sout0_A_0 c i a2 h2 a3 h3 a4 h4 a5 h5 hc0 hc1 hc2 x y = k0_pay1 (F := Ideal) x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1408) zero2,
    View.ld_unit_zero (S := S2048x1024) zero2]

/-- The second block's point leaves the sum, narrowed, in the output's block. -/
theorem second_out (hc0 : ¬cond0_0 i) (hc1 : cond0_1 i) (hc2 : cond0_2 i) :
    out0_B_2 c i a2 h2 a3 h3 a4 h4 a5 h5 hc0 hc1 hc2 x y acc = k0_pay3 (F := Ideal) (k0_pay2 acc x y) := by
  unfold out0_B_2
  rw [View.read_writes_eq_canon _ _ _ (cover0_B_2 c i a2 h2 a3 h3 a4 h4 a5 h5 hc0 hc1 hc2 x y acc)]
  unfold kernelRun0_B
  dsimp only
  sl_unfold_words
  rw [View.canon_unit_zero zero2]
  rw [View.readCov_unit_zero (S := S1408x1024) _ zero2]
  simp only [View.readAt_eq_ld, h2.read_unread, h3.read_unread, h5.read_unread, View.ld_unit_zero (S := S2048x1408) zero2,
    View.ld_unit_zero (S := S2048x1024) zero2, View.ld_unit_zero (S := S1408x1024) zero2]

end Points

/-- One entry of a block's product. -/
theorem pay1_apply (x : S2048x1408.Idx → EReal) (y : S2048x1024.Idx → EReal) (j : Fin 1408) (k : Fin 1024) :
    k0_pay1 (F := Ideal) x y (ix2 j k) = ∑ r : Fin 2048, x (ix2 r j) * y (ix2 r k) := by
  pointwise [k0_pay1]

/-- One entry of a block of the result. -/
theorem pay3_apply (acc : S1408x1024.Idx → EReal) (x : S2048x1408.Idx → EReal) (y : S2048x1024.Idx → EReal) (j : Fin 1408) (k : Fin 1024) :
    k0_pay3 (F := Ideal) (k0_pay2 (F := Ideal) acc x y) (ix2 j k) = acc (ix2 j k) + ∑ r : Fin 2048, x (ix2 r j) * y (ix2 r k) := by
  pointwise [k0_pay3, k0_pay2]

variable (m : (ℓ : Loc nD τ sig) → Buf (Elt Ideal) ℓ)

abbrev aArr (c : Dev nD) : S4096x2816.Idx → EReal := m ((c.tc : Thread nD τ).loc main_arg0)
abbrev bArr (c : Dev nD) : S4096x1024.Idx → EReal := m ((c.tc : Thread nD τ).loc main_arg1)

theorem index0 : ∀ t : Fin grid0.N, win0_0.index t = ![t.val % 2, t.val / 2] := by decide +kernel
theorem index1 : ∀ t : Fin grid0.N, win0_1.index t = ![t.val % 2, 0] := by decide +kernel
theorem index2 : ∀ t : Fin grid0.N, win0_2.index t = ![t.val / 2, 0] := by decide +kernel

theorem lt_points (t : Fin cfg0.N) : t.val < 4 := t.isLt

theorem read0 (c : Dev nD) (t : Fin cfg0.N) (r : Fin 2048) (j : Fin 1408) :
    iblk m c 0 t (ix2 r j : S2048x1408.Idx)
      = aArr m c (ix2 ⟨t.val % 2 * 2048 + r.val, by omega⟩ ⟨t.val / 2 * 1408 + j.val, by have := lt_points t; omega⟩) := by
  blk_ext [iblk, V, index0 t]

theorem read1 (c : Dev nD) (t : Fin cfg0.N) (r : Fin 2048) (k : Fin 1024) :
    iblk m c 1 t (ix2 r k : S2048x1024.Idx)
      = bArr m c (ix2 ⟨t.val % 2 * 2048 + r.val, by omega⟩ k) := by
  blk_ext [iblk, V, index1 t]

/-- The accumulator after a first block's point. -/
theorem acc_at (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  dsimp only
  rw [first_acc]

/-- The output's block after a second block's point: both blocks' products. -/
theorem out_at (c : Dev nD) (s t : Fin cfg0.N) (h : t.val % 2 = 1) (hs : s.val + 1 = t.val) :
    (dats m 0 c).after 2 t
      = k0_pay3 (F := Ideal) (k0_pay2 (k0_pay1 (iblk m c 0 s) (iblk m c 1 s)) (iblk m c 0 t) (iblk m c 1 t)) := by
  rw [after0_2, outsAt0_B m c t (by omega) h h]
  dsimp only
  rw [second_out]
  have e : t.val - 1 = s.val := by omega
  simp only [e]
  rw [acc_at m c s (by omega)]

/-- The result: every entry of the weights' gradient. -/
theorem kernel_dW (c : Dev nD) :
    (dats m 0 c).arrAt 2 cfg0.N = fun i : S2816x1024.Idx => dWeight (fun r => aArr m c (ix2 r (i 0))) (fun r => bArr m c (ix2 r (i 1))) := by
  refine (dats m 0 c).arrAt_eq_of_covers 2 _ (by decide +kernel) fun t hf y => ?_
  have hp := (flush0_2 t).mp hf
  have ht := lt_points t
  obtain ⟨j, k, rfl⟩ : ∃ (j : Fin 1408) (k : Fin 1024), y = (ix2 j k : S1408x1024.Idx) := ⟨_, _, eq_ix2 y⟩
  have e : ((cfg0.win 2).blk t).view.emb (ix2 j k : S1408x1024.Idx) = (ix2 ⟨t.val / 2 * 1408 + j.val, by omega⟩ k : S2816x1024.Idx) := by
    blk_ext [index2 t]
  rw [e]
  blk_simp
  rw [out_at m c ⟨t.val - 1, Nat.lt_of_le_of_lt (Nat.sub_le _ _) t.isLt⟩ t hp (by show t.val - 1 + 1 = t.val; omega), pay3_apply, pay1_apply, ← dWeight_halves]
  have h1 : (t.val - 1) % 2 = 0 := by omega
  have h2 : (t.val - 1) / 2 = t.val / 2 := by omega
  simp only [read0, read1, hp, h1, h2, Nat.zero_mul, Nat.one_mul, Nat.zero_add]
  rfl

end Cert.DwDown

end
-- ==== Proof.DwDown.lean ====
/- The reference's result at the down projection's weight gradient, and that the kernel's is the same. -/
module

public import proofs.«01_k».proof.Proof.DwDownKernel
public import proofs.«01_k».proof.Proof.Gen.Reference6Ideal.Run
public import proofs.«01_k».proof.Defs

@[expose] public section

set_option maxRecDepth 16384

noncomputable section

namespace Cert.DwDown

open Idealize.ShloMosaic Idealize.ShloMosaic.TcCoe Idealize.SL.Sem Cert.WeightGrad

section Reference

open Cert.Reference6Ideal

/-- The reference ends with the weights' gradient in its result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v6) = fun i : S2816x1024.Idx =>
        dWeight (fun r => m ((c.tc : Thread nD τ).loc main_arg0) (ix2 r (i 0) : S4096x2816.Idx))
          (fun r => m ((c.tc : Thread nD τ).loc main_arg1) (ix2 r (i 1) : S4096x1024.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    clear h0 h
    generalize (m ((c.tc : Thread nD τ).loc main_arg0)) = a
    generalize (m ((c.tc : Thread nD τ).loc main_arg1)) = b
    pointwise
    exact (Finset.sum_congr rfl fun r _ => mul_comm _ _))
    (Value.run m ρ)

end Reference

/-- From arguments that agree, the kernel's result is the reference's. -/
theorem algebraic : algebraic_Kernel6Ideal_Reference6Ideal
    (hKernel6Ideal := Cert.Kernel6Ideal.Gen.facts) (hReference6Ideal := Cert.Reference6Ideal.Gen.facts) := by
  intro m g m' g' _ hagree
  refine ⟨fun c => (Cert.Kernel6Ideal.Gen.dats m 0 c).arrAt 2 Cert.Kernel6Ideal.cfg0.N,
    (θ_run _ _ _).mono (fun r h c => ?_) (Cert.Kernel6Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    rw [a0, a1]
    exact (kernel_dW m c).symm

end Cert.DwDown

end
-- ==== Proof.DwGateUpKernel.lean ====
/- What the gate and up projection's weight gradient kernel leaves: per output block two row blocks of 2048, the first stored, the second added. -/
module

public import proofs.«01_k».proof.Proof.WeightGrad
public import proofs.«01_k».proof.Proof.Gen.Kernel7Ideal.Value

@[expose] public section

set_option maxRecDepth 16384

noncomputable section

namespace Cert.DwGateUp

open Idealize.ShloMosaic Idealize.ShloMosaic.TcCoe Idealize.SL.Sem Cert.Kernel7Ideal Cert.Kernel7Ideal.Gen Cert.WeightGrad

section Points

variable (c : Dev nD) (i : grid0.Coords) (a2 : Memref sig .tc .vmem S2048x1024 .bf16) (h2 : a2.IsWhole)
  (a3 : Memref sig .tc .vmem S1x2048x1408 .bf16) (h3 : a3.IsWhole) (a4 : Memref sig .tc .vmem S1x1024x1408 .bf16) (h4 : a4.IsWhole)
  (a5 : Memref sig .tc .vmem S1024x1408 .f32) (h5 : a5.IsWhole) (x : Vec Ideal S2048x1024 .bf16) (y : Vec Ideal S1x2048x1408 .bf16)
  (acc : Vec Ideal S1024x1408 .f32)

/-- The first block's point leaves the product in the accumulator. -/
theorem first_acc (hc0 : cond0_0 i) (hc1 : ¬cond0_1 i) (hc2 : ¬cond0_2 i) :
    sout0_A_0 c i a2 h2 a3 h3 a4 h4 a5 h5 hc0 hc1 hc2 x y = k0_pay1 (F := Ideal) x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1024) zero2,
    View.ld_unit_zero (S := S1x2048x1408) zero3]

/-- The second block's point leaves the sum, narrowed, in the output's block. -/
theorem second_out (hc0 : ¬cond0_0 i) (hc1 : cond0_1 i) (hc2 : cond0_2 i) :
    out0_B_2 c i a2 h2 a3 h3 a4 h4 a5 h5 hc0 hc1 hc2 x y acc = k0_pay3 (F := Ideal) (k0_pay2 acc x y) := by
  unfold out0_B_2
  rw [View.read_writes_eq_canon _ _ _ (cover0_B_2 c i a2 h2 a3 h3 a4 h4 a5 h5 hc0 hc1 hc2 x y acc)]
  unfold kernelRun0_B
  dsimp only
  sl_unfold_words
  rw [View.canon_unit_zero zero3]
  rw [View.readCov_unit_zero (S := S1024x1408) _ zero2]
  simp only [View.readAt_eq_ld, h2.read_unread, h3.read_unread, h5.read_unread, View.ld_unit_zero (S := S2048x1024) zero2,
    View.ld_unit_zero (S := S1x2048x1408) zero3, View.ld_unit_zero (S := S1024x1408) zero2]

end Points

/-- One entry of a block's product. -/
theorem pay1_apply (x : S2048x1024.Idx → EReal) (y : S1x2048x1408.Idx → EReal) (j : Fin 1024) (k : Fin 1408) :
    k0_pay1 (F := Ideal) x y (ix2 j k) = ∑ r : Fin 2048, x (ix2 r j) * y (ix3 0 r k) := by
  pointwise [k0_pay1]

/-- One entry of a block of the result. -/
theorem pay3_apply (acc : S1024x1408.Idx → EReal) (x : S2048x1024.Idx → EReal) (y : S1x2048x1408.Idx → EReal) (j : Fin 1024) (k : Fin 1408) :
    k0_pay3 (F := Ideal) (k0_pay2 (F := Ideal) acc x y) (ix3 0 j k) = acc (ix2 j k) + ∑ r : Fin 2048, x (ix2 r j) * y (ix3 0 r k) := by
  pointwise [k0_pay3, k0_pay2]

variable (m : (ℓ : Loc nD τ sig) → Buf (Elt Ideal) ℓ)

abbrev aArr (c : Dev nD) : S4096x1024.Idx → EReal := m ((c.tc : Thread nD τ).loc main_arg0)
abbrev bArr (c : Dev nD) : S4096x5632.Idx → EReal := m ((c.tc : Thread nD τ).loc main_arg1)

theorem index0 : ∀ t : Fin grid0.N, win0_0.index t = ![t.val % 2, 0] := by decide +kernel
theorem index1 : ∀ t : Fin grid0.N, win0_1.index t = ![t.val / 2 / 2, t.val % 2, t.val / 2 % 2] := by decide +kernel
theorem index2 : ∀ t : Fin grid0.N, win0_2.index t = ![t.val / 2, 0, 0] := by decide +kernel

theorem lt_points (t : Fin cfg0.N) : t.val < 8 := t.isLt

/-- The column of the whole gradient that a block's column is. -/
abbrev column (i : S4x1024x1408.Idx) : Fin 5632 :=
  ⟨(i 0).val * 1408 + (i 2).val, by have h0 : (i 0).val < 4 := (i 0).isLt; have h2 : (i 2).val < 1408 := (i 2).isLt; omega⟩

/-- The cotangent's two halves as the kernel is given them. -/
theorem halves (c : Dev nD) (p : Fin 2) (r : Fin 4096) (k : Fin 2816) :
    V m c main_v1 (ix3 p r k : S2x4096x2816.Idx) = bArr m c (ix2 r ⟨p.val * 2816 + k.val, by omega⟩) := by
  have e : V m c main_v1 = transpose S2x4096x2816 [1, 0, 2] (shapeCast S4096x2x2816 (bArr m c) shapeCasts_S4096x5632_S4096x2x2816)
      transposes_S4096x2x2816_S2x4096x2816_1_0_2 := by
    after_results <;> rfl
  rw [e]
  pointwise

theorem read0 (c : Dev nD) (t : Fin cfg0.N) (r : Fin 2048) (j : Fin 1024) :
    iblk m c 0 t (ix2 r j : S2048x1024.Idx)
      = aArr m c (ix2 ⟨t.val % 2 * 2048 + r.val, by omega⟩ j) := by
  blk_ext [iblk, V, index0 t]

theorem read1 (c : Dev nD) (t : Fin cfg0.N) (r : Fin 2048) (k : Fin 1408) :
    iblk m c 1 t (ix3 0 r k : S1x2048x1408.Idx)
      = bArr m c (ix2 ⟨t.val % 2 * 2048 + r.val, by omega⟩ ⟨t.val / 2 * 1408 + k.val, by have := lt_points t; omega⟩) := by
  have h0 := lt_points t
  have e : iblk m c 1 t (ix3 0 r k : S1x2048x1408.Idx) = V m c main_v1 (ix3 ⟨t.val / 2 / 2, by omega⟩ ⟨t.val % 2 * 2048 + r.val, by omega⟩
      ⟨t.val / 2 % 2 * 1408 + k.val, by omega⟩ : S2x4096x2816.Idx) := by
    blk_ext [iblk, index1 t]
  rw [e, halves]
  refine congrArg (bArr m c) (congrArg (ix2 _) (Fin.ext ?_))
  show t.val / 2 / 2 * 2816 + (t.val / 2 % 2 * 1408 + k.val) = t.val / 2 * 1408 + k.val
  omega

/-- The accumulator after a first block's point. -/
theorem acc_at (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  dsimp only
  rw [first_acc]

/-- The output's block after a second block's point: both blocks' products. -/
theorem out_at (c : Dev nD) (s t : Fin cfg0.N) (h : t.val % 2 = 1) (hs : s.val + 1 = t.val) :
    (dats m 0 c).after 2 t
      = k0_pay3 (F := Ideal) (k0_pay2 (k0_pay1 (iblk m c 0 s) (iblk m c 1 s)) (iblk m c 0 t) (iblk m c 1 t)) := by
  rw [after0_2, outsAt0_B m c t (by omega) h h]
  dsimp only
  rw [second_out]
  have e : t.val - 1 = s.val := by omega
  simp only [e]
  rw [acc_at m c s (by omega)]

/-- The result: every entry of the weights' gradient. -/
theorem kernel_dW (c : Dev nD) :
    (dats m 0 c).arrAt 2 cfg0.N = fun i : S4x1024x1408.Idx => dWeight (fun r => aArr m c (ix2 r (i 1))) (fun r => bArr m c (ix2 r (column i))) := by
  refine (dats m 0 c).arrAt_eq_of_covers 2 _ (by decide +kernel) fun t hf y => ?_
  have hp := (flush0_2 t).mp hf
  have ht := lt_points t
  obtain ⟨j, k, rfl⟩ : ∃ (j : Fin 1024) (k : Fin 1408), y = (ix3 0 j k : S1x1024x1408.Idx) := ⟨_, _, (eq_ix3 y).trans (congrArg (fun z => ix3 z (y 1) (y 2)) (Subsingleton.elim _ _))⟩
  have e : ((cfg0.win 2).blk t).view.emb (ix3 0 j k : S1x1024x1408.Idx) = (ix3 ⟨t.val / 2, by omega⟩ j k : S4x1024x1408.Idx) := by
    blk_ext [index2 t]
  rw [e]
  blk_simp
  rw [out_at m c ⟨t.val - 1, Nat.lt_of_le_of_lt (Nat.sub_le _ _) t.isLt⟩ t hp (by show t.val - 1 + 1 = t.val; omega), pay3_apply, pay1_apply, ← dWeight_halves]
  have h1 : (t.val - 1) % 2 = 0 := by omega
  have h2 : (t.val - 1) / 2 = t.val / 2 := by omega
  simp only [read0, read1, hp, h1, h2, Nat.zero_mul, Nat.one_mul, Nat.zero_add]
  rfl

end Cert.DwGateUp

end
-- ==== Proof.DwGateUp.lean ====
/- The reference's result at the gate and up projection's weight gradient, and that the kernel's is the same. -/
module

public import proofs.«01_k».proof.Proof.DwGateUpKernel
public import proofs.«01_k».proof.Proof.Gen.Reference7Ideal.Run
public import proofs.«01_k».proof.Defs

@[expose] public section

set_option maxRecDepth 16384

noncomputable section

namespace Cert.DwGateUp

open Idealize.ShloMosaic Idealize.ShloMosaic.TcCoe Idealize.SL.Sem Cert.WeightGrad

section Reference

open Cert.Reference7Ideal

/-- The reference ends with the weights' gradient in its result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v8) = fun i : S4x1024x1408.Idx =>
        dWeight (fun r => m ((c.tc : Thread nD τ).loc main_arg0) (ix2 r (i 1) : S4096x1024.Idx))
          (fun r => m ((c.tc : Thread nD τ).loc main_arg1) (ix2 r (column i) : S4096x5632.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    clear h0 h
    generalize (m ((c.tc : Thread nD τ).loc main_arg0)) = a
    generalize (m ((c.tc : Thread nD τ).loc main_arg1)) = b
    pointwise
    exact (Finset.sum_congr rfl fun r _ => mul_comm _ _))
    (Value.run m ρ)

end Reference

/-- From arguments that agree, the kernel's result is the reference's. -/
theorem algebraic : algebraic_Kernel7Ideal_Reference7Ideal
    (hKernel7Ideal := Cert.Kernel7Ideal.Gen.facts) (hReference7Ideal := Cert.Reference7Ideal.Gen.facts) := by
  intro m g m' g' _ hagree
  refine ⟨fun c => (Cert.Kernel7Ideal.Gen.dats m 0 c).arrAt 2 Cert.Kernel7Ideal.cfg0.N,
    (θ_run _ _ _).mono (fun r h c => ?_) (Cert.Kernel7Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    rw [a0, a1]
    exact (kernel_dW m c).symm

end Cert.DwGateUp

end
-- ==== Proof.DwMixInKernel.lean ====
/- What the mixers' input projection's weight gradient kernel leaves: per output block two row blocks of 2048, the first stored, the second added. -/
module

public import proofs.«01_k».proof.Proof.WeightGrad
public import proofs.«01_k».proof.Proof.Gen.Kernel8Ideal.Value

@[expose] public section

set_option maxRecDepth 16384

noncomputable section

namespace Cert.DwMixIn

open Idealize.ShloMosaic Idealize.ShloMosaic.TcCoe Idealize.SL.Sem Cert.Kernel8Ideal Cert.Kernel8Ideal.Gen Cert.WeightGrad

section Points

variable (c : Dev nD) (i : grid0.Coords) (a2 : Memref sig .tc .vmem S2048x1024 .bf16) (h2 : a2.IsWhole)
  (a3 : Memref sig .tc .vmem S2048x1280 .bf16) (h3 : a3.IsWhole) (a4 : Memref sig .tc .vmem S1x1024x1280 .bf16) (h4 : a4.IsWhole)
  (a5 : Memref sig .tc .vmem S1024x1280 .f32) (h5 : a5.IsWhole) (x : Vec Ideal S2048x1024 .bf16) (y : Vec Ideal S2048x1280 .bf16)
  (acc : Vec Ideal S1024x1280 .f32)

/-- The first block's point leaves the product in the accumulator. -/
theorem first_acc (hc0 : cond0_0 i) (hc1 : ¬cond0_1 i) (hc2 : ¬cond0_2 i) :
    sout0_A_0 c i a2 h2 a3 h3 a4 h4 a5 h5 hc0 hc1 hc2 x y = k0_pay1 (F := Ideal) x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1024) zero2,
    View.ld_unit_zero (S := S2048x1280) zero2]

/-- The second block's point leaves the sum, narrowed, in the output's block. -/
theorem second_out (hc0 : ¬cond0_0 i) (hc1 : cond0_1 i) (hc2 : cond0_2 i) :
    out0_B_2 c i a2 h2 a3 h3 a4 h4 a5 h5 hc0 hc1 hc2 x y acc = k0_pay3 (F := Ideal) (k0_pay2 acc x y) := by
  unfold out0_B_2
  rw [View.read_writes_eq_canon _ _ _ (cover0_B_2 c i a2 h2 a3 h3 a4 h4 a5 h5 hc0 hc1 hc2 x y acc)]
  unfold kernelRun0_B
  dsimp only
  sl_unfold_words
  rw [View.canon_unit_zero zero3]
  rw [View.readCov_unit_zero (S := S1024x1280) _ zero2]
  simp only [View.readAt_eq_ld, h2.read_unread, h3.read_unread, h5.read_unread, View.ld_unit_zero (S := S2048x1024) zero2,
    View.ld_unit_zero (S := S2048x1280) zero2, View.ld_unit_zero (S := S1024x1280) zero2]

end Points

/-- One entry of a block's product. -/
theorem pay1_apply (x : S2048x1024.Idx → EReal) (y : S2048x1280.Idx → EReal) (j : Fin 1024) (k : Fin 1280) :
    k0_pay1 (F := Ideal) x y (ix2 j k) = ∑ r : Fin 2048, x (ix2 r j) * y (ix2 r k) := by
  pointwise [k0_pay1]

/-- One entry of a block of the result. -/
theorem pay3_apply (acc : S1024x1280.Idx → EReal) (x : S2048x1024.Idx → EReal) (y : S2048x1280.Idx → EReal) (j : Fin 1024) (k : Fin 1280) :
    k0_pay3 (F := Ideal) (k0_pay2 (F := Ideal) acc x y) (ix3 0 j k) = acc (ix2 j k) + ∑ r : Fin 2048, x (ix2 r j) * y (ix2 r k) := by
  pointwise [k0_pay3, k0_pay2]

variable (m : (ℓ : Loc nD τ sig) → Buf (Elt Ideal) ℓ)

abbrev aArr (c : Dev nD) : S4096x1024.Idx → EReal := m ((c.tc : Thread nD τ).loc main_arg0)
abbrev bArr (c : Dev nD) : S4096x5120.Idx → EReal := m ((c.tc : Thread nD τ).loc main_arg1)

theorem index0 : ∀ t : Fin grid0.N, win0_0.index t = ![t.val % 2, 0] := by decide +kernel
theorem index1 : ∀ t : Fin grid0.N, win0_1.index t = ![t.val % 2, t.val / 2] := by decide +kernel
theorem index2 : ∀ t : Fin grid0.N, win0_2.index t = ![t.val / 2, 0, 0] := by decide +kernel

theorem lt_points (t : Fin cfg0.N) : t.val < 8 := t.isLt

/-- The column of the whole gradient that a block's column is. -/
abbrev column (i : S4x1024x1280.Idx) : Fin 5120 :=
  ⟨(i 0).val * 1280 + (i 2).val, by have h0 : (i 0).val < 4 := (i 0).isLt; have h2 : (i 2).val < 1280 := (i 2).isLt; omega⟩

theorem read0 (c : Dev nD) (t : Fin cfg0.N) (r : Fin 2048) (j : Fin 1024) :
    iblk m c 0 t (ix2 r j : S2048x1024.Idx)
      = aArr m c (ix2 ⟨t.val % 2 * 2048 + r.val, by omega⟩ j) := by
  blk_ext [iblk, V, index0 t]

theorem read1 (c : Dev nD) (t : Fin cfg0.N) (r : Fin 2048) (k : Fin 1280) :
    iblk m c 1 t (ix2 r k : S2048x1280.Idx)
      = bArr m c (ix2 ⟨t.val % 2 * 2048 + r.val, by omega⟩ ⟨t.val / 2 * 1280 + k.val, by have := lt_points t; omega⟩) := by
  blk_ext [iblk, V, index1 t]

/-- The accumulator after a first block's point. -/
theorem acc_at (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  dsimp only
  rw [first_acc]

/-- The output's block after a second block's point: both blocks' products. -/
theorem out_at (c : Dev nD) (s t : Fin cfg0.N) (h : t.val % 2 = 1) (hs : s.val + 1 = t.val) :
    (dats m 0 c).after 2 t
      = k0_pay3 (F := Ideal) (k0_pay2 (k0_pay1 (iblk m c 0 s) (iblk m c 1 s)) (iblk m c 0 t) (iblk m c 1 t)) := by
  rw [after0_2, outsAt0_B m c t (by omega) h h]
  dsimp only
  rw [second_out]
  have e : t.val - 1 = s.val := by omega
  simp only [e]
  rw [acc_at m c s (by omega)]

/-- The result: every entry of the weights' gradient. -/
theorem kernel_dW (c : Dev nD) :
    (dats m 0 c).arrAt 2 cfg0.N = fun i : S4x1024x1280.Idx => dWeight (fun r => aArr m c (ix2 r (i 1))) (fun r => bArr m c (ix2 r (column i))) := by
  refine (dats m 0 c).arrAt_eq_of_covers 2 _ (by decide +kernel) fun t hf y => ?_
  have hp := (flush0_2 t).mp hf
  have ht := lt_points t
  obtain ⟨j, k, rfl⟩ : ∃ (j : Fin 1024) (k : Fin 1280), y = (ix3 0 j k : S1x1024x1280.Idx) := ⟨_, _, (eq_ix3 y).trans (congrArg (fun z => ix3 z (y 1) (y 2)) (Subsingleton.elim _ _))⟩
  have e : ((cfg0.win 2).blk t).view.emb (ix3 0 j k : S1x1024x1280.Idx) = (ix3 ⟨t.val / 2, by omega⟩ j k : S4x1024x1280.Idx) := by
    blk_ext [index2 t]
  rw [e]
  blk_simp
  rw [out_at m c ⟨t.val - 1, Nat.lt_of_le_of_lt (Nat.sub_le _ _) t.isLt⟩ t hp (by show t.val - 1 + 1 = t.val; omega), pay3_apply, pay1_apply, ← dWeight_halves]
  have h1 : (t.val - 1) % 2 = 0 := by omega
  have h2 : (t.val - 1) / 2 = t.val / 2 := by omega
  simp only [read0, read1, hp, h1, h2, Nat.zero_mul, Nat.one_mul, Nat.zero_add]
  rfl

end Cert.DwMixIn

end
-- ==== Proof.DwMixIn.lean ====
/- The reference's result at the mixers' input projection's weight gradient, and that the kernel's is the same. -/
module

public import proofs.«01_k».proof.Proof.DwMixInKernel
public import proofs.«01_k».proof.Proof.Gen.Reference8Ideal.Run
public import proofs.«01_k».proof.Defs

@[expose] public section

set_option maxRecDepth 16384

noncomputable section

namespace Cert.DwMixIn

open Idealize.ShloMosaic Idealize.ShloMosaic.TcCoe Idealize.SL.Sem Cert.WeightGrad

section Reference

open Cert.Reference8Ideal

/-- The reference ends with the weights' gradient in its result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v8) = fun i : S4x1024x1280.Idx =>
        dWeight (fun r => m ((c.tc : Thread nD τ).loc main_arg0) (ix2 r (i 1) : S4096x1024.Idx))
          (fun r => m ((c.tc : Thread nD τ).loc main_arg1) (ix2 r (column i) : S4096x5120.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    clear h0 h
    generalize (m ((c.tc : Thread nD τ).loc main_arg0)) = a
    generalize (m ((c.tc : Thread nD τ).loc main_arg1)) = b
    pointwise
    exact (Finset.sum_congr rfl fun r _ => mul_comm _ _))
    (Value.run m ρ)

end Reference

/-- From arguments that agree, the kernel's result is the reference's. -/
theorem algebraic : algebraic_Kernel8Ideal_Reference8Ideal
    (hKernel8Ideal := Cert.Kernel8Ideal.Gen.facts) (hReference8Ideal := Cert.Reference8Ideal.Gen.facts) := by
  intro m g m' g' _ hagree
  refine ⟨fun c => (Cert.Kernel8Ideal.Gen.dats m 0 c).arrAt 2 Cert.Kernel8Ideal.cfg0.N,
    (θ_run _ _ _).mono (fun r h c => ?_) (Cert.Kernel8Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    rw [a0, a1]
    exact (kernel_dW m c).symm

end Cert.DwMixIn

end
-- ==== Proof.DwOutKernel.lean ====
/- What the output projection's weight gradient kernel leaves: per output block two row blocks of 2048, the first stored, the second added. -/
module

public import proofs.«01_k».proof.Proof.WeightGrad
public import proofs.«01_k».proof.Proof.Gen.Kernel9Ideal.Value

@[expose] public section

set_option maxRecDepth 16384

noncomputable section

namespace Cert.DwOut

open Idealize.ShloMosaic Idealize.ShloMosaic.TcCoe Idealize.SL.Sem Cert.Kernel9Ideal Cert.Kernel9Ideal.Gen Cert.WeightGrad

section Points

variable (c : Dev nD) (i : grid0.Coords) (a2 : Memref sig .tc .vmem S2048x1024 .bf16) (h2 : a2.IsWhole)
  (a3 : Memref sig .tc .vmem S2048x1024 .bf16) (h3 : a3.IsWhole) (a4 : Memref sig .tc .vmem S1024x1024 .bf16) (h4 : a4.IsWhole)
  (a5 : Memref sig .tc .vmem S1024x1024 .f32) (h5 : a5.IsWhole) (x : Vec Ideal S2048x1024 .bf16) (y : Vec Ideal S2048x1024 .bf16)
  (acc : Vec Ideal S1024x1024 .f32)

/-- The first block's point leaves the product in the accumulator. -/
theorem first_acc (hc0 : cond0_0 i) (hc1 : ¬cond0_1 i) (hc2 : ¬cond0_2 i) :
    sout0_A_0 c i a2 h2 a3 h3 a4 h4 a5 h5 hc0 hc1 hc2 x y = k0_pay1 (F := Ideal) x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero zero2]
  simp only [View.readAt_eq_ld, h2.read_unread, h3.read_unread, View.ld_unit_zero (S := S2048x1024) zero2,
    View.ld_unit_zero (S := S2048x1024) zero2]

/-- The second block's point leaves the sum, narrowed, in the output's block. -/
theorem second_out (hc0 : ¬cond0_0 i) (hc1 : cond0_1 i) (hc2 : cond0_2 i) :
    out0_B_2 c i a2 h2 a3 h3 a4 h4 a5 h5 hc0 hc1 hc2 x y acc = k0_pay3 (F := Ideal) (k0_pay2 acc x y) := by
  unfold out0_B_2
  rw [View.read_writes_eq_canon _ _ _ (cover0_B_2 c i a2 h2 a3 h3 a4 h4 a5 h5 hc0 hc1 hc2 x y acc)]
  unfold kernelRun0_B
  dsimp only
  sl_unfold_words
  rw [View.canon_unit_zero zero2]
  rw [View.readCov_unit_zero (S := S1024x1024) _ zero2]
  simp only [View.readAt_eq_ld, h2.read_unread, h3.read_unread, h5.read_unread, View.ld_unit_zero (S := S2048x1024) zero2,
    View.ld_unit_zero (S := S2048x1024) zero2, View.ld_unit_zero (S := S1024x1024) zero2]

end Points

/-- One entry of a block's product. -/
theorem pay1_apply (x : S2048x1024.Idx → EReal) (y : S2048x1024.Idx → EReal) (j : Fin 1024) (k : Fin 1024) :
    k0_pay1 (F := Ideal) x y (ix2 j k) = ∑ r : Fin 2048, x (ix2 r j) * y (ix2 r k) := by
  pointwise [k0_pay1]

/-- One entry of a block of the result. -/
theorem pay3_apply (acc : S1024x1024.Idx → EReal) (x : S2048x1024.Idx → EReal) (y : S2048x1024.Idx → EReal) (j : Fin 1024) (k : Fin 1024) :
    k0_pay3 (F := Ideal) (k0_pay2 (F := Ideal) acc x y) (ix2 j k) = acc (ix2 j k) + ∑ r : Fin 2048, x (ix2 r j) * y (ix2 r k) := by
  pointwise [k0_pay3, k0_pay2]

variable (m : (ℓ : Loc nD τ sig) → Buf (Elt Ideal) ℓ)

abbrev aArr (c : Dev nD) : S4096x1024.Idx → EReal := m ((c.tc : Thread nD τ).loc main_arg0)
abbrev bArr (c : Dev nD) : S4096x1024.Idx → EReal := m ((c.tc : Thread nD τ).loc main_arg1)

theorem index0 : ∀ t : Fin grid0.N, win0_0.index t = ![t.val % 2, 0] := by decide +kernel
theorem index1 : ∀ t : Fin grid0.N, win0_1.index t = ![t.val % 2, 0] := by decide +kernel
theorem index2 : ∀ t : Fin grid0.N, win0_2.index t = ![0, 0] := by decide +kernel

theorem lt_points (t : Fin cfg0.N) : t.val < 2 := t.isLt

theorem read0 (c : Dev nD) (t : Fin cfg0.N) (r : Fin 2048) (j : Fin 1024) :
    iblk m c 0 t (ix2 r j : S2048x1024.Idx)
      = aArr m c (ix2 ⟨t.val % 2 * 2048 + r.val, by omega⟩ j) := by
  blk_ext [iblk, V, index0 t]

theorem read1 (c : Dev nD) (t : Fin cfg0.N) (r : Fin 2048) (k : Fin 1024) :
    iblk m c 1 t (ix2 r k : S2048x1024.Idx)
      = bArr m c (ix2 ⟨t.val % 2 * 2048 + r.val, by omega⟩ k) := by
  blk_ext [iblk, V, index1 t]

/-- The accumulator after a first block's point. -/
theorem acc_at (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  dsimp only
  rw [first_acc]

/-- The output's block after a second block's point: both blocks' products. -/
theorem out_at (c : Dev nD) (s t : Fin cfg0.N) (h : t.val % 2 = 1) (hs : s.val + 1 = t.val) :
    (dats m 0 c).after 2 t
      = k0_pay3 (F := Ideal) (k0_pay2 (k0_pay1 (iblk m c 0 s) (iblk m c 1 s)) (iblk m c 0 t) (iblk m c 1 t)) := by
  rw [after0_2, outsAt0_B m c t (by omega) h h]
  dsimp only
  rw [second_out]
  have e : t.val - 1 = s.val := by omega
  simp only [e]
  rw [acc_at m c s (by omega)]

/-- The result: every entry of the weights' gradient. -/
theorem kernel_dW (c : Dev nD) :
    (dats m 0 c).arrAt 2 cfg0.N = fun i : S1024x1024.Idx => dWeight (fun r => aArr m c (ix2 r (i 0))) (fun r => bArr m c (ix2 r (i 1))) := by
  refine (dats m 0 c).arrAt_eq_of_covers 2 _ (by decide +kernel) fun t hf y => ?_
  have hp := (flush0_2 t).mp hf
  have ht := lt_points t
  obtain ⟨j, k, rfl⟩ : ∃ (j : Fin 1024) (k : Fin 1024), y = (ix2 j k : S1024x1024.Idx) := ⟨_, _, eq_ix2 y⟩
  have e : ((cfg0.win 2).blk t).view.emb (ix2 j k : S1024x1024.Idx) = (ix2 j k : S1024x1024.Idx) := by
    blk_ext [index2 t]
  rw [e]
  blk_simp
  rw [out_at m c ⟨t.val - 1, Nat.lt_of_le_of_lt (Nat.sub_le _ _) t.isLt⟩ t hp (by show t.val - 1 + 1 = t.val; omega), pay3_apply, pay1_apply, ← dWeight_halves]
  have h1 : (t.val - 1) % 2 = 0 := by omega
  have h2 : (t.val - 1) / 2 = t.val / 2 := by omega
  simp only [read0, read1, hp, h1, h2, Nat.zero_mul, Nat.one_mul, Nat.zero_add]
  rfl

end Cert.DwOut

end
-- ==== Proof.DwOut.lean ====
/- The reference's result at the output projection's weight gradient, and that the kernel's is the same. -/
module

public import proofs.«01_k».proof.Proof.DwOutKernel
public import proofs.«01_k».proof.Proof.Gen.Reference9Ideal.Run
public import proofs.«01_k».proof.Defs

@[expose] public section

set_option maxRecDepth 16384

noncomputable section

namespace Cert.DwOut

open Idealize.ShloMosaic Idealize.ShloMosaic.TcCoe Idealize.SL.Sem Cert.WeightGrad

section Reference

open Cert.Reference9Ideal

/-- The reference ends with the weights' gradient in its result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v6) = fun i : S1024x1024.Idx =>
        dWeight (fun r => m ((c.tc : Thread nD τ).loc main_arg0) (ix2 r (i 0) : S4096x1024.Idx))
          (fun r => m ((c.tc : Thread nD τ).loc main_arg1) (ix2 r (i 1) : S4096x1024.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    clear h0 h
    generalize (m ((c.tc : Thread nD τ).loc main_arg0)) = a
    generalize (m ((c.tc : Thread nD τ).loc main_arg1)) = b
    pointwise
    exact (Finset.sum_congr rfl fun r _ => mul_comm _ _))
    (Value.run m ρ)

end Reference

/-- From arguments that agree, the kernel's result is the reference's. -/
theorem algebraic : algebraic_Kernel9Ideal_Reference9Ideal
    (hKernel9Ideal := Cert.Kernel9Ideal.Gen.facts) (hReference9Ideal := Cert.Reference9Ideal.Gen.facts) := by
  intro m g m' g' _ hagree
  refine ⟨fun c => (Cert.Kernel9Ideal.Gen.dats m 0 c).arrAt 2 Cert.Kernel9Ideal.cfg0.N,
    (θ_run _ _ _).mono (fun r h c => ?_) (Cert.Kernel9Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    rw [a0, a1]
    exact (kernel_dW m c).symm

end Cert.DwOut

end
-- ==== Proof.MixerOutBwdKernel.lean ====
/- What the kernel of the gradient through the two mixers' output projections leaves: rows of cotangents against rows of weights, a shard of 256 columns at a time. -/
module

public import proofs.«01_k».proof.Proof.WeightGrad
public import proofs.«01_k».proof.Proof.Gen.Kernel10Ideal.Value

@[expose] public section

set_option maxRecDepth 16384

noncomputable section

namespace Cert.MixerOutBwd

open Idealize.ShloMosaic Idealize.ShloMosaic.TcCoe Idealize.SL.Sem Cert.Kernel10Ideal Cert.Kernel10Ideal.Gen

/-- Entry `(t, h)` of the gradient at a product's input: over the 1024 output columns, row `t` of the cotangent times row `h` of the weights. -/
def dInput (dy w : Fin 1024 → EReal) : EReal := ∑ k : Fin 1024, dy k * w k

/-- The sum taken in four shards of 256 columns, one after the other. -/
theorem dInput_quarters (dy w : Fin 1024 → EReal) :
    (∑ k : Fin 256, dy ⟨k.val, by omega⟩ * w ⟨k.val, by omega⟩) + (∑ k : Fin 256, dy ⟨256 + k.val, by omega⟩ * w ⟨256 + k.val, by omega⟩)
      + (∑ k : Fin 256, dy ⟨512 + k.val, by omega⟩ * w ⟨512 + k.val, by omega⟩) + (∑ k : Fin 256, dy ⟨768 + k.val, by omega⟩ * w ⟨768 + k.val, by omega⟩)
      = dInput dy w := by
  unfold dInput
  rw [Fin.sum_univ_two_halves 768 256 rfl, Fin.sum_univ_two_halves 512 256 rfl, Fin.sum_univ_two_halves 256 256 rfl]

/-- One entry of a block of result 0. -/
theorem out4_apply (x : S512x1024.Idx → EReal) (w : S4x512x256.Idx → EReal) (r : Fin 512) (h : Fin 512) :
    k0_pay2 (F := Ideal) (View.ld x r0_0) (View.ld w r0_1) (View.ld x r0_2) (View.ld w r0_3) (View.ld x r0_4) (View.ld w r0_5) (View.ld x r0_6) (View.ld w r0_7) (ix2 r h)
      = (∑ k : Fin 256, x (ix2 r ⟨k.val, by omega⟩) * w (ix3 0 h k)) + (∑ k : Fin 256, x (ix2 r ⟨256 + k.val, by omega⟩) * w (ix3 1 h k))
        + (∑ k : Fin 256, x (ix2 r ⟨512 + k.val, by omega⟩) * w (ix3 2 h k)) + (∑ k : Fin 256, x (ix2 r ⟨768 + k.val, by omega⟩) * w (ix3 3 h k)) := by
  pointwise [k0_pay1, k0_pay2, k0_pay3, View.ld]

/-- One entry of a block of result 1. -/
theorem out5_apply (x : S512x1024.Idx → EReal) (w : S4x512x256.Idx → EReal) (r : Fin 512) (h : Fin 512) :
    k0_pay1 (F := Ideal) (k0_pay3 (View.ld x r0_0) (View.ld w r0_1)) (View.ld x r0_2) (View.ld w r0_3) (View.ld x r0_4) (View.ld w r0_5) (View.ld x r0_6) (View.ld w r0_7) (ix2 r h)
      = (∑ k : Fin 256, x (ix2 r ⟨k.val, by omega⟩) * w (ix3 0 h k)) + (∑ k : Fin 256, x (ix2 r ⟨256 + k.val, by omega⟩) * w (ix3 1 h k))
        + (∑ k : Fin 256, x (ix2 r ⟨512 + k.val, by omega⟩) * w (ix3 2 h k)) + (∑ k : Fin 256, x (ix2 r ⟨768 + k.val, by omega⟩) * w (ix3 3 h k)) := by
  pointwise [k0_pay1, k0_pay2, k0_pay3, View.ld]

variable (m : (ℓ : Loc nD τ sig) → Buf (Elt Ideal) ℓ)

abbrev dy0 (c : Dev nD) : S4096x1024.Idx → EReal := m ((c.tc : Thread nD τ).loc main_arg0)
abbrev w0 (c : Dev nD) : S512x1024.Idx → EReal := m ((c.tc : Thread nD τ).loc main_arg2)

theorem index0 : ∀ t : Fin grid0.N, win0_0.index t = ![t.val, 0] := by decide +kernel
theorem index2 : ∀ t : Fin grid0.N, win0_2.index t = ![0, 0, 0] := by decide +kernel
theorem index4 : ∀ t : Fin grid0.N, win0_4.index t = ![t.val, 0] := by decide +kernel

/-- The weights' shards as the kernel is given them. -/
theorem shards0 (c : Dev nD) (p : Fin 4) (h : Fin 512) (k : Fin 256) :
    V m c main_v1 (ix3 p h k : S4x512x256.Idx) = w0 m c (ix2 h ⟨p.val * 256 + k.val, by omega⟩) := by
  have e : V m c main_v1 = transpose S4x512x256 [1, 0, 2] (shapeCast S512x4x256 (w0 m c) shapeCasts_S512x1024_S512x4x256)
      transposes_S512x4x256_S4x512x256_1_0_2 := by
    after_results <;> rfl
  rw [e]
  pointwise

theorem read0 (c : Dev nD) (t : Fin cfg0.N) (r : Fin 512) (k : Fin 1024) :
    iblk m c 0 t (ix2 r k : S512x1024.Idx) = dy0 m c (ix2 ⟨t.val * 512 + r.val, by have h : t.val < 8 := t.isLt; omega⟩ k) := by
  blk_ext [iblk, V, index0 t]

theorem read2 (c : Dev nD) (t : Fin cfg0.N) (p : Fin 4) (h : Fin 512) (k : Fin 256) :
    iblk m c 2 t (ix3 p h k : S4x512x256.Idx) = w0 m c (ix2 h ⟨p.val * 256 + k.val, by omega⟩) := by
  have e : iblk m c 2 t (ix3 p h k : S4x512x256.Idx) = V m c main_v1 (ix3 p h k : S4x512x256.Idx) := by
    blk_ext [iblk, index2 t]
  rw [e, shards0]

/-- Result 0: every entry of the gradient. -/
theorem kernel_d0 (c : Dev nD) :
    (dats m 0 c).arrAt 4 cfg0.N = fun i : S4096x512.Idx => dInput (fun k => dy0 m c (ix2 (i 0) k)) (fun k => w0 m c (ix2 (i 1) k)) := by
  refine (dats m 0 c).arrAt_eq_of_covers 4 _ (by decide +kernel) fun t hf y => ?_
  have ht : t.val < 8 := t.isLt
  obtain ⟨r, h, rfl⟩ : ∃ (r : Fin 512) (h : Fin 512), y = (ix2 r h : S512x512.Idx) := ⟨_, _, eq_ix2 y⟩
  have e : ((cfg0.win 4).blk t).view.emb (ix2 r h : S512x512.Idx) = (ix2 ⟨t.val * 512 + r.val, by omega⟩ h : S4096x512.Idx) := by
    blk_ext [index4 t]
  rw [e]
  blk_simp
  rw [after0_4]
  frame_out
  refine (out4_apply (iblk m c 0 t) (iblk m c 2 t) r h).trans ?_
  rw [← dInput_quarters]
  simp only [read0, read2]
  simp only [Fin.val_zero, Fin.val_one, show (2 : Fin 4).val = 2 from rfl, show (3 : Fin 4).val = 3 from rfl, Nat.zero_mul, Nat.zero_add, Nat.one_mul, Nat.reduceMul]
  rfl

abbrev dy1 (c : Dev nD) : S4096x1024.Idx → EReal := m ((c.tc : Thread nD τ).loc main_arg1)
abbrev w1 (c : Dev nD) : S512x1024.Idx → EReal := m ((c.tc : Thread nD τ).loc main_arg3)

theorem index1 : ∀ t : Fin grid0.N, win0_1.index t = ![t.val, 0] := by decide +kernel
theorem index3 : ∀ t : Fin grid0.N, win0_3.index t = ![0, 0, 0] := by decide +kernel
theorem index5 : ∀ t : Fin grid0.N, win0_5.index t = ![t.val, 0] := by decide +kernel

/-- The weights' shards as the kernel is given them. -/
theorem shards1 (c : Dev nD) (p : Fin 4) (h : Fin 512) (k : Fin 256) :
    V m c main_v3 (ix3 p h k : S4x512x256.Idx) = w1 m c (ix2 h ⟨p.val * 256 + k.val, by omega⟩) := by
  have e : V m c main_v3 = transpose S4x512x256 [1, 0, 2] (shapeCast S512x4x256 (w1 m c) shapeCasts_S512x1024_S512x4x256)
      transposes_S512x4x256_S4x512x256_1_0_2 := by
    after_results <;> rfl
  rw [e]
  pointwise

theorem read1 (c : Dev nD) (t : Fin cfg0.N) (r : Fin 512) (k : Fin 1024) :
    iblk m c 1 t (ix2 r k : S512x1024.Idx) = dy1 m c (ix2 ⟨t.val * 512 + r.val, by have h : t.val < 8 := t.isLt; omega⟩ k) := by
  blk_ext [iblk, V, index1 t]

theorem read3 (c : Dev nD) (t : Fin cfg0.N) (p : Fin 4) (h : Fin 512) (k : Fin 256) :
    iblk m c 3 t (ix3 p h k : S4x512x256.Idx) = w1 m c (ix2 h ⟨p.val * 256 + k.val, by omega⟩) := by
  have e : iblk m c 3 t (ix3 p h k : S4x512x256.Idx) = V m c main_v3 (ix3 p h k : S4x512x256.Idx) := by
    blk_ext [iblk, index3 t]
  rw [e, shards1]

/-- Result 1: every entry of the gradient. -/
theorem kernel_d1 (c : Dev nD) :
    (dats m 0 c).arrAt 5 cfg0.N = fun i : S4096x512.Idx => dInput (fun k => dy1 m c (ix2 (i 0) k)) (fun k => w1 m c (ix2 (i 1) k)) := by
  refine (dats m 0 c).arrAt_eq_of_covers 5 _ (by decide +kernel) fun t hf y => ?_
  have ht : t.val < 8 := t.isLt
  obtain ⟨r, h, rfl⟩ : ∃ (r : Fin 512) (h : Fin 512), y = (ix2 r h : S512x512.Idx) := ⟨_, _, eq_ix2 y⟩
  have e : ((cfg0.win 5).blk t).view.emb (ix2 r h : S512x512.Idx) = (ix2 ⟨t.val * 512 + r.val, by omega⟩ h : S4096x512.Idx) := by
    blk_ext [index5 t]
  rw [e]
  blk_simp
  rw [after0_5]
  frame_out
  refine (out5_apply (iblk m c 1 t) (iblk m c 3 t) r h).trans ?_
  rw [← dInput_quarters]
  simp only [read1, read3]
  simp only [Fin.val_zero, Fin.val_one, show (2 : Fin 4).val = 2 from rfl, show (3 : Fin 4).val = 3 from rfl, Nat.zero_mul, Nat.zero_add, Nat.one_mul, Nat.reduceMul]
  rfl

end Cert.MixerOutBwd

end
-- ==== Proof.MixerOutBwd.lean ====
/- The reference's results at the mixers' output projections' inputs, and that the kernel's are the same. -/
module

public import proofs.«01_k».proof.Proof.MixerOutBwdKernel
public import proofs.«01_k».proof.Proof.Gen.Reference10Ideal.Run
public import proofs.«01_k».proof.Defs

@[expose] public section

set_option maxRecDepth 16384

noncomputable section

namespace Cert.MixerOutBwd

open Idealize.ShloMosaic Idealize.ShloMosaic.TcCoe Idealize.SL.Sem

section Reference

open Cert.Reference10Ideal

/-- The reference ends with the two gradients and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v5) = fun i : S4096x512.Idx =>
        dInput (fun k => m ((c.tc : Thread nD τ).loc main_arg0) (ix2 (i 0) k : S4096x1024.Idx))
          (fun k => m ((c.tc : Thread nD τ).loc main_arg2) (ix2 (i 1) k : S512x1024.Idx)))
      ∧ (r.2.mem ((c.tc : Thread nD τ).loc main_v11) = fun i : S4096x512.Idx =>
        dInput (fun k => m ((c.tc : Thread nD τ).loc main_arg1) (ix2 (i 0) k : S4096x1024.Idx))
          (fun k => m ((c.tc : Thread nD τ).loc main_arg3) (ix2 (i 1) k : S512x1024.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h⟩ := h c
    refine ⟨h0.trans (funext fun i => ?_), h1.trans (funext fun i => ?_), h⟩
    · clear h0 h1 h
      generalize (m ((c.tc : Thread nD τ).loc main_arg0)) = a
      generalize (m ((c.tc : Thread nD τ).loc main_arg2)) = b
      rw [eq_ix2 i]
      pointwise
      rfl
    · clear h0 h1 h
      generalize (m ((c.tc : Thread nD τ).loc main_arg1)) = a
      generalize (m ((c.tc : Thread nD τ).loc main_arg3)) = b
      rw [eq_ix2 i]
      pointwise
      rfl)
    (Value.run m ρ)

end Reference

/-- From arguments that agree, the kernel's results are the reference's. -/
theorem algebraic : algebraic_Kernel10Ideal_Reference10Ideal
    (hKernel10Ideal := Cert.Kernel10Ideal.Gen.facts) (hReference10Ideal := Cert.Reference10Ideal.Gen.facts) := by
  intro m g m' g' _ hagree
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    (θ_run _ _ _).mono (fun r h c => ?_) (Cert.Kernel10Ideal.Value.run_blocks m g),
    (θ_run _ _ _).mono (fun r h c => ?_) (reference_run m' g')⟩
  · exact h c
  · obtain ⟨h0, h1, h⟩ := h c
    obtain ⟨a0, a1, a2, a3⟩ := hagree c
    refine ⟨h0.trans ?_, h1.trans ?_, h⟩
    · rw [a0, a2]
      exact (kernel_d0 m c).symm
    · rw [a1, a3]
      exact (kernel_d1 m c).symm

end Cert.MixerOutBwd

end
-- ==== Proof.MixerOutDwKernel.lean ====
/- What the mixers' output weight-gradient kernel leaves: two accumulators over two row blocks of 2048, each cut into four shards. -/
module

public import proofs.«01_k».proof.Proof.WeightGrad
public import proofs.«01_k».proof.Proof.Gen.Kernel11Ideal.Value

@[expose] public section

set_option maxRecDepth 16384

noncomputable section

namespace Cert.MixerOutDw

open Idealize.ShloMosaic Idealize.ShloMosaic.TcCoe Idealize.SL.Sem Cert.Kernel11Ideal Cert.Kernel11Ideal.Gen Cert.WeightGrad

/-- The column of the whole gradient that a shard's column is. -/
abbrev column (i : S4x512x256.Idx) : Fin 1024 :=
  ⟨(i 0).val * 256 + (i 2).val, by have h0 : (i 0).val < 4 := (i 0).isLt; have h2 : (i 2).val < 256 := (i 2).isLt; omega⟩

section Points

variable (c : Dev nD) (i : grid0.Coords) (a1 : Memref sig .tc .vmem S2048x512 .bf16) (h1 : a1.IsWhole)
  (a2 : Memref sig .tc .vmem S2048x512 .bf16) (h2 : a2.IsWhole) (a3 : Memref sig .tc .vmem S2048x1024 .bf16) (h3 : a3.IsWhole)
  (a4 : Memref sig .tc .vmem S2048x1024 .bf16) (h4 : a4.IsWhole) (a5 : Memref sig .tc .vmem S4x512x256 .bf16) (h5 : a5.IsWhole)
  (a6 : Memref sig .tc .vmem S4x512x256 .bf16) (h6 : a6.IsWhole) (a7 : Memref sig .tc .vmem S512x1024 .f32) (h7 : a7.IsWhole)
  (a8 : Memref sig .tc .vmem S512x1024 .f32) (h8 : a8.IsWhole)
  (x0 x1 : Vec Ideal S2048x512 .bf16) (x2 x3 : Vec Ideal S2048x1024 .bf16) (s0 s1 : Vec Ideal S512x1024 .f32)

/-- The first block's point leaves zero plus the product in accumulator 0. -/
theorem first_acc0 (hc0 : cond0_0 i) (hc1 : ¬cond0_1 i) :
    sout0_A_0 c i a1 h1 a2 h2 a3 h3 a4 h4 a5 h5 a6 h6 a7 h7 a8 h8 hc0 hc1 x0 x1 x2 x3 = k0_pay3 (F := Ideal) (k0_pay1 (F := Ideal)) x0 x2 := by
  unfold sout0_A_0
  rw [View.read_writes_eq_canon _ _ _ (scover0_A_0 c i a1 h1 a2 h2 a3 h3 a4 h4 a5 h5 a6 h6 a7 h7 a8 h8 hc0 hc1 x0 x1 x2 x3)]
  unfold kernelRun0_A
  dsimp only
  sl_unfold_words
  rw [View.canon_cons_unit_zero (S := S512x1024) zero2]
  rw [View.readCov_unit_zero (S := S512x1024) _ zero2]
  simp only [View.readAt_eq_ld, h1.read_unread, h3.read_unread, View.ld_unit_zero (S := S2048x512) zero2,
    View.ld_unit_zero (S := S2048x1024) zero2]

/-- The second block's point leaves the sum in output 4, shard by shard. -/
theorem second_out4 (hc0 : ¬cond0_0 i) (hc1 : cond0_1 i) :
    out0_B_4 c i a1 h1 a2 h2 a3 h3 a4 h4 a5 h5 a6 h6 a7 h7 a8 h8 hc0 hc1 x0 x1 x2 x3 s0 s1
      = fun y : S4x512x256.Idx => k0_pay3 (F := Ideal) s0 x0 x2 (ix2 (y 1) (column y)) := by
  unfold out0_B_4
  rw [View.read_writes_eq_canon _ _ _ (cover0_B_4 c i a1 h1 a2 h2 a3 h3 a4 h4 a5 h5 a6 h6 a7 h7 a8 h8 hc0 hc1 x0 x1 x2 x3 s0 s1)]
  unfold kernelRun0_B
  dsimp only
  sl_unfold_words
  simp only [View.readAt_eq_ld, h1.read_unread, h3.read_unread, h7.read_unread, View.ld_unit_zero (S := S2048x512) zero2,
    View.ld_unit_zero (S := S2048x1024) zero2, View.ld_unit_zero (S := S512x1024) zero2]
  generalize k0_pay3 (F := Ideal) s0 x0 x2 = w
  funext y
  canon_tiles x h
  all_goals
    rw [read_stored _ _ _ zero2]
    pointwise [k0_pay5, k0_pay6, k0_pay7, k0_pay8, k0_pay9, k0_pay10, k0_pay11, k0_pay12, k0_pay13]
    refine congrArg w ?_
    blk_ext [column]

/-- The first block's point leaves zero plus the product in accumulator 1. -/
theorem first_acc1 (hc0 : cond0_0 i) (hc1 : ¬cond0_1 i) :
    sout0_A_1 c i a1 h1 a2 h2 a3 h3 a4 h4 a5 h5 a6 h6 a7 h7 a8 h8 hc0 hc1 x0 x1 x2 x3 = k0_pay4 (F := Ideal) (k0_pay2 (F := Ideal)) x1 x3 := by
  unfold sout0_A_1
  rw [View.read_writes_eq_canon _ _ _ (scover0_A_1 c i a1 h1 a2 h2 a3 h3 a4 h4 a5 h5 a6 h6 a7 h7 a8 h8 hc0 hc1 x0 x1 x2 x3)]
  unfold kernelRun0_A
  dsimp only
  sl_unfold_words
  rw [View.canon_cons_unit_zero (S := S512x1024) zero2]
  rw [View.readCov_unit_zero (S := S512x1024) _ zero2]
  simp only [View.readAt_eq_ld, h2.read_unread, h4.read_unread, View.ld_unit_zero (S := S2048x512) zero2,
    View.ld_unit_zero (S := S2048x1024) zero2]

/-- The second block's point leaves the sum in output 5, shard by shard. -/
theorem second_out5 (hc0 : ¬cond0_0 i) (hc1 : cond0_1 i) :
    out0_B_5 c i a1 h1 a2 h2 a3 h3 a4 h4 a5 h5 a6 h6 a7 h7 a8 h8 hc0 hc1 x0 x1 x2 x3 s0 s1
      = fun y : S4x512x256.Idx => k0_pay4 (F := Ideal) s1 x1 x3 (ix2 (y 1) (column y)) := by
  unfold out0_B_5
  rw [View.read_writes_eq_canon _ _ _ (cover0_B_5 c i a1 h1 a2 h2 a3 h3 a4 h4 a5 h5 a6 h6 a7 h7 a8 h8 hc0 hc1 x0 x1 x2 x3 s0 s1)]
  unfold kernelRun0_B
  dsimp only
  sl_unfold_words
  simp only [View.readAt_eq_ld, h2.read_unread, h4.read_unread, h8.read_unread, View.ld_unit_zero (S := S2048x512) zero2,
    View.ld_unit_zero (S := S2048x1024) zero2, View.ld_unit_zero (S := S512x1024) zero2]
  generalize k0_pay4 (F := Ideal) s1 x1 x3 = w
  funext y
  canon_tiles x h
  all_goals
    rw [read_stored _ _ _ zero2]
    pointwise [k0_pay5, k0_pay6, k0_pay7, k0_pay8, k0_pay9, k0_pay10, k0_pay11, k0_pay12, k0_pay13]
    refine congrArg w ?_
    blk_ext [column]

end Points

theorem zero_apply (i : S512x1024.Idx) : k0_pay1 (F := Ideal) i = 0 := by
  pointwise [k0_pay1]

theorem zero_apply' (i : S512x1024.Idx) : k0_pay2 (F := Ideal) i = 0 := by
  pointwise [k0_pay2]

theorem pay3_apply (acc : S512x1024.Idx → EReal) (x : S2048x512.Idx → EReal) (y : S2048x1024.Idx → EReal) (j : Fin 512) (k : Fin 1024) :
    k0_pay3 (F := Ideal) acc x y (ix2 j k) = acc (ix2 j k) + ∑ r : Fin 2048, x (ix2 r j) * y (ix2 r k) := by
  pointwise [k0_pay3]

theorem pay4_apply (acc : S512x1024.Idx → EReal) (x : S2048x512.Idx → EReal) (y : S2048x1024.Idx → EReal) (j : Fin 512) (k : Fin 1024) :
    k0_pay4 (F := Ideal) acc x y (ix2 j k) = acc (ix2 j k) + ∑ r : Fin 2048, x (ix2 r j) * y (ix2 r k) := by
  pointwise [k0_pay4]

variable (m : (ℓ : Loc nD τ sig) → Buf (Elt Ideal) ℓ)

theorem index4 : ∀ t : Fin grid0.N, win0_4.index t = ![0, 0, 0] := by decide +kernel
theorem index5 : ∀ t : Fin grid0.N, win0_5.index t = ![0, 0, 0] := by decide +kernel

theorem lt_points (t : Fin cfg0.N) : t.val < 2 := t.isLt

abbrev arr0 (c : Dev nD) : S4096x512.Idx → EReal := m ((c.tc : Thread nD τ).loc main_arg0)
theorem index0 : ∀ t : Fin grid0.N, win0_0.index t = ![t.val, 0] := by decide +kernel
theorem read0 (c : Dev nD) (t : Fin cfg0.N) (r : Fin 2048) (j : Fin 512) :
    iblk m c 0 t (ix2 r j : S2048x512.Idx) = arr0 m c (ix2 ⟨t.val * 2048 + r.val, by have := lt_points t; omega⟩ j) := by
  blk_ext [iblk, V, index0 t]

abbrev arr1 (c : Dev nD) : S4096x512.Idx → EReal := m ((c.tc : Thread nD τ).loc main_arg1)
theorem index1 : ∀ t : Fin grid0.N, win0_1.index t = ![t.val, 0] := by decide +kernel
theorem read1 (c : Dev nD) (t : Fin cfg0.N) (r : Fin 2048) (j : Fin 512) :
    iblk m c 1 t (ix2 r j : S2048x512.Idx) = arr1 m c (ix2 ⟨t.val * 2048 + r.val, by have := lt_points t; omega⟩ j) := by
  blk_ext [iblk, V, index1 t]

abbrev arr2 (c : Dev nD) : S4096x1024.Idx → EReal := m ((c.tc : Thread nD τ).loc main_arg2)
theorem index2 : ∀ t : Fin grid0.N, win0_2.index t = ![t.val, 0] := by decide +kernel
theorem read2 (c : Dev nD) (t : Fin cfg0.N) (r : Fin 2048) (j : Fin 1024) :
    iblk m c 2 t (ix2 r j : S2048x1024.Idx) = arr2 m c (ix2 ⟨t.val * 2048 + r.val, by have := lt_points t; omega⟩ j) := by
  blk_ext [iblk, V, index2 t]

abbrev arr3 (c : Dev nD) : S4096x1024.Idx → EReal := m ((c.tc : Thread nD τ).loc main_arg3)
theorem index3 : ∀ t : Fin grid0.N, win0_3.index t = ![t.val, 0] := by decide +kernel
theorem read3 (c : Dev nD) (t : Fin cfg0.N) (r : Fin 2048) (j : Fin 1024) :
    iblk m c 3 t (ix2 r j : S2048x1024.Idx) = arr3 m c (ix2 ⟨t.val * 2048 + r.val, by have := lt_points t; omega⟩ j) := by
  blk_ext [iblk, V, index3 t]

/-- Accumulator 0 after the first block's point. -/
theorem acc_at0 (c : Dev nD) (t : Fin cfg0.N) (h : t.val % 2 = 0) :
    (outsAt0 m c t.val t.isLt).2.2.1 = k0_pay3 (F := Ideal) (k0_pay1 (F := Ideal)) (iblk m c 0 t) (iblk m c 2 t) := by
  rw [outsAt0_A m c t h (by omega)]
  dsimp only
  rw [first_acc0]

/-- Output 4 after the second block's point: both blocks' products. -/
theorem out_at4 (c : Dev nD) (s t : Fin cfg0.N) (h : t.val % 2 = 1) (hs : s.val + 1 = t.val) (y : S4x512x256.Idx) :
    (dats m 0 c).after 4 t y
      = k0_pay3 (F := Ideal) (k0_pay3 (k0_pay1 (F := Ideal)) (iblk m c 0 s) (iblk m c 2 s)) (iblk m c 0 t) (iblk m c 2 t) (ix2 (y 1) (column y)) := by
  rw [after0_4, outsAt0_B m c t (by omega) h]
  dsimp only
  rw [second_out4]
  have e : t.val - 1 = s.val := by omega
  simp only [e]
  rw [acc_at0 m c s (by omega)]

/-- Both blocks' products, entry by entry. -/
theorem both0 (c : Dev nD) (t : Fin cfg0.N) (h1 : t.val = 1) (j : Fin 512) (k : Fin 1024) :
    k0_pay3 (F := Ideal) (k0_pay3 (k0_pay1 (F := Ideal)) (iblk m c 0 ⟨t.val - 1, Nat.lt_of_le_of_lt (Nat.sub_le _ _) t.isLt⟩)
        (iblk m c 2 ⟨t.val - 1, Nat.lt_of_le_of_lt (Nat.sub_le _ _) t.isLt⟩)) (iblk m c 0 t) (iblk m c 2 t) (ix2 j k)
      = dWeight (fun r => arr0 m c (ix2 r j)) (fun r => arr2 m c (ix2 r k)) := by
  rw [pay3_apply, pay3_apply, zero_apply, zero_add, ← dWeight_halves]
  simp only [read0, read2, h1, Nat.sub_self, Nat.zero_mul, Nat.one_mul, Nat.zero_add]

/-- Result 0: every entry of the weights' gradient, in its shard. -/
theorem kernel_dW0 (c : Dev nD) :
    (dats m 0 c).arrAt 4 cfg0.N = fun i : S4x512x256.Idx => dWeight (fun r => arr0 m c (ix2 r (i 1))) (fun r => arr2 m c (ix2 r (column i))) := by
  refine (dats m 0 c).arrAt_eq_of_covers 4 _ (by decide +kernel) fun t hf y => ?_
  have hp := (flush0_4 t).mp hf
  have ht := lt_points t
  have e : ((cfg0.win 4).blk t).view.emb y = (y : S4x512x256.Idx) := by
    blk_ext [index4 t]
  rw [e]
  blk_simp
  rw [out_at4 m c ⟨t.val - 1, Nat.lt_of_le_of_lt (Nat.sub_le _ _) t.isLt⟩ t hp (by show t.val - 1 + 1 = t.val; omega) y]
  exact both0 m c t (by omega) _ _

/-- Accumulator 1 after the first block's point. -/
theorem acc_at1 (c : Dev nD) (t : Fin cfg0.N) (h : t.val % 2 = 0) :
    (outsAt0 m c t.val t.isLt).2.2.2 = k0_pay4 (F := Ideal) (k0_pay2 (F := Ideal)) (iblk m c 1 t) (iblk m c 3 t) := by
  rw [outsAt0_A m c t h (by omega)]
  dsimp only
  rw [first_acc1]

/-- Output 5 after the second block's point: both blocks' products. -/
theorem out_at5 (c : Dev nD) (s t : Fin cfg0.N) (h : t.val % 2 = 1) (hs : s.val + 1 = t.val) (y : S4x512x256.Idx) :
    (dats m 0 c).after 5 t y
      = k0_pay4 (F := Ideal) (k0_pay4 (k0_pay2 (F := Ideal)) (iblk m c 1 s) (iblk m c 3 s)) (iblk m c 1 t) (iblk m c 3 t) (ix2 (y 1) (column y)) := by
  rw [after0_5, outsAt0_B m c t (by omega) h]
  dsimp only
  rw [second_out5]
  have e : t.val - 1 = s.val := by omega
  simp only [e]
  rw [acc_at1 m c s (by omega)]

/-- Both blocks' products, entry by entry. -/
theorem both1 (c : Dev nD) (t : Fin cfg0.N) (h1 : t.val = 1) (j : Fin 512) (k : Fin 1024) :
    k0_pay4 (F := Ideal) (k0_pay4 (k0_pay2 (F := Ideal)) (iblk m c 1 ⟨t.val - 1, Nat.lt_of_le_of_lt (Nat.sub_le _ _) t.isLt⟩)
        (iblk m c 3 ⟨t.val - 1, Nat.lt_of_le_of_lt (Nat.sub_le _ _) t.isLt⟩)) (iblk m c 1 t) (iblk m c 3 t) (ix2 j k)
      = dWeight (fun r => arr1 m c (ix2 r j)) (fun r => arr3 m c (ix2 r k)) := by
  rw [pay4_apply, pay4_apply, zero_apply', zero_add, ← dWeight_halves]
  simp only [read1, read3, h1, Nat.sub_self, Nat.zero_mul, Nat.one_mul, Nat.zero_add]

/-- Result 1: every entry of the weights' gradient, in its shard. -/
theorem kernel_dW1 (c : Dev nD) :
    (dats m 0 c).arrAt 5 cfg0.N = fun i : S4x512x256.Idx => dWeight (fun r => arr1 m c (ix2 r (i 1))) (fun r => arr3 m c (ix2 r (column i))) := by
  refine (dats m 0 c).arrAt_eq_of_covers 5 _ (by decide +kernel) fun t hf y => ?_
  have hp := (flush0_5 t).mp hf
  have ht := lt_points t
  have e : ((cfg0.win 5).blk t).view.emb y = (y : S4x512x256.Idx) := by
    blk_ext [index5 t]
  rw [e]
  blk_simp
  rw [out_at5 m c ⟨t.val - 1, Nat.lt_of_le_of_lt (Nat.sub_le _ _) t.isLt⟩ t hp (by show t.val - 1 + 1 = t.val; omega) y]
  exact both1 m c t (by omega) _ _

end Cert.MixerOutDw

end
-- ==== Proof.MixerOutDw.lean ====
/- The reference's results at the mixers' output projections' weight gradients, and that the kernel's are the same. -/
module

public import proofs.«01_k».proof.Proof.MixerOutDwKernel
public import proofs.«01_k».proof.Proof.Gen.Reference11Ideal.Run
public import proofs.«01_k».proof.Defs

@[expose] public section

set_option maxRecDepth 16384

noncomputable section

namespace Cert.MixerOutDw

open Idealize.ShloMosaic Idealize.ShloMosaic.TcCoe Idealize.SL.Sem Cert.WeightGrad

section Reference

open Cert.Reference11Ideal

/-- The reference ends with the two gradients, cut into the four shards, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v8) = fun i : S4x512x256.Idx =>
        dWeight (fun r => m ((c.tc : Thread nD τ).loc main_arg0) (ix2 r (i 1) : S4096x512.Idx))
          (fun r => m ((c.tc : Thread nD τ).loc main_arg2) (ix2 r (column i) : S4096x1024.Idx)))
      ∧ (r.2.mem ((c.tc : Thread nD τ).loc main_v17) = fun i : S4x512x256.Idx =>
        dWeight (fun r => m ((c.tc : Thread nD τ).loc main_arg1) (ix2 r (i 1) : S4096x512.Idx))
          (fun r => m ((c.tc : Thread nD τ).loc main_arg3) (ix2 r (column i) : S4096x1024.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h⟩ := h c
    refine ⟨h0.trans (funext fun i => ?_), h1.trans (funext fun i => ?_), h⟩
    · clear h0 h1 h
      generalize (m ((c.tc : Thread nD τ).loc main_arg0)) = a
      generalize (m ((c.tc : Thread nD τ).loc main_arg2)) = b
      rw [eq_ix3 i]
      pointwise
      exact (Finset.sum_congr rfl fun r _ => mul_comm _ _)
    · clear h0 h1 h
      generalize (m ((c.tc : Thread nD τ).loc main_arg1)) = a
      generalize (m ((c.tc : Thread nD τ).loc main_arg3)) = b
      rw [eq_ix3 i]
      pointwise
      exact (Finset.sum_congr rfl fun r _ => mul_comm _ _))
    (Value.run m ρ)

end Reference

/-- From arguments that agree, the kernel's results are the reference's. -/
theorem algebraic : algebraic_Kernel11Ideal_Reference11Ideal
    (hKernel11Ideal := Cert.Kernel11Ideal.Gen.facts) (hReference11Ideal := Cert.Reference11Ideal.Gen.facts) := by
  intro m g m' g' _ hagree
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    (θ_run _ _ _).mono (fun r h c => ?_) (Cert.Kernel11Ideal.Value.run_blocks m g),
    (θ_run _ _ _).mono (fun r h c => ?_) (reference_run m' g')⟩
  · exact h c
  · obtain ⟨h0, h1, h⟩ := h c
    obtain ⟨a0, a1, a2, a3⟩ := hagree c
    refine ⟨h0.trans ?_, h1.trans ?_, h⟩
    · rw [a0, a2]
      exact (kernel_dW0 m c).symm
    · rw [a1, a3]
      exact (kernel_dW1 m c).symm

end Cert.MixerOutDw

end
-- ==== Proof.GateGrad.lean ====
/- The gradient of the merge of the two mixers, entry by entry. -/
module

public import Idealize.ShloMosaic.Lib.Pipeline.ValueKit

@[expose] public section

noncomputable section

namespace Cert.Merge

open Idealize.ShloMosaic

/-- The merge's gate: the sigmoid of a column of the projection plus its bias. -/
def gate (g b : EReal) : EReal := Ideal.div 1 (1 + Ideal.exp (0 - (g + b)))

/-- The gradient of the merged row at a column: the result's gradient's row times the output weights' row of that column. -/
def dMerged (a b : Fin 1024 → EReal) : EReal := ∑ k : Fin 1024, a k * b k

/-- The gradient of the mixer's output under its gate `s`. -/
def dMixed (d s : EReal) : EReal := d * s

/-- The gradient of the gate's argument, for the mixer's output `v` and the gate `s`: the sigmoid's slope is `s (1 - s)`. -/
def dGate (d v s : EReal) : EReal := d * v * (s * (1 - s))

/-- The biases' gradients in the first two of eight rows, and zero in the rest. -/
def twoRows {m n : ℕ} (A B : Fin n → EReal) (y : (⟨2, ![m, n]⟩ : Shape).Idx) : EReal :=
  if (y 0).val = 0 then A (y 1) else if (y 0).val = 1 then B (y 1) else 0

theorem twoRows_add {m n : ℕ} (A B A' B' : Fin n → EReal) (y : (⟨2, ![m, n]⟩ : Shape).Idx) :
    twoRows A B y + twoRows A' B' y = twoRows (fun j => A j + A' j) (fun j => B j + B' j) y := by
  unfold twoRows
  split
  · rfl
  · split
    · rfl
    · exact add_zero 0

end Cert.Merge

end
-- ==== Proof.RowSums.lean ====
/- Sums over rows: block by block, and stored one piece of a row at a time. -/
module

public import Idealize.ShloMosaic.Lib.Pipeline.ValueKit
public import Idealize.ShloMosaic.Lib.WritesUnit

@[expose] public section

namespace Cert.RowSums

open Idealize.ShloMosaic

/-- A sum over `b` blocks of `n` rows is the sum over all the rows. -/
theorem sum_blocks {b n N : ℕ} (hN : N = b * n) (f : Fin N → EReal) :
    (∑ s : Fin b, ∑ r : Fin n, f ⟨s.val * n + r.val, by
      have h1 : s.val * n + n ≤ b * n := by
        calc s.val * n + n = (s.val + 1) * n := by ring
          _ ≤ b * n := Nat.mul_le_mul_right n s.isLt
      omega⟩) = ∑ r : Fin N, f r := by
  subst hN
  rw [← Fintype.sum_prod_type']
  exact Fintype.sum_equiv finProdFinEquiv _ _ fun x => congrArg f (Fin.ext (by
    show x.1.val * n + x.2.val = x.2.val + n * x.1.val
    ring))

/-- An index of a matrix is known by its two coordinates. -/
theorem idx_eq {m n : ℕ} (y : (⟨2, ![m, n]⟩ : Shape).Idx) (a : Fin m) (b : Fin n) (h0 : (y 0).val = a.val) (h1 : (y 1).val = b.val) : y = ix2 a b := by
  funext d
  match d with
  | 0 => exact Fin.ext h0
  | 1 => exact Fin.ext h1

variable {sig : RefSig} {κ : Kind} {sp : Space} {e : EltTy} {Val : EltTy → Type} {m n : ℕ}

/-- Storing a piece of one row, which holds `A` along the columns, changes the buffer there and nowhere else. -/
theorem row_piece (v : View sig κ sp (⟨2, ![m, n]⟩ : Shape) e) (f : v.ty.Contents Val) {ρ q b : ℕ}
    (inb : ∀ a, (![ρ, q] : Fin 2 → ℕ) a + (![1, b] : Fin 2 → ℕ) a ≤ (⟨2, ![m, n]⟩ : Shape).size a)
    (w : (Rect.unit (s := (⟨2, ![m, n]⟩ : Shape)) ![ρ, q] ![1, b] inb).shape.Idx → Val e)
    (L : List (View.Piece Val (⟨2, ![m, n]⟩ : Shape) e)) (A : Fin n → Val e) (r : Fin m) (k : Fin n)
    (h : ∀ (x : (Rect.unit (s := (⟨2, ![m, n]⟩ : Shape)) ![ρ, q] ![1, b] inb).shape.Idx) (j : Fin n), j.val = q + (x 1).val → w x = A j) :
    v.read Val (v.writes Val f ((⟨Rect.unit ![ρ, q] ![1, b] inb, w⟩ : View.Piece Val (⟨2, ![m, n]⟩ : Shape) e) :: L)) (ix2 r k)
      = if r.val = ρ ∧ q ≤ k.val ∧ k.val < q + b then A k else v.read Val (v.writes Val f L) (ix2 r k) := by
  split
  · next hk =>
    obtain ⟨h0, h1, h2⟩ := hk
    let x : (Rect.unit (s := (⟨2, ![m, n]⟩ : Shape)) ![ρ, q] ![1, b] inb).shape.Idx :=
      ix2 (⟨0, Nat.one_pos⟩ : Fin 1) (⟨k.val - q, by omega⟩ : Fin b)
    rw [View.read_writes_cons_unit_of_mem v f inb w L (ix2 r k) x rfl fun a => ?_]
    · exact h x k (by show k.val = q + (k.val - q); omega)
    · match a with
      | 0 => show r.val = ρ + 0; omega
      | 1 => show k.val = q + (k.val - q); omega
  · next hk =>
    by_cases h0 : r.val = ρ
    · exact View.read_writes_cons_unit_of_not_mem v f inb w L (ix2 r k) rfl 1 (by
        show k.val < q ∨ q + b ≤ k.val
        omega)
    · exact View.read_writes_cons_unit_of_not_mem v f inb w L (ix2 r k) rfl 0 (by
        show r.val < ρ ∨ ρ + 1 ≤ r.val
        omega)

end Cert.RowSums

end
-- ==== Proof.MergeKernel.lean ====
/- The blocks of the gradient of the merge: four row outputs and the biases' sums. -/
module

public import proofs.«01_k».proof.Proof.WeightGrad
public import proofs.«01_k».proof.Proof.GateGrad
public import proofs.«01_k».proof.Proof.RowSums
public import proofs.«01_k».proof.Proof.Gen.Kernel2Ideal.Value
public import Idealize.ShloMosaic.Lib.Pipeline.ReadBack
public import Idealize.ShloMosaic.Lib.VecWindow

@[expose] public section

set_option maxRecDepth 16384

noncomputable section

namespace Cert.Merge

open Idealize.ShloMosaic Idealize.ShloMosaic.TcCoe Idealize.SL.Sem Cert.Kernel2Ideal Cert.Kernel2Ideal.Gen Cert.WeightGrad Cert.RowSums

section Points

variable (c : Dev nD) (i : grid0.Coords) (a1 : Memref sig .tc .vmem S512x1024 .bf16) (h1 : a1.IsWhole)
  (a2 : Memref sig .tc .vmem S1024x1024 .bf16) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S512x1024 .bf16) (h6 : a6.IsWhole)
  (a7 : Memref sig .tc .vmem S2x1024 .f32) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S512x1024 .bf16) (h11 : a11.IsWhole)
  (a12 : Memref sig .tc .vmem S8x1024 .f32) (h12 : a12.IsWhole)
  (x0 : Vec Ideal S512x1024 .bf16) (x1 : Vec Ideal S1024x1024 .bf16) (x2 x3 x4 x5 : Vec Ideal S512x1024 .bf16) (x6 : Vec Ideal S2x1024 .f32)
  (xo : Vec Ideal S8x1024 .f32)

/-- Output 7 at the first point: the first mixer's gradient. -/
theorem first7 (hc0 : cond0_0 i) (r : Fin 512) (j : Fin 1024) :
    out0_A_7 c i a1 h1 a2 h2 a3 h3 a4 h4 a5 h5 a6 h6 a7 h7 a8 h8 a9 h9 a10 h10 a11 h11 a12 h12 hc0 x0 x1 x2 x3 x4 x5 x6 (ix2 r j)
      = dMixed (dMerged (fun k => x0 (ix2 r k)) (fun k => x1 (ix2 j k))) (gate (x4 (ix2 r j)) (x6 (ix2 0 j))) := by
  refine congrFun (?_ : _ = fun y : S512x1024.Idx => dMixed (dMerged (fun k => x0 (ix2 (y 0) k)) (fun k => x1 (ix2 (y 1) k))) (gate (x4 y) (x6 (ix2 0 (y 1))))) (ix2 r j)
  unfold out0_A_7
  rw [View.read_writes_eq_canon _ _ _ (cover0_A_7 c i a1 h1 a2 h2 a3 h3 a4 h4 a5 h5 a6 h6 a7 h7 a8 h8 a9 h9 a10 h10 a11 h11 a12 h12 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 7 at the later points: the first mixer's gradient. -/
theorem later7 (hc0 : ¬cond0_0 i) (r : Fin 512) (j : Fin 1024) :
    out0_B_7 c i a1 h1 a2 h2 a3 h3 a4 h4 a5 h5 a6 h6 a7 h7 a8 h8 a9 h9 a10 h10 a11 h11 a12 h12 hc0 x0 x1 x2 x3 x4 x5 x6 xo (ix2 r j)
      = dMixed (dMerged (fun k => x0 (ix2 r k)) (fun k => x1 (ix2 j k))) (gate (x4 (ix2 r j)) (x6 (ix2 0 j))) := by
  refine congrFun (?_ : _ = fun y : S512x1024.Idx => dMixed (dMerged (fun k => x0 (ix2 (y 0) k)) (fun k => x1 (ix2 (y 1) k))) (gate (x4 y) (x6 (ix2 0 (y 1))))) (ix2 r j)
  unfold out0_B_7
  rw [View.read_writes_eq_canon _ _ _ (cover0_B_7 c i a1 h1 a2 h2 a3 h3 a4 h4 a5 h5 a6 h6 a7 h7 a8 h8 a9 h9 a10 h10 a11 h11 a12 h12 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 8 at the first point: the second mixer's gradient. -/
theorem first8 (hc0 : cond0_0 i) (r : Fin 512) (j : Fin 1024) :
    out0_A_8 c i a1 h1 a2 h2 a3 h3 a4 h4 a5 h5 a6 h6 a7 h7 a8 h8 a9 h9 a10 h10 a11 h11 a12 h12 hc0 x0 x1 x2 x3 x4 x5 x6 (ix2 r j)
      = dMixed (dMerged (fun k => x0 (ix2 r k)) (fun k => x1 (ix2 j k))) (gate (x5 (ix2 r j)) (x6 (ix2 1 j))) := by
  refine congrFun (?_ : _ = fun y : S512x1024.Idx => dMixed (dMerged (fun k => x0 (ix2 (y 0) k)) (fun k => x1 (ix2 (y 1) k))) (gate (x5 y) (x6 (ix2 1 (y 1))))) (ix2 r j)
  unfold out0_A_8
  rw [View.read_writes_eq_canon _ _ _ (cover0_A_8 c i a1 h1 a2 h2 a3 h3 a4 h4 a5 h5 a6 h6 a7 h7 a8 h8 a9 h9 a10 h10 a11 h11 a12 h12 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 8 at the later points: the second mixer's gradient. -/
theorem later8 (hc0 : ¬cond0_0 i) (r : Fin 512) (j : Fin 1024) :
    out0_B_8 c i a1 h1 a2 h2 a3 h3 a4 h4 a5 h5 a6 h6 a7 h7 a8 h8 a9 h9 a10 h10 a11 h11 a12 h12 hc0 x0 x1 x2 x3 x4 x5 x6 xo (ix2 r j)
      = dMixed (dMerged (fun k => x0 (ix2 r k)) (fun k => x1 (ix2 j k))) (gate (x5 (ix2 r j)) (x6 (ix2 1 j))) := by
  refine congrFun (?_ : _ = fun y : S512x1024.Idx => dMixed (dMerged (fun k => x0 (ix2 (y 0) k)) (fun k => x1 (ix2 (y 1) k))) (gate (x5 y) (x6 (ix2 1 (y 1))))) (ix2 r j)
  unfold out0_B_8
  rw [View.read_writes_eq_canon _ _ _ (cover0_B_8 c i a1 h1 a2 h2 a3 h3 a4 h4 a5 h5 a6 h6 a7 h7 a8 h8 a9 h9 a10 h10 a11 h11 a12 h12 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 9 at the first point: the first gate's gradient. -/
theorem first9 (hc0 : cond0_0 i) (r : Fin 512) (j : Fin 1024) :
    out0_A_9 c i a1 h1 a2 h2 a3 h3 a4 h4 a5 h5 a6 h6 a7 h7 a8 h8 a9 h9 a10 h10 a11 h11 a12 h12 hc0 x0 x1 x2 x3 x4 x5 x6 (ix2 r j)
      = dGate (dMerged (fun k => x0 (ix2 r k)) (fun k => x1 (ix2 j k))) (x2 (ix2 r j)) (gate (x4 (ix2 r j)) (x6 (ix2 0 j))) := by
  refine congrFun (?_ : _ = fun y : S512x1024.Idx => dGate (dMerged (fun k => x0 (ix2 (y 0) k)) (fun k => x1 (ix2 (y 1) k))) (x2 y) (gate (x4 y) (x6 (ix2 0 (y 1))))) (ix2 r j)
  unfold out0_A_9
  rw [View.read_writes_eq_canon _ _ _ (cover0_A_9 c i a1 h1 a2 h2 a3 h3 a4 h4 a5 h5 a6 h6 a7 h7 a8 h8 a9 h9 a10 h10 a11 h11 a12 h12 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 9 at the later points: the first gate's gradient. -/
theorem later9 (hc0 : ¬cond0_0 i) (r : Fin 512) (j : Fin 1024) :
    out0_B_9 c i a1 h1 a2 h2 a3 h3 a4 h4 a5 h5 a6 h6 a7 h7 a8 h8 a9 h9 a10 h10 a11 h11 a12 h12 hc0 x0 x1 x2 x3 x4 x5 x6 xo (ix2 r j)
      = dGate (dMerged (fun k => x0 (ix2 r k)) (fun k => x1 (ix2 j k))) (x2 (ix2 r j)) (gate (x4 (ix2 r j)) (x6 (ix2 0 j))) := by
  refine congrFun (?_ : _ = fun y : S512x1024.Idx => dGate (dMerged (fun k => x0 (ix2 (y 0) k)) (fun k => x1 (ix2 (y 1) k))) (x2 y) (gate (x4 y) (x6 (ix2 0 (y 1))))) (ix2 r j)
  unfold out0_B_9
  rw [View.read_writes_eq_canon _ _ _ (cover0_B_9 c i a1 h1 a2 h2 a3 h3 a4 h4 a5 h5 a6 h6 a7 h7 a8 h8 a9 h9 a10 h10 a11 h11 a12 h12 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 10 at the first point: the second gate's gradient. -/
theorem first10 (hc0 : cond0_0 i) (r : Fin 512) (j : Fin 1024) :
    out0_A_10 c i a1 h1 a2 h2 a3 h3 a4 h4 a5 h5 a6 h6 a7 h7 a8 h8 a9 h9 a10 h10 a11 h11 a12 h12 hc0 x0 x1 x2 x3 x4 x5 x6 (ix2 r j)
      = dGate (dMerged (fun k => x0 (ix2 r k)) (fun k => x1 (ix2 j k))) (x3 (ix2 r j)) (gate (x5 (ix2 r j)) (x6 (ix2 1 j))) := by
  refine congrFun (?_ : _ = fun y : S512x1024.Idx => dGate (dMerged (fun k => x0 (ix2 (y 0) k)) (fun k => x1 (ix2 (y 1) k))) (x3 y) (gate (x5 y) (x6 (ix2 1 (y 1))))) (ix2 r j)
  unfold out0_A_10
  rw [View.read_writes_eq_canon _ _ _ (cover0_A_10 c i a1 h1 a2 h2 a3 h3 a4 h4 a5 h5 a6 h6 a7 h7 a8 h8 a9 h9 a10 h10 a11 h11 a12 h12 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 10 at the later points: the second gate's gradient. -/
theorem later10 (hc0 : ¬cond0_0 i) (r : Fin 512) (j : Fin 1024) :
    out0_B_10 c i a1 h1 a2 h2 a3 h3 a4 h4 a5 h5 a6 h6 a7 h7 a8 h8 a9 h9 a10 h10 a11 h11 a12 h12 hc0 x0 x1 x2 x3 x4 x5 x6 xo (ix2 r j)
      = dGate (dMerged (fun k => x0 (ix2 r k)) (fun k => x1 (ix2 j k))) (x3 (ix2 r j)) (gate (x5 (ix2 r j)) (x6 (ix2 1 j))) := by
  refine congrFun (?_ : _ = fun y : S512x1024.Idx => dGate (dMerged (fun k => x0 (ix2 (y 0) k)) (fun k => x1 (ix2 (y 1) k))) (x3 y) (gate (x5 y) (x6 (ix2 1 (y 1))))) (ix2 r j)
  unfold out0_B_10
  rw [View.read_writes_eq_canon _ _ _ (cover0_B_10 c i a1 h1 a2 h2 a3 h3 a4 h4 a5 h5 a6 h6 a7 h7 a8 h8 a9 h9 a10 h10 a11 h11 a12 h12 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S512x1024) zero2, View.ld_unit_zero (S := S1024x1024) zero2]
  funext y
  canon_tiles x e
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [idx_eq y (x 0) ⟨(y 1).val, (y 1).isLt⟩ e0 rfl]
    simp only [e1]
    rfl

/-- Output 11 at the first point, over zeros: the gates' gradients summed over the block's rows. -/
theorem first11 (hc0 : cond0_0 i) (r : Fin 8) (k : Fin 1024) :
    out0_A_11 c i a1 h1 a2 h2 a3 h3 a4 h4 a5 h5 a6 h6 a7 h7 a8 h8 a9 h9 a10 h10 a11 h11 a12 h12 hc0 x0 x1 x2 x3 x4 x5 x6 (ix2 r k)
      = twoRows (m := 8) (fun j : Fin 1024 => ∑ r : Fin 512, dGate (dMerged (fun k => x0 (ix2 r k)) (fun k => x1 (ix2 j k))) (x2 (ix2 r j)) (gate (x4 (ix2 r j)) (x6 (ix2 0 j))))
          (fun j : Fin 1024 => ∑ r : Fin 512, dGate (dMerged (fun k => x0 (ix2 r k)) (fun k => x1 (ix2 j k))) (x3 (ix2 r j)) (gate (x5 (ix2 r j)) (x6 (ix2 1 j)))) (ix2 r k) := by
  unfold out0_A_11
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread,
    View.ld_unit_zero (S := S512x1024) zero2, View.ld_unit_zero (S := S1024x1024) zero2, h12.read_unread]
  rw [row_piece _ _ _ _ _ (fun j => ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 768 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 768 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 512 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 512 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 256 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 256 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [View.read_writes_full (s := S8x1024), show k0_pay3 (F := Ideal) (ix2 r k) = 0 by pointwise [k0_pay3]]
  have hk := k.isLt
  unfold twoRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)

/-- Output 11 at the later points, over what was there: the gates' gradients summed over the block's rows. -/
theorem later11 (hc0 : ¬cond0_0 i) (r : Fin 8) (k : Fin 1024) :
    out0_B_11 c i a1 h1 a2 h2 a3 h3 a4 h4 a5 h5 a6 h6 a7 h7 a8 h8 a9 h9 a10 h10 a11 h11 a12 h12 hc0 x0 x1 x2 x3 x4 x5 x6 xo (ix2 r k)
      = xo (ix2 r k) + twoRows (m := 8) (fun j : Fin 1024 => ∑ r : Fin 512, dGate (dMerged (fun k => x0 (ix2 r k)) (fun k => x1 (ix2 j k))) (x2 (ix2 r j)) (gate (x4 (ix2 r j)) (x6 (ix2 0 j))))
          (fun j : Fin 1024 => ∑ r : Fin 512, dGate (dMerged (fun k => x0 (ix2 r k)) (fun k => x1 (ix2 j k))) (x3 (ix2 r j)) (gate (x5 (ix2 r j)) (x6 (ix2 1 j)))) (ix2 r k) := by
  unfold out0_B_11
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread,
    View.ld_unit_zero (S := S512x1024) zero2, View.ld_unit_zero (S := S1024x1024) zero2, h12.read_unread]
  rw [row_piece _ _ _ _ _ (fun j => xo (ix2 1 j) + ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 768 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 0 j) + ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 768 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 1 j) + ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 512 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 0 j) + ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 512 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 1 j) + ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 256 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 0 j) + ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 256 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 1 j) + ∑ r : Fin 512, dGate (dMerged (fun k => x0 (ix2 r k)) (fun k => x1 (ix2 j k))) (x3 (ix2 r j)) (gate (x5 (ix2 r j)) (x6 (ix2 1 j)))) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [row_piece _ _ _ _ _ (fun j => xo (ix2 0 j) + ∑ r : Fin 512, dGate (dMerged (fun k => x0 (ix2 r k)) (fun k => x1 (ix2 j k))) (x2 (ix2 r j)) (gate (x4 (ix2 r j)) (x6 (ix2 0 j)))) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rfl)]
  rw [View.writes_nil, h12.read_unread]
  have hk := k.isLt
  unfold twoRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)

end Points

variable (m : (ℓ : Loc nD τ sig) → Buf (Elt Ideal) ℓ)

theorem lt_points (t : Fin cfg0.N) : t.val < 8 := t.isLt

abbrev arr0 (c : Dev nD) : S4096x1024.Idx → EReal := m ((c.tc : Thread nD τ).loc main_arg0)
abbrev arr1 (c : Dev nD) : S1024x1024.Idx → EReal := m ((c.tc : Thread nD τ).loc main_arg1)
abbrev arr2 (c : Dev nD) : S4096x1024.Idx → EReal := m ((c.tc : Thread nD τ).loc main_arg2)
abbrev arr3 (c : Dev nD) : S4096x1024.Idx → EReal := m ((c.tc : Thread nD τ).loc main_arg3)
abbrev arr4 (c : Dev nD) : S4096x5120.Idx → EReal := m ((c.tc : Thread nD τ).loc main_arg4)
abbrev arr5 (c : Dev nD) : S2x1024.Idx → EReal := m ((c.tc : Thread nD τ).loc main_arg5)

theorem index0 : ∀ t : Fin grid0.N, win0_0.index t = ![t.val, 0] := by decide +kernel
theorem read0 (c : Dev nD) (t : Fin cfg0.N) (r : Fin 512) (j : Fin 1024) :
    iblk m c 0 t (ix2 r j : S512x1024.Idx) = arr0 m c (ix2 ⟨t.val * 512 + r.val, by have := lt_points t; omega⟩ j) := by
  blk_ext [iblk, V, index0 t]

theorem index1 : ∀ t : Fin grid0.N, win0_1.index t = ![0, 0] := by decide +kernel
theorem read1 (c : Dev nD) (t : Fin cfg0.N) (r : Fin 1024) (j : Fin 1024) :
    iblk m c 1 t (ix2 r j : S1024x1024.Idx) = arr1 m c (ix2 r j) := by
  blk_ext [iblk, V, index1 t]

theorem index2 : ∀ t : Fin grid0.N, win0_2.index t = ![t.val, 0] := by decide +kernel
theorem read2 (c : Dev nD) (t : Fin cfg0.N) (r : Fin 512) (j : Fin 1024) :
    iblk m c 2 t (ix2 r j : S512x1024.Idx) = arr2 m c (ix2 ⟨t.val * 512 + r.val, by have := lt_points t; omega⟩ j) := by
  blk_ext [iblk, V, index2 t]

theorem index3 : ∀ t : Fin grid0.N, win0_3.index t = ![t.val, 0] := by decide +kernel
theorem read3 (c : Dev nD) (t : Fin cfg0.N) (r : Fin 512) (j : Fin 1024) :
    iblk m c 3 t (ix2 r j : S512x1024.Idx) = arr3 m c (ix2 ⟨t.val * 512 + r.val, by have := lt_points t; omega⟩ j) := by
  blk_ext [iblk, V, index3 t]

theorem index4 : ∀ t : Fin grid0.N, win0_4.index t = ![t.val, 3] := by decide +kernel
theorem read4 (c : Dev nD) (t : Fin cfg0.N) (r : Fin 512) (j : Fin 1024) :
    iblk m c 4 t (ix2 r j : S512x1024.Idx) = arr4 m c (ix2 ⟨t.val * 512 + r.val, by have := lt_points t; omega⟩ ⟨3072 + j.val, by omega⟩) := by
  blk_ext [iblk, V, index4 t]

theorem index5 : ∀ t : Fin grid0.N, win0_5.index t = ![t.val, 4] := by decide +kernel
theorem read5 (c : Dev nD) (t : Fin cfg0.N) (r : Fin 512) (j : Fin 1024) :
    iblk m c 5 t (ix2 r j : S512x1024.Idx) = arr4 m c (ix2 ⟨t.val * 512 + r.val, by have := lt_points t; omega⟩ ⟨4096 + j.val, by omega⟩) := by
  blk_ext [iblk, V, index5 t]

theorem index6 : ∀ t : Fin grid0.N, win0_6.index t = ![0, 0] := by decide +kernel
theorem read6 (c : Dev nD) (t : Fin cfg0.N) (r : Fin 2) (j : Fin 1024) :
    iblk m c 6 t (ix2 r j : S2x1024.Idx) = arr5 m c (ix2 r j) := by
  blk_ext [iblk, V, index6 t]

/-- The two gates at a row and a column. -/
def gateA (c : Dev nD) (r : Fin 4096) (j : Fin 1024) : EReal := gate (arr4 m c (ix2 r ⟨3072 + j.val, by omega⟩)) (arr5 m c (ix2 0 j))
def gateB (c : Dev nD) (r : Fin 4096) (j : Fin 1024) : EReal := gate (arr4 m c (ix2 r ⟨4096 + j.val, by omega⟩)) (arr5 m c (ix2 1 j))

/-- The merged rows' gradient at a row and a column. -/
def dM (c : Dev nD) (r : Fin 4096) (j : Fin 1024) : EReal := dMerged (fun k => arr0 m c (ix2 r k)) (fun k => arr1 m c (ix2 j k))

/-- The two gates' gradients at a row and a column. -/
def dGateA (c : Dev nD) (r : Fin 4096) (j : Fin 1024) : EReal := dGate (dM m c r j) (arr2 m c (ix2 r j)) (gateA m c r j)
def dGateB (c : Dev nD) (r : Fin 4096) (j : Fin 1024) : EReal := dGate (dM m c r j) (arr3 m c (ix2 r j)) (gateB m c r j)

theorem index7 : ∀ t : Fin grid0.N, win0_7.index t = ![t.val, 0] := by decide +kernel

/-- Output 7 after any point. -/
theorem out_at7 (c : Dev nD) (t : Fin cfg0.N) (r : Fin 512) (j : Fin 1024) :
    (dats m 0 c).after 7 t (ix2 r j : S512x1024.Idx) = dMixed (dM m c ⟨t.val * 512 + r.val, by have := lt_points t; omega⟩ j) (gateA m c ⟨t.val * 512 + r.val, by have := lt_points t; omega⟩ j) := by
  rw [after0_7]
  by_cases h : t.val % 8 = 0
  · rw [outsAt0_A m c t h]
    dsimp only
    rw [first7]
    simp only [read0, read1, read2, read3, read4, read5, read6, dGateA, dGateB, gateA, gateB, dM]
  · rw [outsAt0_B m c t h]
    dsimp only
    rw [later7]
    simp only [read0, read1, read2, read3, read4, read5, read6, dGateA, dGateB, gateA, gateB, dM]

/-- Result 0: the first mixer's gradient, at every row and column. -/
theorem kernel7 (c : Dev nD) :
    (dats m 0 c).arrAt 7 cfg0.N = fun i : S4096x1024.Idx => dMixed (dM m c (i 0) (i 1)) (gateA m c (i 0) (i 1)) := by
  refine (dats m 0 c).arrAt_eq_of_covers 7 _ (by decide +kernel) fun t hf y => ?_
  obtain ⟨r, j, rfl⟩ : ∃ (r : Fin 512) (j : Fin 1024), y = (ix2 r j : S512x1024.Idx) := ⟨_, _, eq_ix2 y⟩
  have e : ((cfg0.win 7).blk t).view.emb (ix2 r j : S512x1024.Idx) = (ix2 ⟨t.val * 512 + r.val, by have := lt_points t; omega⟩ j : S4096x1024.Idx) := by
    blk_ext [index7 t]
  rw [e]
  blk_simp
  exact out_at7 m c t r j

theorem index8 : ∀ t : Fin grid0.N, win0_8.index t = ![t.val, 0] := by decide +kernel

/-- Output 8 after any point. -/
theorem out_at8 (c : Dev nD) (t : Fin cfg0.N) (r : Fin 512) (j : Fin 1024) :
    (dats m 0 c).after 8 t (ix2 r j : S512x1024.Idx) = dMixed (dM m c ⟨t.val * 512 + r.val, by have := lt_points t; omega⟩ j) (gateB m c ⟨t.val * 512 + r.val, by have := lt_points t; omega⟩ j) := by
  rw [after0_8]
  by_cases h : t.val % 8 = 0
  · rw [outsAt0_A m c t h]
    dsimp only
    rw [first8]
    simp only [read0, read1, read2, read3, read4, read5, read6, dGateA, dGateB, gateA, gateB, dM]
  · rw [outsAt0_B m c t h]
    dsimp only
    rw [later8]
    simp only [read0, read1, read2, read3, read4, read5, read6, dGateA, dGateB, gateA, gateB, dM]

/-- Result 1: the second mixer's gradient, at every row and column. -/
theorem kernel8 (c : Dev nD) :
    (dats m 0 c).arrAt 8 cfg0.N = fun i : S4096x1024.Idx => dMixed (dM m c (i 0) (i 1)) (gateB m c (i 0) (i 1)) := by
  refine (dats m 0 c).arrAt_eq_of_covers 8 _ (by decide +kernel) fun t hf y => ?_
  obtain ⟨r, j, rfl⟩ : ∃ (r : Fin 512) (j : Fin 1024), y = (ix2 r j : S512x1024.Idx) := ⟨_, _, eq_ix2 y⟩
  have e : ((cfg0.win 8).blk t).view.emb (ix2 r j : S512x1024.Idx) = (ix2 ⟨t.val * 512 + r.val, by have := lt_points t; omega⟩ j : S4096x1024.Idx) := by
    blk_ext [index8 t]
  rw [e]
  blk_simp
  exact out_at8 m c t r j

theorem index9 : ∀ t : Fin grid0.N, win0_9.index t = ![t.val, 0] := by decide +kernel

/-- Output 9 after any point. -/
theorem out_at9 (c : Dev nD) (t : Fin cfg0.N) (r : Fin 512) (j : Fin 1024) :
    (dats m 0 c).after 9 t (ix2 r j : S512x1024.Idx) = dGateA m c ⟨t.val * 512 + r.val, by have := lt_points t; omega⟩ j := by
  rw [after0_9]
  by_cases h : t.val % 8 = 0
  · rw [outsAt0_A m c t h]
    dsimp only
    rw [first9]
    simp only [read0, read1, read2, read3, read4, read5, read6, dGateA, dGateB, gateA, gateB, dM]
  · rw [outsAt0_B m c t h]
    dsimp only
    rw [later9]
    simp only [read0, read1, read2, read3, read4, read5, read6, dGateA, dGateB, gateA, gateB, dM]

/-- Result 2: the first gate's gradient, at every row and column. -/
theorem kernel9 (c : Dev nD) :
    (dats m 0 c).arrAt 9 cfg0.N = fun i : S4096x1024.Idx => dGateA m c (i 0) (i 1) := by
  refine (dats m 0 c).arrAt_eq_of_covers 9 _ (by decide +kernel) fun t hf y => ?_
  obtain ⟨r, j, rfl⟩ : ∃ (r : Fin 512) (j : Fin 1024), y = (ix2 r j : S512x1024.Idx) := ⟨_, _, eq_ix2 y⟩
  have e : ((cfg0.win 9).blk t).view.emb (ix2 r j : S512x1024.Idx) = (ix2 ⟨t.val * 512 + r.val, by have := lt_points t; omega⟩ j : S4096x1024.Idx) := by
    blk_ext [index9 t]
  rw [e]
  blk_simp
  exact out_at9 m c t r j

theorem index10 : ∀ t : Fin grid0.N, win0_10.index t = ![t.val, 0] := by decide +kernel

/-- Output 10 after any point. -/
theorem out_at10 (c : Dev nD) (t : Fin cfg0.N) (r : Fin 512) (j : Fin 1024) :
    (dats m 0 c).after 10 t (ix2 r j : S512x1024.Idx) = dGateB m c ⟨t.val * 512 + r.val, by have := lt_points t; omega⟩ j := by
  rw [after0_10]
  by_cases h : t.val % 8 = 0
  · rw [outsAt0_A m c t h]
    dsimp only
    rw [first10]
    simp only [read0, read1, read2, read3, read4, read5, read6, dGateA, dGateB, gateA, gateB, dM]
  · rw [outsAt0_B m c t h]
    dsimp only
    rw [later10]
    simp only [read0, read1, read2, read3, read4, read5, read6, dGateA, dGateB, gateA, gateB, dM]

/-- Result 3: the second gate's gradient, at every row and column. -/
theorem kernel10 (c : Dev nD) :
    (dats m 0 c).arrAt 10 cfg0.N = fun i : S4096x1024.Idx => dGateB m c (i 0) (i 1) := by
  refine (dats m 0 c).arrAt_eq_of_covers 10 _ (by decide +kernel) fun t hf y => ?_
  obtain ⟨r, j, rfl⟩ : ∃ (r : Fin 512) (j : Fin 1024), y = (ix2 r j : S512x1024.Idx) := ⟨_, _, eq_ix2 y⟩
  have e : ((cfg0.win 10).blk t).view.emb (ix2 r j : S512x1024.Idx) = (ix2 ⟨t.val * 512 + r.val, by have := lt_points t; omega⟩ j : S4096x1024.Idx) := by
    blk_ext [index10 t]
  rw [e]
  blk_simp
  exact out_at10 m c t r j

/-- Output 11 after point `n`: the sums over the blocks up to it. -/
theorem out_at11 (c : Dev nD) (r : Fin 8) (k : Fin 1024) : ∀ (n : ℕ) (hn : n < 8), (outsAt0 m c n hn).2.2.2.2 (ix2 r k : S8x1024.Idx)
    = twoRows (m := 8) (fun j : Fin 1024 => ∑ s : Fin (n + 1), ∑ r : Fin 512, dGateA m c ⟨s.val * 512 + r.val, by omega⟩ j)
        (fun j : Fin 1024 => ∑ s : Fin (n + 1), ∑ r : Fin 512, dGateB m c ⟨s.val * 512 + r.val, by omega⟩ j) (ix2 r k)
  | 0, hn => by
    have h := outsAt0_A m c ⟨0, hn⟩ rfl
    dsimp only at h
    rw [h]
    dsimp only
    rw [first11]
    show _ = twoRows (m := 8) (fun j : Fin 1024 => ∑ s : Fin 1, ∑ r : Fin 512, dGateA m c ⟨s.val * 512 + r.val, by omega⟩ j)
        (fun j : Fin 1024 => ∑ s : Fin 1, ∑ r : Fin 512, dGateB m c ⟨s.val * 512 + r.val, by omega⟩ j) (ix2 r k)
    simp only [read0, read1, read2, read3, read4, read5, read6, dGateA, dGateB, gateA, gateB, dM, Fin.sum_univ_one]
    rfl
  | n + 1, hn => by
    have h := outsAt0_B m c ⟨n + 1, hn⟩ (by show ¬(n + 1) % 8 = 0; omega)
    dsimp only at h
    rw [h]
    dsimp only
    rw [later11]
    have ih := out_at11 c r k n (by omega)
    simp only [Nat.add_sub_cancel]
    rw [ih, twoRows_add]
    simp only [read0, read1, read2, read3, read4, read5, read6, dGateA, dGateB, gateA, gateB, dM, Fin.sum_univ_castSucc (n := n + 1)]
    rfl

theorem index11 : ∀ t : Fin grid0.N, win0_11.index t = ![0, 0] := by decide +kernel

/-- Result 4: the biases' gradients, the sums over all rows. -/
theorem kernel11 (c : Dev nD) :
    (dats m 0 c).arrAt 11 cfg0.N = (fun i : S8x1024.Idx => twoRows (m := 8) (fun j : Fin 1024 => ∑ r : Fin 4096, dGateA m c r j)
      (fun j : Fin 1024 => ∑ r : Fin 4096, dGateB m c r j) i) := by
  refine (dats m 0 c).arrAt_eq_of_covers 11 _ (by decide +kernel) fun t hf y => ?_
  have hp := (flush0_11 t).mp hf
  obtain ⟨r, j, rfl⟩ : ∃ (r : Fin 8) (j : Fin 1024), y = (ix2 r j : S8x1024.Idx) := ⟨_, _, eq_ix2 y⟩
  have e : ((cfg0.win 11).blk t).view.emb (ix2 r j : S8x1024.Idx) = (ix2 r j : S8x1024.Idx) := by
    blk_ext [index11 t]
  rw [e]
  blk_simp
  rw [after0_11]
  have ht : t = ⟨7, by decide⟩ := Fin.ext (by have := lt_points t; show t.val = 7; omega)
  subst ht
  refine (out_at11 m c r j 7 (by decide)).trans ?_
  have hA (j : Fin 1024) := sum_blocks (b := 8) (n := 512) (N := 4096) (by norm_num) (fun r => dGateA m c r j)
  have hB (j : Fin 1024) := sum_blocks (b := 8) (n := 512) (N := 4096) (by norm_num) (fun r => dGateB m c r j)
  simp only [← hA, ← hB]

end Cert.Merge

end
-- ==== Proof.Merge.lean ====
/- The reference's gradients of the merge, and that the kernel's are the same. -/
module

public import proofs.«01_k».proof.Proof.MergeKernel
public import proofs.«01_k».proof.Proof.Gen.Reference2Ideal.Run
public import proofs.«01_k».proof.Defs

@[expose] public section

set_option maxRecDepth 16384

noncomputable section

namespace Cert.Merge

open Idealize.ShloMosaic Idealize.ShloMosaic.TcCoe Idealize.SL.Sem

section Reference

open Cert.Reference2Ideal

/-- The reference ends with the four gradients, the biases' sums and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v58) = fun i : S4096x1024.Idx =>
        dMixed (dMerged (fun k => (m ((c.tc : Thread nD τ).loc main_arg0)) (ix2 (i 0) k : S4096x1024.Idx)) (fun k => (m ((c.tc : Thread nD τ).loc main_arg1)) (ix2 (i 1) k : S1024x1024.Idx)))
          (gate ((m ((c.tc : Thread nD τ).loc main_arg4)) (ix2 (i 0) ⟨3072 + (i 1).val, by have : (i 1).val < 1024 := (i 1).isLt; omega⟩ : S4096x5120.Idx)) ((m ((c.tc : Thread nD τ).loc main_arg5)) (ix2 0 (i 1) : S2x1024.Idx))))
      ∧ (r.2.mem ((c.tc : Thread nD τ).loc main_v59) = fun i : S4096x1024.Idx =>
        dMixed (dMerged (fun k => (m ((c.tc : Thread nD τ).loc main_arg0)) (ix2 (i 0) k : S4096x1024.Idx)) (fun k => (m ((c.tc : Thread nD τ).loc main_arg1)) (ix2 (i 1) k : S1024x1024.Idx)))
          (gate ((m ((c.tc : Thread nD τ).loc main_arg4)) (ix2 (i 0) ⟨4096 + (i 1).val, by have : (i 1).val < 1024 := (i 1).isLt; omega⟩ : S4096x5120.Idx)) ((m ((c.tc : Thread nD τ).loc main_arg5)) (ix2 1 (i 1) : S2x1024.Idx))))
      ∧ (r.2.mem ((c.tc : Thread nD τ).loc main_v60) = fun i : S4096x1024.Idx =>
        dGate (dMerged (fun k => (m ((c.tc : Thread nD τ).loc main_arg0)) (ix2 (i 0) k : S4096x1024.Idx)) (fun k => (m ((c.tc : Thread nD τ).loc main_arg1)) (ix2 (i 1) k : S1024x1024.Idx)))
          ((m ((c.tc : Thread nD τ).loc main_arg2)) (ix2 (i 0) (i 1) : S4096x1024.Idx)) (gate ((m ((c.tc : Thread nD τ).loc main_arg4)) (ix2 (i 0) ⟨3072 + (i 1).val, by have : (i 1).val < 1024 := (i 1).isLt; omega⟩ : S4096x5120.Idx)) ((m ((c.tc : Thread nD τ).loc main_arg5)) (ix2 0 (i 1) : S2x1024.Idx))))
      ∧ (r.2.mem ((c.tc : Thread nD τ).loc main_v61) = fun i : S4096x1024.Idx =>
        dGate (dMerged (fun k => (m ((c.tc : Thread nD τ).loc main_arg0)) (ix2 (i 0) k : S4096x1024.Idx)) (fun k => (m ((c.tc : Thread nD τ).loc main_arg1)) (ix2 (i 1) k : S1024x1024.Idx)))
          ((m ((c.tc : Thread nD τ).loc main_arg3)) (ix2 (i 0) (i 1) : S4096x1024.Idx)) (gate ((m ((c.tc : Thread nD τ).loc main_arg4)) (ix2 (i 0) ⟨4096 + (i 1).val, by have : (i 1).val < 1024 := (i 1).isLt; omega⟩ : S4096x5120.Idx)) ((m ((c.tc : Thread nD τ).loc main_arg5)) (ix2 1 (i 1) : S2x1024.Idx))))
      ∧ (r.2.mem ((c.tc : Thread nD τ).loc main_v63) = fun i : S8x1024.Idx =>
        twoRows (m := 8) (fun j : Fin 1024 => ∑ r : Fin 4096, dGate (dMerged (fun k => (m ((c.tc : Thread nD τ).loc main_arg0)) (ix2 r k : S4096x1024.Idx)) (fun k => (m ((c.tc : Thread nD τ).loc main_arg1)) (ix2 j k : S1024x1024.Idx)))
          ((m ((c.tc : Thread nD τ).loc main_arg2)) (ix2 r j : S4096x1024.Idx)) (gate ((m ((c.tc : Thread nD τ).loc main_arg4)) (ix2 r ⟨3072 + j.val, by omega⟩ : S4096x5120.Idx)) ((m ((c.tc : Thread nD τ).loc main_arg5)) (ix2 0 j : S2x1024.Idx))))
          (fun j : Fin 1024 => ∑ r : Fin 4096, dGate (dMerged (fun k => (m ((c.tc : Thread nD τ).loc main_arg0)) (ix2 r k : S4096x1024.Idx)) (fun k => (m ((c.tc : Thread nD τ).loc main_arg1)) (ix2 j k : S1024x1024.Idx)))
          ((m ((c.tc : Thread nD τ).loc main_arg3)) (ix2 r j : S4096x1024.Idx)) (gate ((m ((c.tc : Thread nD τ).loc main_arg4)) (ix2 r ⟨4096 + j.val, by omega⟩ : S4096x5120.Idx)) ((m ((c.tc : Thread nD τ).loc main_arg5)) (ix2 1 j : S2x1024.Idx)))) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h⟩ := h c
    refine ⟨h0.trans (funext fun i => ?_), h1.trans (funext fun i => ?_), h2.trans (funext fun i => ?_), h3.trans (funext fun i => ?_), h4.trans (funext fun i => ?_), h⟩
    · clear h0 h1 h2 h3 h4 h
      generalize (m ((c.tc : Thread nD τ).loc main_arg0)) = x0
      generalize (m ((c.tc : Thread nD τ).loc main_arg1)) = x1
      generalize (m ((c.tc : Thread nD τ).loc main_arg4)) = x4
      generalize (m ((c.tc : Thread nD τ).loc main_arg5)) = x5
      rw [eq_ix2 i]
      pointwise
      simp only [dGate, dMixed, dMerged, gate, zero_sub]
      exact mul_comm _ _
    · clear h0 h1 h2 h3 h4 h
      generalize (m ((c.tc : Thread nD τ).loc main_arg0)) = x0
      generalize (m ((c.tc : Thread nD τ).loc main_arg1)) = x1
      generalize (m ((c.tc : Thread nD τ).loc main_arg4)) = x4
      generalize (m ((c.tc : Thread nD τ).loc main_arg5)) = x5
      rw [eq_ix2 i]
      pointwise
      simp only [dGate, dMixed, dMerged, gate, zero_sub]
      exact mul_comm _ _
    · clear h0 h1 h2 h3 h4 h
      generalize (m ((c.tc : Thread nD τ).loc main_arg0)) = x0
      generalize (m ((c.tc : Thread nD τ).loc main_arg1)) = x1
      generalize (m ((c.tc : Thread nD τ).loc main_arg4)) = x4
      generalize (m ((c.tc : Thread nD τ).loc main_arg5)) = x5
      generalize (m ((c.tc : Thread nD τ).loc main_arg2)) = x2
      rw [eq_ix2 i]
      pointwise
      simp only [dGate, dMixed, dMerged, gate, zero_sub]
    · clear h0 h1 h2 h3 h4 h
      generalize (m ((c.tc : Thread nD τ).loc main_arg0)) = x0
      generalize (m ((c.tc : Thread nD τ).loc main_arg1)) = x1
      generalize (m ((c.tc : Thread nD τ).loc main_arg4)) = x4
      generalize (m ((c.tc : Thread nD τ).loc main_arg5)) = x5
      generalize (m ((c.tc : Thread nD τ).loc main_arg3)) = x3
      rw [eq_ix2 i]
      pointwise
      simp only [dGate, dMixed, dMerged, gate, zero_sub]
    · clear h0 h1 h2 h3 h4 h
      unfold Value.res_main_v63
      generalize (m ((c.tc : Thread nD τ).loc main_arg0)) = x0
      generalize (m ((c.tc : Thread nD τ).loc main_arg1)) = x1
      generalize (m ((c.tc : Thread nD τ).loc main_arg2)) = x2
      generalize (m ((c.tc : Thread nD τ).loc main_arg3)) = x3
      generalize (m ((c.tc : Thread nD τ).loc main_arg4)) = x4
      generalize (m ((c.tc : Thread nD τ).loc main_arg5)) = x5
      rw [eq_ix2 i]
      pointwise
      simp only [Fin.sum_univ_one, dGate, dMerged, gate, zero_sub, twoRows]
      split_ifs <;> first | rfl | (exfalso; omega) | exact zero_add (_ : EReal) | exact add_zero (_ : EReal))
    (Value.run m ρ)

end Reference

/-- From arguments that agree, the kernel's results are the reference's. -/
theorem algebraic : algebraic_Kernel2Ideal_Reference2Ideal
    (hKernel2Ideal := Cert.Kernel2Ideal.Gen.facts) (hReference2Ideal := Cert.Reference2Ideal.Gen.facts) := by
  intro m g m' g' _ hagree
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    (θ_run _ _ _).mono (fun r h c => ?_) (Cert.Kernel2Ideal.Value.run_blocks m g),
    (θ_run _ _ _).mono (fun r h c => ?_) (reference_run m' g')⟩
  · exact h c
  · obtain ⟨h0, h1, h2, h3, h4, h⟩ := h c
    obtain ⟨a0, a1, a2, a3, a4, a5⟩ := hagree c
    refine ⟨h0.trans ?_, h1.trans ?_, h2.trans ?_, h3.trans ?_, h4.trans ?_, h⟩
    · rw [a0, a1, a4, a5]
      exact (kernel7 m c).symm
    · rw [a0, a1, a4, a5]
      exact (kernel8 m c).symm
    · rw [a0, a1, a2, a4, a5]
      exact (kernel9 m c).symm
    · rw [a0, a1, a3, a4, a5]
      exact (kernel10 m c).symm
    · rw [a0, a1, a2, a3, a4, a5]
      exact (kernel11 m c).symm

end Cert.Merge

end
-- ==== Proof.Finite.lean ====
/- Finite extended reals: the real numbers among them, and which operations stay there. -/
module

public import Idealize.ShloMosaic.Lib.Pipeline.ValueKit

@[expose] public section

noncomputable section

namespace Cert.Finite

open Idealize.ShloMosaic

/-- Every entry of the family is a real number. -/
def AllReal {ι : Type} (x : ι → EReal) : Prop := ∀ i, ∃ r : ℝ, x i = r

/-- An extended real whose difference with itself is zero is a real number. -/
theorem real_of_sub_self {x : EReal} (h : x - x = 0) : ∃ r : ℝ, x = r := by
  induction x with
  | bot => exact absurd h (by simp)
  | coe r => exact ⟨r, rfl⟩
  | top => exact absurd h (by simp)

/-- A truth value printed as a bit. -/
theorem of_bit {p : Prop} [Decidable p] (h : BitVec.ofBool (decide p) = 1#1) : p := by
  by_contra hn
  simp [hn] at h

/-- The real numbers a finite family consists of. -/
def re {ι : Type} (x : ι → EReal) : ι → ℝ := fun i => (x i).toReal

theorem coe_re {ι : Type} {x : ι → EReal} (h : AllReal x) : x = fun i => ((re x i : ℝ) : EReal) := by
  funext i
  obtain ⟨r, hr⟩ := h i
  simp only [re, hr, EReal.toReal_coe]

theorem coe_sum {ι : Type} [Fintype ι] (f : ι → ℝ) : (∑ i, ((f i : ℝ) : EReal)) = ((∑ i, f i : ℝ) : EReal) :=
  (map_sum (⟨⟨fun r : ℝ => (r : EReal), EReal.coe_zero⟩, EReal.coe_add⟩ : ℝ →+ EReal) f Finset.univ).symm

theorem div_real (a : ℝ) {b : ℝ} (hb : b ≠ 0) : Ideal.div (a : EReal) (b : EReal) = ((a / b : ℝ) : EReal) := by
  rw [Ideal.div_coe hb, ← EReal.coe_mul, mul_one_div]

/-- The sigmoid of a real number. -/
theorem sigmoid_real (g : ℝ) : Ideal.div 1 (1 + Ideal.exp (0 - (g : EReal))) = ((1 / (1 + Real.exp (-g)) : ℝ) : EReal) := by
  have h : (1 : ℝ) + Real.exp (-g) ≠ 0 := by positivity
  rw [zero_sub, ← EReal.coe_neg, Ideal.exp_coe, ← EReal.coe_one, ← EReal.coe_add, div_real 1 h]

end Cert.Finite

end
-- ==== Proof.FfnDownKernel.lean ====
/- The blocks of the gradient through the down projection and the SiLU gate. -/
module

public import Idealize.ShloMosaic.Lib.KernelVsHost
public import proofs.«01_k».proof.Proof.Finite
public import proofs.«01_k».proof.Proof.RowSums
public import proofs.«01_k».proof.Proof.Gen.Kernel5Ideal.Value

@[expose] public section

set_option maxRecDepth 16384

noncomputable section

namespace Cert.FfnDown

open Idealize.ShloMosaic Idealize.ShloMosaic.TcCoe Idealize.SL.Sem Cert.Kernel5Ideal Cert.Kernel5Ideal.Gen

/-- The sigmoid. -/
def sigmoid (g : EReal) : EReal := Ideal.div 1 (1 + Ideal.exp (0 - g))

/-- The gradient of the product `silu g * u` at a hidden column: the result's gradient's row times the down projection's row. -/
def dHidden (a b : Fin 1024 → EReal) : EReal := ∑ k : Fin 1024, a k * b k

/-- The gate's gradient as the kernel writes it: the SiLU's slope is `s (1 + g (1 - s))`. -/
def dGateIn (d g u : EReal) : EReal := d * u * (sigmoid g * (1 + g * (1 - sigmoid g)))

/-- The other factor's gradient. -/
def dUp (d g : EReal) : EReal := d * g * sigmoid g

/-- An index of a three-axis array is known by its coordinates. -/
theorem idx_eq3 {l m n : ℕ} (y : (⟨3, ![l, m, n]⟩ : Shape).Idx) (p : Fin l) (a : Fin m) (b : Fin n) (hp : (y 0).val = p.val) (h0 : (y 1).val = a.val)
    (h1 : (y 2).val = b.val) : y = ix3 p a b := by
  funext d
  match d with
  | 0 => exact Fin.ext hp
  | 1 => exact Fin.ext h0
  | 2 => exact Fin.ext h1

/-- A block's two halves. -/
theorem out_apply (x0 : S512x1024.Idx → EReal) (x1 : S1408x1024.Idx → EReal) (x2 : S2x512x1408.Idx → EReal) (p : Fin 2) (r : Fin 512) (j : Fin 1408) :
    out0_3 (F := Ideal) x0 x1 x2 (ix3 p r j)
      = if p.val = 0 then dGateIn (dHidden (fun k => x0 (ix2 r k)) (fun k => x1 (ix2 j k))) (x2 (ix3 0 r j)) (x2 (ix3 1 r j))
        else dUp (dHidden (fun k => x0 (ix2 r k)) (fun k => x1 (ix2 j k))) (x2 (ix3 0 r j)) := by
  refine congrFun (?_ : _ = fun y : S2x512x1408.Idx =>
    if (y 0).val = 0 then dGateIn (dHidden (fun k => x0 (ix2 (y 1) k)) (fun k => x1 (ix2 (y 2) k))) (x2 (ix3 0 (y 1) (y 2))) (x2 (ix3 1 (y 1) (y 2)))
        else dUp (dHidden (fun k => x0 (ix2 (y 1) k)) (fun k => x1 (ix2 (y 2) k))) (x2 (ix3 0 (y 1) (y 2)))) (ix3 p r j)
  funext y
  unfold out0_3
  canon_tiles x e
  · pointwise [k0_pay1, k0_pay2, k0_pay3, k0_pay4, k0_pay5, View.ld]
    rw [idx_eq3 y 1 (x 1) (x 2) (by omega) e1 e2]
    rfl
  · pointwise [k0_pay1, k0_pay2, k0_pay3, k0_pay4, k0_pay5, View.ld]
    rw [idx_eq3 y 0 (x 1) (x 2) (by omega) e1 e2]
    rfl

variable (m : (ℓ : Loc nD τ sig) → Buf (Elt Ideal) ℓ)

theorem lt_points (t : Fin cfg0.N) : t.val < 16 := t.isLt

abbrev arr0 (c : Dev nD) : S4096x1024.Idx → EReal := m ((c.tc : Thread nD τ).loc main_arg0)
abbrev arr1 (c : Dev nD) : S2816x1024.Idx → EReal := m ((c.tc : Thread nD τ).loc main_arg1)
abbrev arr2 (c : Dev nD) : S2x4096x2816.Idx → EReal := m ((c.tc : Thread nD τ).loc main_arg2)

theorem index0 : ∀ t : Fin grid0.N, win0_0.index t = ![t.val % 8, 0] := by decide +kernel
theorem index1 : ∀ t : Fin grid0.N, win0_1.index t = ![t.val / 8, 0] := by decide +kernel
theorem index2 : ∀ t : Fin grid0.N, win0_2.index t = ![0, t.val % 8, t.val / 8] := by decide +kernel
theorem index3 : ∀ t : Fin grid0.N, win0_3.index t = ![0, t.val % 8, t.val / 8] := by decide +kernel

theorem read0 (c : Dev nD) (t : Fin cfg0.N) (r : Fin 512) (k : Fin 1024) :
    iblk m c 0 t (ix2 r k : S512x1024.Idx) = arr0 m c (ix2 ⟨t.val % 8 * 512 + r.val, by omega⟩ k) := by
  blk_ext [iblk, V, index0 t]

theorem read1 (c : Dev nD) (t : Fin cfg0.N) (j : Fin 1408) (k : Fin 1024) :
    iblk m c 1 t (ix2 j k : S1408x1024.Idx) = arr1 m c (ix2 ⟨t.val / 8 * 1408 + j.val, by have := lt_points t; omega⟩ k) := by
  blk_ext [iblk, V, index1 t]

theorem read2 (c : Dev nD) (t : Fin cfg0.N) (p : Fin 2) (r : Fin 512) (j : Fin 1408) :
    iblk m c 2 t (ix3 p r j : S2x512x1408.Idx)
      = arr2 m c (ix3 p ⟨t.val % 8 * 512 + r.val, by omega⟩ ⟨t.val / 8 * 1408 + j.val, by have := lt_points t; omega⟩) := by
  blk_ext [iblk, V, index2 t]

/-- The kernel's result: the two gradients, one above the other. -/
theorem kernel_out (c : Dev nD) :
    (dats m 0 c).arrAt 3 cfg0.N = fun i : S2x4096x2816.Idx =>
      if (i 0).val = 0 then dGateIn (dHidden (fun k => arr0 m c (ix2 (i 1) k)) (fun k => arr1 m c (ix2 (i 2) k))) (arr2 m c (ix3 0 (i 1) (i 2))) (arr2 m c (ix3 1 (i 1) (i 2)))
      else dUp (dHidden (fun k => arr0 m c (ix2 (i 1) k)) (fun k => arr1 m c (ix2 (i 2) k))) (arr2 m c (ix3 0 (i 1) (i 2))) := by
  refine (dats m 0 c).arrAt_eq_of_covers 3 _ (by decide +kernel) fun t hf y => ?_
  obtain ⟨p, r, j, rfl⟩ : ∃ (p : Fin 2) (r : Fin 512) (j : Fin 1408), y = (ix3 p r j : S2x512x1408.Idx) := ⟨_, _, _, eq_ix3 y⟩
  have e : ((cfg0.win 3).blk t).view.emb (ix3 p r j : S2x512x1408.Idx)
      = (ix3 p ⟨t.val % 8 * 512 + r.val, by omega⟩ ⟨t.val / 8 * 1408 + j.val, by have := lt_points t; omega⟩ : S2x4096x2816.Idx) := by
    blk_ext [index3 t]
  rw [e]
  blk_simp
  rw [after0_3]
  refine (out_apply (iblk m c 0 t) (iblk m c 1 t) (iblk m c 2 t) p r j).trans ?_
  simp only [read0, read1, read2]
  rfl

end Cert.FfnDown

end
-- ==== Proof.FfnDown.lean ====
/- The reference of the gradient through the down projection and the SiLU gate, and that the kernel's results are the same where the arguments are real numbers. -/
module

public import proofs.«01_k».proof.Proof.FfnDownKernel
public import proofs.«01_k».proof.Proof.Gen.Reference5Ideal.Run
public import proofs.«01_k».proof.Defs

@[expose] public section

set_option maxRecDepth 16384

noncomputable section

namespace Cert.FfnDown

open Idealize.ShloMosaic Idealize.ShloMosaic.TcCoe Idealize.SL.Sem Cert.Finite

/-- The gate's gradient as the chain rule over the product and the sigmoid gives it. -/
def dGateChain (d g u : EReal) : EReal := d * u * sigmoid g + g * (d * u) * (sigmoid g * (1 - sigmoid g))

/-- On real numbers the two forms of the gate's gradient are the same. -/
theorem gate_forms (a b : Fin 1024 → EReal) (ha : AllReal a) (hb : AllReal b) {g u : EReal} (hg : ∃ r : ℝ, g = r) (hu : ∃ r : ℝ, u = r) :
    dGateChain (dHidden a b) g u = dGateIn (dHidden a b) g u := by
  obtain ⟨g, rfl⟩ := hg
  obtain ⟨u, rfl⟩ := hu
  have hd : dHidden a b = ((∑ k, re a k * re b k : ℝ) : EReal) := by
    rw [coe_re ha, coe_re hb]
    simp only [dHidden, ← EReal.coe_mul, coe_sum]
    rfl
  rw [hd]
  generalize (∑ k, re a k * re b k : ℝ) = d
  unfold dGateChain dGateIn sigmoid
  rw [sigmoid_real g]
  generalize 1 / (1 + Real.exp (-g)) = s
  norm_cast
  ring

/-- The other factor's gradient, its factors in another order. -/
theorem up_forms (d g : EReal) : g * sigmoid g * d = dUp d g := by
  unfold dUp
  rw [mul_comm (g * sigmoid g) d, mul_assoc d g]

section Reference

open Cert.Reference5Ideal

/-- The reference ends with the two gradients and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v18) = fun i : S2x4096x2816.Idx =>
        if (i 0).val = 0 then
          dGateChain (dHidden (fun k => m ((c.tc : Thread nD τ).loc main_arg0) (ix2 (i 1) k : S4096x1024.Idx))
              (fun k => m ((c.tc : Thread nD τ).loc main_arg1) (ix2 (i 2) k : S2816x1024.Idx)))
            (m ((c.tc : Thread nD τ).loc main_arg2) (ix3 0 (i 1) (i 2) : S2x4096x2816.Idx))
            (m ((c.tc : Thread nD τ).loc main_arg2) (ix3 1 (i 1) (i 2) : S2x4096x2816.Idx))
        else
          dUp (dHidden (fun k => m ((c.tc : Thread nD τ).loc main_arg0) (ix2 (i 1) k : S4096x1024.Idx))
              (fun k => m ((c.tc : Thread nD τ).loc main_arg1) (ix2 (i 2) k : S2816x1024.Idx)))
            (m ((c.tc : Thread nD τ).loc main_arg2) (ix3 0 (i 1) (i 2) : S2x4096x2816.Idx)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h⟩ := h c
    refine ⟨h0.trans (funext fun i => ?_), h⟩
    clear h0 h
    generalize (m ((c.tc : Thread nD τ).loc main_arg0)) = a
    generalize (m ((c.tc : Thread nD τ).loc main_arg1)) = b
    generalize (m ((c.tc : Thread nD τ).loc main_arg2)) = d
    obtain ⟨p, r, j, rfl⟩ : ∃ (p : Fin 2) (r : Fin 4096) (j : Fin 2816), i = (ix3 p r j : S2x4096x2816.Idx) := ⟨_, _, _, eq_ix3 i⟩
    pointwise
    simp only [← up_forms]
    simp only [dGateChain, dHidden, sigmoid, zero_sub]
    split_ifs <;> first | rfl | (exfalso; omega))
    (Value.run m ρ)

end Reference

section Precondition

open Cert.Pre_finite5

/-- The side conditions of the precondition's operations. -/
theorem finite_facts : Cert.Pre_finite5.Facts where
  bitsLt_bf16_f32 := by decide
  bcast_S_S4096x1024 := by decide
  bcast_S_S2816x1024 := by decide
  bcast_S_S2x4096x2816 := by decide

variable [Facts] {x : S4096x1024.Idx → EReal} {w : S2816x1024.Idx → EReal} {y : S2x4096x2816.Idx → EReal}

theorem real0 (h : (fn (F := Ideal) x w y).1 = fun _ => 1#1) : AllReal x := by
  intro i
  have h := congrFun h i
  unfold fn at h
  dsimp only at h
  revert h
  pointwise
  exact fun h => real_of_sub_self (of_bit h)

theorem real1 (h : (fn (F := Ideal) x w y).2.1 = fun _ => 1#1) : AllReal w := by
  intro i
  have h := congrFun h i
  unfold fn at h
  dsimp only at h
  revert h
  pointwise
  exact fun h => real_of_sub_self (of_bit h)

theorem real2 (h : (fn (F := Ideal) x w y).2.2 = fun _ => 1#1) : AllReal y := by
  intro i
  have h := congrFun h i
  unfold fn at h
  dsimp only at h
  revert h
  pointwise
  exact fun h => real_of_sub_self (of_bit h)

end Precondition

/-- From real arguments that agree, the kernel's results are the reference's. -/
theorem algebraic [Cert.Pre_finite5.Facts] : algebraic_Kernel5Ideal_Reference5Ideal_pre_finite5
    (hKernel5Ideal := Cert.Kernel5Ideal.Gen.facts) (hReference5Ideal := Cert.Reference5Ideal.Gen.facts) := by
  intro m g m' g' hpre hagree
  refine ⟨fun c => (Cert.Kernel5Ideal.Gen.dats m 0 c).arrAt 3 Cert.Kernel5Ideal.cfg0.N,
    (θ_run _ _ _).mono (fun r h c => ?_) (Cert.Kernel5Ideal.Value.run_blocks m g),
    (θ_run _ _ _).mono (fun r h c => ?_) (reference_run m' g')⟩
  · exact h c
  · obtain ⟨h0, h⟩ := h c
    obtain ⟨a0, a1, a2⟩ := hagree c
    obtain ⟨f0, f1, f2⟩ := hpre c
    have f0 := real0 f0
    have f1 := real1 f1
    have f2 := real2 f2
    refine ⟨h0.trans ?_, h⟩
    rw [a0, a1, a2]
    refine Eq.trans (funext fun i => ?_) (kernel_out m c).symm
    split_ifs
    · exact gate_forms _ _ (fun k => f0 _) (fun k => f1 _) (f2 _) (f2 _)
    · rfl

end Cert.FfnDown

end
-- ==== Proof.NormGrad.lean ====
/- The gradient through a scaled and shifted root-mean-square norm, row by row, and that the chain rule gives the same on real numbers. -/
module

public import proofs.«01_k».proof.Proof.Finite
public import proofs.«01_k».proof.Proof.RowSums

@[expose] public section

noncomputable section

namespace Cert.NormGrad

open Idealize.ShloMosaic Cert.Finite

/-- The number of columns as a float. -/
def width : EReal := Ideal.ofBits .f32 0x44800000#32

/-- The norm's small positive constant. -/
def eps : EReal := Ideal.ofBits .f32 0x358637BD#32

/-- Minus one half, the exponent of the root's reciprocal. -/
def negHalf : EReal := Ideal.ofBits .f32 0xBF000000#32

/-- The mean of the squares of a row plus the small constant. -/
def meanSq (h : Fin 1024 → EReal) : EReal := Ideal.div (∑ k, h k * h k) width + eps

/-- The reciprocal root mean square of a row. -/
def invRms (h : Fin 1024 → EReal) : EReal := Ideal.rsqrt (meanSq h)

/-- A row divided by its root mean square. -/
def normed (h : Fin 1024 → EReal) (j : Fin 1024) : EReal := h j * invRms h

/-- The gradient of the normed and weighted row, from the gradient `p` of the scaled and shifted one. -/
def dNormed (p s : EReal) : EReal := p * (1 + s)

/-- The gradient of the normed row before its weights `g`. -/
def dPlain (p s g : Fin 1024 → EReal) (k : Fin 1024) : EReal := dNormed (p k) (s k) * g k

/-- The input row's gradient: what arrives past the norm, plus the reciprocal root times the gradient's part across the normed row. -/
def dInput (res h p s g : Fin 1024 → EReal) (j : Fin 1024) : EReal :=
  res j + invRms h * (dPlain p s g j - normed h j * Ideal.div (∑ k, dPlain p s g k * normed h k) width)

/-- A column's part of the scale's gradient. -/
def dScale (h p g : Fin 1024 → EReal) (j : Fin 1024) : EReal := p j * (normed h j * g j)

/-- A column's part of the norm weights' gradient. -/
def dWeights (h p s : Fin 1024 → EReal) (j : Fin 1024) : EReal := dNormed (p j) (s j) * normed h j

/-- The gradient of a row's mean of squares, by the chain rule. -/
def dMean (h p s g : Fin 1024 → EReal) : EReal :=
  Ideal.div ((∑ k, h k * dPlain p s g k) * (negHalf * Ideal.div (invRms h) (meanSq h))) width

/-- The input row's gradient as the chain rule gives it: the product's two factors, the square's two factors. -/
def dInputChain (res h p s g : Fin 1024 → EReal) (j : Fin 1024) : EReal :=
  res j + (dPlain p s g j * invRms h + h j * dMean h p s g + dMean h p s g * h j)

theorem width_real : width = ((1024 : ℝ) : EReal) := by
  simp [width, Ideal.ofBits, Ideal.ieee, -EReal.coe_mul]; norm_num

theorem negHalf_real : negHalf = ((-(1 / 2) : ℝ) : EReal) := by
  simp [negHalf, Ideal.ofBits, Ideal.ieee, -EReal.coe_mul]; norm_num

theorem eps_real : ∃ e : ℝ, 0 < e ∧ eps = (e : EReal) := by
  refine ⟨_, ?_, by simp [eps, Ideal.ofBits, Ideal.ieee, -EReal.coe_mul]; rfl⟩
  norm_num

/-- A factor that is a nonnegative real number goes into a sum. -/
theorem mul_sum_real {ι : Type} (w : ℝ) (hw : 0 ≤ w) (S : Finset ι) (f : ι → EReal) : (w : EReal) * ∑ s ∈ S, f s = ∑ s ∈ S, (w : EReal) * f s := by
  classical
  induction S using Finset.induction_on with
  | empty => simp
  | insert a S ha ih =>
    rw [Finset.sum_insert ha, Finset.sum_insert ha, ← ih]
    exact EReal.left_distrib_of_nonneg_of_ne_top (EReal.coe_nonneg.mpr hw) (EReal.coe_ne_top w) _ _

/-- A product with a real number, taken twice. -/
theorem twice (S : EReal) (w : ℝ) : S * w + S * w = S * ((w + w : ℝ) : EReal) := by
  rcases lt_trichotomy w 0 with h | h | h
  · have h2 : w + w < 0 := by linarith
    induction S with
    | bot => rw [EReal.bot_mul_coe_of_neg h, EReal.bot_mul_coe_of_neg h2]; rfl
    | coe r => norm_cast; ring
    | top => rw [EReal.top_mul_coe_of_neg h, EReal.top_mul_coe_of_neg h2]; rfl
  · subst h
    simp
  · have h2 : 0 < w + w := by linarith
    induction S with
    | bot => rw [EReal.bot_mul_coe_of_pos h, EReal.bot_mul_coe_of_pos h2]; rfl
    | coe r => norm_cast; ring
    | top => rw [EReal.top_mul_coe_of_pos h, EReal.top_mul_coe_of_pos h2]; rfl

/-- A square is not negative. -/
theorem square_nonneg (x : EReal) : 0 ≤ x * x := by
  induction x with
  | bot => simp
  | coe r => exact_mod_cast mul_self_nonneg r
  | top => simp

/-- An infinite entry makes the row's mean of squares infinite. -/
theorem meanSq_top {h : Fin 1024 → EReal} {k : Fin 1024} (hk : h k = ⊤ ∨ h k = ⊥) : meanSq h = ⊤ := by
  obtain ⟨e, _, heps⟩ := eps_real
  have hs : (∑ k, h k * h k) = ⊤ := by
    refine top_le_iff.mp (le_trans (le_of_eq ?_) (Finset.single_le_sum (f := fun k => h k * h k) (fun i _ => square_nonneg (h i)) (Finset.mem_univ k)))
    rcases hk with hk | hk <;> simp [hk]
  rw [meanSq, hs, width_real, heps, Ideal.div_coe (by norm_num), EReal.top_mul_coe_of_pos (by norm_num)]
  rfl

/-- The two forms of the input row's gradient are the same. Where an entry of the row is infinite, the reciprocal root is zero and both are what
    arrives past the norm; else the reciprocal root is a positive real number, which goes in and out of sums of extended reals. -/
theorem input_forms (res h p s g : Fin 1024 → EReal) (j : Fin 1024) : dInputChain res h p s g j = dInput res h p s g j := by
  by_cases hh : AllReal h
  · obtain ⟨e, he, heps⟩ := eps_real
    have hv : meanSq h = (((∑ k, re h k * re h k) / 1024 + e : ℝ) : EReal) := by
      rw [coe_re hh]
      simp only [meanSq, ← EReal.coe_mul, coe_sum]
      rw [width_real, heps, div_real _ (by norm_num), ← EReal.coe_add]
      rfl
    have hpos : 0 < (∑ k, re h k * re h k) / 1024 + e :=
      add_pos_of_nonneg_of_pos (div_nonneg (Finset.sum_nonneg fun k _ => mul_self_nonneg _) (by norm_num)) he
    have hi : invRms h = ((1 / √((∑ k, re h k * re h k) / 1024 + e) : ℝ) : EReal) := by
      rw [invRms, hv, Ideal.rsqrt_coe, if_neg (not_lt.mpr hpos.le), if_neg hpos.ne', one_div]
    generalize (∑ k, re h k * re h k) / 1024 + e = v at hv hpos hi
    have hroot : 0 < √v := Real.sqrt_pos.mpr hpos
    have hsq : √v * √v = v := Real.mul_self_sqrt hpos.le
    generalize √v = q at hi hroot hsq
    have hq : (0 : ℝ) ≤ 1 / q := by positivity
    have hT : (∑ k, dPlain p s g k * normed h k) = ((1 / q : ℝ) : EReal) * ∑ k, h k * dPlain p s g k := by
      rw [mul_sum_real _ hq]
      refine Finset.sum_congr rfl fun k _ => ?_
      rw [normed, hi, ← mul_assoc, mul_comm, mul_comm (dPlain p s g k)]
    unfold dInputChain dInput dMean
    rw [hT]
    simp only [normed]
    rw [hi, hv, width_real, negHalf_real, show h j = ((re h j : ℝ) : EReal) from congrFun (coe_re hh) j, div_real _ hpos.ne',
      Ideal.div_coe (by norm_num), Ideal.div_coe (by norm_num)]
    generalize (∑ k, h k * dPlain p s g k) = S
    generalize dPlain p s g j = d
    generalize re h j = a
    subst hsq
    refine congrArg (res j + ·) ?_
    have e1 : S * (((-(1 / 2) : ℝ) : EReal) * ((1 / q / (q * q) : ℝ) : EReal)) * ((1 / 1024 : ℝ) : EReal) * (a : EReal)
        = S * ((-(1 / 2) * (1 / q / (q * q)) * (1 / 1024) * a : ℝ) : EReal) := by
      simp only [mul_assoc, ← EReal.coe_mul]
    have e2 : ((a : EReal) * ((1 / q : ℝ) : EReal)) * ((((1 / q : ℝ) : EReal) * S) * ((1 / 1024 : ℝ) : EReal))
        = S * ((a * (1 / q) * (1 / q) * (1 / 1024) : ℝ) : EReal) := by
      rw [mul_comm _ S, ← EReal.coe_mul, mul_comm, mul_assoc, mul_assoc]
      simp only [← EReal.coe_mul]
      refine congrArg (fun r : ℝ => S * (r : EReal)) ?_
      ring
    rw [mul_comm (a : EReal) (S * _ * _), e1, e2, add_assoc, twice, sub_eq_add_neg, ← mul_neg, ← EReal.coe_neg,
      EReal.left_distrib_of_nonneg_of_ne_top (EReal.coe_nonneg.mpr hq) (EReal.coe_ne_top _), mul_comm d]
    refine congrArg (((1 / q : ℝ) : EReal) * d + ·) ?_
    rw [mul_left_comm, ← EReal.coe_mul]
    refine congrArg (fun r : ℝ => S * (r : EReal)) ?_
    field_simp
    ring
  · obtain ⟨k, hk⟩ : ∃ k, h k = ⊤ ∨ h k = ⊥ := by
      by_contra hn
      push Not at hn
      exact hh fun k => ⟨(h k).toReal, (EReal.coe_toReal (hn k).1 (hn k).2).symm⟩
    have hv : meanSq h = ⊤ := meanSq_top hk
    have hi : invRms h = 0 := by rw [invRms, hv, Ideal.rsqrt_top]
    have hm : dMean h p s g = 0 := by
      rw [dMean, hi, hv, width_real, Ideal.div_coe (by norm_num)]
      simp [Ideal.div]
    simp only [dInputChain, dInput, hm, hi, mul_zero, zero_mul, add_zero]

/-- A sum over four shards of columns is the sum over all of them. -/
theorem sum_shards {n N : ℕ} (hN : N = 4 * n) (f : Fin N → EReal) :
    (∑ k : Fin n, f ⟨0 * n + k.val, by omega⟩) + (∑ k : Fin n, f ⟨1 * n + k.val, by omega⟩) + (∑ k : Fin n, f ⟨2 * n + k.val, by omega⟩)
      + (∑ k : Fin n, f ⟨3 * n + k.val, by omega⟩) = ∑ k : Fin N, f k := by
  have h := Cert.RowSums.sum_blocks (b := 4) hN f
  rw [Fin.sum_univ_four] at h
  exact h

/-- Four sums in the first four of eight rows, and zero in the rest. -/
def fourRows {m n : ℕ} (A B C D : Fin n → EReal) (y : (⟨2, ![m, n]⟩ : Shape).Idx) : EReal :=
  if (y 0).val = 0 then A (y 1) else if (y 0).val = 1 then B (y 1) else if (y 0).val = 2 then C (y 1)
  else if (y 0).val = 3 then D (y 1) else 0

theorem fourRows_add {m n : ℕ} (A B C D A' B' C' D' : Fin n → EReal) (y : (⟨2, ![m, n]⟩ : Shape).Idx) :
    fourRows A B C D y + fourRows A' B' C' D' y
      = fourRows (fun j => A j + A' j) (fun j => B j + B' j) (fun j => C j + C' j) (fun j => D j + D' j) y := by
  unfold fourRows
  split_ifs
  all_goals first
    | rfl
    | exact add_zero (_ : EReal)

end Cert.NormGrad

end
-- ==== Proof.MixInKernel.lean ====
/- The blocks of the gradient through the norm before the mixers' input projection. -/
module

public import proofs.«01_k».proof.Proof.NormGrad
public import proofs.«01_k».proof.Proof.WeightGrad
public import proofs.«01_k».proof.Proof.Gen.Kernel3Ideal.Value
public import Idealize.ShloMosaic.Lib.KernelVsHost
public import Idealize.ShloMosaic.Lib.Pipeline.ReadBack
public import Idealize.ShloMosaic.Lib.VecWindow

@[expose] public section

set_option maxRecDepth 16384

noncomputable section

namespace Cert.MixIn

open Idealize.ShloMosaic Idealize.ShloMosaic.TcCoe Idealize.SL.Sem Cert.Kernel3Ideal Cert.Kernel3Ideal.Gen Cert.WeightGrad Cert.RowSums Cert.NormGrad

/-- The weight of the mixers' branch. -/
def half : EReal := Ideal.ofBits .f32 0x3F000000#32

/-- A block's projected gradient: the four shards of columns added up. -/
def proj (x0 : S256x5120.Idx → EReal) (x1 : S4x1024x1280.Idx → EReal) (r : Fin 256) (j : Fin 1024) : EReal :=
  (∑ k : Fin 1280, x0 (ix2 r ⟨k.val, by omega⟩) * x1 (ix3 0 j k)) + (∑ k : Fin 1280, x0 (ix2 r ⟨1280 + k.val, by omega⟩) * x1 (ix3 1 j k)) + (∑ k : Fin 1280, x0 (ix2 r ⟨2560 + k.val, by omega⟩) * x1 (ix3 2 j k)) + (∑ k : Fin 1280, x0 (ix2 r ⟨3840 + k.val, by omega⟩) * x1 (ix3 3 j k))

section Points

variable (c : Dev nD) (i : grid0.Coords) (a1 : Memref sig .tc .vmem S256x5120 .bf16) (h1 : a1.IsWhole)
  (a2 : Memref sig .tc .vmem S4x1024x1280 .bf16) (h2 : a2.IsWhole)
  (a3 : Memref sig .tc .vmem S256x1024 .f32) (h3 : a3.IsWhole)
  (a4 : Memref sig .tc .vmem S8x1024 .f32) (h4 : a4.IsWhole)
  (a5 : Memref sig .tc .vmem S256x1024 .f32) (h5 : a5.IsWhole)
  (a6 : Memref sig .tc .vmem S8x1024 .f32) (h6 : a6.IsWhole)
  (a7 : Memref sig .tc .vmem S256x1024 .bf16) (h7 : a7.IsWhole)
  (a8 : Memref sig .tc .vmem S256x1024 .f32) (h8 : a8.IsWhole)
  (a9 : Memref sig .tc .vmem S256x1024 .bf16) (h9 : a9.IsWhole)
  (a10 : Memref sig .tc .vmem S8x1024 .f32) (h10 : a10.IsWhole)
  (x0 : Vec Ideal S256x5120 .bf16) (x1 : Vec Ideal S4x1024x1280 .bf16) (x2 : Vec Ideal S256x1024 .f32) (x3 : Vec Ideal S8x1024 .f32)
  (x4 : Vec Ideal S256x1024 .f32) (x5 : Vec Ideal S8x1024 .f32) (x6 : Vec Ideal S256x1024 .bf16) (xo : Vec Ideal S8x1024 .f32)

/-- The input row's gradient in a block. -/
def dIn (x0 : S256x5120.Idx → EReal) (x1 : S4x1024x1280.Idx → EReal) (x2 : S256x1024.Idx → EReal) (x3 : S8x1024.Idx → EReal) (x4 : S256x1024.Idx → EReal)
    (r : Fin 256) (j : Fin 1024) : EReal :=
  dInput (fun k => x4 (ix2 r k)) (fun k => x2 (ix2 r k)) (proj x0 x1 r) (fun k => x3 (ix2 1 k)) (fun k => x3 (ix2 0 k)) j

/-- Output 7 at the first point: the input rows' gradient. -/
theorem first7 (hc0 : cond0_0 i) (r : Fin 256) (j : Fin 1024) :
    out0_A_7 c i a1 h1 a2 h2 a3 h3 a4 h4 a5 h5 a6 h6 a7 h7 a8 h8 a9 h9 a10 h10 hc0 x0 x1 x2 x3 x4 x5 x6 (ix2 r j)
      = dIn x0 x1 x2 x3 x4 r j := by
  refine congrFun (?_ : _ = fun y : S256x1024.Idx => dIn x0 x1 x2 x3 x4 (y 0) (y 1)) (ix2 r j)
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, View.ld]
    show _ = dIn x0 x1 x2 x3 x4 r j
    simp only [dIn, dInput, dPlain, dNormed, normed, invRms, meanSq, width, eps, proj, half]

/-- Output 7 at the later points: the input rows' gradient. -/
theorem later7 (hc0 : ¬cond0_0 i) (r : Fin 256) (j : Fin 1024) :
    out0_B_7 c i a1 h1 a2 h2 a3 h3 a4 h4 a5 h5 a6 h6 a7 h7 a8 h8 a9 h9 a10 h10 hc0 x0 x1 x2 x3 x4 x5 x6 xo (ix2 r j)
      = dIn x0 x1 x2 x3 x4 r j := by
  refine congrFun (?_ : _ = fun y : S256x1024.Idx => dIn x0 x1 x2 x3 x4 (y 0) (y 1)) (ix2 r j)
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, View.ld]
    show _ = dIn x0 x1 x2 x3 x4 r j
    simp only [dIn, dInput, dPlain, dNormed, normed, invRms, meanSq, width, eps, proj, half]

/-- Output 8 at the first point: the gradient of the branch before, through its gate. -/
theorem first8 (hc0 : cond0_0 i) (r : Fin 256) (j : Fin 1024) :
    out0_A_8 c i a1 h1 a2 h2 a3 h3 a4 h4 a5 h5 a6 h6 a7 h7 a8 h8 a9 h9 a10 h10 hc0 x0 x1 x2 x3 x4 x5 x6 (ix2 r j)
      = half * x5 (ix2 3 j) * dIn x0 x1 x2 x3 x4 r j := by
  refine congrFun (?_ : _ = fun y : S256x1024.Idx => half * x5 (ix2 3 (y 1)) * dIn x0 x1 x2 x3 x4 (y 0) (y 1)) (ix2 r j)
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, View.ld]
    show _ = half * x5 (ix2 3 j) * dIn x0 x1 x2 x3 x4 r j
    simp only [dIn, dInput, dPlain, dNormed, normed, invRms, meanSq, width, eps, proj, half]

/-- Output 8 at the later points: the gradient of the branch before, through its gate. -/
theorem later8 (hc0 : ¬cond0_0 i) (r : Fin 256) (j : Fin 1024) :
    out0_B_8 c i a1 h1 a2 h2 a3 h3 a4 h4 a5 h5 a6 h6 a7 h7 a8 h8 a9 h9 a10 h10 hc0 x0 x1 x2 x3 x4 x5 x6 xo (ix2 r j)
      = half * x5 (ix2 3 j) * dIn x0 x1 x2 x3 x4 r j := by
  refine congrFun (?_ : _ = fun y : S256x1024.Idx => half * x5 (ix2 3 (y 1)) * dIn x0 x1 x2 x3 x4 (y 0) (y 1)) (ix2 r j)
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, View.ld]
    show _ = half * x5 (ix2 3 j) * dIn x0 x1 x2 x3 x4 r j
    simp only [dIn, dInput, dPlain, dNormed, normed, invRms, meanSq, width, eps, proj, half]

/-- Output 9 at the first point, over zeros: the four sums over the block's rows. -/
theorem first9 (hc0 : cond0_0 i) (r : Fin 8) (k : Fin 1024) :
    out0_A_9 c i a1 h1 a2 h2 a3 h3 a4 h4 a5 h5 a6 h6 a7 h7 a8 h8 a9 h9 a10 h10 hc0 x0 x1 x2 x3 x4 x5 x6 (ix2 r k)
      = fourRows (m := 8) (fun j : Fin 1024 => ∑ r : Fin 256, proj x0 x1 r j)
          (fun j : Fin 1024 => ∑ r : Fin 256, dScale (fun k => x2 (ix2 r k)) (proj x0 x1 r) (fun k => x3 (ix2 0 k)) j)
          (fun j : Fin 1024 => ∑ r : Fin 256, dWeights (fun k => x2 (ix2 r k)) (proj x0 x1 r) (fun k => x3 (ix2 1 k)) j)
          (fun j : Fin 1024 => half * ∑ r : Fin 256, dIn x0 x1 x2 x3 x4 r j * x6 (ix2 r j)) (ix2 r k) := by
  unfold out0_A_9
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread, h10.read_unread,
    View.ld_unit_zero (S := S256x1024) zero2]
  rw [row_piece _ _ _ _ _ (fun j : Fin 1024 => half * ∑ r : Fin 256, dIn x0 x1 x2 x3 x4 r j * x6 (ix2 r j)) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => ∑ r : Fin 256, dWeights (fun k => x2 (ix2 r k)) (proj x0 x1 r) (fun k => x3 (ix2 1 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => ∑ r : Fin 256, dScale (fun k => x2 (ix2 r k)) (proj x0 x1 r) (fun k => x3 (ix2 0 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => ∑ r : Fin 256, proj x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [View.read_writes_full (s := S8x1024), show k0_pay6 (F := Ideal) (ix2 r k) = 0 by pointwise [k0_pay6]]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)
    | (obtain rfl : r = 2 := Fin.ext (by show r.val = 2; omega); rfl)
    | (obtain rfl : r = 3 := Fin.ext (by show r.val = 3; omega); rfl)

/-- Output 9 at the later points, over what was there: the four sums over the block's rows. -/
theorem later9 (hc0 : ¬cond0_0 i) (r : Fin 8) (k : Fin 1024) :
    out0_B_9 c i a1 h1 a2 h2 a3 h3 a4 h4 a5 h5 a6 h6 a7 h7 a8 h8 a9 h9 a10 h10 hc0 x0 x1 x2 x3 x4 x5 x6 xo (ix2 r k)
      = xo (ix2 r k) + fourRows (m := 8) (fun j : Fin 1024 => ∑ r : Fin 256, proj x0 x1 r j)
          (fun j : Fin 1024 => ∑ r : Fin 256, dScale (fun k => x2 (ix2 r k)) (proj x0 x1 r) (fun k => x3 (ix2 0 k)) j)
          (fun j : Fin 1024 => ∑ r : Fin 256, dWeights (fun k => x2 (ix2 r k)) (proj x0 x1 r) (fun k => x3 (ix2 1 k)) j)
          (fun j : Fin 1024 => half * ∑ r : Fin 256, dIn x0 x1 x2 x3 x4 r j * x6 (ix2 r j)) (ix2 r k) := by
  unfold out0_B_9
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread, h10.read_unread,
    View.ld_unit_zero (S := S256x1024) zero2]
  rw [row_piece _ _ _ _ _ (fun j : Fin 1024 => xo (ix2 3 j) + half * ∑ r : Fin 256, dIn x0 x1 x2 x3 x4 r j * x6 (ix2 r j)) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => xo (ix2 2 j) + ∑ r : Fin 256, dWeights (fun k => x2 (ix2 r k)) (proj x0 x1 r) (fun k => x3 (ix2 1 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => xo (ix2 1 j) + ∑ r : Fin 256, dScale (fun k => x2 (ix2 r k)) (proj x0 x1 r) (fun k => x3 (ix2 0 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [row_piece _ _ _ _ _ (fun j : Fin 1024 => xo (ix2 0 j) + ∑ r : Fin 256, proj x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, View.ld]
    simp only [dScale, dWeights, dIn, dInput, dPlain, dNormed, normed, invRms, meanSq, width, eps, proj, half])]
  rw [View.writes_nil, h10.read_unread]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)
    | (obtain rfl : r = 2 := Fin.ext (by show r.val = 2; omega); rfl)
    | (obtain rfl : r = 3 := Fin.ext (by show r.val = 3; omega); rfl)

end Points

variable (m : (ℓ : Loc nD τ sig) → Buf (Elt Ideal) ℓ)

theorem lt_points (t : Fin cfg0.N) : t.val < 16 := t.isLt

abbrev arr0 (c : Dev nD) : S4096x5120.Idx → EReal := m ((c.tc : Thread nD τ).loc main_arg0)
abbrev arr1 (c : Dev nD) : S1024x5120.Idx → EReal := m ((c.tc : Thread nD τ).loc main_arg1)
abbrev arr2 (c : Dev nD) : S4096x1024.Idx → EReal := m ((c.tc : Thread nD τ).loc main_arg2)
abbrev arr3 (c : Dev nD) : S1024.Idx → EReal := m ((c.tc : Thread nD τ).loc main_arg3)
abbrev arr4 (c : Dev nD) : S1024.Idx → EReal := m ((c.tc : Thread nD τ).loc main_arg4)
abbrev arr5 (c : Dev nD) : S1024.Idx → EReal := m ((c.tc : Thread nD τ).loc main_arg5)
abbrev arr6 (c : Dev nD) : S4096x1024.Idx → EReal := m ((c.tc : Thread nD τ).loc main_arg6)
abbrev arr7 (c : Dev nD) : S1024.Idx → EReal := m ((c.tc : Thread nD τ).loc main_arg7)
abbrev arr8 (c : Dev nD) : S4096x1024.Idx → EReal := m ((c.tc : Thread nD τ).loc main_arg8)

/-- The weights cut into four shards of columns. -/
theorem shards (c : Dev nD) (q : Fin 4) (j : Fin 1024) (k : Fin 1280) :
    (V m c main_v1 : S4x1024x1280.Idx → EReal) (ix3 q j k) = arr1 m c (ix2 j ⟨q.val * 1280 + k.val, by omega⟩) := by
  have h : V m c main_v1 = transpose S4x1024x1280 [1, 0, 2] (shapeCast S1024x4x1280 (arr1 m c) shapeCasts_S1024x5120_S1024x4x1280)
      transposes_S1024x4x1280_S4x1024x1280_1_0_2 := by
    after_results <;> rfl
  refine (congrFun h _).trans ?_
  pointwise

/-- A row of zeros. -/
def zeroRow : S1x1024.Idx → EReal := broadcastInDim S1x1024 ![1] bcast_S1024_S1x1024_1 (broadcastInDim S1024 ![] bcast_S_S1024 (constant (F := Ideal) S_ .f32 0x00000000#32))

/-- The norm's vectors, one to a row. -/
theorem packed (c : Dev nD) :
    V m c main_v9 = concatenate S8x1024 0 [⟨S4x1024, concatenate S4x1024 0 [⟨S1x1024, broadcastInDim S1x1024 ![1] bcast_S1024_S1x1024_1 (arr3 m c)⟩,
      ⟨S1x1024, broadcastInDim S1x1024 ![1] bcast_S1024_S1x1024_1 (arr5 m c)⟩, ⟨S1x1024, broadcastInDim S1x1024 ![1] bcast_S1024_S1x1024_1 (arr4 m c)⟩,
      ⟨S1x1024, zeroRow⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem packed_weights (c : Dev nD) (j : Fin 1024) : (V m c main_v9 : S8x1024.Idx → EReal) (ix2 0 j) = arr3 m c (ix1 j) := by
  refine (congrFun (packed m c) _).trans ?_
  pointwise

theorem packed_scale (c : Dev nD) (j : Fin 1024) : (V m c main_v9 : S8x1024.Idx → EReal) (ix2 1 j) = arr5 m c (ix1 j) := by
  refine (congrFun (packed m c) _).trans ?_
  pointwise

/-- The gate of the branch before, in the fourth row. -/
theorem packedGate (c : Dev nD) :
    V m c main_v16 = concatenate S8x1024 0 [⟨S4x1024, concatenate S4x1024 0 [⟨S1x1024, zeroRow⟩, ⟨S1x1024, zeroRow⟩, ⟨S1x1024, zeroRow⟩,
      ⟨S1x1024, broadcastInDim S1x1024 ![1] bcast_S1024_S1x1024_1 (arr7 m c)⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem packed_gate (c : Dev nD) (j : Fin 1024) : (V m c main_v16 : S8x1024.Idx → EReal) (ix2 3 j) = arr7 m c (ix1 j) := by
  refine (congrFun (packedGate m c) _).trans ?_
  pointwise

theorem index0 : ∀ t : Fin grid0.N, win0_0.index t = ![t.val, 0] := by decide +kernel
theorem read0 (c : Dev nD) (t : Fin cfg0.N) (r : Fin 256) (k : Fin 5120) :
    iblk m c 0 t (ix2 r k : S256x5120.Idx) = arr0 m c (ix2 ⟨t.val * 256 + r.val, by have := lt_points t; omega⟩ k) := by
  blk_ext [iblk, V, index0 t]

theorem index1 : ∀ t : Fin grid0.N, win0_1.index t = ![0, 0, 0] := by decide +kernel
theorem read1 (c : Dev nD) (t : Fin cfg0.N) (q : Fin 4) (j : Fin 1024) (k : Fin 1280) :
    iblk m c 1 t (ix3 q j k : S4x1024x1280.Idx) = arr1 m c (ix2 j ⟨q.val * 1280 + k.val, by omega⟩) := by
  have e : iblk m c 1 t (ix3 q j k : S4x1024x1280.Idx) = V m c main_v1 (ix3 q j k : S4x1024x1280.Idx) := by
    blk_ext [iblk, index1 t]
  exact e.trans (shards m c q j k)

theorem index2 : ∀ t : Fin grid0.N, win0_2.index t = ![t.val, 0] := by decide +kernel
theorem read2 (c : Dev nD) (t : Fin cfg0.N) (r : Fin 256) (j : Fin 1024) :
    iblk m c 2 t (ix2 r j : S256x1024.Idx) = arr2 m c (ix2 ⟨t.val * 256 + r.val, by have := lt_points t; omega⟩ j) := by
  blk_ext [iblk, V, index2 t]

theorem index4 : ∀ t : Fin grid0.N, win0_4.index t = ![t.val, 0] := by decide +kernel
theorem read4 (c : Dev nD) (t : Fin cfg0.N) (r : Fin 256) (j : Fin 1024) :
    iblk m c 4 t (ix2 r j : S256x1024.Idx) = arr6 m c (ix2 ⟨t.val * 256 + r.val, by have := lt_points t; omega⟩ j) := by
  blk_ext [iblk, V, index4 t]

theorem index6 : ∀ t : Fin grid0.N, win0_6.index t = ![t.val, 0] := by decide +kernel
theorem read6 (c : Dev nD) (t : Fin cfg0.N) (r : Fin 256) (j : Fin 1024) :
    iblk m c 6 t (ix2 r j : S256x1024.Idx) = arr8 m c (ix2 ⟨t.val * 256 + r.val, by have := lt_points t; omega⟩ j) := by
  blk_ext [iblk, V, index6 t]

theorem index3 : ∀ t : Fin grid0.N, win0_3.index t = ![0, 0] := by decide +kernel
theorem read3 (c : Dev nD) (t : Fin cfg0.N) (p : Fin 8) (j : Fin 1024) :
    iblk m c 3 t (ix2 p j : S8x1024.Idx) = V m c main_v9 (ix2 p j : S8x1024.Idx) := by
  blk_ext [iblk, index3 t]

theorem read_weights (c : Dev nD) (t : Fin cfg0.N) (j : Fin 1024) : iblk m c 3 t (ix2 0 j : S8x1024.Idx) = arr3 m c (ix1 j) :=
  (read3 m c t 0 j).trans (packed_weights m c j)

theorem read_scale (c : Dev nD) (t : Fin cfg0.N) (j : Fin 1024) : iblk m c 3 t (ix2 1 j : S8x1024.Idx) = arr5 m c (ix1 j) :=
  (read3 m c t 1 j).trans (packed_scale m c j)

theorem index5 : ∀ t : Fin grid0.N, win0_5.index t = ![0, 0] := by decide +kernel
theorem read_gate (c : Dev nD) (t : Fin cfg0.N) (j : Fin 1024) : iblk m c 5 t (ix2 3 j : S8x1024.Idx) = arr7 m c (ix1 j) := by
  have e : iblk m c 5 t (ix2 3 j : S8x1024.Idx) = V m c main_v16 (ix2 3 j : S8x1024.Idx) := by
    blk_ext [iblk, index5 t]
  exact e.trans (packed_gate m c j)

/-- The projected gradient's row: the arriving gradient's row times the weights. -/
def P (c : Dev nD) (r : Fin 4096) (j : Fin 1024) : EReal := ∑ k : Fin 5120, arr0 m c (ix2 r k) * arr1 m c (ix2 j k)

/-- The input rows' gradient. -/
def dH (c : Dev nD) (r : Fin 4096) (j : Fin 1024) : EReal :=
  dInput (fun k => arr6 m c (ix2 r k)) (fun k => arr2 m c (ix2 r k)) (P m c r) (fun k => arr5 m c (ix1 k)) (fun k => arr3 m c (ix1 k)) j

/-- The row's parts of the scale's and of the norm weights' gradient. -/
def dS (c : Dev nD) (r : Fin 4096) (j : Fin 1024) : EReal := dScale (fun k => arr2 m c (ix2 r k)) (P m c r) (fun k => arr3 m c (ix1 k)) j
def dW (c : Dev nD) (r : Fin 4096) (j : Fin 1024) : EReal := dWeights (fun k => arr2 m c (ix2 r k)) (P m c r) (fun k => arr5 m c (ix1 k)) j

theorem proj_at (c : Dev nD) (t : Fin cfg0.N) (r : Fin 256) : proj (iblk m c 0 t) (iblk m c 1 t) r = P m c ⟨t.val * 256 + r.val, by have := lt_points t; omega⟩ := by
  funext j
  unfold proj P
  rw [← sum_shards (n := 1280) (N := 5120) (by norm_num)]
  refine congrArg₂ (· + ·) (congrArg₂ (· + ·) (congrArg₂ (· + ·) ?_ ?_) ?_) ?_ <;> refine Finset.sum_congr rfl fun k _ => ?_
  all_goals
    rw [read0, read1]
    refine congrArg₂ (· * ·) (congrArg _ (congrArg (ix2 _) (Fin.ext ?_))) rfl
    simp
    try omega

theorem dIn_at (c : Dev nD) (t : Fin cfg0.N) (r : Fin 256) (j : Fin 1024) :
    dIn (iblk m c 0 t) (iblk m c 1 t) (iblk m c 2 t) (iblk m c 3 t) (iblk m c 4 t) r j = dH m c ⟨t.val * 256 + r.val, by have := lt_points t; omega⟩ j := by
  unfold dIn dH
  rw [proj_at]
  simp only [read2, read4, read_weights, read_scale]

theorem index7 : ∀ t : Fin grid0.N, win0_7.index t = ![t.val, 0] := by decide +kernel

/-- Output 7 after any point. -/
theorem out_at7 (c : Dev nD) (t : Fin cfg0.N) (r : Fin 256) (j : Fin 1024) :
    (dats m 0 c).after 7 t (ix2 r j : S256x1024.Idx) = dH m c ⟨t.val * 256 + r.val, by have := lt_points t; omega⟩ j := by
  rw [after0_7]
  by_cases h : t.val % 16 = 0
  · rw [outsAt0_A m c t h]
    dsimp only
    rw [first7, dIn_at]
  · rw [outsAt0_B m c t h]
    dsimp only
    rw [later7, dIn_at]

/-- Result: the input rows' gradient, at every row and column. -/
theorem kernel7 (c : Dev nD) :
    (dats m 0 c).arrAt 7 cfg0.N = fun i : S4096x1024.Idx => dH m c (i 0) (i 1) := by
  refine (dats m 0 c).arrAt_eq_of_covers 7 _ (by decide +kernel) fun t hf y => ?_
  obtain ⟨r, j, rfl⟩ : ∃ (r : Fin 256) (j : Fin 1024), y = (ix2 r j : S256x1024.Idx) := ⟨_, _, eq_ix2 y⟩
  have e : ((cfg0.win 7).blk t).view.emb (ix2 r j : S256x1024.Idx) = (ix2 ⟨t.val * 256 + r.val, by have := lt_points t; omega⟩ j : S4096x1024.Idx) := by
    blk_ext [index7 t]
  rw [e]
  blk_simp
  exact out_at7 m c t r j

theorem index8 : ∀ t : Fin grid0.N, win0_8.index t = ![t.val, 0] := by decide +kernel

/-- Output 8 after any point. -/
theorem out_at8 (c : Dev nD) (t : Fin cfg0.N) (r : Fin 256) (j : Fin 1024) :
    (dats m 0 c).after 8 t (ix2 r j : S256x1024.Idx) = half * arr7 m c (ix1 j) * dH m c ⟨t.val * 256 + r.val, by have := lt_points t; omega⟩ j := by
  rw [after0_8]
  by_cases h : t.val % 16 = 0
  · rw [outsAt0_A m c t h]
    dsimp only
    rw [first8, dIn_at, read_gate]
  · rw [outsAt0_B m c t h]
    dsimp only
    rw [later8, dIn_at, read_gate]

/-- Result: the gradient of the branch before, through its gate, at every row and column. -/
theorem kernel8 (c : Dev nD) :
    (dats m 0 c).arrAt 8 cfg0.N = fun i : S4096x1024.Idx => half * arr7 m c (ix1 (i 1)) * dH m c (i 0) (i 1) := by
  refine (dats m 0 c).arrAt_eq_of_covers 8 _ (by decide +kernel) fun t hf y => ?_
  obtain ⟨r, j, rfl⟩ : ∃ (r : Fin 256) (j : Fin 1024), y = (ix2 r j : S256x1024.Idx) := ⟨_, _, eq_ix2 y⟩
  have e : ((cfg0.win 8).blk t).view.emb (ix2 r j : S256x1024.Idx) = (ix2 ⟨t.val * 256 + r.val, by have := lt_points t; omega⟩ j : S4096x1024.Idx) := by
    blk_ext [index8 t]
  rw [e]
  blk_simp
  exact out_at8 m c t r j

/-- Output 9 after point `n`: the sums over the blocks up to it. -/
theorem out_at9 (c : Dev nD) (r : Fin 8) (k : Fin 1024) : ∀ (n : ℕ) (hn : n < 16), (outsAt0 m c n hn).2.2 (ix2 r k : S8x1024.Idx)
    = fourRows (m := 8) (fun j : Fin 1024 => ∑ s : Fin (n + 1), ∑ r : Fin 256, P m c ⟨s.val * 256 + r.val, by omega⟩ j)
        (fun j : Fin 1024 => ∑ s : Fin (n + 1), ∑ r : Fin 256, dS m c ⟨s.val * 256 + r.val, by omega⟩ j)
        (fun j : Fin 1024 => ∑ s : Fin (n + 1), ∑ r : Fin 256, dW m c ⟨s.val * 256 + r.val, by omega⟩ j)
        (fun j : Fin 1024 => ∑ s : Fin (n + 1), half * ∑ r : Fin 256, dH m c ⟨s.val * 256 + r.val, by omega⟩ j * arr8 m c (ix2 ⟨s.val * 256 + r.val, by omega⟩ j)) (ix2 r k)
  | 0, hn => by
    have h := outsAt0_A m c ⟨0, hn⟩ rfl
    dsimp only at h
    rw [h]
    dsimp only
    rw [first9]
    show _ = fourRows (m := 8) (fun j : Fin 1024 => ∑ s : Fin (1), ∑ r : Fin 256, P m c ⟨s.val * 256 + r.val, by omega⟩ j)
        (fun j : Fin 1024 => ∑ s : Fin (1), ∑ r : Fin 256, dS m c ⟨s.val * 256 + r.val, by omega⟩ j)
        (fun j : Fin 1024 => ∑ s : Fin (1), ∑ r : Fin 256, dW m c ⟨s.val * 256 + r.val, by omega⟩ j)
        (fun j : Fin 1024 => ∑ s : Fin (1), half * ∑ r : Fin 256, dH m c ⟨s.val * 256 + r.val, by omega⟩ j * arr8 m c (ix2 ⟨s.val * 256 + r.val, by omega⟩ j)) (ix2 r k)
    simp only [proj_at, dIn_at, dS, dW, read2, read_weights, read_scale, read6, Fin.sum_univ_one, Fin.val_zero]
  | n + 1, hn => by
    have h := outsAt0_B m c ⟨n + 1, hn⟩ (by show ¬(n + 1) % 16 = 0; omega)
    dsimp only at h
    rw [h]
    dsimp only
    rw [later9]
    have ih := out_at9 c r k n (by omega)
    simp only [Nat.add_sub_cancel]
    rw [ih, fourRows_add]
    simp only [proj_at, dIn_at, dS, dW, read2, read_weights, read_scale, read6, Fin.sum_univ_castSucc (n := n + 1), Fin.val_castSucc, Fin.val_last]

theorem index9 : ∀ t : Fin grid0.N, win0_9.index t = ![0, 0] := by decide +kernel

theorem half_real : half = ((1 / 2 : ℝ) : EReal) := by
  simp [half, Ideal.ofBits, Ideal.ieee, -EReal.coe_mul]; norm_num

/-- Result: the sums over all rows, the gradients of the shift, the scale, the norm's weights and the gate. -/
theorem kernel9 (c : Dev nD) :
    (dats m 0 c).arrAt 9 cfg0.N = (fun i : S8x1024.Idx => fourRows (m := 8) (fun j : Fin 1024 => ∑ r : Fin 4096, P m c r j)
      (fun j : Fin 1024 => ∑ r : Fin 4096, dS m c r j)
      (fun j : Fin 1024 => ∑ r : Fin 4096, dW m c r j)
      (fun j : Fin 1024 => half * ∑ r : Fin 4096, dH m c r j * arr8 m c (ix2 r j)) i) := by
  refine (dats m 0 c).arrAt_eq_of_covers 9 _ (by decide +kernel) fun t hf y => ?_
  have hp := (flush0_9 t).mp hf
  obtain ⟨r, j, rfl⟩ : ∃ (r : Fin 8) (j : Fin 1024), y = (ix2 r j : S8x1024.Idx) := ⟨_, _, eq_ix2 y⟩
  have e : ((cfg0.win 9).blk t).view.emb (ix2 r j : S8x1024.Idx) = (ix2 r j : S8x1024.Idx) := by
    blk_ext [index9 t]
  rw [e]
  blk_simp
  rw [after0_9]
  have ht : t = ⟨15, by decide⟩ := Fin.ext (by have := lt_points t; show t.val = 15; omega)
  subst ht
  refine (out_at9 m c r j 15 (by decide)).trans ?_
  have hA (j : Fin 1024) := sum_blocks (b := 16) (n := 256) (N := 4096) (by norm_num) (fun r => P m c r j)
  have hB (j : Fin 1024) := sum_blocks (b := 16) (n := 256) (N := 4096) (by norm_num) (fun r => dS m c r j)
  have hC (j : Fin 1024) := sum_blocks (b := 16) (n := 256) (N := 4096) (by norm_num) (fun r => dW m c r j)
  have hD (j : Fin 1024) := sum_blocks (b := 16) (n := 256) (N := 4096) (by norm_num) (fun r => dH m c r j * arr8 m c (ix2 r j))
  simp only [← hA, ← hB, ← hC, ← hD, half_real, mul_sum_real (1 / 2) (by norm_num)]

end Cert.MixIn

end
-- ==== Proof.MixIn.lean ====
/- The reference of the gradient through the norm before the mixers' input projection, and that the kernel's results are the same where the arguments are real numbers. -/
module

public import proofs.«01_k».proof.Proof.MixInKernel
public import proofs.«01_k».proof.Proof.Gen.Reference3Ideal.Run
public import proofs.«01_k».proof.Defs

@[expose] public section

set_option maxRecDepth 16384

noncomputable section

namespace Cert.MixIn

open Idealize.ShloMosaic Idealize.ShloMosaic.TcCoe Idealize.SL.Sem Cert.Finite Cert.NormGrad

section Reference

open Cert.Reference3Ideal

/-- The projected gradient's row: the arriving gradient's row times the weights. -/
def dProj (a0 : S4096x5120.Idx → EReal) (a1 : S1024x5120.Idx → EReal) (r : Fin 4096) (j : Fin 1024) : EReal := ∑ k : Fin 5120, a0 (ix2 r k) * a1 (ix2 j k)

/-- The input rows' gradient by the chain rule. -/
def dRows (a0 : S4096x5120.Idx → EReal) (a1 : S1024x5120.Idx → EReal) (a2 : S4096x1024.Idx → EReal) (a3 a5 : S1024.Idx → EReal) (a6 : S4096x1024.Idx → EReal)
    (r : Fin 4096) (j : Fin 1024) : EReal :=
  dInputChain (fun k => a6 (ix2 r k)) (fun k => a2 (ix2 r k)) (dProj a0 a1 r) (fun k => a5 (ix1 k)) (fun k => a3 (ix1 k)) j

variable (m : (ℓ : Loc nD τ sig) → Buf (Elt Ideal) ℓ)

abbrev ref0 (c : Dev nD) : S4096x5120.Idx → EReal := m ((c.tc : Thread nD τ).loc main_arg0)
abbrev ref1 (c : Dev nD) : S1024x5120.Idx → EReal := m ((c.tc : Thread nD τ).loc main_arg1)
abbrev ref2 (c : Dev nD) : S4096x1024.Idx → EReal := m ((c.tc : Thread nD τ).loc main_arg2)
abbrev ref3 (c : Dev nD) : S1024.Idx → EReal := m ((c.tc : Thread nD τ).loc main_arg3)
abbrev ref4 (c : Dev nD) : S1024.Idx → EReal := m ((c.tc : Thread nD τ).loc main_arg4)
abbrev ref5 (c : Dev nD) : S1024.Idx → EReal := m ((c.tc : Thread nD τ).loc main_arg5)
abbrev ref6 (c : Dev nD) : S4096x1024.Idx → EReal := m ((c.tc : Thread nD τ).loc main_arg6)
abbrev ref7 (c : Dev nD) : S1024.Idx → EReal := m ((c.tc : Thread nD τ).loc main_arg7)
abbrev ref8 (c : Dev nD) : S4096x1024.Idx → EReal := m ((c.tc : Thread nD τ).loc main_arg8)

theorem ref_input (c : Dev nD) : Value.res_main_v57 m c = fun i : S4096x1024.Idx => dRows (ref0 m c) (ref1 m c) (ref2 m c) (ref3 m c) (ref5 m c) (ref6 m c) (i 0) (i 1) := by
  refine funext fun (i : S4096x1024.Idx) => ?_
  unfold Value.res_main_v57 ref0 ref1 ref2 ref3 ref5 ref6
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  simp only [Fin.sum_univ_one, dRows, dInputChain, dMean, dPlain, dNormed, normed, invRms, meanSq, width, eps, negHalf, dProj, half]

theorem ref_gated (c : Dev nD) : Value.res_main_v79 m c = fun i : S4096x1024.Idx => half * (ref7 m c) (ix1 (i 1)) * dRows (ref0 m c) (ref1 m c) (ref2 m c) (ref3 m c) (ref5 m c) (ref6 m c) (i 0) (i 1) := by
  refine funext fun (i : S4096x1024.Idx) => ?_
  unfold Value.res_main_v79 ref0 ref1 ref2 ref3 ref5 ref6 ref7
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  simp only [Fin.sum_univ_one, dRows, dInputChain, dMean, dPlain, dNormed, normed, invRms, meanSq, width, eps, negHalf, dProj, half]

theorem ref_sums (c : Dev nD) : Value.res_main_v78 m c = fun i : S8x1024.Idx => fourRows (m := 8) (fun j : Fin 1024 => ∑ r : Fin 4096, dProj (ref0 m c) (ref1 m c) r j)
        (fun j : Fin 1024 => ∑ r : Fin 4096, dScale (fun k => (ref2 m c) (ix2 r k)) (dProj (ref0 m c) (ref1 m c) r) (fun k => (ref3 m c) (ix1 k)) j)
        (fun j : Fin 1024 => ∑ r : Fin 4096, dWeights (fun k => (ref2 m c) (ix2 r k)) (dProj (ref0 m c) (ref1 m c) r) (fun k => (ref5 m c) (ix1 k)) j)
        (fun j : Fin 1024 => half * ∑ r : Fin 4096, dRows (ref0 m c) (ref1 m c) (ref2 m c) (ref3 m c) (ref5 m c) (ref6 m c) r j * (ref8 m c) (ix2 r j)) i := by
  refine funext fun (i : S8x1024.Idx) => ?_
  unfold Value.res_main_v78 ref0 ref1 ref2 ref3 ref5 ref6 ref8
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  have f {x : ℕ} (A B C D : EReal) : (if x < 4 then if x < 1 then A else if x - 1 < 1 then B else if x - 1 - 1 < 1 then C else D else 0)
      = if x = 0 then A else if x = 1 then B else if x = 2 then C else if x = 3 then D else 0 := by
    split_ifs <;> first | rfl | (exfalso; omega)
  refine (f _ _ _ _).trans ?_
  simp only [Fin.sum_univ_one, fourRows, dScale, dWeights, dRows, dInputChain, dMean, dPlain, dNormed, normed, invRms, meanSq, width, eps, negHalf, dProj, half]
  refine if_congr Iff.rfl rfl (if_congr Iff.rfl ?_ (if_congr Iff.rfl ?_ rfl))
  · exact Finset.sum_congr rfl fun r _ => mul_comm _ _
  · exact Finset.sum_congr rfl fun r _ => mul_comm _ _

/-- The reference ends with the input rows' gradient, its product with the gate, the sums over the rows, and its arguments as they were. -/
theorem reference_run (ρ : Dev nD → PrngReg) :
    θ_run defs (onTc (τ := τ) (main (F := Ideal))) ⟨m, fun _ => 0, ρ⟩ fun r => ∀ c : Dev nD,
      (r.2.mem ((c.tc : Thread nD τ).loc main_v57) = fun i : S4096x1024.Idx => dRows (ref0 m c) (ref1 m c) (ref2 m c) (ref3 m c) (ref5 m c) (ref6 m c) (i 0) (i 1))
      ∧ (r.2.mem ((c.tc : Thread nD τ).loc main_v79) = fun i : S4096x1024.Idx => half * (ref7 m c) (ix1 (i 1)) * dRows (ref0 m c) (ref1 m c) (ref2 m c) (ref3 m c) (ref5 m c) (ref6 m c) (i 0) (i 1))
      ∧ (r.2.mem ((c.tc : Thread nD τ).loc main_v78) = fun i : S8x1024.Idx => fourRows (m := 8) (fun j : Fin 1024 => ∑ r : Fin 4096, dProj (ref0 m c) (ref1 m c) r j)
        (fun j : Fin 1024 => ∑ r : Fin 4096, dScale (fun k => (ref2 m c) (ix2 r k)) (dProj (ref0 m c) (ref1 m c) r) (fun k => (ref3 m c) (ix1 k)) j)
        (fun j : Fin 1024 => ∑ r : Fin 4096, dWeights (fun k => (ref2 m c) (ix2 r k)) (dProj (ref0 m c) (ref1 m c) r) (fun k => (ref5 m c) (ix1 k)) j)
        (fun j : Fin 1024 => half * ∑ r : Fin 4096, dRows (ref0 m c) (ref1 m c) (ref2 m c) (ref3 m c) (ref5 m c) (ref6 m c) r j * (ref8 m c) (ix2 r j)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h⟩ := h c
    exact ⟨h0.trans (ref_input m c), h1.trans (ref_gated m c), h2.trans (ref_sums m c), h⟩) (Value.run m ρ)

end Reference

section Equation

open Cert.Kernel3Ideal

variable (m : (ℓ : Loc nD τ sig) → Buf (Elt Ideal) ℓ)

/-- The chain rule's form of the input rows' gradient is the kernel's. -/
theorem rows_forms (c : Dev nD) (r : Fin 4096) (j : Fin 1024) :
    dRows (arr0 m c) (arr1 m c) (arr2 m c) (arr3 m c) (arr5 m c) (arr6 m c) r j = dH m c r j :=
  input_forms _ _ _ _ _ j

end Equation

/-- From arguments that agree, the kernel's results are the reference's. -/
theorem algebraic : algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N,
    (θ_run _ _ _).mono (fun r h c => ?_) (Cert.Kernel3Ideal.Value.run_blocks m g),
    (θ_run _ _ _).mono (fun r h c => ?_) (reference_run m' g')⟩
  · exact h c
  · obtain ⟨h0, h1, h2, h⟩ := h c
    obtain ⟨a0, a1, a2, a3, a4, a5, a6, a7, a8⟩ := hagree c
    have b0 : ref0 m' c = arr0 m c := a0
    have b1 : ref1 m' c = arr1 m c := a1
    have b2 : ref2 m' c = arr2 m c := a2
    have b3 : ref3 m' c = arr3 m c := a3
    have b5 : ref5 m' c = arr5 m c := a5
    have b6 : ref6 m' c = arr6 m c := a6
    have b7 : ref7 m' c = arr7 m c := a7
    have b8 : ref8 m' c = arr8 m c := a8
    refine ⟨h0.trans ?_, h1.trans ?_, h2.trans ?_, h⟩
    · refine Eq.trans ?_ (kernel7 m c).symm
      rw [b0, b1, b2, b3, b5, b6]
      exact funext fun i => rows_forms m c _ _
    · refine Eq.trans ?_ (kernel8 m c).symm
      rw [b0, b1, b2, b3, b5, b6, b7]
      exact funext fun i => congrArg (_ * ·) (rows_forms m c _ _)
    · refine Eq.trans ?_ (kernel9 m c).symm
      rw [b0, b1, b2, b3, b5, b6, b8]
      refine funext fun i => ?_
      refine congrArg (fun D => fourRows (m := 8) _ _ _ D i) (funext fun j => ?_)
      refine congrArg (half * ·) (Finset.sum_congr rfl fun r _ => congrArg (· * _) (rows_forms m c r j))

end Cert.MixIn

end
-- ==== Proof.FfnUpKernel.lean ====
/- The blocks of the gradient through the norm before the feed-forward block's up projection. -/
module

public import proofs.«01_k».proof.Proof.NormGrad
public import proofs.«01_k».proof.Proof.WeightGrad
public import proofs.«01_k».proof.Proof.Gen.Kernel4Ideal.Value
public import Idealize.ShloMosaic.Lib.KernelVsHost
public import Idealize.ShloMosaic.Lib.Pipeline.ReadBack
public import Idealize.ShloMosaic.Lib.VecWindow

@[expose] public section

set_option maxRecDepth 16384

noncomputable section

namespace Cert.FfnUp

open Idealize.ShloMosaic Idealize.ShloMosaic.TcCoe Idealize.SL.Sem Cert.Kernel4Ideal Cert.Kernel4Ideal.Gen Cert.WeightGrad Cert.RowSums Cert.NormGrad

/-- A block's projected gradient: the four shards of columns added up. -/
def proj (x0 : S2x256x2816.Idx → EReal) (x1 : S4x1024x1408.Idx → EReal) (r : Fin 256) (j : Fin 1024) : EReal :=
  (∑ k : Fin 1408, x0 (ix3 0 r ⟨k.val, by omega⟩) * x1 (ix3 0 j k)) + (∑ k : Fin 1408, x0 (ix3 0 r ⟨1408 + k.val, by omega⟩) * x1 (ix3 1 j k)) + (∑ k : Fin 1408, x0 (ix3 1 r ⟨k.val, by omega⟩) * x1 (ix3 2 j k)) + (∑ k : Fin 1408, x0 (ix3 1 r ⟨1408 + k.val, by omega⟩) * x1 (ix3 3 j k))

section Points

variable (c : Dev nD) (i : grid0.Coords) (a1 : Memref sig .tc .vmem S2x256x2816 .bf16) (h1 : a1.IsWhole)
  (a2 : Memref sig .tc .vmem S4x1024x1408 .bf16) (h2 : a2.IsWhole)
  (a3 : Memref sig .tc .vmem S256x1024 .f32) (h3 : a3.IsWhole)
  (a4 : Memref sig .tc .vmem S8x1024 .f32) (h4 : a4.IsWhole)
  (a5 : Memref sig .tc .vmem S256x1024 .f32) (h5 : a5.IsWhole)
  (a6 : Memref sig .tc .vmem S8x1024 .f32) (h6 : a6.IsWhole)
  (a7 : Memref sig .tc .vmem S256x1024 .bf16) (h7 : a7.IsWhole)
  (a8 : Memref sig .tc .vmem S256x1024 .f32) (h8 : a8.IsWhole)
  (a9 : Memref sig .tc .vmem S256x1024 .bf16) (h9 : a9.IsWhole)
  (a10 : Memref sig .tc .vmem S8x1024 .f32) (h10 : a10.IsWhole)
  (x0 : Vec Ideal S2x256x2816 .bf16) (x1 : Vec Ideal S4x1024x1408 .bf16) (x2 : Vec Ideal S256x1024 .f32) (x3 : Vec Ideal S8x1024 .f32)
  (x4 : Vec Ideal S256x1024 .f32) (x5 : Vec Ideal S8x1024 .f32) (x6 : Vec Ideal S256x1024 .bf16) (xo : Vec Ideal S8x1024 .f32)

/-- The input row's gradient in a block. -/
def dIn (x0 : S2x256x2816.Idx → EReal) (x1 : S4x1024x1408.Idx → EReal) (x2 : S256x1024.Idx → EReal) (x3 : S8x1024.Idx → EReal) (x4 : S256x1024.Idx → EReal)
    (r : Fin 256) (j : Fin 1024) : EReal :=
  dInput (fun k => x4 (ix2 r k)) (fun k => x2 (ix2 r k)) (proj x0 x1 r) (fun k => x3 (ix2 1 k)) (fun k => x3 (ix2 0 k)) j

/-- Output 7 at the first point: the input rows' gradient. -/
theorem first7 (hc0 : cond0_0 i) (r : Fin 256) (j : Fin 1024) :
    out0_A_7 c i a1 h1 a2 h2 a3 h3 a4 h4 a5 h5 a6 h6 a7 h7 a8 h8 a9 h9 a10 h10 hc0 x0 x1 x2 x3 x4 x5 x6 (ix2 r j)
      = dIn x0 x1 x2 x3 x4 r j := by
  refine congrFun (?_ : _ = fun y : S256x1024.Idx => dIn x0 x1 x2 x3 x4 (y 0) (y 1)) (ix2 r j)
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, View.ld]
    show _ = dIn x0 x1 x2 x3 x4 r j
    simp only [dIn, dInput, dPlain, dNormed, normed, invRms, meanSq, width, eps, proj]

/-- Output 7 at the later points: the input rows' gradient. -/
theorem later7 (hc0 : ¬cond0_0 i) (r : Fin 256) (j : Fin 1024) :
    out0_B_7 c i a1 h1 a2 h2 a3 h3 a4 h4 a5 h5 a6 h6 a7 h7 a8 h8 a9 h9 a10 h10 hc0 x0 x1 x2 x3 x4 x5 x6 xo (ix2 r j)
      = dIn x0 x1 x2 x3 x4 r j := by
  refine congrFun (?_ : _ = fun y : S256x1024.Idx => dIn x0 x1 x2 x3 x4 (y 0) (y 1)) (ix2 r j)
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, View.ld]
    show _ = dIn x0 x1 x2 x3 x4 r j
    simp only [dIn, dInput, dPlain, dNormed, normed, invRms, meanSq, width, eps, proj]

/-- Output 8 at the first point: the gradient of the branch before, through its gate. -/
theorem first8 (hc0 : cond0_0 i) (r : Fin 256) (j : Fin 1024) :
    out0_A_8 c i a1 h1 a2 h2 a3 h3 a4 h4 a5 h5 a6 h6 a7 h7 a8 h8 a9 h9 a10 h10 hc0 x0 x1 x2 x3 x4 x5 x6 (ix2 r j)
      = x5 (ix2 3 j) * dIn x0 x1 x2 x3 x4 r j := by
  refine congrFun (?_ : _ = fun y : S256x1024.Idx => x5 (ix2 3 (y 1)) * dIn x0 x1 x2 x3 x4 (y 0) (y 1)) (ix2 r j)
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, View.ld]
    show _ = x5 (ix2 3 j) * dIn x0 x1 x2 x3 x4 r j
    simp only [dIn, dInput, dPlain, dNormed, normed, invRms, meanSq, width, eps, proj]

/-- Output 8 at the later points: the gradient of the branch before, through its gate. -/
theorem later8 (hc0 : ¬cond0_0 i) (r : Fin 256) (j : Fin 1024) :
    out0_B_8 c i a1 h1 a2 h2 a3 h3 a4 h4 a5 h5 a6 h6 a7 h7 a8 h8 a9 h9 a10 h10 hc0 x0 x1 x2 x3 x4 x5 x6 xo (ix2 r j)
      = x5 (ix2 3 j) * dIn x0 x1 x2 x3 x4 r j := by
  refine congrFun (?_ : _ = fun y : S256x1024.Idx => x5 (ix2 3 (y 1)) * dIn x0 x1 x2 x3 x4 (y 0) (y 1)) (ix2 r j)
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zero2]
  funext y
  canon_tiles x e
  all_goals
    obtain ⟨r, j, rfl⟩ : ∃ (r : Fin 256) (j : Fin 1024), x = (ix2 r j : S256x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, View.ld]
    show _ = x5 (ix2 3 j) * dIn x0 x1 x2 x3 x4 r j
    simp only [dIn, dInput, dPlain, dNormed, normed, invRms, meanSq, width, eps, proj]

/-- Output 9 at the first point, over zeros: the four sums over the block's rows. -/
theorem first9 (hc0 : cond0_0 i) (r : Fin 8) (k : Fin 1024) :
    out0_A_9 c i a1 h1 a2 h2 a3 h3 a4 h4 a5 h5 a6 h6 a7 h7 a8 h8 a9 h9 a10 h10 hc0 x0 x1 x2 x3 x4 x5 x6 (ix2 r k)
      = fourRows (m := 8) (fun j : Fin 1024 => ∑ r : Fin 256, proj x0 x1 r j)
          (fun j : Fin 1024 => ∑ r : Fin 256, dScale (fun k => x2 (ix2 r k)) (proj x0 x1 r) (fun k => x3 (ix2 0 k)) j)
          (fun j : Fin 1024 => ∑ r : Fin 256, dWeights (fun k => x2 (ix2 r k)) (proj x0 x1 r) (fun k => x3 (ix2 1 k)) j)
          (fun j : Fin 1024 => ∑ r : Fin 256, dIn x0 x1 x2 x3 x4 r j * x6 (ix2 r j)) (ix2 r k) := by
  unfold out0_A_9
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread, h10.read_unread,
    View.ld_unit_zero (S := S256x1024) zero2]
  rw [row_piece _ _ _ _ _ (fun j : Fin 1024 => ∑ r : Fin 256, dIn x0 x1 x2 x3 x4 r j * x6 (ix2 r j)) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => ∑ r : Fin 256, dWeights (fun k => x2 (ix2 r k)) (proj x0 x1 r) (fun k => x3 (ix2 1 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => ∑ r : Fin 256, dScale (fun k => x2 (ix2 r k)) (proj x0 x1 r) (fun k => x3 (ix2 0 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => ∑ r : Fin 256, proj x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [View.read_writes_full (s := S8x1024), show k0_pay2 (F := Ideal) (ix2 r k) = 0 by pointwise [k0_pay2]]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)
    | (obtain rfl : r = 2 := Fin.ext (by show r.val = 2; omega); rfl)
    | (obtain rfl : r = 3 := Fin.ext (by show r.val = 3; omega); rfl)

/-- Output 9 at the later points, over what was there: the four sums over the block's rows. -/
theorem later9 (hc0 : ¬cond0_0 i) (r : Fin 8) (k : Fin 1024) :
    out0_B_9 c i a1 h1 a2 h2 a3 h3 a4 h4 a5 h5 a6 h6 a7 h7 a8 h8 a9 h9 a10 h10 hc0 x0 x1 x2 x3 x4 x5 x6 xo (ix2 r k)
      = xo (ix2 r k) + fourRows (m := 8) (fun j : Fin 1024 => ∑ r : Fin 256, proj x0 x1 r j)
          (fun j : Fin 1024 => ∑ r : Fin 256, dScale (fun k => x2 (ix2 r k)) (proj x0 x1 r) (fun k => x3 (ix2 0 k)) j)
          (fun j : Fin 1024 => ∑ r : Fin 256, dWeights (fun k => x2 (ix2 r k)) (proj x0 x1 r) (fun k => x3 (ix2 1 k)) j)
          (fun j : Fin 1024 => ∑ r : Fin 256, dIn x0 x1 x2 x3 x4 r j * x6 (ix2 r j)) (ix2 r k) := by
  unfold out0_B_9
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h7.read_unread, h10.read_unread,
    View.ld_unit_zero (S := S256x1024) zero2]
  rw [row_piece _ _ _ _ _ (fun j : Fin 1024 => xo (ix2 3 j) + ∑ r : Fin 256, dIn x0 x1 x2 x3 x4 r j * x6 (ix2 r j)) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => xo (ix2 2 j) + ∑ r : Fin 256, dWeights (fun k => x2 (ix2 r k)) (proj x0 x1 r) (fun k => x3 (ix2 1 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => xo (ix2 1 j) + ∑ r : Fin 256, dScale (fun k => x2 (ix2 r k)) (proj x0 x1 r) (fun k => x3 (ix2 0 k)) j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [row_piece _ _ _ _ _ (fun j : Fin 1024 => xo (ix2 0 j) + ∑ r : Fin 256, proj x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, View.ld]
    simp only [dScale, dWeights, dIn, dInput, dPlain, dNormed, normed, invRms, meanSq, width, eps, proj])]
  rw [View.writes_nil, h10.read_unread]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)
    | (obtain rfl : r = 2 := Fin.ext (by show r.val = 2; omega); rfl)
    | (obtain rfl : r = 3 := Fin.ext (by show r.val = 3; omega); rfl)

end Points

variable (m : (ℓ : Loc nD τ sig) → Buf (Elt Ideal) ℓ)

theorem lt_points (t : Fin cfg0.N) : t.val < 16 := t.isLt

abbrev arr0 (c : Dev nD) : S4096x5632.Idx → EReal := m ((c.tc : Thread nD τ).loc main_arg0)
abbrev arr1 (c : Dev nD) : S1024x5632.Idx → EReal := m ((c.tc : Thread nD τ).loc main_arg1)
abbrev arr2 (c : Dev nD) : S4096x1024.Idx → EReal := m ((c.tc : Thread nD τ).loc main_arg2)
abbrev arr3 (c : Dev nD) : S1024.Idx → EReal := m ((c.tc : Thread nD τ).loc main_arg3)
abbrev arr4 (c : Dev nD) : S1024.Idx → EReal := m ((c.tc : Thread nD τ).loc main_arg4)
abbrev arr5 (c : Dev nD) : S1024.Idx → EReal := m ((c.tc : Thread nD τ).loc main_arg5)
abbrev arr6 (c : Dev nD) : S4096x1024.Idx → EReal := m ((c.tc : Thread nD τ).loc main_arg6)
abbrev arr7 (c : Dev nD) : S1024.Idx → EReal := m ((c.tc : Thread nD τ).loc main_arg7)
abbrev arr8 (c : Dev nD) : S4096x1024.Idx → EReal := m ((c.tc : Thread nD τ).loc main_arg8)

/-- The gradient cut into its two halves of columns. -/
theorem halves (c : Dev nD) (p : Fin 2) (r : Fin 4096) (k : Fin 2816) :
    (V m c main_v16 : S2x4096x2816.Idx → EReal) (ix3 p r k) = arr0 m c (ix2 r ⟨p.val * 2816 + k.val, by omega⟩) := by
  have h : V m c main_v16 = transpose S2x4096x2816 [1, 0, 2] (shapeCast S4096x2x2816 (arr0 m c) shapeCasts_S4096x5632_S4096x2x2816)
      transposes_S4096x2x2816_S2x4096x2816_1_0_2 := by
    after_results <;> rfl
  refine (congrFun h _).trans ?_
  pointwise

/-- The weights cut into four shards of columns. -/
theorem shards (c : Dev nD) (q : Fin 4) (j : Fin 1024) (k : Fin 1408) :
    (V m c main_v18 : S4x1024x1408.Idx → EReal) (ix3 q j k) = arr1 m c (ix2 j ⟨q.val * 1408 + k.val, by omega⟩) := by
  have h : V m c main_v18 = transpose S4x1024x1408 [1, 0, 2] (shapeCast S1024x4x1408 (arr1 m c) shapeCasts_S1024x5632_S1024x4x1408)
      transposes_S1024x4x1408_S4x1024x1408_1_0_2 := by
    after_results <;> rfl
  refine (congrFun h _).trans ?_
  pointwise

/-- A row of zeros. -/
def zeroRow : S1x1024.Idx → EReal := broadcastInDim S1x1024 ![1] bcast_S1024_S1x1024_1 (broadcastInDim S1024 ![] bcast_S_S1024 (constant (F := Ideal) S_ .f32 0x00000000#32))

/-- The norm's vectors, one to a row. -/
theorem packed (c : Dev nD) :
    V m c main_v7 = concatenate S8x1024 0 [⟨S4x1024, concatenate S4x1024 0 [⟨S1x1024, broadcastInDim S1x1024 ![1] bcast_S1024_S1x1024_1 (arr3 m c)⟩,
      ⟨S1x1024, broadcastInDim S1x1024 ![1] bcast_S1024_S1x1024_1 (arr5 m c)⟩, ⟨S1x1024, broadcastInDim S1x1024 ![1] bcast_S1024_S1x1024_1 (arr4 m c)⟩,
      ⟨S1x1024, zeroRow⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem packed_weights (c : Dev nD) (j : Fin 1024) : (V m c main_v7 : S8x1024.Idx → EReal) (ix2 0 j) = arr3 m c (ix1 j) := by
  refine (congrFun (packed m c) _).trans ?_
  pointwise

theorem packed_scale (c : Dev nD) (j : Fin 1024) : (V m c main_v7 : S8x1024.Idx → EReal) (ix2 1 j) = arr5 m c (ix1 j) := by
  refine (congrFun (packed m c) _).trans ?_
  pointwise

/-- The gate of the branch before, in the fourth row. -/
theorem packedGate (c : Dev nD) :
    V m c main_v14 = concatenate S8x1024 0 [⟨S4x1024, concatenate S4x1024 0 [⟨S1x1024, zeroRow⟩, ⟨S1x1024, zeroRow⟩, ⟨S1x1024, zeroRow⟩,
      ⟨S1x1024, broadcastInDim S1x1024 ![1] bcast_S1024_S1x1024_1 (arr7 m c)⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem packed_gate (c : Dev nD) (j : Fin 1024) : (V m c main_v14 : S8x1024.Idx → EReal) (ix2 3 j) = arr7 m c (ix1 j) := by
  refine (congrFun (packedGate m c) _).trans ?_
  pointwise

theorem index0 : ∀ t : Fin grid0.N, win0_0.index t = ![0, t.val, 0] := by decide +kernel
theorem read0 (c : Dev nD) (t : Fin cfg0.N) (p : Fin 2) (r : Fin 256) (k : Fin 2816) :
    iblk m c 0 t (ix3 p r k : S2x256x2816.Idx) = arr0 m c (ix2 ⟨t.val * 256 + r.val, by have := lt_points t; omega⟩ ⟨p.val * 2816 + k.val, by omega⟩) := by
  have e : iblk m c 0 t (ix3 p r k : S2x256x2816.Idx) = V m c main_v16 (ix3 p ⟨t.val * 256 + r.val, by have := lt_points t; omega⟩ k : S2x4096x2816.Idx) := by
    blk_ext [iblk, index0 t]
  exact e.trans (halves m c p _ k)

theorem index1 : ∀ t : Fin grid0.N, win0_1.index t = ![0, 0, 0] := by decide +kernel
theorem read1 (c : Dev nD) (t : Fin cfg0.N) (q : Fin 4) (j : Fin 1024) (k : Fin 1408) :
    iblk m c 1 t (ix3 q j k : S4x1024x1408.Idx) = arr1 m c (ix2 j ⟨q.val * 1408 + k.val, by omega⟩) := by
  have e : iblk m c 1 t (ix3 q j k : S4x1024x1408.Idx) = V m c main_v18 (ix3 q j k : S4x1024x1408.Idx) := by
    blk_ext [iblk, index1 t]
  exact e.trans (shards m c q j k)

theorem index2 : ∀ t : Fin grid0.N, win0_2.index t = ![t.val, 0] := by decide +kernel
theorem read2 (c : Dev nD) (t : Fin cfg0.N) (r : Fin 256) (j : Fin 1024) :
    iblk m c 2 t (ix2 r j : S256x1024.Idx) = arr2 m c (ix2 ⟨t.val * 256 + r.val, by have := lt_points t; omega⟩ j) := by
  blk_ext [iblk, V, index2 t]

theorem index4 : ∀ t : Fin grid0.N, win0_4.index t = ![t.val, 0] := by decide +kernel
theorem read4 (c : Dev nD) (t : Fin cfg0.N) (r : Fin 256) (j : Fin 1024) :
    iblk m c 4 t (ix2 r j : S256x1024.Idx) = arr6 m c (ix2 ⟨t.val * 256 + r.val, by have := lt_points t; omega⟩ j) := by
  blk_ext [iblk, V, index4 t]

theorem index6 : ∀ t : Fin grid0.N, win0_6.index t = ![t.val, 0] := by decide +kernel
theorem read6 (c : Dev nD) (t : Fin cfg0.N) (r : Fin 256) (j : Fin 1024) :
    iblk m c 6 t (ix2 r j : S256x1024.Idx) = arr8 m c (ix2 ⟨t.val * 256 + r.val, by have := lt_points t; omega⟩ j) := by
  blk_ext [iblk, V, index6 t]

theorem index3 : ∀ t : Fin grid0.N, win0_3.index t = ![0, 0] := by decide +kernel
theorem read3 (c : Dev nD) (t : Fin cfg0.N) (p : Fin 8) (j : Fin 1024) :
    iblk m c 3 t (ix2 p j : S8x1024.Idx) = V m c main_v7 (ix2 p j : S8x1024.Idx) := by
  blk_ext [iblk, index3 t]

theorem read_weights (c : Dev nD) (t : Fin cfg0.N) (j : Fin 1024) : iblk m c 3 t (ix2 0 j : S8x1024.Idx) = arr3 m c (ix1 j) :=
  (read3 m c t 0 j).trans (packed_weights m c j)

theorem read_scale (c : Dev nD) (t : Fin cfg0.N) (j : Fin 1024) : iblk m c 3 t (ix2 1 j : S8x1024.Idx) = arr5 m c (ix1 j) :=
  (read3 m c t 1 j).trans (packed_scale m c j)

theorem index5 : ∀ t : Fin grid0.N, win0_5.index t = ![0, 0] := by decide +kernel
theorem read_gate (c : Dev nD) (t : Fin cfg0.N) (j : Fin 1024) : iblk m c 5 t (ix2 3 j : S8x1024.Idx) = arr7 m c (ix1 j) := by
  have e : iblk m c 5 t (ix2 3 j : S8x1024.Idx) = V m c main_v14 (ix2 3 j : S8x1024.Idx) := by
    blk_ext [iblk, index5 t]
  exact e.trans (packed_gate m c j)

/-- The projected gradient's row: the arriving gradient's row times the weights. -/
def P (c : Dev nD) (r : Fin 4096) (j : Fin 1024) : EReal := ∑ k : Fin 5632, arr0 m c (ix2 r k) * arr1 m c (ix2 j k)

/-- The input rows' gradient. -/
def dH (c : Dev nD) (r : Fin 4096) (j : Fin 1024) : EReal :=
  dInput (fun k => arr6 m c (ix2 r k)) (fun k => arr2 m c (ix2 r k)) (P m c r) (fun k => arr5 m c (ix1 k)) (fun k => arr3 m c (ix1 k)) j

/-- The row's parts of the scale's and of the norm weights' gradient. -/
def dS (c : Dev nD) (r : Fin 4096) (j : Fin 1024) : EReal := dScale (fun k => arr2 m c (ix2 r k)) (P m c r) (fun k => arr3 m c (ix1 k)) j
def dW (c : Dev nD) (r : Fin 4096) (j : Fin 1024) : EReal := dWeights (fun k => arr2 m c (ix2 r k)) (P m c r) (fun k => arr5 m c (ix1 k)) j

theorem proj_at (c : Dev nD) (t : Fin cfg0.N) (r : Fin 256) : proj (iblk m c 0 t) (iblk m c 1 t) r = P m c ⟨t.val * 256 + r.val, by have := lt_points t; omega⟩ := by
  funext j
  unfold proj P
  rw [← sum_shards (n := 1408) (N := 5632) (by norm_num)]
  refine congrArg₂ (· + ·) (congrArg₂ (· + ·) (congrArg₂ (· + ·) ?_ ?_) ?_) ?_ <;> refine Finset.sum_congr rfl fun k _ => ?_
  all_goals
    rw [read0, read1]
    refine congrArg₂ (· * ·) (congrArg _ (congrArg (ix2 _) (Fin.ext ?_))) rfl
    simp
    try omega

theorem dIn_at (c : Dev nD) (t : Fin cfg0.N) (r : Fin 256) (j : Fin 1024) :
    dIn (iblk m c 0 t) (iblk m c 1 t) (iblk m c 2 t) (iblk m c 3 t) (iblk m c 4 t) r j = dH m c ⟨t.val * 256 + r.val, by have := lt_points t; omega⟩ j := by
  unfold dIn dH
  rw [proj_at]
  simp only [read2, read4, read_weights, read_scale]

theorem index7 : ∀ t : Fin grid0.N, win0_7.index t = ![t.val, 0] := by decide +kernel

/-- Output 7 after any point. -/
theorem out_at7 (c : Dev nD) (t : Fin cfg0.N) (r : Fin 256) (j : Fin 1024) :
    (dats m 0 c).after 7 t (ix2 r j : S256x1024.Idx) = dH m c ⟨t.val * 256 + r.val, by have := lt_points t; omega⟩ j := by
  rw [after0_7]
  by_cases h : t.val % 16 = 0
  · rw [outsAt0_A m c t h]
    dsimp only
    rw [first7, dIn_at]
  · rw [outsAt0_B m c t h]
    dsimp only
    rw [later7, dIn_at]

/-- Result: the input rows' gradient, at every row and column. -/
theorem kernel7 (c : Dev nD) :
    (dats m 0 c).arrAt 7 cfg0.N = fun i : S4096x1024.Idx => dH m c (i 0) (i 1) := by
  refine (dats m 0 c).arrAt_eq_of_covers 7 _ (by decide +kernel) fun t hf y => ?_
  obtain ⟨r, j, rfl⟩ : ∃ (r : Fin 256) (j : Fin 1024), y = (ix2 r j : S256x1024.Idx) := ⟨_, _, eq_ix2 y⟩
  have e : ((cfg0.win 7).blk t).view.emb (ix2 r j : S256x1024.Idx) = (ix2 ⟨t.val * 256 + r.val, by have := lt_points t; omega⟩ j : S4096x1024.Idx) := by
    blk_ext [index7 t]
  rw [e]
  blk_simp
  exact out_at7 m c t r j

theorem index8 : ∀ t : Fin grid0.N, win0_8.index t = ![t.val, 0] := by decide +kernel

/-- Output 8 after any point. -/
theorem out_at8 (c : Dev nD) (t : Fin cfg0.N) (r : Fin 256) (j : Fin 1024) :
    (dats m 0 c).after 8 t (ix2 r j : S256x1024.Idx) = arr7 m c (ix1 j) * dH m c ⟨t.val * 256 + r.val, by have := lt_points t; omega⟩ j := by
  rw [after0_8]
  by_cases h : t.val % 16 = 0
  · rw [outsAt0_A m c t h]
    dsimp only
    rw [first8, dIn_at, read_gate]
  · rw [outsAt0_B m c t h]
    dsimp only
    rw [later8, dIn_at, read_gate]

/-- Result: the gradient of the branch before, through its gate, at every row and column. -/
theorem kernel8 (c : Dev nD) :
    (dats m 0 c).arrAt 8 cfg0.N = fun i : S4096x1024.Idx => arr7 m c (ix1 (i 1)) * dH m c (i 0) (i 1) := by
  refine (dats m 0 c).arrAt_eq_of_covers 8 _ (by decide +kernel) fun t hf y => ?_
  obtain ⟨r, j, rfl⟩ : ∃ (r : Fin 256) (j : Fin 1024), y = (ix2 r j : S256x1024.Idx) := ⟨_, _, eq_ix2 y⟩
  have e : ((cfg0.win 8).blk t).view.emb (ix2 r j : S256x1024.Idx) = (ix2 ⟨t.val * 256 + r.val, by have := lt_points t; omega⟩ j : S4096x1024.Idx) := by
    blk_ext [index8 t]
  rw [e]
  blk_simp
  exact out_at8 m c t r j

/-- Output 9 after point `n`: the sums over the blocks up to it. -/
theorem out_at9 (c : Dev nD) (r : Fin 8) (k : Fin 1024) : ∀ (n : ℕ) (hn : n < 16), (outsAt0 m c n hn).2.2 (ix2 r k : S8x1024.Idx)
    = fourRows (m := 8) (fun j : Fin 1024 => ∑ s : Fin (n + 1), ∑ r : Fin 256, P m c ⟨s.val * 256 + r.val, by omega⟩ j)
        (fun j : Fin 1024 => ∑ s : Fin (n + 1), ∑ r : Fin 256, dS m c ⟨s.val * 256 + r.val, by omega⟩ j)
        (fun j : Fin 1024 => ∑ s : Fin (n + 1), ∑ r : Fin 256, dW m c ⟨s.val * 256 + r.val, by omega⟩ j)
        (fun j : Fin 1024 => ∑ s : Fin (n + 1), ∑ r : Fin 256, dH m c ⟨s.val * 256 + r.val, by omega⟩ j * arr8 m c (ix2 ⟨s.val * 256 + r.val, by omega⟩ j)) (ix2 r k)
  | 0, hn => by
    have h := outsAt0_A m c ⟨0, hn⟩ rfl
    dsimp only at h
    rw [h]
    dsimp only
    rw [first9]
    show _ = fourRows (m := 8) (fun j : Fin 1024 => ∑ s : Fin (1), ∑ r : Fin 256, P m c ⟨s.val * 256 + r.val, by omega⟩ j)
        (fun j : Fin 1024 => ∑ s : Fin (1), ∑ r : Fin 256, dS m c ⟨s.val * 256 + r.val, by omega⟩ j)
        (fun j : Fin 1024 => ∑ s : Fin (1), ∑ r : Fin 256, dW m c ⟨s.val * 256 + r.val, by omega⟩ j)
        (fun j : Fin 1024 => ∑ s : Fin (1), ∑ r : Fin 256, dH m c ⟨s.val * 256 + r.val, by omega⟩ j * arr8 m c (ix2 ⟨s.val * 256 + r.val, by omega⟩ j)) (ix2 r k)
    simp only [proj_at, dIn_at, dS, dW, read2, read_weights, read_scale, read6, Fin.sum_univ_one, Fin.val_zero]
  | n + 1, hn => by
    have h := outsAt0_B m c ⟨n + 1, hn⟩ (by show ¬(n + 1) % 16 = 0; omega)
    dsimp only at h
    rw [h]
    dsimp only
    rw [later9]
    have ih := out_at9 c r k n (by omega)
    simp only [Nat.add_sub_cancel]
    rw [ih, fourRows_add]
    simp only [proj_at, dIn_at, dS, dW, read2, read_weights, read_scale, read6, Fin.sum_univ_castSucc (n := n + 1), Fin.val_castSucc, Fin.val_last]

theorem index9 : ∀ t : Fin grid0.N, win0_9.index t = ![0, 0] := by decide +kernel

/-- Result: the sums over all rows, the gradients of the shift, the scale, the norm's weights and the gate. -/
theorem kernel9 (c : Dev nD) :
    (dats m 0 c).arrAt 9 cfg0.N = (fun i : S8x1024.Idx => fourRows (m := 8) (fun j : Fin 1024 => ∑ r : Fin 4096, P m c r j)
      (fun j : Fin 1024 => ∑ r : Fin 4096, dS m c r j)
      (fun j : Fin 1024 => ∑ r : Fin 4096, dW m c r j)
      (fun j : Fin 1024 => ∑ r : Fin 4096, dH m c r j * arr8 m c (ix2 r j)) i) := by
  refine (dats m 0 c).arrAt_eq_of_covers 9 _ (by decide +kernel) fun t hf y => ?_
  have hp := (flush0_9 t).mp hf
  obtain ⟨r, j, rfl⟩ : ∃ (r : Fin 8) (j : Fin 1024), y = (ix2 r j : S8x1024.Idx) := ⟨_, _, eq_ix2 y⟩
  have e : ((cfg0.win 9).blk t).view.emb (ix2 r j : S8x1024.Idx) = (ix2 r j : S8x1024.Idx) := by
    blk_ext [index9 t]
  rw [e]
  blk_simp
  rw [after0_9]
  have ht : t = ⟨15, by decide⟩ := Fin.ext (by have := lt_points t; show t.val = 15; omega)
  subst ht
  refine (out_at9 m c r j 15 (by decide)).trans ?_
  have hA (j : Fin 1024) := sum_blocks (b := 16) (n := 256) (N := 4096) (by norm_num) (fun r => P m c r j)
  have hB (j : Fin 1024) := sum_blocks (b := 16) (n := 256) (N := 4096) (by norm_num) (fun r => dS m c r j)
  have hC (j : Fin 1024) := sum_blocks (b := 16) (n := 256) (N := 4096) (by norm_num) (fun r => dW m c r j)
  have hD (j : Fin 1024) := sum_blocks (b := 16) (n := 256) (N := 4096) (by norm_num) (fun r => dH m c r j * arr8 m c (ix2 r j))
  simp only [← hA, ← hB, ← hC, ← hD]

end Cert.FfnUp

end
-- ==== Proof.FfnUp.lean ====
/- The reference of the gradient through the norm before the feed-forward block's up projection, and that the kernel's results are the same where the arguments are real numbers. -/
module

public import proofs.«01_k».proof.Proof.FfnUpKernel
public import proofs.«01_k».proof.Proof.Gen.Reference4Ideal.Run
public import proofs.«01_k».proof.Defs

@[expose] public section

set_option maxRecDepth 16384

noncomputable section

namespace Cert.FfnUp

open Idealize.ShloMosaic Idealize.ShloMosaic.TcCoe Idealize.SL.Sem Cert.Finite Cert.NormGrad

section Reference

open Cert.Reference4Ideal

/-- The projected gradient's row: the arriving gradient's row times the weights. -/
def dProj (a0 : S4096x5632.Idx → EReal) (a1 : S1024x5632.Idx → EReal) (r : Fin 4096) (j : Fin 1024) : EReal := ∑ k : Fin 5632, a0 (ix2 r k) * a1 (ix2 j k)

/-- The input rows' gradient by the chain rule. -/
def dRows (a0 : S4096x5632.Idx → EReal) (a1 : S1024x5632.Idx → EReal) (a2 : S4096x1024.Idx → EReal) (a3 a5 : S1024.Idx → EReal) (a6 : S4096x1024.Idx → EReal)
    (r : Fin 4096) (j : Fin 1024) : EReal :=
  dInputChain (fun k => a6 (ix2 r k)) (fun k => a2 (ix2 r k)) (dProj a0 a1 r) (fun k => a5 (ix1 k)) (fun k => a3 (ix1 k)) j

variable (m : (ℓ : Loc nD τ sig) → Buf (Elt Ideal) ℓ)

abbrev ref0 (c : Dev nD) : S4096x5632.Idx → EReal := m ((c.tc : Thread nD τ).loc main_arg0)
abbrev ref1 (c : Dev nD) : S1024x5632.Idx → EReal := m ((c.tc : Thread nD τ).loc main_arg1)
abbrev ref2 (c : Dev nD) : S4096x1024.Idx → EReal := m ((c.tc : Thread nD τ).loc main_arg2)
abbrev ref3 (c : Dev nD) : S1024.Idx → EReal := m ((c.tc : Thread nD τ).loc main_arg3)
abbrev ref4 (c : Dev nD) : S1024.Idx → EReal := m ((c.tc : Thread nD τ).loc main_arg4)
abbrev ref5 (c : Dev nD) : S1024.Idx → EReal := m ((c.tc : Thread nD τ).loc main_arg5)
abbrev ref6 (c : Dev nD) : S4096x1024.Idx → EReal := m ((c.tc : Thread nD τ).loc main_arg6)
abbrev ref7 (c : Dev nD) : S1024.Idx → EReal := m ((c.tc : Thread nD τ).loc main_arg7)
abbrev ref8 (c : Dev nD) : S4096x1024.Idx → EReal := m ((c.tc : Thread nD τ).loc main_arg8)

theorem ref_input (c : Dev nD) : Value.res_main_v57 m c = fun i : S4096x1024.Idx => dRows (ref0 m c) (ref1 m c) (ref2 m c) (ref3 m c) (ref5 m c) (ref6 m c) (i 0) (i 1) := by
  refine funext fun (i : S4096x1024.Idx) => ?_
  unfold Value.res_main_v57 ref0 ref1 ref2 ref3 ref5 ref6
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  simp only [Fin.sum_univ_one, dRows, dInputChain, dMean, dPlain, dNormed, normed, invRms, meanSq, width, eps, negHalf, dProj]

theorem ref_gated (c : Dev nD) : Value.res_main_v79 m c = fun i : S4096x1024.Idx => (ref7 m c) (ix1 (i 1)) * dRows (ref0 m c) (ref1 m c) (ref2 m c) (ref3 m c) (ref5 m c) (ref6 m c) (i 0) (i 1) := by
  refine funext fun (i : S4096x1024.Idx) => ?_
  unfold Value.res_main_v79 ref0 ref1 ref2 ref3 ref5 ref6 ref7
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  simp only [Fin.sum_univ_one, dRows, dInputChain, dMean, dPlain, dNormed, normed, invRms, meanSq, width, eps, negHalf, dProj]

theorem ref_sums (c : Dev nD) : Value.res_main_v78 m c = fun i : S8x1024.Idx => fourRows (m := 8) (fun j : Fin 1024 => ∑ r : Fin 4096, dProj (ref0 m c) (ref1 m c) r j)
        (fun j : Fin 1024 => ∑ r : Fin 4096, dScale (fun k => (ref2 m c) (ix2 r k)) (dProj (ref0 m c) (ref1 m c) r) (fun k => (ref3 m c) (ix1 k)) j)
        (fun j : Fin 1024 => ∑ r : Fin 4096, dWeights (fun k => (ref2 m c) (ix2 r k)) (dProj (ref0 m c) (ref1 m c) r) (fun k => (ref5 m c) (ix1 k)) j)
        (fun j : Fin 1024 => ∑ r : Fin 4096, dRows (ref0 m c) (ref1 m c) (ref2 m c) (ref3 m c) (ref5 m c) (ref6 m c) r j * (ref8 m c) (ix2 r j)) i := by
  refine funext fun (i : S8x1024.Idx) => ?_
  unfold Value.res_main_v78 ref0 ref1 ref2 ref3 ref5 ref6 ref8
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  generalize (m ((c.tc : Thread nD τ).loc main_arg6)) = a6
  generalize (m ((c.tc : Thread nD τ).loc main_arg7)) = a7
  generalize (m ((c.tc : Thread nD τ).loc main_arg8)) = a8
  obtain ⟨r, j, rfl⟩ : ∃ r j, i = ix2 r j := ⟨i 0, i 1, eq_ix2 i⟩
  pointwise
  have f {x : ℕ} (A B C D : EReal) : (if x < 4 then if x < 1 then A else if x - 1 < 1 then B else if x - 1 - 1 < 1 then C else D else 0)
      = if x = 0 then A else if x = 1 then B else if x = 2 then C else if x = 3 then D else 0 := by
    split_ifs <;> first | rfl | (exfalso; omega)
  refine (f _ _ _ _).trans ?_
  simp only [Fin.sum_univ_one, fourRows, dScale, dWeights, dRows, dInputChain, dMean, dPlain, dNormed, normed, invRms, meanSq, width, eps, negHalf, dProj]
  refine if_congr Iff.rfl rfl (if_congr Iff.rfl ?_ (if_congr Iff.rfl ?_ rfl))
  · exact Finset.sum_congr rfl fun r _ => mul_comm _ _
  · exact Finset.sum_congr rfl fun r _ => mul_comm _ _

/-- The reference ends with the input rows' gradient, its product with the gate, the sums over the rows, and its arguments as they were. -/
theorem reference_run (ρ : Dev nD → PrngReg) :
    θ_run defs (onTc (τ := τ) (main (F := Ideal))) ⟨m, fun _ => 0, ρ⟩ fun r => ∀ c : Dev nD,
      (r.2.mem ((c.tc : Thread nD τ).loc main_v57) = fun i : S4096x1024.Idx => dRows (ref0 m c) (ref1 m c) (ref2 m c) (ref3 m c) (ref5 m c) (ref6 m c) (i 0) (i 1))
      ∧ (r.2.mem ((c.tc : Thread nD τ).loc main_v79) = fun i : S4096x1024.Idx => (ref7 m c) (ix1 (i 1)) * dRows (ref0 m c) (ref1 m c) (ref2 m c) (ref3 m c) (ref5 m c) (ref6 m c) (i 0) (i 1))
      ∧ (r.2.mem ((c.tc : Thread nD τ).loc main_v78) = fun i : S8x1024.Idx => fourRows (m := 8) (fun j : Fin 1024 => ∑ r : Fin 4096, dProj (ref0 m c) (ref1 m c) r j)
        (fun j : Fin 1024 => ∑ r : Fin 4096, dScale (fun k => (ref2 m c) (ix2 r k)) (dProj (ref0 m c) (ref1 m c) r) (fun k => (ref3 m c) (ix1 k)) j)
        (fun j : Fin 1024 => ∑ r : Fin 4096, dWeights (fun k => (ref2 m c) (ix2 r k)) (dProj (ref0 m c) (ref1 m c) r) (fun k => (ref5 m c) (ix1 k)) j)
        (fun j : Fin 1024 => ∑ r : Fin 4096, dRows (ref0 m c) (ref1 m c) (ref2 m c) (ref3 m c) (ref5 m c) (ref6 m c) r j * (ref8 m c) (ix2 r j)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h⟩ := h c
    exact ⟨h0.trans (ref_input m c), h1.trans (ref_gated m c), h2.trans (ref_sums m c), h⟩) (Value.run m ρ)

end Reference

section Equation

open Cert.Kernel4Ideal

variable (m : (ℓ : Loc nD τ sig) → Buf (Elt Ideal) ℓ)

/-- The chain rule's form of the input rows' gradient is the kernel's. -/
theorem rows_forms (c : Dev nD) (r : Fin 4096) (j : Fin 1024) :
    dRows (arr0 m c) (arr1 m c) (arr2 m c) (arr3 m c) (arr5 m c) (arr6 m c) r j = dH m c r j :=
  input_forms _ _ _ _ _ j

end Equation

/-- From arguments that agree, the kernel's results are the reference's. -/
theorem algebraic : algebraic_Kernel4Ideal_Reference4Ideal (hKernel4Ideal := Cert.Kernel4Ideal.Gen.facts) (hReference4Ideal := Cert.Reference4Ideal.Gen.facts) := by
  intro m g m' g' _ hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 9 Cert.Kernel4Ideal.cfg0.N,
    (θ_run _ _ _).mono (fun r h c => ?_) (Cert.Kernel4Ideal.Value.run_blocks m g),
    (θ_run _ _ _).mono (fun r h c => ?_) (reference_run m' g')⟩
  · exact h c
  · obtain ⟨h0, h1, h2, h⟩ := h c
    obtain ⟨a0, a1, a2, a3, a4, a5, a6, a7, a8⟩ := hagree c
    have b0 : ref0 m' c = arr0 m c := a0
    have b1 : ref1 m' c = arr1 m c := a1
    have b2 : ref2 m' c = arr2 m c := a2
    have b3 : ref3 m' c = arr3 m c := a3
    have b5 : ref5 m' c = arr5 m c := a5
    have b6 : ref6 m' c = arr6 m c := a6
    have b7 : ref7 m' c = arr7 m c := a7
    have b8 : ref8 m' c = arr8 m c := a8
    refine ⟨h0.trans ?_, h1.trans ?_, h2.trans ?_, h⟩
    · refine Eq.trans ?_ (kernel7 m c).symm
      rw [b0, b1, b2, b3, b5, b6]
      exact funext fun i => rows_forms m c _ _
    · refine Eq.trans ?_ (kernel8 m c).symm
      rw [b0, b1, b2, b3, b5, b6, b7]
      exact funext fun i => congrArg (_ * ·) (rows_forms m c _ _)
    · refine Eq.trans ?_ (kernel9 m c).symm
      rw [b0, b1, b2, b3, b5, b6, b8]
      refine funext fun i => ?_
      refine congrArg (fun D => fourRows (m := 8) _ _ _ D i) (funext fun j => ?_)
      refine Finset.sum_congr rfl fun r _ => congrArg (· * _) (rows_forms m c r j)

end Cert.FfnUp

end
-- ==== Proof.GateUp.lean ====
/- The feed-forward's gate and up projection: both products with the input rows, and the gate's SiLU times the other. -/
module

public import Idealize.ShloMosaic.Lib.KernelVsHost
public import proofs.«01_k».proof.Proof.FfnDownKernel
public import proofs.«01_k».proof.Proof.RowSums
public import proofs.«01_k».proof.Proof.Gen.Kernel12Ideal.Value
public import proofs.«01_k».proof.Proof.Gen.Reference12Ideal.Run
public import proofs.«01_k».proof.Defs

@[expose] public section

set_option maxRecDepth 16384

noncomputable section

namespace Cert.GateUp

open Idealize.ShloMosaic Idealize.ShloMosaic.TcCoe Idealize.SL.Sem Cert.FfnDown Cert.RowSums

section Kernel

open Cert.Kernel12Ideal Cert.Kernel12Ideal.Gen

/-- The two products: the gate's columns are the first half of the weights', the other factor's the second. -/
def gateUp (u : S4096x1024.Idx → EReal) (w : S1024x5632.Idx → EReal) (i : S2x4096x2816.Idx) : EReal :=
  ∑ k : Fin 1024, u (ix2 (i 1) k) * w (ix2 k ⟨(i 0).val * 2816 + (i 2).val, by have h0 : (i 0).val < 2 := (i 0).isLt; have h2 : (i 2).val < 2816 := (i 2).isLt; omega⟩)

/-- SiLU of the gate times the other factor. -/
def gated (g up : EReal) : EReal := g * sigmoid g * up

/-- The hidden rows. -/
def hidden (u : S4096x1024.Idx → EReal) (w : S1024x5632.Idx → EReal) (i : S4096x2816.Idx) : EReal :=
  gated (gateUp u w (ix3 0 (i 0) (i 1))) (gateUp u w (ix3 1 (i 0) (i 1)))

/-- A block of the two products. -/
theorem pair_apply (x0 : S512x1024.Idx → EReal) (x1 x2 : S1x1024x1408.Idx → EReal) (p : Fin 2) (r : Fin 512) (j : Fin 1408) :
    out0_3 (F := Ideal) x0 x1 x2 (ix3 p r j)
      = if p.val = 0 then ∑ k : Fin 1024, x0 (ix2 r k) * x1 (ix3 0 k j) else ∑ k : Fin 1024, x0 (ix2 r k) * x2 (ix3 0 k j) := by
  refine congrFun (?_ : _ = fun y : S2x512x1408.Idx =>
    if (y 0).val = 0 then ∑ k : Fin 1024, x0 (ix2 (y 1) k) * x1 (ix3 0 k (y 2)) else ∑ k : Fin 1024, x0 (ix2 (y 1) k) * x2 (ix3 0 k (y 2))) (ix3 p r j)
  funext y
  unfold out0_3
  canon_tiles x e
  · pointwise [k0_pay1, k0_pay2, k0_pay3, k0_pay4, View.ld]
    rw [idx_eq3 y 1 (x 1) (x 2) (by omega) e1 e2]
    rfl
  · pointwise [k0_pay1, k0_pay2, k0_pay3, k0_pay4, View.ld]
    rw [idx_eq3 y 0 (x 1) (x 2) (by omega) e1 e2]
    rfl

/-- A block of the hidden rows. -/
theorem hidden_apply (x0 : S512x1024.Idx → EReal) (x1 x2 : S1x1024x1408.Idx → EReal) (r : Fin 512) (j : Fin 1408) :
    out0_4 (F := Ideal) x0 x1 x2 (ix2 r j)
      = gated (∑ k : Fin 1024, x0 (ix2 r k) * x1 (ix3 0 k j)) (∑ k : Fin 1024, x0 (ix2 r k) * x2 (ix3 0 k j)) := by
  refine congrFun (?_ : _ = fun y : S512x1408.Idx =>
    gated (∑ k : Fin 1024, x0 (ix2 (y 0) k) * x1 (ix3 0 k (y 1))) (∑ k : Fin 1024, x0 (ix2 (y 0) k) * x2 (ix3 0 k (y 1)))) (ix2 r j)
  funext y
  unfold out0_4
  canon_tiles x e
  obtain ⟨r, j, rfl⟩ : ∃ (r : Fin 512) (j : Fin 1408), x = (ix2 r j : S512x1408.Idx) := ⟨_, _, eq_ix2 x⟩
  rw [idx_eq y r j e0 e1]
  pointwise [k0_pay1, k0_pay2, k0_pay5, View.ld]
  rfl

variable (m : (ℓ : Loc nD τ sig) → Buf (Elt Ideal) ℓ)

theorem lt_points (t : Fin cfg0.N) : t.val < 16 := t.isLt

abbrev arr0 (c : Dev nD) : S4096x1024.Idx → EReal := m ((c.tc : Thread nD τ).loc main_arg0)
abbrev arr1 (c : Dev nD) : S1024x5632.Idx → EReal := m ((c.tc : Thread nD τ).loc main_arg1)

theorem index0 : ∀ t : Fin grid0.N, win0_0.index t = ![t.val % 8, 0] := by decide +kernel
theorem index1 : ∀ t : Fin grid0.N, win0_1.index t = ![t.val / 8, 0, 0] := by decide +kernel
theorem index2 : ∀ t : Fin grid0.N, win0_2.index t = ![t.val / 8 + 2, 0, 0] := by decide +kernel
theorem index3 : ∀ t : Fin grid0.N, win0_3.index t = ![0, t.val % 8, t.val / 8] := by decide +kernel
theorem index4 : ∀ t : Fin grid0.N, win0_4.index t = ![t.val % 8, t.val / 8] := by decide +kernel

/-- The weights cut into four blocks of columns. -/
theorem weights (c : Dev nD) (q : Fin 4) (k : Fin 1024) (j : Fin 1408) :
    (V m c main_v1 : S4x1024x1408.Idx → EReal) (ix3 q k j) = arr1 m c (ix2 k ⟨q.val * 1408 + j.val, by omega⟩) := by
  have h : V m c main_v1 = transpose S4x1024x1408 [1, 0, 2] (shapeCast S1024x4x1408 (arr1 m c) shapeCasts_S1024x5632_S1024x4x1408)
      transposes_S1024x4x1408_S4x1024x1408_1_0_2 := by
    after_results <;> rfl
  rw [h]
  pointwise

theorem read0 (c : Dev nD) (t : Fin cfg0.N) (r : Fin 512) (k : Fin 1024) :
    iblk m c 0 t (ix2 r k : S512x1024.Idx) = arr0 m c (ix2 ⟨t.val % 8 * 512 + r.val, by omega⟩ k) := by
  blk_ext [iblk, V, index0 t]

theorem read1 (c : Dev nD) (t : Fin cfg0.N) (k : Fin 1024) (j : Fin 1408) :
    iblk m c 1 t (ix3 0 k j : S1x1024x1408.Idx) = arr1 m c (ix2 k ⟨t.val / 8 * 1408 + j.val, by have := lt_points t; omega⟩) := by
  have e : iblk m c 1 t (ix3 0 k j : S1x1024x1408.Idx) = V m c main_v1 (ix3 ⟨t.val / 8, by have := lt_points t; omega⟩ k j : S4x1024x1408.Idx) := by
    blk_ext [iblk, index1 t]
  rw [e, weights]

theorem read2 (c : Dev nD) (t : Fin cfg0.N) (k : Fin 1024) (j : Fin 1408) :
    iblk m c 2 t (ix3 0 k j : S1x1024x1408.Idx) = arr1 m c (ix2 k ⟨(t.val / 8 + 2) * 1408 + j.val, by have := lt_points t; omega⟩) := by
  have e : iblk m c 2 t (ix3 0 k j : S1x1024x1408.Idx) = V m c main_v1 (ix3 ⟨t.val / 8 + 2, by have := lt_points t; omega⟩ k j : S4x1024x1408.Idx) := by
    blk_ext [iblk, index2 t]
  rw [e, weights]

/-- The product's entry at a block's place. -/
theorem product_at (u : S4096x1024.Idx → EReal) (w : S1024x5632.Idx → EReal) (p : Fin 2) (r : Fin 4096) (j : Fin 2816) (x : ℕ) (hx : x < 5632)
    (e : x = p.val * 2816 + j.val) : (∑ k : Fin 1024, u (ix2 r k) * w (ix2 k ⟨x, hx⟩)) = gateUp u w (ix3 p r j) := by
  subst e
  rfl

/-- The first result: the two products, one above the other. -/
theorem kernel3 (c : Dev nD) : (dats m 0 c).arrAt 3 cfg0.N = gateUp (arr0 m c) (arr1 m c) := by
  refine (dats m 0 c).arrAt_eq_of_covers 3 _ (by decide +kernel) fun t hf y => ?_
  obtain ⟨p, r, j, rfl⟩ : ∃ (p : Fin 2) (r : Fin 512) (j : Fin 1408), y = (ix3 p r j : S2x512x1408.Idx) := ⟨_, _, _, eq_ix3 y⟩
  have ht := lt_points t
  have e : ((cfg0.win 3).blk t).view.emb (ix3 p r j : S2x512x1408.Idx)
      = (ix3 p ⟨t.val % 8 * 512 + r.val, by omega⟩ ⟨t.val / 8 * 1408 + j.val, by omega⟩ : S2x4096x2816.Idx) := by
    blk_ext [index3 t]
  rw [e]
  blk_simp
  rw [after0_3]
  refine (pair_apply (iblk m c 0 t) (iblk m c 1 t) (iblk m c 2 t) p r j).trans ?_
  simp only [read0, read1, read2]
  split_ifs with hp
  · exact product_at _ _ _ _ _ _ _ (by show _ = p.val * 2816 + (t.val / 8 * 1408 + j.val); omega)
  · exact product_at _ _ _ _ _ _ _ (by show _ = p.val * 2816 + (t.val / 8 * 1408 + j.val); omega)

/-- The second result: the hidden rows. -/
theorem kernel4 (c : Dev nD) : (dats m 0 c).arrAt 4 cfg0.N = hidden (arr0 m c) (arr1 m c) := by
  refine (dats m 0 c).arrAt_eq_of_covers 4 _ (by decide +kernel) fun t hf y => ?_
  obtain ⟨r, j, rfl⟩ : ∃ (r : Fin 512) (j : Fin 1408), y = (ix2 r j : S512x1408.Idx) := ⟨_, _, eq_ix2 y⟩
  have ht := lt_points t
  have e : ((cfg0.win 4).blk t).view.emb (ix2 r j : S512x1408.Idx)
      = (ix2 ⟨t.val % 8 * 512 + r.val, by omega⟩ ⟨t.val / 8 * 1408 + j.val, by omega⟩ : S4096x2816.Idx) := by
    blk_ext [index4 t]
  rw [e]
  blk_simp
  rw [after0_4]
  refine (hidden_apply (iblk m c 0 t) (iblk m c 1 t) (iblk m c 2 t) r j).trans ?_
  simp only [read0, read1, read2]
  rw [product_at (arr0 m c) (arr1 m c) 0 _ ⟨t.val / 8 * 1408 + j.val, by omega⟩ _ _ (by show _ = 0 * 2816 + (t.val / 8 * 1408 + j.val); omega),
    product_at (arr0 m c) (arr1 m c) 1 _ ⟨t.val / 8 * 1408 + j.val, by omega⟩ _ _ (by show _ = 1 * 2816 + (t.val / 8 * 1408 + j.val); omega)]
  unfold hidden
  rfl

end Kernel

section Reference

open Cert.Reference12Ideal

variable (m : (ℓ : Loc nD τ sig) → Buf (Elt Ideal) ℓ)

/-- The reference ends with the two products, the hidden rows and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v8) = gateUp (m ((c.tc : Thread nD τ).loc main_arg0)) (m ((c.tc : Thread nD τ).loc main_arg1))
      ∧ r.2.mem ((c.tc : Thread nD τ).loc main_v11) = hidden (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h1, h⟩ := h c
    refine ⟨h0.trans (funext fun i => ?_), h1.trans (funext fun i => ?_), h⟩
    · clear h0 h1 h
      generalize (m ((c.tc : Thread nD τ).loc main_arg0)) = a0
      generalize (m ((c.tc : Thread nD τ).loc main_arg1)) = a1
      obtain ⟨p, r, j, rfl⟩ : ∃ (p : Fin 2) (r : Fin 4096) (j : Fin 2816), i = (ix3 p r j : S2x4096x2816.Idx) := ⟨_, _, _, eq_ix3 i⟩
      pointwise
      split_ifs with hp
      · exact product_at _ _ _ _ _ _ _ (by show _ = p.val * 2816 + j.val; omega)
      · exact product_at _ _ _ _ _ _ _ (by show _ = p.val * 2816 + j.val; omega)
    · clear h0 h1 h
      generalize (m ((c.tc : Thread nD τ).loc main_arg0)) = a0
      generalize (m ((c.tc : Thread nD τ).loc main_arg1)) = a1
      obtain ⟨r, j, rfl⟩ : ∃ (r : Fin 4096) (j : Fin 2816), i = (ix2 r j : S4096x2816.Idx) := ⟨_, _, eq_ix2 i⟩
      pointwise
      rw [product_at a0 a1 0 r j j.val _ (by show _ = 0 * 2816 + j.val; omega), product_at a0 a1 1 r j (2816 + j.val) _ (by show _ = 1 * 2816 + j.val; omega)]
      simp only [hidden, gated, sigmoid, zero_sub]
      rfl)
    (Value.run m ρ)

end Reference

/-- From arguments that agree, the kernel's results are the reference's. -/
theorem algebraic : algebraic_Kernel12Ideal_Reference12Ideal (hKernel12Ideal := Cert.Kernel12Ideal.Gen.facts) (hReference12Ideal := Cert.Reference12Ideal.Gen.facts) := by
  intro m g m' g' _ hagree
  refine ⟨fun c => (Cert.Kernel12Ideal.Gen.dats m 0 c).arrAt 3 Cert.Kernel12Ideal.cfg0.N, fun c => (Cert.Kernel12Ideal.Gen.dats m 0 c).arrAt 4 Cert.Kernel12Ideal.cfg0.N,
    (θ_run _ _ _).mono (fun r h c => ?_) (Cert.Kernel12Ideal.Value.run_blocks m g),
    (θ_run _ _ _).mono (fun r h c => ?_) (reference_run m' g')⟩
  · exact h c
  · obtain ⟨h0, h1, h⟩ := h c
    obtain ⟨a0, a1⟩ := hagree c
    refine ⟨h0.trans ?_, h1.trans ?_, h⟩
    · rw [a0, a1]
      exact (kernel3 m c).symm
    · rw [a0, a1]
      exact (kernel4 m c).symm

end Cert.GateUp

end
-- ==== Proof.MixProj.lean ====
/- The mixers' input projection: the rows times the weights, kept as four blocks of columns. -/
module

public import Idealize.ShloMosaic.Lib.KernelVsHost
public import proofs.«01_k».proof.Proof.WeightGrad
public import proofs.«01_k».proof.Proof.Gen.Kernel13Ideal.Value
public import proofs.«01_k».proof.Proof.Gen.Reference13Ideal.Run
public import proofs.«01_k».proof.Defs

@[expose] public section

set_option maxRecDepth 16384

noncomputable section

namespace Cert.MixProj

open Idealize.ShloMosaic Idealize.ShloMosaic.TcCoe Idealize.SL.Sem Cert.WeightGrad

section Kernel

open Cert.Kernel13Ideal Cert.Kernel13Ideal.Gen

/-- The product of the rows and the weights. -/
def projected (u : S4096x1024.Idx → EReal) (w : S1024x5120.Idx → EReal) (i : S4096x5120.Idx) : EReal :=
  ∑ k : Fin 1024, u (ix2 (i 0) k) * w (ix2 k (i 1))

/-- A block: column `j` is column `j % 1280` of the weights' block `j / 1280`. -/
def blockProduct (x0 : S512x1024.Idx → EReal) (x1 : S4x1024x1280.Idx → EReal) (r : Fin 512) (j : Fin 5120) : EReal :=
  ∑ k : Fin 1024, x0 (ix2 r k) * x1 (ix3 ⟨j.val / 1280, by omega⟩ k ⟨j.val % 1280, by omega⟩)

/-- A column of a block from its two parts. -/
theorem block_at (x0 : S512x1024.Idx → EReal) (x1 : S4x1024x1280.Idx → EReal) (r : Fin 512) (q : Fin 4) (j : Fin 1280) (x : Fin 5120)
    (h : x.val = q.val * 1280 + j.val) : (∑ k : Fin 1024, x0 (ix2 r k) * x1 (ix3 q k j)) = blockProduct x0 x1 r x := by
  have h1 : (⟨x.val / 1280, by omega⟩ : Fin 4) = q := Fin.ext (by show x.val / 1280 = q.val; omega)
  have h2 : (⟨x.val % 1280, by omega⟩ : Fin 1280) = j := Fin.ext (by show x.val % 1280 = j.val; omega)
  unfold blockProduct
  rw [h1, h2]

/-- The four stored pieces of a block. -/
theorem out_apply (x0 : S512x1024.Idx → EReal) (x1 : S4x1024x1280.Idx → EReal) (r : Fin 512) (j : Fin 5120) :
    out0_2 (F := Ideal) x0 x1 (ix2 r j) = blockProduct x0 x1 r j := by
  refine congrFun (?_ : _ = fun y : S512x5120.Idx => blockProduct x0 x1 (y 0) (y 1)) (ix2 r j)
  funext y
  unfold out0_2
  canon_tiles x e
  · obtain ⟨r, j, rfl⟩ : ∃ (r : Fin 512) (j : Fin 1280), x = (ix2 r j : S512x1280.Idx) := ⟨_, _, eq_ix2 x⟩
    pointwise [k0_pay1, k0_pay2, k0_pay3, k0_pay4, View.ld]
    have hr : y 0 = r := Fin.ext (by first | exact e0 | (simpa using e0))
    rw [hr]
    exact block_at x0 x1 r 3 j (y 1) (by show (y 1).val = 3 * 1280 + j.val; simp at e1; omega)
  · obtain ⟨r, j, rfl⟩ : ∃ (r : Fin 512) (j : Fin 1280), x = (ix2 r j : S512x1280.Idx) := ⟨_, _, eq_ix2 x⟩
    pointwise [k0_pay1, k0_pay2, k0_pay3, k0_pay4, View.ld]
    have hr : y 0 = r := Fin.ext (by first | exact e0 | (simpa using e0))
    rw [hr]
    exact block_at x0 x1 r 2 j (y 1) (by show (y 1).val = 2 * 1280 + j.val; simp at e1; omega)
  · obtain ⟨r, j, rfl⟩ : ∃ (r : Fin 512) (j : Fin 1280), x = (ix2 r j : S512x1280.Idx) := ⟨_, _, eq_ix2 x⟩
    pointwise [k0_pay1, k0_pay2, k0_pay3, k0_pay4, View.ld]
    have hr : y 0 = r := Fin.ext (by first | exact e0 | (simpa using e0))
    rw [hr]
    exact block_at x0 x1 r 1 j (y 1) (by show (y 1).val = 1 * 1280 + j.val; simp at e1; omega)
  · obtain ⟨r, j, rfl⟩ : ∃ (r : Fin 512) (j : Fin 1280), x = (ix2 r j : S512x1280.Idx) := ⟨_, _, eq_ix2 x⟩
    pointwise [k0_pay1, k0_pay2, k0_pay3, k0_pay4, View.ld]
    have hr : y 0 = r := Fin.ext (by first | exact e0 | (simpa using e0))
    rw [hr]
    exact block_at x0 x1 r 0 j (y 1) (by show (y 1).val = 0 * 1280 + j.val; simp at e1; omega)

variable (m : (ℓ : Loc nD τ sig) → Buf (Elt Ideal) ℓ)

abbrev arr0 (c : Dev nD) : S4096x1024.Idx → EReal := m ((c.tc : Thread nD τ).loc main_arg0)
abbrev arr1 (c : Dev nD) : S1024x5120.Idx → EReal := m ((c.tc : Thread nD τ).loc main_arg1)

theorem index0 : ∀ t : Fin grid0.N, win0_0.index t = ![t.val % 8, 0] := by decide +kernel
theorem index1 : ∀ t : Fin grid0.N, win0_1.index t = ![0, 0, 0] := by decide +kernel
theorem index2 : ∀ t : Fin grid0.N, win0_2.index t = ![t.val % 8, 0] := by decide +kernel

/-- The weights cut into four blocks of columns. -/
theorem weights (c : Dev nD) (q : Fin 4) (k : Fin 1024) (j : Fin 1280) :
    (V m c main_v1 : S4x1024x1280.Idx → EReal) (ix3 q k j) = arr1 m c (ix2 k ⟨q.val * 1280 + j.val, by omega⟩) := by
  have h : V m c main_v1 = transpose S4x1024x1280 [1, 0, 2] (shapeCast S1024x4x1280 (arr1 m c) shapeCasts_S1024x5120_S1024x4x1280)
      transposes_S1024x4x1280_S4x1024x1280_1_0_2 := by
    after_results <;> rfl
  refine (congrFun h _).trans ?_
  pointwise

theorem read0 (c : Dev nD) (t : Fin cfg0.N) (r : Fin 512) (k : Fin 1024) :
    iblk m c 0 t (ix2 r k : S512x1024.Idx) = arr0 m c (ix2 ⟨t.val % 8 * 512 + r.val, by omega⟩ k) := by
  blk_ext [iblk, V, index0 t]

theorem read1 (c : Dev nD) (t : Fin cfg0.N) (q : Fin 4) (k : Fin 1024) (j : Fin 1280) :
    iblk m c 1 t (ix3 q k j : S4x1024x1280.Idx) = arr1 m c (ix2 k ⟨q.val * 1280 + j.val, by omega⟩) := by
  have e : iblk m c 1 t (ix3 q k j : S4x1024x1280.Idx) = V m c main_v1 (ix3 q k j : S4x1024x1280.Idx) := by
    blk_ext [iblk, index1 t]
  exact e.trans (weights m c q k j)

/-- The result: the whole product. -/
theorem kernel2 (c : Dev nD) : (dats m 0 c).arrAt 2 cfg0.N = projected (arr0 m c) (arr1 m c) := by
  refine (dats m 0 c).arrAt_eq_of_covers 2 _ (by decide +kernel) fun t hf y => ?_
  obtain ⟨r, j, rfl⟩ : ∃ (r : Fin 512) (j : Fin 5120), y = (ix2 r j : S512x5120.Idx) := ⟨_, _, eq_ix2 y⟩
  have e : ((cfg0.win 2).blk t).view.emb (ix2 r j : S512x5120.Idx) = (ix2 ⟨t.val % 8 * 512 + r.val, by omega⟩ j : S4096x5120.Idx) := by
    blk_ext [index2 t]
  rw [e]
  blk_simp
  rw [after0_2]
  refine (out_apply (iblk m c 0 t) (iblk m c 1 t) r j).trans ?_
  unfold blockProduct
  simp only [read0, read1]
  refine Finset.sum_congr rfl fun k _ => congrArg (_ * ·) (congrArg (arr1 m c) (congrArg (ix2 k) (Fin.ext ?_)))
  show j.val / 1280 * 1280 + j.val % 1280 = j.val
  omega

end Kernel

section Reference

open Cert.Reference13Ideal

variable (m : (ℓ : Loc nD τ sig) → Buf (Elt Ideal) ℓ)

/-- The reference ends with the product and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v3) = projected (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    · clear h0 h
      generalize (m ((c.tc : Thread nD τ).loc main_arg0)) = a0
      generalize (m ((c.tc : Thread nD τ).loc main_arg1)) = a1
      obtain ⟨r, j, rfl⟩ : ∃ (r : Fin 4096) (j : Fin 5120), i = (ix2 r j : S4096x5120.Idx) := ⟨_, _, eq_ix2 i⟩
      pointwise
      rfl)
    (Value.run m ρ)

end Reference

/-- From arguments that agree, the kernel's results are the reference's. -/
theorem algebraic : algebraic_Kernel13Ideal_Reference13Ideal (hKernel13Ideal := Cert.Kernel13Ideal.Gen.facts) (hReference13Ideal := Cert.Reference13Ideal.Gen.facts) := by
  intro m g m' g' _ hagree
  refine ⟨fun c => (Cert.Kernel13Ideal.Gen.dats m 0 c).arrAt 2 Cert.Kernel13Ideal.cfg0.N,
    (θ_run _ _ _).mono (fun r h c => ?_) (Cert.Kernel13Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    · rw [a0, a1]
      exact (kernel2 m c).symm

end Cert.MixProj

end
-- ==== Proof.NormForward.lean ====
/- A row's root-mean-square norm, scaled and shifted. -/
module

public import proofs.«01_k».proof.Proof.NormGrad

@[expose] public section

noncomputable section

namespace Cert.NormForward

open Idealize.ShloMosaic Cert.NormGrad

/-- A row `h` normed, times its weights `g`, scaled and shifted. -/
def modulated (h g shift scale : Fin 1024 → EReal) (j : Fin 1024) : EReal := normed h j * g j * (1 + scale j) + shift j

end Cert.NormForward

end
-- ==== Proof.MixOut.lean ====
/- The mixers' output projection, added through its gate, and the norm of the sum, scaled and shifted. -/
module

public import Idealize.ShloMosaic.Lib.KernelVsHost
public import proofs.«01_k».proof.Proof.NormGrad
public import proofs.«01_k».proof.Proof.NormForward
public import proofs.«01_k».proof.Proof.Gen.Kernel14Ideal.Value
public import proofs.«01_k».proof.Proof.Gen.Reference14Ideal.Run
public import proofs.«01_k».proof.Defs

@[expose] public section

set_option maxRecDepth 16384

noncomputable section

namespace Cert.MixOut

open Idealize.ShloMosaic Idealize.ShloMosaic.TcCoe Idealize.SL.Sem Cert.RowSums Cert.NormGrad Cert.NormForward

section Kernel

open Cert.Kernel14Ideal Cert.Kernel14Ideal.Gen

/-- The branch: the merged rows times the weights. -/
def branch (a : S4096x1024.Idx → EReal) (w : S1024x1024.Idx → EReal) (i : S4096x1024.Idx) : EReal := ∑ k : Fin 1024, a (ix2 (i 0) k) * w (ix2 k (i 1))

/-- The rows past the branch. -/
def past (a : S4096x1024.Idx → EReal) (w : S1024x1024.Idx → EReal) (h : S4096x1024.Idx → EReal) (gate : S1024.Idx → EReal) (i : S4096x1024.Idx) : EReal :=
  h i + gate (ix1 (i 1)) * branch a w i

/-- Their norm. -/
def next (a : S4096x1024.Idx → EReal) (w : S1024x1024.Idx → EReal) (h : S4096x1024.Idx → EReal) (gate g shift scale : S1024.Idx → EReal) (i : S4096x1024.Idx) : EReal :=
  modulated (fun k => past a w h gate (ix2 (i 0) k)) (fun k => g (ix1 k)) (fun k => shift (ix1 k)) (fun k => scale (ix1 k)) (i 1)

/-- A block's branch and the rows past it. -/
def blockBranch (x0 : S512x1024.Idx → EReal) (x1 : S1024x1024.Idx → EReal) (r : Fin 512) (j : Fin 1024) : EReal := ∑ k : Fin 1024, x0 (ix2 r k) * x1 (ix2 k j)
def blockPast (x0 : S512x1024.Idx → EReal) (x1 : S1024x1024.Idx → EReal) (x2 : S512x1024.Idx → EReal) (x3 : S8x1024.Idx → EReal) (r : Fin 512) (j : Fin 1024) : EReal :=
  x2 (ix2 r j) + x3 (ix2 3 j) * blockBranch x0 x1 r j

theorem branch_apply (x0 : S512x1024.Idx → EReal) (x1 : S1024x1024.Idx → EReal) (x2 : S512x1024.Idx → EReal) (x3 x4 : S8x1024.Idx → EReal) (r : Fin 512) (j : Fin 1024) :
    out0_5 (F := Ideal) x0 x1 x2 x3 x4 (ix2 r j) = blockBranch x0 x1 r j := by
  refine congrFun (?_ : _ = fun y : S512x1024.Idx => blockBranch x0 x1 (y 0) (y 1)) (ix2 r j)
  funext y
  unfold out0_5
  canon_tiles x e
  obtain ⟨r, j, rfl⟩ : ∃ (r : Fin 512) (j : Fin 1024), x = (ix2 r j : S512x1024.Idx) := ⟨_, _, eq_ix2 x⟩
  rw [idx_eq y r j e0 e1]
  pointwise [k0_pay1, k0_pay2, k0_pay3, k0_pay4, k0_pay5, View.ld]
  rfl

theorem past_apply (x0 : S512x1024.Idx → EReal) (x1 : S1024x1024.Idx → EReal) (x2 : S512x1024.Idx → EReal) (x3 x4 : S8x1024.Idx → EReal) (r : Fin 512) (j : Fin 1024) :
    out0_6 (F := Ideal) x0 x1 x2 x3 x4 (ix2 r j) = blockPast x0 x1 x2 x3 r j := by
  refine congrFun (?_ : _ = fun y : S512x1024.Idx => blockPast x0 x1 x2 x3 (y 0) (y 1)) (ix2 r j)
  funext y
  unfold out0_6
  canon_tiles x e
  obtain ⟨r, j, rfl⟩ : ∃ (r : Fin 512) (j : Fin 1024), x = (ix2 r j : S512x1024.Idx) := ⟨_, _, eq_ix2 x⟩
  rw [idx_eq y r j e0 e1]
  pointwise [k0_pay1, k0_pay2, k0_pay3, k0_pay4, k0_pay5, View.ld]
  show _ = blockPast x0 x1 x2 x3 r j
  simp only [one_mul, blockPast, blockBranch]

theorem next_apply (x0 : S512x1024.Idx → EReal) (x1 : S1024x1024.Idx → EReal) (x2 : S512x1024.Idx → EReal) (x3 x4 : S8x1024.Idx → EReal) (r : Fin 512) (j : Fin 1024) :
    out0_7 (F := Ideal) x0 x1 x2 x3 x4 (ix2 r j) = modulated (blockPast x0 x1 x2 x3 r) (fun k => x4 (ix2 0 k)) (fun k => x4 (ix2 2 k)) (fun k => x4 (ix2 1 k)) j := by
  refine congrFun (?_ : _ = fun y : S512x1024.Idx => modulated (blockPast x0 x1 x2 x3 (y 0)) (fun k => x4 (ix2 0 k)) (fun k => x4 (ix2 2 k)) (fun k => x4 (ix2 1 k)) (y 1)) (ix2 r j)
  funext y
  unfold out0_7
  canon_tiles x e
  obtain ⟨r, j, rfl⟩ : ∃ (r : Fin 512) (j : Fin 1024), x = (ix2 r j : S512x1024.Idx) := ⟨_, _, eq_ix2 x⟩
  rw [idx_eq y r j e0 e1]
  pointwise [k0_pay1, k0_pay2, k0_pay3, k0_pay4, k0_pay5, View.ld]
  show _ = modulated (blockPast x0 x1 x2 x3 r) (fun k => x4 (ix2 0 k)) (fun k => x4 (ix2 2 k)) (fun k => x4 (ix2 1 k)) j
  simp only [one_mul, modulated, normed, invRms, meanSq, width, eps, blockPast, blockBranch]

variable (m : (ℓ : Loc nD τ sig) → Buf (Elt Ideal) ℓ)

abbrev arr0 (c : Dev nD) : S4096x1024.Idx → EReal := m ((c.tc : Thread nD τ).loc main_arg0)
abbrev arr1 (c : Dev nD) : S1024x1024.Idx → EReal := m ((c.tc : Thread nD τ).loc main_arg1)
abbrev arr2 (c : Dev nD) : S4096x1024.Idx → EReal := m ((c.tc : Thread nD τ).loc main_arg2)
abbrev arr3 (c : Dev nD) : S1024.Idx → EReal := m ((c.tc : Thread nD τ).loc main_arg3)
abbrev arr4 (c : Dev nD) : S1024.Idx → EReal := m ((c.tc : Thread nD τ).loc main_arg4)
abbrev arr5 (c : Dev nD) : S1024.Idx → EReal := m ((c.tc : Thread nD τ).loc main_arg5)
abbrev arr6 (c : Dev nD) : S1024.Idx → EReal := m ((c.tc : Thread nD τ).loc main_arg6)

theorem index0 : ∀ t : Fin grid0.N, win0_0.index t = ![t.val % 8, 0] := by decide +kernel
theorem index2 : ∀ t : Fin grid0.N, win0_2.index t = ![t.val % 8, 0] := by decide +kernel
theorem index5 : ∀ t : Fin grid0.N, win0_5.index t = ![t.val % 8, 0] := by decide +kernel
theorem index6 : ∀ t : Fin grid0.N, win0_6.index t = ![t.val % 8, 0] := by decide +kernel
theorem index7 : ∀ t : Fin grid0.N, win0_7.index t = ![t.val % 8, 0] := by decide +kernel
theorem index1 : ∀ t : Fin grid0.N, win0_1.index t = ![0, 0] := by decide +kernel
theorem index3 : ∀ t : Fin grid0.N, win0_3.index t = ![0, 0] := by decide +kernel
theorem index4 : ∀ t : Fin grid0.N, win0_4.index t = ![0, 0] := by decide +kernel

/-- A row of zeros. -/
def zeroRow : S1x1024.Idx → EReal := broadcastInDim S1x1024 ![1] bcast_S1024_S1x1024_1 (broadcastInDim S1024 ![] bcast_S_S1024 (constant (F := Ideal) S_ .f32 0x00000000#32))

/-- The gate, in the fourth row. -/
theorem packedGate (c : Dev nD) :
    V m c main_v7 = concatenate S8x1024 0 [⟨S4x1024, concatenate S4x1024 0 [⟨S1x1024, zeroRow⟩, ⟨S1x1024, zeroRow⟩, ⟨S1x1024, zeroRow⟩, ⟨S1x1024, broadcastInDim S1x1024 ![1] bcast_S1024_S1x1024_1 (arr3 m c)⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

/-- The norm's vectors, one to a row. -/
theorem packedNorm (c : Dev nD) :
    V m c main_v14 = concatenate S8x1024 0 [⟨S4x1024, concatenate S4x1024 0 [⟨S1x1024, broadcastInDim S1x1024 ![1] bcast_S1024_S1x1024_1 (arr4 m c)⟩, ⟨S1x1024, broadcastInDim S1x1024 ![1] bcast_S1024_S1x1024_1 (arr6 m c)⟩, ⟨S1x1024, broadcastInDim S1x1024 ![1] bcast_S1024_S1x1024_1 (arr5 m c)⟩, ⟨S1x1024, zeroRow⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem read0 (c : Dev nD) (t : Fin cfg0.N) (r : Fin 512) (k : Fin 1024) :
    iblk m c 0 t (ix2 r k : S512x1024.Idx) = arr0 m c (ix2 ⟨t.val % 8 * 512 + r.val, by omega⟩ k) := by
  blk_ext [iblk, V, index0 t]

theorem read1 (c : Dev nD) (t : Fin cfg0.N) (r : Fin 1024) (k : Fin 1024) :
    iblk m c 1 t (ix2 r k : S1024x1024.Idx) = arr1 m c (ix2 r k) := by
  blk_ext [iblk, V, index1 t]

theorem read2 (c : Dev nD) (t : Fin cfg0.N) (r : Fin 512) (k : Fin 1024) :
    iblk m c 2 t (ix2 r k : S512x1024.Idx) = arr2 m c (ix2 ⟨t.val % 8 * 512 + r.val, by omega⟩ k) := by
  blk_ext [iblk, V, index2 t]

theorem read_gate (c : Dev nD) (t : Fin cfg0.N) (j : Fin 1024) : iblk m c 3 t (ix2 3 j : S8x1024.Idx) = arr3 m c (ix1 j) := by
  have e : iblk m c 3 t (ix2 3 j : S8x1024.Idx) = V m c main_v7 (ix2 3 j : S8x1024.Idx) := by
    blk_ext [iblk, index3 t]
  refine e.trans ((congrFun (packedGate m c) _).trans ?_)
  pointwise

theorem read_weights (c : Dev nD) (t : Fin cfg0.N) (j : Fin 1024) : iblk m c 4 t (ix2 0 j : S8x1024.Idx) = arr4 m c (ix1 j) := by
  have e : iblk m c 4 t (ix2 0 j : S8x1024.Idx) = V m c main_v14 (ix2 0 j : S8x1024.Idx) := by
    blk_ext [iblk, index4 t]
  refine e.trans ((congrFun (packedNorm m c) _).trans ?_)
  pointwise

theorem read_scale (c : Dev nD) (t : Fin cfg0.N) (j : Fin 1024) : iblk m c 4 t (ix2 1 j : S8x1024.Idx) = arr6 m c (ix1 j) := by
  have e : iblk m c 4 t (ix2 1 j : S8x1024.Idx) = V m c main_v14 (ix2 1 j : S8x1024.Idx) := by
    blk_ext [iblk, index4 t]
  refine e.trans ((congrFun (packedNorm m c) _).trans ?_)
  pointwise

theorem read_shift (c : Dev nD) (t : Fin cfg0.N) (j : Fin 1024) : iblk m c 4 t (ix2 2 j : S8x1024.Idx) = arr5 m c (ix1 j) := by
  have e : iblk m c 4 t (ix2 2 j : S8x1024.Idx) = V m c main_v14 (ix2 2 j : S8x1024.Idx) := by
    blk_ext [iblk, index4 t]
  refine e.trans ((congrFun (packedNorm m c) _).trans ?_)
  pointwise

theorem past_at (c : Dev nD) (t : Fin cfg0.N) (r : Fin 512) (j : Fin 1024) :
    blockPast (iblk m c 0 t) (iblk m c 1 t) (iblk m c 2 t) (iblk m c 3 t) r j
      = past (arr0 m c) (arr1 m c) (arr2 m c) (arr3 m c) (ix2 ⟨t.val % 8 * 512 + r.val, by omega⟩ j) := by
  unfold blockPast blockBranch
  simp only [read0, read1, read2, read_gate]
  rfl

/-- The first result: the branch. -/
theorem kernel5 (c : Dev nD) : (dats m 0 c).arrAt 5 cfg0.N = branch (arr0 m c) (arr1 m c) := by
  refine (dats m 0 c).arrAt_eq_of_covers 5 _ (by decide +kernel) fun t hf y => ?_
  obtain ⟨r, j, rfl⟩ : ∃ (r : Fin 512) (j : Fin 1024), y = (ix2 r j : S512x1024.Idx) := ⟨_, _, eq_ix2 y⟩
  have e : ((cfg0.win 5).blk t).view.emb (ix2 r j : S512x1024.Idx) = (ix2 ⟨t.val % 8 * 512 + r.val, by omega⟩ j : S4096x1024.Idx) := by
    blk_ext [index5 t]
  rw [e]
  blk_simp
  rw [after0_5]
  refine (branch_apply (iblk m c 0 t) (iblk m c 1 t) (iblk m c 2 t) (iblk m c 3 t) (iblk m c 4 t) r j).trans ?_
  unfold blockBranch
  simp only [read0, read1]
  rfl
/-- The second result: the rows past the branch. -/
theorem kernel6 (c : Dev nD) : (dats m 0 c).arrAt 6 cfg0.N = past (arr0 m c) (arr1 m c) (arr2 m c) (arr3 m c) := by
  refine (dats m 0 c).arrAt_eq_of_covers 6 _ (by decide +kernel) fun t hf y => ?_
  obtain ⟨r, j, rfl⟩ : ∃ (r : Fin 512) (j : Fin 1024), y = (ix2 r j : S512x1024.Idx) := ⟨_, _, eq_ix2 y⟩
  have e : ((cfg0.win 6).blk t).view.emb (ix2 r j : S512x1024.Idx) = (ix2 ⟨t.val % 8 * 512 + r.val, by omega⟩ j : S4096x1024.Idx) := by
    blk_ext [index6 t]
  rw [e]
  blk_simp
  rw [after0_6]
  refine (past_apply (iblk m c 0 t) (iblk m c 1 t) (iblk m c 2 t) (iblk m c 3 t) (iblk m c 4 t) r j).trans ?_
  exact past_at m c t r j
/-- The third result: the norm of the rows past the branch. -/
theorem kernel7 (c : Dev nD) : (dats m 0 c).arrAt 7 cfg0.N = next (arr0 m c) (arr1 m c) (arr2 m c) (arr3 m c) (arr4 m c) (arr5 m c) (arr6 m c) := by
  refine (dats m 0 c).arrAt_eq_of_covers 7 _ (by decide +kernel) fun t hf y => ?_
  obtain ⟨r, j, rfl⟩ : ∃ (r : Fin 512) (j : Fin 1024), y = (ix2 r j : S512x1024.Idx) := ⟨_, _, eq_ix2 y⟩
  have e : ((cfg0.win 7).blk t).view.emb (ix2 r j : S512x1024.Idx) = (ix2 ⟨t.val % 8 * 512 + r.val, by omega⟩ j : S4096x1024.Idx) := by
    blk_ext [index7 t]
  rw [e]
  blk_simp
  rw [after0_7]
  refine (next_apply (iblk m c 0 t) (iblk m c 1 t) (iblk m c 2 t) (iblk m c 3 t) (iblk m c 4 t) r j).trans ?_
  rw [show blockPast (iblk m c 0 t) (iblk m c 1 t) (iblk m c 2 t) (iblk m c 3 t) r = _ from funext fun k => past_at m c t r k]
  simp only [read_weights, read_scale, read_shift]
  rfl
end Kernel

section Reference

open Cert.Reference14Ideal

variable (m : (ℓ : Loc nD τ sig) → Buf (Elt Ideal) ℓ)

/-- The reference ends with the branch, the rows past it, their norm, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v7) = branch (m ((c.tc : Thread nD τ).loc main_arg0)) (m ((c.tc : Thread nD τ).loc main_arg1))
      ∧ r.2.mem ((c.tc : Thread nD τ).loc main_v6) = past (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h⟩ := h c
    refine ⟨h0.trans (funext fun i => ?_), h1.trans (funext fun i => ?_), h2.trans (funext fun i => ?_), h⟩
    · clear h0 h1 h2 h
      generalize (m ((c.tc : Thread nD τ).loc main_arg0)) = a0
      generalize (m ((c.tc : Thread nD τ).loc main_arg1)) = a1
      obtain ⟨r, j, rfl⟩ : ∃ (r : Fin 4096) (j : Fin 1024), i = (ix2 r j : S4096x1024.Idx) := ⟨_, _, eq_ix2 i⟩
      pointwise
      rfl
    · clear h0 h1 h2 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      obtain ⟨r, j, rfl⟩ : ∃ (r : Fin 4096) (j : Fin 1024), i = (ix2 r j : S4096x1024.Idx) := ⟨_, _, eq_ix2 i⟩
      pointwise
      rfl
    · clear h0 h1 h2 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      generalize (m ((c.tc : Thread nD τ).loc main_arg6)) = a6
      obtain ⟨r, j, rfl⟩ : ∃ (r : Fin 4096) (j : Fin 1024), i = (ix2 r j : S4096x1024.Idx) := ⟨_, _, eq_ix2 i⟩
      pointwise
      simp only [next, modulated, normed, invRms, meanSq, width, eps, past, branch]
      rfl)
    (Value.run m ρ)

end Reference

/-- From arguments that agree, the kernel's results are the reference's. -/
theorem algebraic : algebraic_Kernel14Ideal_Reference14Ideal (hKernel14Ideal := Cert.Kernel14Ideal.Gen.facts) (hReference14Ideal := Cert.Reference14Ideal.Gen.facts) := by
  intro m g m' g' _ hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N,
    (θ_run _ _ _).mono (fun r h c => ?_) (Cert.Kernel14Ideal.Value.run_blocks m g),
    (θ_run _ _ _).mono (fun r h c => ?_) (reference_run m' g')⟩
  · exact h c
  · obtain ⟨h0, h1, h2, h⟩ := h c
    obtain ⟨a0, a1, a2, a3, a4, a5, a6⟩ := hagree c
    refine ⟨h0.trans ?_, h1.trans ?_, h2.trans ?_, h⟩
    · rw [a0, a1]
      exact (kernel5 m c).symm
    · rw [a0, a1, a2, a3]
      exact (kernel6 m c).symm
    · rw [a0, a1, a2, a3, a4, a5, a6]
      exact (kernel7 m c).symm

end Cert.MixOut

end
-- ==== Proof.MergeFwd.lean ====
/- The merge of the two mixers: each one's output projection, and their sum weighted by two gates. -/
module

public import Idealize.ShloMosaic.Lib.KernelVsHost
public import proofs.«01_k».proof.Proof.FfnDownKernel
public import proofs.«01_k».proof.Proof.RowSums
public import proofs.«01_k».proof.Proof.Gen.Kernel15Ideal.Value
public import proofs.«01_k».proof.Proof.Gen.Reference15Ideal.Run
public import proofs.«01_k».proof.Defs

@[expose] public section

set_option maxRecDepth 16384

noncomputable section

namespace Cert.MergeFwd

open Idealize.ShloMosaic Idealize.ShloMosaic.TcCoe Idealize.SL.Sem Cert.FfnDown Cert.RowSums

section Kernel

open Cert.Kernel15Ideal Cert.Kernel15Ideal.Gen

/-- A mixer's output projection. -/
def mixer (a : S4096x512.Idx → EReal) (w : S512x1024.Idx → EReal) (i : S4096x1024.Idx) : EReal := ∑ k : Fin 512, a (ix2 (i 0) k) * w (ix2 k (i 1))

/-- The two mixers, each times its gate. -/
def merge (ga ba ya gb bb yb : EReal) : EReal := sigmoid (ga + ba) * ya + sigmoid (gb + bb) * yb

/-- The merged rows; the gates' arguments are the projection's last columns and the biases. -/
def merged (a o : S4096x512.Idx → EReal) (wa wo : S512x1024.Idx → EReal) (p : S4096x5120.Idx → EReal) (b : S2x1024.Idx → EReal) (i : S4096x1024.Idx) : EReal :=
  have hi : (i 1).val < 1024 := (i 1).isLt
  merge (p (ix2 (i 0) ⟨3072 + (i 1).val, by omega⟩)) (b (ix2 0 (i 1))) (mixer a wa i) (p (ix2 (i 0) ⟨4096 + (i 1).val, by omega⟩)) (b (ix2 1 (i 1))) (mixer o wo i)

/-- A block of a mixer's projection: column `j` is column `j % 256` of the weights' block `j / 256`. -/
def blockMixer (x0 : S512x512.Idx → EReal) (x1 : S4x512x256.Idx → EReal) (r : Fin 512) (j : Fin 1024) : EReal :=
  ∑ k : Fin 512, x0 (ix2 r k) * x1 (ix3 ⟨j.val / 256, by omega⟩ k ⟨j.val % 256, by omega⟩)

/-- A column of a block from its two parts. -/
theorem block_at (x0 : S512x512.Idx → EReal) (x1 : S4x512x256.Idx → EReal) (r : Fin 512) (q : Fin 4) (j : Fin 256) (x : Fin 1024)
    (h : x.val = q.val * 256 + j.val) : (∑ k : Fin 512, x0 (ix2 r k) * x1 (ix3 q k j)) = blockMixer x0 x1 r x := by
  have h1 : (⟨x.val / 256, by omega⟩ : Fin 4) = q := Fin.ext (by show x.val / 256 = q.val; omega)
  have h2 : (⟨x.val % 256, by omega⟩ : Fin 256) = j := Fin.ext (by show x.val % 256 = j.val; omega)
  unfold blockMixer
  rw [h1, h2]

/-- A block of the merged rows. -/
def blockMerged (x0 x1 : S512x512.Idx → EReal) (x2 x3 : S4x512x256.Idx → EReal) (x4 x5 : S512x1024.Idx → EReal) (x6 : S2x1024.Idx → EReal) (r : Fin 512) (j : Fin 1024) : EReal :=
  merge (x4 (ix2 r j)) (x6 (ix2 0 j)) (blockMixer x0 x2 r j) (x5 (ix2 r j)) (x6 (ix2 1 j)) (blockMixer x1 x3 r j)

variable (x0 x1 : S512x512.Idx → EReal) (x2 x3 : S4x512x256.Idx → EReal) (x4 x5 : S512x1024.Idx → EReal) (x6 : S2x1024.Idx → EReal)

/-- A block of the first mixer's projection. -/
theorem first_apply (r : Fin 512) (j : Fin 1024) : out0_7 (F := Ideal) x0 x1 x2 x3 x4 x5 x6 (ix2 r j) = blockMixer x0 x2 r j := by
  refine congrFun (?_ : _ = fun y : S512x1024.Idx => blockMixer x0 x2 (y 0) (y 1)) (ix2 r j)
  funext y
  unfold_out out0_7
  canon_tiles x e
  · obtain ⟨r, j, rfl⟩ : ∃ (r : Fin 512) (j : Fin 256), x = (ix2 r j : S512x256.Idx) := ⟨_, _, eq_ix2 x⟩
    have hj : 3 * 256 + j.val < 1024 := by omega
    rw [idx_eq y r ⟨3 * 256 + j.val, hj⟩ (by simpa using e0) (by simp at e1; show (y 1).val = 3 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x0 x2 r 3 j _ rfl
  · obtain ⟨r, j, rfl⟩ : ∃ (r : Fin 512) (j : Fin 256), x = (ix2 r j : S512x256.Idx) := ⟨_, _, eq_ix2 x⟩
    have hj : 2 * 256 + j.val < 1024 := by omega
    rw [idx_eq y r ⟨2 * 256 + j.val, hj⟩ (by simpa using e0) (by simp at e1; show (y 1).val = 2 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x0 x2 r 2 j _ rfl
  · obtain ⟨r, j, rfl⟩ : ∃ (r : Fin 512) (j : Fin 256), x = (ix2 r j : S512x256.Idx) := ⟨_, _, eq_ix2 x⟩
    have hj : 1 * 256 + j.val < 1024 := by omega
    rw [idx_eq y r ⟨1 * 256 + j.val, hj⟩ (by simpa using e0) (by simp at e1; show (y 1).val = 1 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x0 x2 r 1 j _ rfl
  · obtain ⟨r, j, rfl⟩ : ∃ (r : Fin 512) (j : Fin 256), x = (ix2 r j : S512x256.Idx) := ⟨_, _, eq_ix2 x⟩
    have hj : j.val < 1024 := by omega
    rw [idx_eq y r ⟨j.val, hj⟩ (by simpa using e0) (by simp at e1; show (y 1).val = j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x0 x2 r 0 j _ (by show j.val = 0 * 256 + j.val; omega)

/-- A block of the second mixer's projection. -/
theorem second_apply (r : Fin 512) (j : Fin 1024) : out0_8 (F := Ideal) x0 x1 x2 x3 x4 x5 x6 (ix2 r j) = blockMixer x1 x3 r j := by
  refine congrFun (?_ : _ = fun y : S512x1024.Idx => blockMixer x1 x3 (y 0) (y 1)) (ix2 r j)
  funext y
  unfold_out out0_8
  canon_tiles x e
  · obtain ⟨r, j, rfl⟩ : ∃ (r : Fin 512) (j : Fin 256), x = (ix2 r j : S512x256.Idx) := ⟨_, _, eq_ix2 x⟩
    have hj : 3 * 256 + j.val < 1024 := by omega
    rw [idx_eq y r ⟨3 * 256 + j.val, hj⟩ (by simpa using e0) (by simp at e1; show (y 1).val = 3 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x1 x3 r 3 j _ rfl
  · obtain ⟨r, j, rfl⟩ : ∃ (r : Fin 512) (j : Fin 256), x = (ix2 r j : S512x256.Idx) := ⟨_, _, eq_ix2 x⟩
    have hj : 2 * 256 + j.val < 1024 := by omega
    rw [idx_eq y r ⟨2 * 256 + j.val, hj⟩ (by simpa using e0) (by simp at e1; show (y 1).val = 2 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x1 x3 r 2 j _ rfl
  · obtain ⟨r, j, rfl⟩ : ∃ (r : Fin 512) (j : Fin 256), x = (ix2 r j : S512x256.Idx) := ⟨_, _, eq_ix2 x⟩
    have hj : 1 * 256 + j.val < 1024 := by omega
    rw [idx_eq y r ⟨1 * 256 + j.val, hj⟩ (by simpa using e0) (by simp at e1; show (y 1).val = 1 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x1 x3 r 1 j _ rfl
  · obtain ⟨r, j, rfl⟩ : ∃ (r : Fin 512) (j : Fin 256), x = (ix2 r j : S512x256.Idx) := ⟨_, _, eq_ix2 x⟩
    have hj : j.val < 1024 := by omega
    rw [idx_eq y r ⟨j.val, hj⟩ (by simpa using e0) (by simp at e1; show (y 1).val = j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    exact block_at x1 x3 r 0 j _ (by show j.val = 0 * 256 + j.val; omega)

/-- A block of the merged rows. -/
theorem merged_apply (r : Fin 512) (j : Fin 1024) : out0_9 (F := Ideal) x0 x1 x2 x3 x4 x5 x6 (ix2 r j) = blockMerged x0 x1 x2 x3 x4 x5 x6 r j := by
  refine congrFun (?_ : _ = fun y : S512x1024.Idx => blockMerged x0 x1 x2 x3 x4 x5 x6 (y 0) (y 1)) (ix2 r j)
  funext y
  unfold_out out0_9
  canon_tiles x e
  · obtain ⟨r, j, rfl⟩ : ∃ (r : Fin 512) (j : Fin 256), x = (ix2 r j : S512x256.Idx) := ⟨_, _, eq_ix2 x⟩
    have hj : 3 * 256 + j.val < 1024 := by omega
    rw [idx_eq y r ⟨3 * 256 + j.val, hj⟩ (by simpa using e0) (by simp at e1; show (y 1).val = 3 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    rw [block_at x0 x2 r 3 j ⟨3 * 256 + j.val, hj⟩ rfl, block_at x1 x3 r 3 j ⟨3 * 256 + j.val, hj⟩ rfl]
    show _ = blockMerged x0 x1 x2 x3 x4 x5 x6 r ⟨3 * 256 + j.val, hj⟩
    simp only [blockMerged, merge, sigmoid, zero_sub]
    try rfl
  · obtain ⟨r, j, rfl⟩ : ∃ (r : Fin 512) (j : Fin 256), x = (ix2 r j : S512x256.Idx) := ⟨_, _, eq_ix2 x⟩
    have hj : 2 * 256 + j.val < 1024 := by omega
    rw [idx_eq y r ⟨2 * 256 + j.val, hj⟩ (by simpa using e0) (by simp at e1; show (y 1).val = 2 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    rw [block_at x0 x2 r 2 j ⟨2 * 256 + j.val, hj⟩ rfl, block_at x1 x3 r 2 j ⟨2 * 256 + j.val, hj⟩ rfl]
    show _ = blockMerged x0 x1 x2 x3 x4 x5 x6 r ⟨2 * 256 + j.val, hj⟩
    simp only [blockMerged, merge, sigmoid, zero_sub]
    try rfl
  · obtain ⟨r, j, rfl⟩ : ∃ (r : Fin 512) (j : Fin 256), x = (ix2 r j : S512x256.Idx) := ⟨_, _, eq_ix2 x⟩
    have hj : 1 * 256 + j.val < 1024 := by omega
    rw [idx_eq y r ⟨1 * 256 + j.val, hj⟩ (by simpa using e0) (by simp at e1; show (y 1).val = 1 * 256 + j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    rw [block_at x0 x2 r 1 j ⟨1 * 256 + j.val, hj⟩ rfl, block_at x1 x3 r 1 j ⟨1 * 256 + j.val, hj⟩ rfl]
    show _ = blockMerged x0 x1 x2 x3 x4 x5 x6 r ⟨1 * 256 + j.val, hj⟩
    simp only [blockMerged, merge, sigmoid, zero_sub]
    try rfl
  · obtain ⟨r, j, rfl⟩ : ∃ (r : Fin 512) (j : Fin 256), x = (ix2 r j : S512x256.Idx) := ⟨_, _, eq_ix2 x⟩
    have hj : j.val < 1024 := by omega
    rw [idx_eq y r ⟨j.val, hj⟩ (by simpa using e0) (by simp at e1; show (y 1).val = j.val; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, View.ld]
    rw [block_at x0 x2 r 0 j ⟨j.val, hj⟩ (by show j.val = 0 * 256 + j.val; omega), block_at x1 x3 r 0 j ⟨j.val, hj⟩ (by show j.val = 0 * 256 + j.val; omega)]
    show _ = blockMerged x0 x1 x2 x3 x4 x5 x6 r ⟨j.val, hj⟩
    simp only [blockMerged, merge, sigmoid, zero_sub]
    try rfl

variable (m : (ℓ : Loc nD τ sig) → Buf (Elt Ideal) ℓ)

abbrev arr0 (c : Dev nD) : S4096x512.Idx → EReal := m ((c.tc : Thread nD τ).loc main_arg0)
abbrev arr1 (c : Dev nD) : S4096x512.Idx → EReal := m ((c.tc : Thread nD τ).loc main_arg1)
abbrev arr2 (c : Dev nD) : S512x1024.Idx → EReal := m ((c.tc : Thread nD τ).loc main_arg2)
abbrev arr3 (c : Dev nD) : S512x1024.Idx → EReal := m ((c.tc : Thread nD τ).loc main_arg3)
abbrev arr4 (c : Dev nD) : S4096x5120.Idx → EReal := m ((c.tc : Thread nD τ).loc main_arg4)
abbrev arr5 (c : Dev nD) : S2x1024.Idx → EReal := m ((c.tc : Thread nD τ).loc main_arg5)

theorem index0 : ∀ t : Fin grid0.N, win0_0.index t = ![t.val % 8, 0] := by decide +kernel
theorem index1 : ∀ t : Fin grid0.N, win0_1.index t = ![t.val % 8, 0] := by decide +kernel
theorem index7 : ∀ t : Fin grid0.N, win0_7.index t = ![t.val % 8, 0] := by decide +kernel
theorem index8 : ∀ t : Fin grid0.N, win0_8.index t = ![t.val % 8, 0] := by decide +kernel
theorem index9 : ∀ t : Fin grid0.N, win0_9.index t = ![t.val % 8, 0] := by decide +kernel
theorem index2 : ∀ t : Fin grid0.N, win0_2.index t = ![0, 0, 0] := by decide +kernel
theorem index3 : ∀ t : Fin grid0.N, win0_3.index t = ![0, 0, 0] := by decide +kernel
theorem index4 : ∀ t : Fin grid0.N, win0_4.index t = ![t.val % 8, 3] := by decide +kernel
theorem index5 : ∀ t : Fin grid0.N, win0_5.index t = ![t.val % 8, 4] := by decide +kernel
theorem index6 : ∀ t : Fin grid0.N, win0_6.index t = ![0, 0] := by decide +kernel

/-- The first mixer's weights cut into four blocks of columns. -/
theorem weightsA (c : Dev nD) (q : Fin 4) (k : Fin 512) (j : Fin 256) :
    (V m c main_v1 : S4x512x256.Idx → EReal) (ix3 q k j) = arr2 m c (ix2 k ⟨q.val * 256 + j.val, by omega⟩) := by
  have h : V m c main_v1 = transpose S4x512x256 [1, 0, 2] (shapeCast S512x4x256 (arr2 m c) shapeCasts_S512x1024_S512x4x256)
      transposes_S512x4x256_S4x512x256_1_0_2 := by
    after_results <;> rfl
  refine (congrFun h _).trans ?_
  pointwise

theorem read2 (c : Dev nD) (t : Fin cfg0.N) (q : Fin 4) (k : Fin 512) (j : Fin 256) :
    iblk m c 2 t (ix3 q k j : S4x512x256.Idx) = arr2 m c (ix2 k ⟨q.val * 256 + j.val, by omega⟩) := by
  have e : iblk m c 2 t (ix3 q k j : S4x512x256.Idx) = V m c main_v1 (ix3 q k j : S4x512x256.Idx) := by
    blk_ext [iblk, index2 t]
  exact e.trans (weightsA m c q k j)

/-- The second mixer's weights cut into four blocks of columns. -/
theorem weightsO (c : Dev nD) (q : Fin 4) (k : Fin 512) (j : Fin 256) :
    (V m c main_v3 : S4x512x256.Idx → EReal) (ix3 q k j) = arr3 m c (ix2 k ⟨q.val * 256 + j.val, by omega⟩) := by
  have h : V m c main_v3 = transpose S4x512x256 [1, 0, 2] (shapeCast S512x4x256 (arr3 m c) shapeCasts_S512x1024_S512x4x256)
      transposes_S512x4x256_S4x512x256_1_0_2 := by
    after_results <;> rfl
  refine (congrFun h _).trans ?_
  pointwise

theorem read3 (c : Dev nD) (t : Fin cfg0.N) (q : Fin 4) (k : Fin 512) (j : Fin 256) :
    iblk m c 3 t (ix3 q k j : S4x512x256.Idx) = arr3 m c (ix2 k ⟨q.val * 256 + j.val, by omega⟩) := by
  have e : iblk m c 3 t (ix3 q k j : S4x512x256.Idx) = V m c main_v3 (ix3 q k j : S4x512x256.Idx) := by
    blk_ext [iblk, index3 t]
  exact e.trans (weightsO m c q k j)

theorem read0 (c : Dev nD) (t : Fin cfg0.N) (r : Fin 512) (k : Fin 512) :
    iblk m c 0 t (ix2 r k : S512x512.Idx) = arr0 m c (ix2 ⟨t.val % 8 * 512 + r.val, by omega⟩ k) := by
  blk_ext [iblk, V, index0 t]

theorem read1 (c : Dev nD) (t : Fin cfg0.N) (r : Fin 512) (k : Fin 512) :
    iblk m c 1 t (ix2 r k : S512x512.Idx) = arr1 m c (ix2 ⟨t.val % 8 * 512 + r.val, by omega⟩ k) := by
  blk_ext [iblk, V, index1 t]

theorem read4 (c : Dev nD) (t : Fin cfg0.N) (r : Fin 512) (k : Fin 1024) :
    iblk m c 4 t (ix2 r k : S512x1024.Idx) = arr4 m c (ix2 ⟨t.val % 8 * 512 + r.val, by omega⟩ ⟨3072 + k.val, by omega⟩) := by
  blk_ext [iblk, V, index4 t]

theorem read5 (c : Dev nD) (t : Fin cfg0.N) (r : Fin 512) (k : Fin 1024) :
    iblk m c 5 t (ix2 r k : S512x1024.Idx) = arr4 m c (ix2 ⟨t.val % 8 * 512 + r.val, by omega⟩ ⟨4096 + k.val, by omega⟩) := by
  blk_ext [iblk, V, index5 t]

theorem read6 (c : Dev nD) (t : Fin cfg0.N) (r : Fin 2) (k : Fin 1024) :
    iblk m c 6 t (ix2 r k : S2x1024.Idx) = arr5 m c (ix2 r k) := by
  blk_ext [iblk, V, index6 t]

theorem first_at (c : Dev nD) (t : Fin cfg0.N) (r : Fin 512) (j : Fin 1024) :
    blockMixer (iblk m c 0 t) (iblk m c 2 t) r j = mixer (arr0 m c) (arr2 m c) (ix2 ⟨t.val % 8 * 512 + r.val, by omega⟩ j) := by
  unfold blockMixer
  simp only [read0, read2]
  refine Finset.sum_congr rfl fun k _ => congrArg (_ * ·) (congrArg (arr2 m c) (congrArg (ix2 k) (Fin.ext ?_)))
  show j.val / 256 * 256 + j.val % 256 = j.val
  omega

theorem second_at (c : Dev nD) (t : Fin cfg0.N) (r : Fin 512) (j : Fin 1024) :
    blockMixer (iblk m c 1 t) (iblk m c 3 t) r j = mixer (arr1 m c) (arr3 m c) (ix2 ⟨t.val % 8 * 512 + r.val, by omega⟩ j) := by
  unfold blockMixer
  simp only [read1, read3]
  refine Finset.sum_congr rfl fun k _ => congrArg (_ * ·) (congrArg (arr3 m c) (congrArg (ix2 k) (Fin.ext ?_)))
  show j.val / 256 * 256 + j.val % 256 = j.val
  omega

/-- The first result: the first mixer's projection. -/
theorem kernel7 (c : Dev nD) : (dats m 0 c).arrAt 7 cfg0.N = mixer (arr0 m c) (arr2 m c) := by
  refine (dats m 0 c).arrAt_eq_of_covers 7 _ (by decide +kernel) fun t hf y => ?_
  obtain ⟨r, j, rfl⟩ : ∃ (r : Fin 512) (j : Fin 1024), y = (ix2 r j : S512x1024.Idx) := ⟨_, _, eq_ix2 y⟩
  have e : ((cfg0.win 7).blk t).view.emb (ix2 r j : S512x1024.Idx) = (ix2 ⟨t.val % 8 * 512 + r.val, by omega⟩ j : S4096x1024.Idx) := by
    blk_ext [index7 t]
  rw [e]
  blk_simp
  rw [after0_7]
  refine (first_apply (iblk m c 0 t) (iblk m c 1 t) (iblk m c 2 t) (iblk m c 3 t) (iblk m c 4 t) (iblk m c 5 t) (iblk m c 6 t) r j).trans ?_
  exact first_at m c t r j
/-- The second result: the second mixer's projection. -/
theorem kernel8 (c : Dev nD) : (dats m 0 c).arrAt 8 cfg0.N = mixer (arr1 m c) (arr3 m c) := by
  refine (dats m 0 c).arrAt_eq_of_covers 8 _ (by decide +kernel) fun t hf y => ?_
  obtain ⟨r, j, rfl⟩ : ∃ (r : Fin 512) (j : Fin 1024), y = (ix2 r j : S512x1024.Idx) := ⟨_, _, eq_ix2 y⟩
  have e : ((cfg0.win 8).blk t).view.emb (ix2 r j : S512x1024.Idx) = (ix2 ⟨t.val % 8 * 512 + r.val, by omega⟩ j : S4096x1024.Idx) := by
    blk_ext [index8 t]
  rw [e]
  blk_simp
  rw [after0_8]
  refine (second_apply (iblk m c 0 t) (iblk m c 1 t) (iblk m c 2 t) (iblk m c 3 t) (iblk m c 4 t) (iblk m c 5 t) (iblk m c 6 t) r j).trans ?_
  exact second_at m c t r j
/-- The third result: the merged rows. -/
theorem kernel9 (c : Dev nD) : (dats m 0 c).arrAt 9 cfg0.N = merged (arr0 m c) (arr1 m c) (arr2 m c) (arr3 m c) (arr4 m c) (arr5 m c) := by
  refine (dats m 0 c).arrAt_eq_of_covers 9 _ (by decide +kernel) fun t hf y => ?_
  obtain ⟨r, j, rfl⟩ : ∃ (r : Fin 512) (j : Fin 1024), y = (ix2 r j : S512x1024.Idx) := ⟨_, _, eq_ix2 y⟩
  have e : ((cfg0.win 9).blk t).view.emb (ix2 r j : S512x1024.Idx) = (ix2 ⟨t.val % 8 * 512 + r.val, by omega⟩ j : S4096x1024.Idx) := by
    blk_ext [index9 t]
  rw [e]
  blk_simp
  rw [after0_9]
  refine (merged_apply (iblk m c 0 t) (iblk m c 1 t) (iblk m c 2 t) (iblk m c 3 t) (iblk m c 4 t) (iblk m c 5 t) (iblk m c 6 t) r j).trans ?_
  unfold blockMerged
  rw [first_at, second_at, read4, read5, read6, read6]
  rfl
end Kernel

section Reference

open Cert.Reference15Ideal

variable (m : (ℓ : Loc nD τ sig) → Buf (Elt Ideal) ℓ)

/-- The reference ends with the two projections, the merged rows, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v35) = mixer (m ((c.tc : Thread nD τ).loc main_arg0)) (m ((c.tc : Thread nD τ).loc main_arg2))
      ∧ r.2.mem ((c.tc : Thread nD τ).loc main_v36) = mixer (m ((c.tc : Thread nD τ).loc main_arg1)) (m ((c.tc : Thread nD τ).loc main_arg3))
      ∧ r.2.mem ((c.tc : Thread nD τ).loc main_v37) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h⟩ := h c
    refine ⟨h0.trans (funext fun i => ?_), h1.trans (funext fun i => ?_), h2.trans (funext fun i => ?_), h⟩
    · clear h0 h1 h2 h
      generalize (m ((c.tc : Thread nD τ).loc main_arg0)) = a0
      generalize (m ((c.tc : Thread nD τ).loc main_arg2)) = a2
      obtain ⟨r, j, rfl⟩ : ∃ (r : Fin 4096) (j : Fin 1024), i = (ix2 r j : S4096x1024.Idx) := ⟨_, _, eq_ix2 i⟩
      pointwise
      rfl
    · clear h0 h1 h2 h
      generalize (m ((c.tc : Thread nD τ).loc main_arg1)) = a1
      generalize (m ((c.tc : Thread nD τ).loc main_arg3)) = a3
      obtain ⟨r, j, rfl⟩ : ∃ (r : Fin 4096) (j : Fin 1024), i = (ix2 r j : S4096x1024.Idx) := ⟨_, _, eq_ix2 i⟩
      pointwise
      rfl
    · clear h0 h1 h2 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 4096) (j : Fin 1024), i = (ix2 r j : S4096x1024.Idx) := ⟨_, _, eq_ix2 i⟩
      pointwise
      simp only [merged, merge, mixer, sigmoid, zero_sub]
      rfl)
    (Value.run m ρ)

end Reference

/-- From arguments that agree, the kernel's results are the reference's. -/
theorem algebraic : algebraic_Kernel15Ideal_Reference15Ideal (hKernel15Ideal := Cert.Kernel15Ideal.Gen.facts) (hReference15Ideal := Cert.Reference15Ideal.Gen.facts) := by
  intro m g m' g' _ hagree
  refine ⟨fun c => (Cert.Kernel15Ideal.Gen.dats m 0 c).arrAt 7 Cert.Kernel15Ideal.cfg0.N, fun c => (Cert.Kernel15Ideal.Gen.dats m 0 c).arrAt 8 Cert.Kernel15Ideal.cfg0.N, fun c => (Cert.Kernel15Ideal.Gen.dats m 0 c).arrAt 9 Cert.Kernel15Ideal.cfg0.N,
    (θ_run _ _ _).mono (fun r h c => ?_) (Cert.Kernel15Ideal.Value.run_blocks m g),
    (θ_run _ _ _).mono (fun r h c => ?_) (reference_run m' g')⟩
  · exact h c
  · obtain ⟨h0, h1, h2, h⟩ := h c
    obtain ⟨a0, a1, a2, a3, a4, a5⟩ := hagree c
    refine ⟨h0.trans ?_, h1.trans ?_, h2.trans ?_, h⟩
    · rw [a0, a2]
      exact (kernel7 m c).symm
    · rw [a1, a3]
      exact (kernel8 m c).symm
    · rw [a0, a1, a2, a3, a4, a5]
      exact (kernel9 m c).symm

end Cert.MergeFwd

end
-- ==== Proof.ConvFwd.lean ====
/- The gated short convolution: a causal convolution of three taps over the positions, times its gate. -/
module

public import Idealize.ShloMosaic.Lib.KernelVsHost
public import proofs.«01_k».proof.Proof.ShortConvKernel
public import proofs.«01_k».proof.Proof.ShortConvReference
public import proofs.«01_k».proof.Proof.Gen.Kernel17Ideal.Value
public import proofs.«01_k».proof.Proof.Gen.Reference17Ideal.Run
public import proofs.«01_k».proof.Defs

@[expose] public section

set_option maxRecDepth 16384

noncomputable section

namespace Cert.ConvFwd

open Idealize.ShloMosaic Idealize.ShloMosaic.TcCoe Idealize.SL.Sem Cert.ShortConv

section Kernel

open Cert.Kernel17Ideal Cert.Kernel17Ideal.Gen

/-- The gate: the projection's first columns. -/
def gate (p : S4096x5120.Idx → EReal) (i : S4096x512.Idx) : EReal := p (ix2 (i 0) ⟨(i 1).val, by have : (i 1).val < 512 := (i 1).isLt; omega⟩)

/-- The gated convolution. A factor's gradient is the other factor times what arrives, so this has the form of the gate's gradient
    with the gate in the arriving gradient's place. -/
def convolved (p : S4096x5120.Idx → EReal) (w : S3x512.Idx → EReal) (i : S4096x512.Idx) : EReal := dGate (gate p) p w (i 0) (i 1)

variable (m : (ℓ : Loc nD τ sig) → Buf (Elt Ideal) ℓ)

abbrev arr0 (c : Dev nD) : S4096x5120.Idx → EReal := m ((c.tc : Thread nD τ).loc main_arg0)
abbrev arr1 (c : Dev nD) : S3x512.Idx → EReal := m ((c.tc : Thread nD τ).loc main_arg1)

theorem index0 : ∀ t : Fin grid0.N, win0_0.index t = ![0, t.val] := by decide +kernel
theorem index1 : ∀ t : Fin grid0.N, win0_1.index t = ![0, 4 + t.val] := by decide +kernel
theorem index2 : ∀ t : Fin grid0.N, win0_2.index t = ![0, 8 + t.val] := by decide +kernel
theorem index3 : ∀ t : Fin grid0.N, win0_3.index t = ![0, t.val] := by decide +kernel
theorem index4 : ∀ t : Fin grid0.N, win0_4.index t = ![0, t.val] := by decide +kernel

theorem read0 (c : Dev nD) (t : Fin grid0.N) (y : S4096x128.Idx) :
    iblk m c 0 t y = arr0 m c (ix2 (y 0) ⟨(chan t (y 1)).val, by omega⟩) := by
  blk_ext [iblk, V, index0 t, chan]

theorem read1 (c : Dev nD) (t : Fin grid0.N) (y : S4096x128.Idx) :
    iblk m c 1 t y = arr0 m c (ix2 (y 0) ⟨512 + (chan t (y 1)).val, by omega⟩) := by
  blk_ext [iblk, V, index1 t, chan]

theorem read2 (c : Dev nD) (t : Fin grid0.N) (y : S4096x128.Idx) :
    iblk m c 2 t y = arr0 m c (ix2 (y 0) ⟨1024 + (chan t (y 1)).val, by omega⟩) := by
  blk_ext [iblk, V, index2 t, chan]

theorem read3 (c : Dev nD) (t : Fin grid0.N) (y : S3x128.Idx) :
    iblk m c 3 t y = arr1 m c (ix2 (y 0) (chan t (y 1))) := by
  blk_ext [iblk, V, index3 t, chan]

/-- The result: the gated convolution at every position and channel. -/
theorem kernel4 (c : Dev nD) : (dats m 0 c).arrAt 4 cfg0.N = convolved (arr0 m c) (arr1 m c) := by
  refine (dats m 0 c).arrAt_eq_of_covers 4 _ (by decide +kernel) fun t hf y => ?_
  have e : ((cfg0.win 4).blk t).view.emb y = (ix2 (y 0) (chan t (y 1)) : S4096x512.Idx) := by
    blk_ext [index4 t, chan]
  rw [e]
  blk_simp
  rw [after0_4]
  frame_out
  pointwise [k0_pay1]
  simp only [read0, read1, read2, read3]
  pointwise
  rw [back_eq (fun q => arr1 m c (ix2 0 (chan t (y 1))) * (arr0 m c (ix2 q ⟨512 + (chan t (y 1)).val, by omega⟩) * arr0 m c (ix2 q ⟨1024 + (chan t (y 1)).val, by omega⟩)))
      (input (arr0 m c)) 2 (by omega) (y 0) (chan t (y 1)) _ _ (fun _ => rfl),
    back_eq (fun q => arr1 m c (ix2 1 (chan t (y 1))) * (arr0 m c (ix2 q ⟨512 + (chan t (y 1)).val, by omega⟩) * arr0 m c (ix2 q ⟨1024 + (chan t (y 1)).val, by omega⟩)))
      (input (arr0 m c)) 1 (by omega) (y 0) (chan t (y 1)) _ _ (fun _ => rfl)]
  rfl

end Kernel

section Reference

open Cert.Reference17Ideal

variable (m : (ℓ : Loc nD τ sig) → Buf (Elt Ideal) ℓ)

/-- The reference ends with the gated convolution and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v28) = convolved (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    · clear h0 h
      generalize (m ((c.tc : Thread nD τ).loc main_arg0)) = a0
      generalize (m ((c.tc : Thread nD τ).loc main_arg1)) = a1
      obtain ⟨r, j, rfl⟩ : ∃ (r : Fin 4096) (j : Fin 512), i = (ix2 r j : S4096x512.Idx) := ⟨_, _, eq_ix2 i⟩
      pointwise
      exact dGate_read (gate a0) a0 a1 r j)
    (Value.run m ρ)

end Reference

/-- From arguments that agree, the kernel's results are the reference's. -/
theorem algebraic : algebraic_Kernel17Ideal_Reference17Ideal (hKernel17Ideal := Cert.Kernel17Ideal.Gen.facts) (hReference17Ideal := Cert.Reference17Ideal.Gen.facts) := by
  intro m g m' g' _ hagree
  refine ⟨fun c => (Cert.Kernel17Ideal.Gen.dats m 0 c).arrAt 4 Cert.Kernel17Ideal.cfg0.N,
    (θ_run _ _ _).mono (fun r h c => ?_) (Cert.Kernel17Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    · rw [a0, a1]
      exact (kernel4 m c).symm

end Cert.ConvFwd

end
-- ==== Proof.NormFwd.lean ====
/- The norm before the first block: rows normed, weighted, scaled and shifted. -/
module

public import Idealize.ShloMosaic.Lib.KernelVsHost
public import proofs.«01_k».proof.Proof.NormForward
public import proofs.«01_k».proof.Proof.Gen.Kernel18Ideal.Value
public import proofs.«01_k».proof.Proof.Gen.Reference18Ideal.Run
public import proofs.«01_k».proof.Defs

@[expose] public section

set_option maxRecDepth 16384

noncomputable section

namespace Cert.NormFwd

open Idealize.ShloMosaic Idealize.ShloMosaic.TcCoe Idealize.SL.Sem Cert.RowSums Cert.NormGrad Cert.NormForward

section Kernel

open Cert.Kernel18Ideal Cert.Kernel18Ideal.Gen

/-- The rows' norm, scaled and shifted. -/
def rows (x : S4096x1024.Idx → EReal) (g shift scale : S1024.Idx → EReal) (i : S4096x1024.Idx) : EReal :=
  modulated (fun k => x (ix2 (i 0) k)) (fun k => g (ix1 k)) (fun k => shift (ix1 k)) (fun k => scale (ix1 k)) (i 1)

theorem rows_apply (x0 : S512x1024.Idx → EReal) (x1 : S8x1024.Idx → EReal) (r : Fin 512) (j : Fin 1024) :
    out0_2 (F := Ideal) x0 x1 (ix2 r j) = modulated (fun k => x0 (ix2 r k)) (fun k => x1 (ix2 0 k)) (fun k => x1 (ix2 2 k)) (fun k => x1 (ix2 1 k)) j := by
  refine congrFun (?_ : _ = fun y : S512x1024.Idx => modulated (fun k => x0 (ix2 (y 0) k)) (fun k => x1 (ix2 0 k)) (fun k => x1 (ix2 2 k)) (fun k => x1 (ix2 1 k)) (y 1)) (ix2 r j)
  funext y
  unfold out0_2
  canon_tiles x e
  obtain ⟨r, j, rfl⟩ : ∃ (r : Fin 512) (j : Fin 1024), x = (ix2 r j : S512x1024.Idx) := ⟨_, _, eq_ix2 x⟩
  rw [idx_eq y r j e0 e1]
  pointwise [k0_pay1, View.ld]
  show _ = modulated (fun k => x0 (ix2 r k)) (fun k => x1 (ix2 0 k)) (fun k => x1 (ix2 2 k)) (fun k => x1 (ix2 1 k)) j
  simp only [modulated, normed, invRms, meanSq, width, eps]

variable (m : (ℓ : Loc nD τ sig) → Buf (Elt Ideal) ℓ)

abbrev arr0 (c : Dev nD) : S4096x1024.Idx → EReal := m ((c.tc : Thread nD τ).loc main_arg0)
abbrev arr1 (c : Dev nD) : S1024.Idx → EReal := m ((c.tc : Thread nD τ).loc main_arg1)
abbrev arr2 (c : Dev nD) : S1024.Idx → EReal := m ((c.tc : Thread nD τ).loc main_arg2)
abbrev arr3 (c : Dev nD) : S1024.Idx → EReal := m ((c.tc : Thread nD τ).loc main_arg3)

theorem index0 : ∀ t : Fin grid0.N, win0_0.index t = ![t.val % 8, 0] := by decide +kernel
theorem index2 : ∀ t : Fin grid0.N, win0_2.index t = ![t.val % 8, 0] := by decide +kernel
theorem index1 : ∀ t : Fin grid0.N, win0_1.index t = ![0, 0] := by decide +kernel

/-- A row of zeros. -/
def zeroRow : S1x1024.Idx → EReal := broadcastInDim S1x1024 ![1] bcast_S1024_S1x1024_1 (broadcastInDim S1024 ![] bcast_S_S1024 (constant (F := Ideal) S_ .f32 0x00000000#32))

/-- The norm's vectors, one to a row. -/
theorem packedNorm (c : Dev nD) :
    V m c main_v7 = concatenate S8x1024 0 [⟨S4x1024, concatenate S4x1024 0 [⟨S1x1024, broadcastInDim S1x1024 ![1] bcast_S1024_S1x1024_1 (arr1 m c)⟩, ⟨S1x1024, broadcastInDim S1x1024 ![1] bcast_S1024_S1x1024_1 (arr3 m c)⟩, ⟨S1x1024, broadcastInDim S1x1024 ![1] bcast_S1024_S1x1024_1 (arr2 m c)⟩, ⟨S1x1024, zeroRow⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem read0 (c : Dev nD) (t : Fin cfg0.N) (r : Fin 512) (k : Fin 1024) :
    iblk m c 0 t (ix2 r k : S512x1024.Idx) = arr0 m c (ix2 ⟨t.val % 8 * 512 + r.val, by omega⟩ k) := by
  blk_ext [iblk, V, index0 t]

theorem read_weights (c : Dev nD) (t : Fin cfg0.N) (j : Fin 1024) : iblk m c 1 t (ix2 0 j : S8x1024.Idx) = arr1 m c (ix1 j) := by
  have e : iblk m c 1 t (ix2 0 j : S8x1024.Idx) = V m c main_v7 (ix2 0 j : S8x1024.Idx) := by
    blk_ext [iblk, index1 t]
  refine e.trans ((congrFun (packedNorm m c) _).trans ?_)
  pointwise

theorem read_scale (c : Dev nD) (t : Fin cfg0.N) (j : Fin 1024) : iblk m c 1 t (ix2 1 j : S8x1024.Idx) = arr3 m c (ix1 j) := by
  have e : iblk m c 1 t (ix2 1 j : S8x1024.Idx) = V m c main_v7 (ix2 1 j : S8x1024.Idx) := by
    blk_ext [iblk, index1 t]
  refine e.trans ((congrFun (packedNorm m c) _).trans ?_)
  pointwise

theorem read_shift (c : Dev nD) (t : Fin cfg0.N) (j : Fin 1024) : iblk m c 1 t (ix2 2 j : S8x1024.Idx) = arr2 m c (ix1 j) := by
  have e : iblk m c 1 t (ix2 2 j : S8x1024.Idx) = V m c main_v7 (ix2 2 j : S8x1024.Idx) := by
    blk_ext [iblk, index1 t]
  refine e.trans ((congrFun (packedNorm m c) _).trans ?_)
  pointwise

/-- The result: the rows, normed. -/
theorem kernel2 (c : Dev nD) : (dats m 0 c).arrAt 2 cfg0.N = rows (arr0 m c) (arr1 m c) (arr2 m c) (arr3 m c) := by
  refine (dats m 0 c).arrAt_eq_of_covers 2 _ (by decide +kernel) fun t hf y => ?_
  obtain ⟨r, j, rfl⟩ : ∃ (r : Fin 512) (j : Fin 1024), y = (ix2 r j : S512x1024.Idx) := ⟨_, _, eq_ix2 y⟩
  have e : ((cfg0.win 2).blk t).view.emb (ix2 r j : S512x1024.Idx) = (ix2 ⟨t.val % 8 * 512 + r.val, by omega⟩ j : S4096x1024.Idx) := by
    blk_ext [index2 t]
  rw [e]
  blk_simp
  rw [after0_2]
  refine (rows_apply (iblk m c 0 t) (iblk m c 1 t) r j).trans ?_
  simp only [read0, read_weights, read_scale, read_shift]
  rfl
end Kernel

section Reference

open Cert.Reference18Ideal

variable (m : (ℓ : Loc nD τ sig) → Buf (Elt Ideal) ℓ)

/-- The reference ends with the normed rows and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v21) = rows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h⟩ := h c
    refine ⟨h0.trans (funext fun i => ?_), h⟩
    · clear h0 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      obtain ⟨r, j, rfl⟩ : ∃ (r : Fin 4096) (j : Fin 1024), i = (ix2 r j : S4096x1024.Idx) := ⟨_, _, eq_ix2 i⟩
      pointwise
      simp only [rows, modulated, normed, invRms, meanSq, width, eps]
      rfl)
    (Value.run m ρ)

end Reference

/-- From arguments that agree, the kernel's results are the reference's. -/
theorem algebraic : algebraic_Kernel18Ideal_Reference18Ideal (hKernel18Ideal := Cert.Kernel18Ideal.Gen.facts) (hReference18Ideal := Cert.Reference18Ideal.Gen.facts) := by
  intro m g m' g' _ hagree
  refine ⟨fun c => (Cert.Kernel18Ideal.Gen.dats m 0 c).arrAt 2 Cert.Kernel18Ideal.cfg0.N,
    (θ_run _ _ _).mono (fun r h c => ?_) (Cert.Kernel18Ideal.Value.run_blocks m g),
    (θ_run _ _ _).mono (fun r h c => ?_) (reference_run m' g')⟩
  · exact h c
  · obtain ⟨h0, h⟩ := h c
    obtain ⟨a0, a1, a2, a3⟩ := hagree c
    refine ⟨h0.trans ?_, h⟩
    · rw [a0, a1, a2, a3]
      exact (kernel2 m c).symm

end Cert.NormFwd

end
-- ==== Proof.AdaFwd.lean ====
/- The conditioning vectors' shifts, scales and gates: SiLU of the conditioning times the weights, plus the bias. -/
module

public import Idealize.ShloMosaic.Lib.KernelVsHost
public import proofs.«01_k».proof.Proof.FfnDownKernel
public import proofs.«01_k».proof.Proof.RowSums
public import proofs.«01_k».proof.Proof.Gen.Kernel19Ideal.Value
public import proofs.«01_k».proof.Proof.Gen.Reference19Ideal.Run
public import proofs.«01_k».proof.Defs

@[expose] public section

set_option maxRecDepth 16384

noncomputable section

namespace Cert.AdaFwd

open Idealize.ShloMosaic Idealize.ShloMosaic.TcCoe Idealize.SL.Sem Cert.FfnDown Cert.RowSums

section Kernel

open Cert.Kernel19Ideal Cert.Kernel19Ideal.Gen

/-- SiLU of the conditioning vectors. -/
def silu (v : EReal) : EReal := v * sigmoid v

/-- The shifts, scales and gates. -/
def modulation (v : S8x1024.Idx → EReal) (w : S1024x2304.Idx → EReal) (b : S2304.Idx → EReal) (i : S8x2304.Idx) : EReal :=
  (∑ k : Fin 1024, silu (v (ix2 (i 0) k)) * w (ix2 k (i 1))) + b (ix1 (i 1))

/-- A block of columns. -/
def blockModulation (x0 : S8x1024.Idx → EReal) (x1 : S1024x768.Idx → EReal) (x2 : S1x768.Idx → EReal) (r : Fin 8) (j : Fin 768) : EReal :=
  (∑ k : Fin 1024, silu (x0 (ix2 r k)) * x1 (ix2 k j)) + x2 (ix2 0 j)

theorem out_apply (x0 : S8x1024.Idx → EReal) (x1 : S1024x768.Idx → EReal) (x2 : S1x768.Idx → EReal) (r : Fin 8) (j : Fin 768) :
    out0_3 (F := Ideal) x0 x1 x2 (ix2 r j) = blockModulation x0 x1 x2 r j := by
  refine congrFun (?_ : _ = fun y : S8x768.Idx => blockModulation x0 x1 x2 (y 0) (y 1)) (ix2 r j)
  funext y
  unfold out0_3
  canon_tiles x e
  obtain ⟨r, j, rfl⟩ : ∃ (r : Fin 8) (j : Fin 768), x = (ix2 r j : S8x768.Idx) := ⟨_, _, eq_ix2 x⟩
  rw [idx_eq y r j e0 e1]
  pointwise [k0_pay1, View.ld]
  show _ = blockModulation x0 x1 x2 r j
  simp only [blockModulation, silu, sigmoid, zero_sub]

variable (m : (ℓ : Loc nD τ sig) → Buf (Elt Ideal) ℓ)

theorem lt_points (t : Fin cfg0.N) : t.val < 3 := t.isLt

abbrev arr0 (c : Dev nD) : S8x1024.Idx → EReal := m ((c.tc : Thread nD τ).loc main_arg0)
abbrev arr1 (c : Dev nD) : S1024x2304.Idx → EReal := m ((c.tc : Thread nD τ).loc main_arg1)
abbrev arr2 (c : Dev nD) : S2304.Idx → EReal := m ((c.tc : Thread nD τ).loc main_arg2)

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel

theorem read0 (c : Dev nD) (t : Fin cfg0.N) (r : Fin 8) (k : Fin 1024) :
    iblk m c 0 t (ix2 r k : S8x1024.Idx) = arr0 m c (ix2 r k) := by
  blk_ext [iblk, V, index0 t]

theorem read1 (c : Dev nD) (t : Fin cfg0.N) (k : Fin 1024) (j : Fin 768) :
    iblk m c 1 t (ix2 k j : S1024x768.Idx) = arr1 m c (ix2 k ⟨t.val * 768 + j.val, by have := lt_points t; omega⟩) := by
  blk_ext [iblk, V, index1 t]

theorem read2 (c : Dev nD) (t : Fin cfg0.N) (j : Fin 768) :
    iblk m c 2 t (ix2 0 j : S1x768.Idx) = arr2 m c (ix1 ⟨t.val * 768 + j.val, by have := lt_points t; omega⟩) := by
  have e : iblk m c 2 t (ix2 0 j : S1x768.Idx) = V m c main_v0 (ix2 0 ⟨t.val * 768 + j.val, by have := lt_points t; omega⟩ : S1x2304.Idx) := by
    blk_ext [iblk, index2 t]
  have h : V m c main_v0 = broadcastInDim S1x2304 ![1] bcast_S2304_S1x2304_1 (arr2 m c) := by
    after_results <;> rfl
  refine e.trans ((congrFun h _).trans ?_)
  pointwise

/-- The result: every shift, scale and gate. -/
theorem kernel3 (c : Dev nD) : (dats m 0 c).arrAt 3 cfg0.N = modulation (arr0 m c) (arr1 m c) (arr2 m c) := by
  refine (dats m 0 c).arrAt_eq_of_covers 3 _ (by decide +kernel) fun t hf y => ?_
  obtain ⟨r, j, rfl⟩ : ∃ (r : Fin 8) (j : Fin 768), y = (ix2 r j : S8x768.Idx) := ⟨_, _, eq_ix2 y⟩
  have e : ((cfg0.win 3).blk t).view.emb (ix2 r j : S8x768.Idx) = (ix2 r ⟨t.val * 768 + j.val, by have := lt_points t; omega⟩ : S8x2304.Idx) := by
    blk_ext [index3 t]
  rw [e]
  blk_simp
  rw [after0_3]
  refine (out_apply (iblk m c 0 t) (iblk m c 1 t) (iblk m c 2 t) r j).trans ?_
  unfold blockModulation
  simp only [read0, read1, read2]
  rfl

end Kernel

section Reference

open Cert.Reference19Ideal

variable (m : (ℓ : Loc nD τ sig) → Buf (Elt Ideal) ℓ)

/-- The reference ends with the shifts, scales and gates and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v8) = modulation (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h⟩ := h c
    refine ⟨h0.trans (funext fun i => ?_), h⟩
    · clear h0 h
      generalize (m ((c.tc : Thread nD τ).loc main_arg0)) = a0
      generalize (m ((c.tc : Thread nD τ).loc main_arg1)) = a1
      generalize (m ((c.tc : Thread nD τ).loc main_arg2)) = a2
      obtain ⟨r, j, rfl⟩ : ∃ (r : Fin 8) (j : Fin 2304), i = (ix2 r j : S8x2304.Idx) := ⟨_, _, eq_ix2 i⟩
      pointwise
      simp only [modulation, silu, sigmoid, zero_sub]
      rfl)
    (Value.run m ρ)

end Reference

/-- From arguments that agree, the kernel's results are the reference's. -/
theorem algebraic : algebraic_Kernel19Ideal_Reference19Ideal (hKernel19Ideal := Cert.Kernel19Ideal.Gen.facts) (hReference19Ideal := Cert.Reference19Ideal.Gen.facts) := by
  intro m g m' g' _ hagree
  refine ⟨fun c => (Cert.Kernel19Ideal.Gen.dats m 0 c).arrAt 3 Cert.Kernel19Ideal.cfg0.N,
    (θ_run _ _ _).mono (fun r h c => ?_) (Cert.Kernel19Ideal.Value.run_blocks m g),
    (θ_run _ _ _).mono (fun r h c => ?_) (reference_run m' g')⟩
  · exact h c
  · obtain ⟨h0, h⟩ := h c
    obtain ⟨a0, a1, a2⟩ := hagree c
    refine ⟨h0.trans ?_, h⟩
    · rw [a0, a1, a2]
      exact (kernel3 m c).symm

end Cert.AdaFwd

end
-- ==== Proof.AdaBwd.lean ====
/- The gradient of the conditioning's weights: SiLU of the conditioning times the gradient of the shifts, scales and gates. -/
module

public import Idealize.ShloMosaic.Lib.KernelVsHost
public import proofs.«01_k».proof.Proof.FfnDownKernel
public import proofs.«01_k».proof.Proof.RowSums
public import proofs.«01_k».proof.Proof.Gen.Kernel20Ideal.Value
public import proofs.«01_k».proof.Proof.Gen.Reference20Ideal.Run
public import proofs.«01_k».proof.Defs

@[expose] public section

set_option maxRecDepth 16384

noncomputable section

namespace Cert.AdaBwd

open Idealize.ShloMosaic Idealize.ShloMosaic.TcCoe Idealize.SL.Sem Cert.FfnDown Cert.RowSums

section Kernel

open Cert.Kernel20Ideal Cert.Kernel20Ideal.Gen

/-- The weights' gradient, a sum over the eight conditioning vectors. -/
def dModulation (v : S8x1024.Idx → EReal) (d : S8x2304.Idx → EReal) (i : S1024x2304.Idx) : EReal :=
  ∑ k : Fin 8, v (ix2 k (i 0)) * sigmoid (v (ix2 k (i 0))) * d (ix2 k (i 1))

/-- A block of columns. -/
def blockGrad (x0 : S1024x8.Idx → EReal) (x1 : S8x768.Idx → EReal) (r : Fin 1024) (j : Fin 768) : EReal :=
  ∑ k : Fin 8, x0 (ix2 r k) * sigmoid (x0 (ix2 r k)) * x1 (ix2 k j)

theorem out_apply (x0 : S1024x8.Idx → EReal) (x1 : S8x768.Idx → EReal) (r : Fin 1024) (j : Fin 768) :
    out0_2 (F := Ideal) x0 x1 (ix2 r j) = blockGrad x0 x1 r j := by
  refine congrFun (?_ : _ = fun y : S1024x768.Idx => blockGrad x0 x1 (y 0) (y 1)) (ix2 r j)
  funext y
  unfold out0_2
  canon_tiles x e
  obtain ⟨r, j, rfl⟩ : ∃ (r : Fin 1024) (j : Fin 768), x = (ix2 r j : S1024x768.Idx) := ⟨_, _, eq_ix2 x⟩
  rw [idx_eq y r j e0 e1]
  pointwise [k0_pay1, View.ld]
  show _ = blockGrad x0 x1 r j
  simp only [blockGrad, sigmoid, zero_sub]

variable (m : (ℓ : Loc nD τ sig) → Buf (Elt Ideal) ℓ)

theorem lt_points (t : Fin cfg0.N) : t.val < 3 := t.isLt

abbrev arr0 (c : Dev nD) : S8x1024.Idx → EReal := m ((c.tc : Thread nD τ).loc main_arg0)
abbrev arr1 (c : Dev nD) : S8x2304.Idx → EReal := m ((c.tc : Thread nD τ).loc main_arg1)

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

theorem read0 (c : Dev nD) (t : Fin cfg0.N) (r : Fin 1024) (k : Fin 8) :
    iblk m c 0 t (ix2 r k : S1024x8.Idx) = arr0 m c (ix2 k r) := by
  have e : iblk m c 0 t (ix2 r k : S1024x8.Idx) = V m c main_v0 (ix2 r k : S1024x8.Idx) := by
    blk_ext [iblk, index0 t]
  have h : V m c main_v0 = transpose S1024x8 [1, 0] (arr0 m c) transposes_S8x1024_S1024x8_1_0 := by
    after_results <;> rfl
  refine e.trans ((congrFun h _).trans ?_)
  pointwise

theorem read1 (c : Dev nD) (t : Fin cfg0.N) (k : Fin 8) (j : Fin 768) :
    iblk m c 1 t (ix2 k j : S8x768.Idx) = arr1 m c (ix2 k ⟨t.val * 768 + j.val, by have := lt_points t; omega⟩) := by
  blk_ext [iblk, V, index1 t]

/-- The result: the whole gradient. -/
theorem kernel2 (c : Dev nD) : (dats m 0 c).arrAt 2 cfg0.N = dModulation (arr0 m c) (arr1 m c) := by
  refine (dats m 0 c).arrAt_eq_of_covers 2 _ (by decide +kernel) fun t hf y => ?_
  obtain ⟨r, j, rfl⟩ : ∃ (r : Fin 1024) (j : Fin 768), y = (ix2 r j : S1024x768.Idx) := ⟨_, _, eq_ix2 y⟩
  have e : ((cfg0.win 2).blk t).view.emb (ix2 r j : S1024x768.Idx) = (ix2 r ⟨t.val * 768 + j.val, by have := lt_points t; omega⟩ : S1024x2304.Idx) := by
    blk_ext [index2 t]
  rw [e]
  blk_simp
  rw [after0_2]
  refine (out_apply (iblk m c 0 t) (iblk m c 1 t) r j).trans ?_
  unfold blockGrad
  simp only [read0, read1]
  rfl

end Kernel

section Reference

open Cert.Reference20Ideal

variable (m : (ℓ : Loc nD τ sig) → Buf (Elt Ideal) ℓ)

/-- The reference ends with the gradient and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v8) = dModulation (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h⟩ := h c
    refine ⟨h0.trans (funext fun i => ?_), h⟩
    · clear h0 h
      generalize (m ((c.tc : Thread nD τ).loc main_arg0)) = a0
      generalize (m ((c.tc : Thread nD τ).loc main_arg1)) = a1
      obtain ⟨r, j, rfl⟩ : ∃ (r : Fin 1024) (j : Fin 2304), i = (ix2 r j : S1024x2304.Idx) := ⟨_, _, eq_ix2 i⟩
      pointwise
      refine Finset.sum_congr rfl fun k _ => ?_
      simp only [sigmoid, zero_sub]
      exact mul_comm _ _)
    (Value.run m ρ)

end Reference

/-- From arguments that agree, the kernel's results are the reference's. -/
theorem algebraic : algebraic_Kernel20Ideal_Reference20Ideal (hKernel20Ideal := Cert.Kernel20Ideal.Gen.facts) (hReference20Ideal := Cert.Reference20Ideal.Gen.facts) := by
  intro m g m' g' _ hagree
  refine ⟨fun c => (Cert.Kernel20Ideal.Gen.dats m 0 c).arrAt 2 Cert.Kernel20Ideal.cfg0.N,
    (θ_run _ _ _).mono (fun r h c => ?_) (Cert.Kernel20Ideal.Value.run_blocks m g),
    (θ_run _ _ _).mono (fun r h c => ?_) (reference_run m' g')⟩
  · exact h c
  · obtain ⟨h0, h⟩ := h c
    obtain ⟨a0, a1⟩ := hagree c
    refine ⟨h0.trans ?_, h⟩
    · rw [a0, a1]
      exact (kernel2 m c).symm

end Cert.AdaBwd

end
-- ==== Proof.LossGrad.lean ====
/- The loss of a row under its root-mean-square norm, and the loss's gradient. -/
module

public import proofs.«01_k».proof.Proof.NormGrad

@[expose] public section

noncomputable section

namespace Cert.LossGrad

open Idealize.ShloMosaic Cert.NormGrad

/-- One half. -/
def half : EReal := Ideal.ofBits .f32 0x3F000000#32

/-- The reciprocal of the number of columns. -/
def perColumn : EReal := Ideal.ofBits .f32 0x3A800000#32

/-- A row `h`, normed and weighted by `g`, less its target `t`. -/
def err (h g t : Fin 1024 → EReal) (j : Fin 1024) : EReal := normed h j * g j - t j

/-- The sum of a row's squared errors. -/
def errSq (h g t : Fin 1024 → EReal) : EReal := ∑ j, err h g t j * err h g t j

/-- The gradient of the normed and weighted row. -/
def dOut (h g t : Fin 1024 → EReal) (j : Fin 1024) : EReal := err h g t j * perColumn

/-- The gradient of the row: through the norm without scale, nothing arriving past it. -/
def dRow (h g t : Fin 1024 → EReal) (j : Fin 1024) : EReal := dInput (fun _ => 0) h (dOut h g t) (fun _ => 0) g j

/-- A row's part of the gradient of the norm's weights. -/
def dNorm (h g t : Fin 1024 → EReal) (j : Fin 1024) : EReal := dOut h g t j * normed h j

end Cert.LossGrad

end
-- ==== Proof.LossHeadKernel.lean ====
/- The blocks of the loss and its gradient behind the feed-forward's down projection. -/
module

public import proofs.«01_k».proof.Proof.LossGrad
public import proofs.«01_k».proof.Proof.WeightGrad
public import proofs.«01_k».proof.Proof.Gen.Kernel16Ideal.Value
public import Idealize.ShloMosaic.Lib.KernelVsHost
public import Idealize.ShloMosaic.Lib.Pipeline.ReadBack
public import Idealize.ShloMosaic.Lib.VecWindow

@[expose] public section

set_option maxRecDepth 16384

noncomputable section

namespace Cert.LossHead

open Idealize.ShloMosaic Idealize.ShloMosaic.TcCoe Idealize.SL.Sem Cert.Kernel16Ideal Cert.Kernel16Ideal.Gen Cert.WeightGrad Cert.RowSums Cert.NormGrad Cert.LossGrad

/-- A block's branch: the hidden rows times the weights. -/
def branch (x0 : S512x2816.Idx → EReal) (x1 : S2816x1024.Idx → EReal) (r : Fin 512) (j : Fin 1024) : EReal := ∑ k : Fin 2816, x0 (ix2 r k) * x1 (ix2 k j)

/-- A block's rows past the branch, which enters by half its gate. -/
def row (x0 : S512x2816.Idx → EReal) (x1 : S2816x1024.Idx → EReal) (x2 : S512x1024.Idx → EReal) (x3 : S8x1024.Idx → EReal) (r : Fin 512) (j : Fin 1024) : EReal :=
  x2 (ix2 r j) + half * x3 (ix2 3 j) * branch x0 x1 r j

section Points

variable (c : Dev nD) (i : grid0.Coords) (a1 : Memref sig .tc .vmem S512x2816 .bf16) (h1 : a1.IsWhole)
  (a2 : Memref sig .tc .vmem S2816x1024 .bf16) (h2 : a2.IsWhole)
  (a3 : Memref sig .tc .vmem S512x1024 .f32) (h3 : a3.IsWhole)
  (a4 : Memref sig .tc .vmem S8x1024 .f32) (h4 : a4.IsWhole)
  (a5 : Memref sig .tc .vmem S8x1024 .f32) (h5 : a5.IsWhole)
  (a6 : Memref sig .tc .vmem S512x1024 .f32) (h6 : a6.IsWhole)
  (a7 : Memref sig .tc .vmem S512x1024 .f32) (h7 : a7.IsWhole)
  (a8 : Memref sig .tc .vmem S512x1024 .bf16) (h8 : a8.IsWhole)
  (a9 : Memref sig .tc .vmem S8x1024 .f32) (h9 : a9.IsWhole)
  (a10 : Memref sig .tc .vmem S8x128 .f32) (h10 : a10.IsWhole)
  (x0 : Vec Ideal S512x2816 .bf16) (x1 : Vec Ideal S2816x1024 .bf16) (x2 : Vec Ideal S512x1024 .f32) (x3 x4 : Vec Ideal S8x1024 .f32)
  (x5 : Vec Ideal S512x1024 .f32) (xo8 : Vec Ideal S8x1024 .f32) (xo9 : Vec Ideal S8x128 .f32)

/-- The row's gradient in a block, and its part of the norm weights'. -/
def dBlock (x0 : S512x2816.Idx → EReal) (x1 : S2816x1024.Idx → EReal) (x2 : S512x1024.Idx → EReal) (x3 x4 : S8x1024.Idx → EReal) (x5 : S512x1024.Idx → EReal) (r : Fin 512) (j : Fin 1024) : EReal :=
  dRow (row x0 x1 x2 x3 r) (fun k => x4 (ix2 0 k)) (fun k => x5 (ix2 r k)) j
def dNormBlock (x0 : S512x2816.Idx → EReal) (x1 : S2816x1024.Idx → EReal) (x2 : S512x1024.Idx → EReal) (x3 x4 : S8x1024.Idx → EReal) (x5 : S512x1024.Idx → EReal) (r : Fin 512) (j : Fin 1024) : EReal :=
  dNorm (row x0 x1 x2 x3 r) (fun k => x4 (ix2 0 k)) (fun k => x5 (ix2 r k)) j

/-- The block's loss. -/
def lossBlock (x0 : S512x2816.Idx → EReal) (x1 : S2816x1024.Idx → EReal) (x2 : S512x1024.Idx → EReal) (x3 x4 : S8x1024.Idx → EReal) (x5 : S512x1024.Idx → EReal) : EReal :=
  half * (∑ r : Fin 512, errSq (row x0 x1 x2 x3 r) (fun k => x4 (ix2 0 k)) (fun k => x5 (ix2 r k))) * perColumn

/-- Output 6 at the first point: the rows' gradient. -/
theorem first6 (hc0 : cond0_0 i) (r : Fin 512) (j : Fin 1024) :
    out0_A_6 c i a1 h1 a2 h2 a3 h3 a4 h4 a5 h5 a6 h6 a7 h7 a8 h8 a9 h9 a10 h10 hc0 x0 x1 x2 x3 x4 x5 (ix2 r j) = dBlock x0 x1 x2 x3 x4 x5 r j := by
  refine congrFun (?_ : _ = fun y : S512x1024.Idx => dBlock x0 x1 x2 x3 x4 x5 (y 0) (y 1)) (ix2 r j)
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  funext y
  canon_tiles x e
  all_goals
    obtain ⟨r, j, rfl⟩ : ∃ (r : Fin 512) (j : Fin 1024), x = (ix2 r j : S512x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    show _ = dBlock x0 x1 x2 x3 x4 x5 r j
    simp only [dBlock, dRow, dNorm, dOut, errSq, err, half, perColumn, dInput, dPlain, dNormed, normed, invRms, meanSq, width, eps, row, branch, zero_add, add_zero, mul_one]

/-- Output 6 at the later points: the rows' gradient. -/
theorem later6 (hc0 : ¬cond0_0 i) (r : Fin 512) (j : Fin 1024) :
    out0_B_6 c i a1 h1 a2 h2 a3 h3 a4 h4 a5 h5 a6 h6 a7 h7 a8 h8 a9 h9 a10 h10 hc0 x0 x1 x2 x3 x4 x5 xo8 xo9 (ix2 r j) = dBlock x0 x1 x2 x3 x4 x5 r j := by
  refine congrFun (?_ : _ = fun y : S512x1024.Idx => dBlock x0 x1 x2 x3 x4 x5 (y 0) (y 1)) (ix2 r j)
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  funext y
  canon_tiles x e
  all_goals
    obtain ⟨r, j, rfl⟩ : ∃ (r : Fin 512) (j : Fin 1024), x = (ix2 r j : S512x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    show _ = dBlock x0 x1 x2 x3 x4 x5 r j
    simp only [dBlock, dRow, dNorm, dOut, errSq, err, half, perColumn, dInput, dPlain, dNormed, normed, invRms, meanSq, width, eps, row, branch, zero_add, add_zero, mul_one]

/-- Output 7 at the first point: the branch's gradient. -/
theorem first7 (hc0 : cond0_0 i) (r : Fin 512) (j : Fin 1024) :
    out0_A_7 c i a1 h1 a2 h2 a3 h3 a4 h4 a5 h5 a6 h6 a7 h7 a8 h8 a9 h9 a10 h10 hc0 x0 x1 x2 x3 x4 x5 (ix2 r j) = half * x3 (ix2 3 j) * dBlock x0 x1 x2 x3 x4 x5 r j := by
  refine congrFun (?_ : _ = fun y : S512x1024.Idx => half * x3 (ix2 3 (y 1)) * dBlock x0 x1 x2 x3 x4 x5 (y 0) (y 1)) (ix2 r j)
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  funext y
  canon_tiles x e
  all_goals
    obtain ⟨r, j, rfl⟩ : ∃ (r : Fin 512) (j : Fin 1024), x = (ix2 r j : S512x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    show _ = half * x3 (ix2 3 j) * dBlock x0 x1 x2 x3 x4 x5 r j
    simp only [dBlock, dRow, dNorm, dOut, errSq, err, half, perColumn, dInput, dPlain, dNormed, normed, invRms, meanSq, width, eps, row, branch, zero_add, add_zero, mul_one]

/-- Output 7 at the later points: the branch's gradient. -/
theorem later7 (hc0 : ¬cond0_0 i) (r : Fin 512) (j : Fin 1024) :
    out0_B_7 c i a1 h1 a2 h2 a3 h3 a4 h4 a5 h5 a6 h6 a7 h7 a8 h8 a9 h9 a10 h10 hc0 x0 x1 x2 x3 x4 x5 xo8 xo9 (ix2 r j) = half * x3 (ix2 3 j) * dBlock x0 x1 x2 x3 x4 x5 r j := by
  refine congrFun (?_ : _ = fun y : S512x1024.Idx => half * x3 (ix2 3 (y 1)) * dBlock x0 x1 x2 x3 x4 x5 (y 0) (y 1)) (ix2 r j)
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  funext y
  canon_tiles x e
  all_goals
    obtain ⟨r, j, rfl⟩ : ∃ (r : Fin 512) (j : Fin 1024), x = (ix2 r j : S512x1024.Idx) := ⟨_, _, eq_ix2 x⟩
    rw [idx_eq y r j e0 e1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    show _ = half * x3 (ix2 3 j) * dBlock x0 x1 x2 x3 x4 x5 r j
    simp only [dBlock, dRow, dNorm, dOut, errSq, err, half, perColumn, dInput, dPlain, dNormed, normed, invRms, meanSq, width, eps, row, branch, zero_add, add_zero, mul_one]

/-- Output 8 at the first point, over zeros: the sums over the block's rows. -/
theorem first8 (hc0 : cond0_0 i) (r : Fin 8) (k : Fin 1024) :
    out0_A_8 c i a1 h1 a2 h2 a3 h3 a4 h4 a5 h5 a6 h6 a7 h7 a8 h8 a9 h9 a10 h10 hc0 x0 x1 x2 x3 x4 x5 (ix2 r k)
      = fourRows (m := 8) (fun j : Fin 1024 => ∑ r : Fin 512, dNormBlock x0 x1 x2 x3 x4 x5 r j)
          (fun j : Fin 1024 => half * ∑ r : Fin 512, dBlock x0 x1 x2 x3 x4 x5 r j * branch x0 x1 r j) (fun _ => 0) (fun _ => 0) (ix2 r k) := by
  unfold out0_A_8
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  rw [row_piece _ _ _ _ _ (fun j : Fin 1024 => half * ∑ r : Fin 512, dBlock x0 x1 x2 x3 x4 x5 r j * branch x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    simp only [dBlock, dNormBlock, dRow, dNorm, dOut, errSq, err, half, perColumn, dInput, dPlain, dNormed, normed, invRms, meanSq, width, eps, row, branch, zero_add, add_zero, mul_one])]
  rw [row_piece _ _ _ _ _ (fun j : Fin 1024 => ∑ r : Fin 512, dNormBlock x0 x1 x2 x3 x4 x5 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    simp only [dBlock, dNormBlock, dRow, dNorm, dOut, errSq, err, half, perColumn, dInput, dPlain, dNormed, normed, invRms, meanSq, width, eps, row, branch, zero_add, add_zero, mul_one])]
  rw [View.read_writes_full (s := S8x1024), show k0_pay3 (F := Ideal) (ix2 r k) = 0 by pointwise [k0_pay3]]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)

/-- Output 8 at the later points, over what was there: the sums over the block's rows. -/
theorem later8 (hc0 : ¬cond0_0 i) (r : Fin 8) (k : Fin 1024) :
    out0_B_8 c i a1 h1 a2 h2 a3 h3 a4 h4 a5 h5 a6 h6 a7 h7 a8 h8 a9 h9 a10 h10 hc0 x0 x1 x2 x3 x4 x5 xo8 xo9 (ix2 r k)
      = xo8 (ix2 r k) + fourRows (m := 8) (fun j : Fin 1024 => ∑ r : Fin 512, dNormBlock x0 x1 x2 x3 x4 x5 r j)
          (fun j : Fin 1024 => half * ∑ r : Fin 512, dBlock x0 x1 x2 x3 x4 x5 r j * branch x0 x1 r j) (fun _ => 0) (fun _ => 0) (ix2 r k) := by
  unfold out0_B_8
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  rw [row_piece _ _ _ _ _ (fun j : Fin 1024 => xo8 (ix2 1 j) + half * ∑ r : Fin 512, dBlock x0 x1 x2 x3 x4 x5 r j * branch x0 x1 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    simp only [dBlock, dNormBlock, dRow, dNorm, dOut, errSq, err, half, perColumn, dInput, dPlain, dNormed, normed, invRms, meanSq, width, eps, row, branch, zero_add, add_zero, mul_one])]
  rw [row_piece _ _ _ _ _ (fun j : Fin 1024 => xo8 (ix2 0 j) + ∑ r : Fin 512, dNormBlock x0 x1 x2 x3 x4 x5 r j) r k (fun x j hj => by
    obtain ⟨j, hb⟩ := j
    obtain rfl : j = 0 + (x 1).val := hj
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
    simp only [dBlock, dNormBlock, dRow, dNorm, dOut, errSq, err, half, perColumn, dInput, dPlain, dNormed, normed, invRms, meanSq, width, eps, row, branch, zero_add, add_zero, mul_one])]
  rw [View.writes_nil, h9.read_unread]
  have hk := k.isLt
  unfold fourRows
  simp only [show ((ix2 r k : S8x1024.Idx) 0) = r from rfl, show ((ix2 r k : S8x1024.Idx) 1) = k from rfl]
  split_ifs
  all_goals first
    | rfl
    | (exfalso; omega)
    | exact (add_zero _).symm
    | (obtain rfl : r = 0 := Fin.ext (by show r.val = 0; omega); rfl)
    | (obtain rfl : r = 1 := Fin.ext (by show r.val = 1; omega); rfl)

/-- Output 9 at the first point, over zeros: the block's loss everywhere. -/
theorem first9 (hc0 : cond0_0 i) (r : Fin 8) (k : Fin 128) :
    out0_A_9 c i a1 h1 a2 h2 a3 h3 a4 h4 a5 h5 a6 h6 a7 h7 a8 h8 a9 h9 a10 h10 hc0 x0 x1 x2 x3 x4 x5 (ix2 r k) = lossBlock x0 x1 x2 x3 x4 x5 := by
  unfold out0_A_9
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  rw [View.read_writes_full (s := S8x128)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
  simp only [lossBlock, dRow, dNorm, dOut, errSq, err, half, perColumn, dInput, dPlain, dNormed, normed, invRms, meanSq, width, eps, row, branch, zero_add, add_zero, mul_one]

/-- Output 9 at the later points, over what was there: the block's loss everywhere. -/
theorem later9 (hc0 : ¬cond0_0 i) (r : Fin 8) (k : Fin 128) :
    out0_B_9 c i a1 h1 a2 h2 a3 h3 a4 h4 a5 h5 a6 h6 a7 h7 a8 h8 a9 h9 a10 h10 hc0 x0 x1 x2 x3 x4 x5 xo8 xo9 (ix2 r k) = xo9 (ix2 r k) + lossBlock x0 x1 x2 x3 x4 x5 := by
  unfold out0_B_9
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h9.read_unread, h10.read_unread, View.ld_unit_zero (S := S512x1024) zero2, View.ld_unit_zero (S := S512x2816) zero2, View.ld_unit_zero (S := S2816x1024) zero2]
  rw [View.read_writes_full (s := S8x128)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, View.ld]
  simp only [lossBlock, dRow, dNorm, dOut, errSq, err, half, perColumn, dInput, dPlain, dNormed, normed, invRms, meanSq, width, eps, row, branch, zero_add, add_zero, mul_one]

end Points

end Cert.LossHead

end
-- ==== Proof.LossArrays.lean ====
/- The arrays of the loss behind the feed-forward's down projection, as the kernel leaves them, and the chain rule's form of them. -/
module

public import Idealize.ShloMosaic.Lib.KernelVsHost
public import proofs.«01_k».proof.Proof.LossHeadKernel
public import proofs.«01_k».proof.Proof.Gen.Kernel16Ideal.Value

@[expose] public section

set_option maxRecDepth 16384

noncomputable section

namespace Cert.LossHead

open Idealize.ShloMosaic Idealize.ShloMosaic.TcCoe Idealize.SL.Sem Cert.RowSums Cert.NormGrad Cert.LossGrad

theorem half_real : half = ((1 / 2 : ℝ) : EReal) := by
  simp [half, Ideal.ofBits, Ideal.ieee, -EReal.coe_mul]; norm_num

theorem perColumn_real : perColumn = ((1 / 1024 : ℝ) : EReal) := by
  simp [perColumn, Ideal.ofBits, Ideal.ieee, -EReal.coe_mul]; norm_num

/-- One half goes into a sum. -/
theorem half_sum {ι : Type} (S : Finset ι) (f : ι → EReal) : half * ∑ s ∈ S, f s = ∑ s ∈ S, half * f s := by
  rw [half_real]
  exact mul_sum_real _ (by norm_num) S f

/-- The reciprocal of the number of columns goes into a sum. -/
theorem sum_perColumn {ι : Type} (S : Finset ι) (f : ι → EReal) : (∑ s ∈ S, f s) * perColumn = ∑ s ∈ S, f s * perColumn := by
  rw [perColumn_real, mul_comm, mul_sum_real _ (by norm_num)]
  exact Finset.sum_congr rfl fun s _ => mul_comm _ _

section Kernel

open Cert.Kernel16Ideal Cert.Kernel16Ideal.Gen

/-- The branch: the hidden rows times the weights. -/
def branches (a0 : S4096x2816.Idx → EReal) (a1 : S2816x1024.Idx → EReal) (r : Fin 4096) (j : Fin 1024) : EReal := ∑ k : Fin 2816, a0 (ix2 r k) * a1 (ix2 k j)

/-- The rows past the branch, which enters by half its gate. -/
def rows (a0 : S4096x2816.Idx → EReal) (a1 : S2816x1024.Idx → EReal) (a2 : S4096x1024.Idx → EReal) (a3 : S1024.Idx → EReal) (r : Fin 4096) (j : Fin 1024) : EReal :=
  a2 (ix2 r j) + half * a3 (ix1 j) * branches a0 a1 r j

/-- The rows' gradient. -/
def dRows (a0 : S4096x2816.Idx → EReal) (a1 : S2816x1024.Idx → EReal) (a2 : S4096x1024.Idx → EReal) (a3 a4 : S1024.Idx → EReal) (a5 : S4096x1024.Idx → EReal) (r : Fin 4096) (j : Fin 1024) : EReal :=
  dRow (rows a0 a1 a2 a3 r) (fun k => a4 (ix1 k)) (fun k => a5 (ix2 r k)) j

/-- The rows' parts of the norm weights' gradient. -/
def dNorms (a0 : S4096x2816.Idx → EReal) (a1 : S2816x1024.Idx → EReal) (a2 : S4096x1024.Idx → EReal) (a3 a4 : S1024.Idx → EReal) (a5 : S4096x1024.Idx → EReal) (r : Fin 4096) (j : Fin 1024) : EReal :=
  dNorm (rows a0 a1 a2 a3 r) (fun k => a4 (ix1 k)) (fun k => a5 (ix2 r k)) j

/-- The rows' squared errors. -/
def errs (a0 : S4096x2816.Idx → EReal) (a1 : S2816x1024.Idx → EReal) (a2 : S4096x1024.Idx → EReal) (a3 a4 : S1024.Idx → EReal) (a5 : S4096x1024.Idx → EReal) (r : Fin 4096) : EReal := errSq (rows a0 a1 a2 a3 r) (fun k => a4 (ix1 k)) (fun k => a5 (ix2 r k))

/-- The results: the rows' gradient, the branch's, the sums for the norm's weights and for the gate, the loss. -/
def dInputs (a0 : S4096x2816.Idx → EReal) (a1 : S2816x1024.Idx → EReal) (a2 : S4096x1024.Idx → EReal) (a3 a4 : S1024.Idx → EReal) (a5 : S4096x1024.Idx → EReal) (i : S4096x1024.Idx) : EReal := dRows a0 a1 a2 a3 a4 a5 (i 0) (i 1)
def dBranches (a0 : S4096x2816.Idx → EReal) (a1 : S2816x1024.Idx → EReal) (a2 : S4096x1024.Idx → EReal) (a3 a4 : S1024.Idx → EReal) (a5 : S4096x1024.Idx → EReal) (i : S4096x1024.Idx) : EReal := half * a3 (ix1 (i 1)) * dRows a0 a1 a2 a3 a4 a5 (i 0) (i 1)
def sums (a0 : S4096x2816.Idx → EReal) (a1 : S2816x1024.Idx → EReal) (a2 : S4096x1024.Idx → EReal) (a3 a4 : S1024.Idx → EReal) (a5 : S4096x1024.Idx → EReal) (i : S8x1024.Idx) : EReal :=
  fourRows (m := 8) (fun j : Fin 1024 => ∑ r : Fin 4096, dNorms a0 a1 a2 a3 a4 a5 r j)
    (fun j : Fin 1024 => half * ∑ r : Fin 4096, dRows a0 a1 a2 a3 a4 a5 r j * branches a0 a1 r j) (fun _ => 0) (fun _ => 0) i
def lossAt (a0 : S4096x2816.Idx → EReal) (a1 : S2816x1024.Idx → EReal) (a2 : S4096x1024.Idx → EReal) (a3 a4 : S1024.Idx → EReal) (a5 : S4096x1024.Idx → EReal) (_ : S8x128.Idx) : EReal :=
  half * ∑ r : Fin 4096, errs a0 a1 a2 a3 a4 a5 r * perColumn

variable (m : (ℓ : Loc nD τ sig) → Buf (Elt Ideal) ℓ)

theorem lt_points (t : Fin cfg0.N) : t.val < 8 := t.isLt

abbrev arr0 (c : Dev nD) : S4096x2816.Idx → EReal := m ((c.tc : Thread nD τ).loc main_arg0)
abbrev arr1 (c : Dev nD) : S2816x1024.Idx → EReal := m ((c.tc : Thread nD τ).loc main_arg1)
abbrev arr2 (c : Dev nD) : S4096x1024.Idx → EReal := m ((c.tc : Thread nD τ).loc main_arg2)
abbrev arr3 (c : Dev nD) : S1024.Idx → EReal := m ((c.tc : Thread nD τ).loc main_arg3)
abbrev arr4 (c : Dev nD) : S1024.Idx → EReal := m ((c.tc : Thread nD τ).loc main_arg4)
abbrev arr5 (c : Dev nD) : S4096x1024.Idx → EReal := m ((c.tc : Thread nD τ).loc main_arg5)

theorem index0 : ∀ t : Fin grid0.N, win0_0.index t = ![t.val % 8, 0] := by decide +kernel
theorem index2 : ∀ t : Fin grid0.N, win0_2.index t = ![t.val % 8, 0] := by decide +kernel
theorem index5 : ∀ t : Fin grid0.N, win0_5.index t = ![t.val % 8, 0] := by decide +kernel
theorem index6 : ∀ t : Fin grid0.N, win0_6.index t = ![t.val % 8, 0] := by decide +kernel
theorem index7 : ∀ t : Fin grid0.N, win0_7.index t = ![t.val % 8, 0] := by decide +kernel
theorem index1 : ∀ t : Fin grid0.N, win0_1.index t = ![0, 0] := by decide +kernel
theorem index3 : ∀ t : Fin grid0.N, win0_3.index t = ![0, 0] := by decide +kernel
theorem index4 : ∀ t : Fin grid0.N, win0_4.index t = ![0, 0] := by decide +kernel
theorem index8 : ∀ t : Fin grid0.N, win0_8.index t = ![0, 0] := by decide +kernel
theorem index9 : ∀ t : Fin grid0.N, win0_9.index t = ![0, 0] := by decide +kernel

/-- A row of zeros. -/
def zeroRow : S1x1024.Idx → EReal := broadcastInDim S1x1024 ![1] bcast_S1024_S1x1024_1 (broadcastInDim S1024 ![] bcast_S_S1024 (constant (F := Ideal) S_ .f32 0x00000000#32))

/-- The gate, in the fourth row. -/
theorem packedGate (c : Dev nD) :
    V m c main_v7 = concatenate S8x1024 0 [⟨S4x1024, concatenate S4x1024 0 [⟨S1x1024, zeroRow⟩, ⟨S1x1024, zeroRow⟩, ⟨S1x1024, zeroRow⟩, ⟨S1x1024, broadcastInDim S1x1024 ![1] bcast_S1024_S1x1024_1 (arr3 m c)⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

/-- The norm's weights. -/
theorem packedNorm (c : Dev nD) :
    V m c main_v14 = concatenate S8x1024 0 [⟨S4x1024, concatenate S4x1024 0 [⟨S1x1024, broadcastInDim S1x1024 ![1] bcast_S1024_S1x1024_1 (arr4 m c)⟩, ⟨S1x1024, broadcastInDim S1x1024 ![1] bcast_S1024_S1x1024_1 (arr4 m c)⟩, ⟨S1x1024, broadcastInDim S1x1024 ![1] bcast_S1024_S1x1024_1 (arr4 m c)⟩, ⟨S1x1024, broadcastInDim S1x1024 ![1] bcast_S1024_S1x1024_1 (arr4 m c)⟩] concatenates_S1x1024_S1x1024_S1x1024_S1x1024_S4x1024_d0⟩,
      ⟨S4x1024, broadcastInDim S4x1024 ![] bcast_S_S4x1024 (constant (F := Ideal) S_ .f32 0x00000000#32)⟩] concatenates_S4x1024_S4x1024_S8x1024_d0 := by
  after_results <;> rfl

theorem read0 (c : Dev nD) (t : Fin cfg0.N) (r : Fin 512) (k : Fin 2816) :
    iblk m c 0 t (ix2 r k : S512x2816.Idx) = arr0 m c (ix2 ⟨t.val % 8 * 512 + r.val, by omega⟩ k) := by
  blk_ext [iblk, V, index0 t]

theorem read1 (c : Dev nD) (t : Fin cfg0.N) (r : Fin 2816) (k : Fin 1024) :
    iblk m c 1 t (ix2 r k : S2816x1024.Idx) = arr1 m c (ix2 r k) := by
  blk_ext [iblk, V, index1 t]

theorem read2 (c : Dev nD) (t : Fin cfg0.N) (r : Fin 512) (k : Fin 1024) :
    iblk m c 2 t (ix2 r k : S512x1024.Idx) = arr2 m c (ix2 ⟨t.val % 8 * 512 + r.val, by omega⟩ k) := by
  blk_ext [iblk, V, index2 t]

theorem read5 (c : Dev nD) (t : Fin cfg0.N) (r : Fin 512) (k : Fin 1024) :
    iblk m c 5 t (ix2 r k : S512x1024.Idx) = arr5 m c (ix2 ⟨t.val % 8 * 512 + r.val, by omega⟩ k) := by
  blk_ext [iblk, V, index5 t]

theorem read_gate (c : Dev nD) (t : Fin cfg0.N) (j : Fin 1024) : iblk m c 3 t (ix2 3 j : S8x1024.Idx) = arr3 m c (ix1 j) := by
  have e : iblk m c 3 t (ix2 3 j : S8x1024.Idx) = V m c main_v7 (ix2 3 j : S8x1024.Idx) := by
    blk_ext [iblk, index3 t]
  refine e.trans ((congrFun (packedGate m c) _).trans ?_)
  pointwise

theorem read_weights (c : Dev nD) (t : Fin cfg0.N) (j : Fin 1024) : iblk m c 4 t (ix2 0 j : S8x1024.Idx) = arr4 m c (ix1 j) := by
  have e : iblk m c 4 t (ix2 0 j : S8x1024.Idx) = V m c main_v14 (ix2 0 j : S8x1024.Idx) := by
    blk_ext [iblk, index4 t]
  refine e.trans ((congrFun (packedNorm m c) _).trans ?_)
  pointwise

theorem branch_at (c : Dev nD) (t : Fin cfg0.N) (r : Fin 512) (j : Fin 1024) :
    branch (iblk m c 0 t) (iblk m c 1 t) r j = branches (arr0 m c) (arr1 m c) ⟨t.val % 8 * 512 + r.val, by omega⟩ j := by
  unfold branch branches
  refine Finset.sum_congr rfl fun k _ => ?_
  rw [read0, read1]

theorem row_at (c : Dev nD) (t : Fin cfg0.N) (r : Fin 512) :
    row (iblk m c 0 t) (iblk m c 1 t) (iblk m c 2 t) (iblk m c 3 t) r = rows (arr0 m c) (arr1 m c) (arr2 m c) (arr3 m c) ⟨t.val % 8 * 512 + r.val, by omega⟩ := by
  funext j
  unfold row rows
  rw [branch_at, read2, read_gate]

theorem dBlock_at (c : Dev nD) (t : Fin cfg0.N) (r : Fin 512) (j : Fin 1024) :
    dBlock (iblk m c 0 t) (iblk m c 1 t) (iblk m c 2 t) (iblk m c 3 t) (iblk m c 4 t) (iblk m c 5 t) r j = dRows (arr0 m c) (arr1 m c) (arr2 m c) (arr3 m c) (arr4 m c) (arr5 m c) ⟨t.val % 8 * 512 + r.val, by omega⟩ j := by
  unfold dBlock dRows
  rw [row_at]
  simp only [read_weights, read5]

theorem dNormBlock_at (c : Dev nD) (t : Fin cfg0.N) (r : Fin 512) (j : Fin 1024) :
    dNormBlock (iblk m c 0 t) (iblk m c 1 t) (iblk m c 2 t) (iblk m c 3 t) (iblk m c 4 t) (iblk m c 5 t) r j = dNorms (arr0 m c) (arr1 m c) (arr2 m c) (arr3 m c) (arr4 m c) (arr5 m c) ⟨t.val % 8 * 512 + r.val, by omega⟩ j := by
  unfold dNormBlock dNorms
  rw [row_at]
  simp only [read_weights, read5]

theorem lossBlock_at (c : Dev nD) (t : Fin cfg0.N) :
    lossBlock (iblk m c 0 t) (iblk m c 1 t) (iblk m c 2 t) (iblk m c 3 t) (iblk m c 4 t) (iblk m c 5 t) = half * ∑ r : Fin 512, errs (arr0 m c) (arr1 m c) (arr2 m c) (arr3 m c) (arr4 m c) (arr5 m c) ⟨t.val % 8 * 512 + r.val, by omega⟩ * perColumn := by
  unfold lossBlock errs
  rw [mul_assoc, sum_perColumn]
  simp only [row_at, read_weights, read5]

/-- Output 6 after any point. -/
theorem out_at6 (c : Dev nD) (t : Fin cfg0.N) (r : Fin 512) (j : Fin 1024) :
    (dats m 0 c).after 6 t (ix2 r j : S512x1024.Idx) = dRows (arr0 m c) (arr1 m c) (arr2 m c) (arr3 m c) (arr4 m c) (arr5 m c) ⟨t.val % 8 * 512 + r.val, by omega⟩ j := by
  rw [after0_6]
  by_cases h : t.val % 8 = 0
  · rw [outsAt0_A m c t h]
    dsimp only
    rw [first6, dBlock_at]
  · rw [outsAt0_B m c t h]
    dsimp only
    rw [later6, dBlock_at]

/-- Result: the rows' gradient, at every row and column. -/
theorem kernel6 (c : Dev nD) : (dats m 0 c).arrAt 6 cfg0.N = dInputs (arr0 m c) (arr1 m c) (arr2 m c) (arr3 m c) (arr4 m c) (arr5 m c) := by
  refine (dats m 0 c).arrAt_eq_of_covers 6 _ (by decide +kernel) fun t hf y => ?_
  obtain ⟨r, j, rfl⟩ : ∃ (r : Fin 512) (j : Fin 1024), y = (ix2 r j : S512x1024.Idx) := ⟨_, _, eq_ix2 y⟩
  have e : ((cfg0.win 6).blk t).view.emb (ix2 r j : S512x1024.Idx) = (ix2 ⟨t.val % 8 * 512 + r.val, by omega⟩ j : S4096x1024.Idx) := by
    blk_ext [index6 t]
  rw [e]
  blk_simp
  exact out_at6 m c t r j

/-- Output 7 after any point. -/
theorem out_at7 (c : Dev nD) (t : Fin cfg0.N) (r : Fin 512) (j : Fin 1024) :
    (dats m 0 c).after 7 t (ix2 r j : S512x1024.Idx) = half * arr3 m c (ix1 j) * dRows (arr0 m c) (arr1 m c) (arr2 m c) (arr3 m c) (arr4 m c) (arr5 m c) ⟨t.val % 8 * 512 + r.val, by omega⟩ j := by
  rw [after0_7]
  by_cases h : t.val % 8 = 0
  · rw [outsAt0_A m c t h]
    dsimp only
    rw [first7, dBlock_at, read_gate]
  · rw [outsAt0_B m c t h]
    dsimp only
    rw [later7, dBlock_at, read_gate]

/-- Result: the branch's gradient, at every row and column. -/
theorem kernel7 (c : Dev nD) : (dats m 0 c).arrAt 7 cfg0.N = dBranches (arr0 m c) (arr1 m c) (arr2 m c) (arr3 m c) (arr4 m c) (arr5 m c) := by
  refine (dats m 0 c).arrAt_eq_of_covers 7 _ (by decide +kernel) fun t hf y => ?_
  obtain ⟨r, j, rfl⟩ : ∃ (r : Fin 512) (j : Fin 1024), y = (ix2 r j : S512x1024.Idx) := ⟨_, _, eq_ix2 y⟩
  have e : ((cfg0.win 7).blk t).view.emb (ix2 r j : S512x1024.Idx) = (ix2 ⟨t.val % 8 * 512 + r.val, by omega⟩ j : S4096x1024.Idx) := by
    blk_ext [index7 t]
  rw [e]
  blk_simp
  exact out_at7 m c t r j

/-- Output 8 after point `n`: the sums over the blocks up to it. -/
theorem out_at8 (c : Dev nD) (r : Fin 8) (k : Fin 1024) : ∀ (n : ℕ) (hn : n < 8), (outsAt0 m c n hn).2.2.1 (ix2 r k : S8x1024.Idx)
    = fourRows (m := 8) (fun j : Fin 1024 => ∑ s : Fin (n + 1), ∑ r : Fin 512, dNorms (arr0 m c) (arr1 m c) (arr2 m c) (arr3 m c) (arr4 m c) (arr5 m c) ⟨s.val % 8 * 512 + r.val, by omega⟩ j)
        (fun j : Fin 1024 => ∑ s : Fin (n + 1), half * ∑ r : Fin 512, dRows (arr0 m c) (arr1 m c) (arr2 m c) (arr3 m c) (arr4 m c) (arr5 m c) ⟨s.val % 8 * 512 + r.val, by omega⟩ j * branches (arr0 m c) (arr1 m c) ⟨s.val % 8 * 512 + r.val, by omega⟩ j) (fun _ => 0) (fun _ => 0) (ix2 r k)
  | 0, hn => by
    have h := outsAt0_A m c ⟨0, hn⟩ rfl
    dsimp only at h
    rw [h]
    dsimp only
    rw [first8]
    show _ = fourRows (m := 8) (fun j : Fin 1024 => ∑ s : Fin (1), ∑ r : Fin 512, dNorms (arr0 m c) (arr1 m c) (arr2 m c) (arr3 m c) (arr4 m c) (arr5 m c) ⟨s.val % 8 * 512 + r.val, by omega⟩ j)
        (fun j : Fin 1024 => ∑ s : Fin (1), half * ∑ r : Fin 512, dRows (arr0 m c) (arr1 m c) (arr2 m c) (arr3 m c) (arr4 m c) (arr5 m c) ⟨s.val % 8 * 512 + r.val, by omega⟩ j * branches (arr0 m c) (arr1 m c) ⟨s.val % 8 * 512 + r.val, by omega⟩ j) (fun _ => 0) (fun _ => 0) (ix2 r k)
    simp only [dNormBlock_at, dBlock_at, branch_at, Fin.sum_univ_one, Fin.val_zero]
  | n + 1, hn => by
    have h := outsAt0_B m c ⟨n + 1, hn⟩ (by show ¬(n + 1) % 8 = 0; omega)
    dsimp only at h
    rw [h]
    dsimp only
    rw [later8]
    have ih := out_at8 c r k n (by omega)
    simp only [Nat.add_sub_cancel]
    rw [ih, fourRows_add]
    simp only [dNormBlock_at, dBlock_at, branch_at, Fin.sum_univ_castSucc (n := n + 1), Fin.val_castSucc, Fin.val_last, add_zero]

/-- Output 9 after point `n`: the loss of the blocks up to it. -/
theorem out_at9 (c : Dev nD) (r : Fin 8) (k : Fin 128) : ∀ (n : ℕ) (hn : n < 8), (outsAt0 m c n hn).2.2.2 (ix2 r k : S8x128.Idx)
    = ∑ s : Fin (n + 1), half * ∑ r : Fin 512, errs (arr0 m c) (arr1 m c) (arr2 m c) (arr3 m c) (arr4 m c) (arr5 m c) ⟨s.val % 8 * 512 + r.val, by omega⟩ * perColumn
  | 0, hn => by
    have h := outsAt0_A m c ⟨0, hn⟩ rfl
    dsimp only at h
    rw [h]
    dsimp only
    rw [first9]
    show _ = ∑ s : Fin (1), half * ∑ r : Fin 512, errs (arr0 m c) (arr1 m c) (arr2 m c) (arr3 m c) (arr4 m c) (arr5 m c) ⟨s.val % 8 * 512 + r.val, by omega⟩ * perColumn
    simp only [lossBlock_at, Fin.sum_univ_one, Fin.val_zero]
  | n + 1, hn => by
    have h := outsAt0_B m c ⟨n + 1, hn⟩ (by show ¬(n + 1) % 8 = 0; omega)
    dsimp only at h
    rw [h]
    dsimp only
    rw [later9]
    have ih := out_at9 c r k n (by omega)
    simp only [Nat.add_sub_cancel]
    rw [ih]
    simp only [lossBlock_at, Fin.sum_univ_castSucc (n := n + 1), Fin.val_castSucc, Fin.val_last]

/-- A sum over the eight blocks of rows. -/
theorem sum_rows (f : Fin 4096 → EReal) : (∑ s : Fin 8, ∑ r : Fin 512, f ⟨s.val % 8 * 512 + r.val, by omega⟩) = ∑ r : Fin 4096, f r := by
  rw [← sum_blocks (b := 8) (n := 512) (N := 4096) (by norm_num) f]
  refine Finset.sum_congr rfl fun s _ => Finset.sum_congr rfl fun r _ => congrArg f (Fin.ext ?_)
  show s.val % 8 * 512 + r.val = s.val * 512 + r.val
  omega

/-- Result: the sums over all rows. -/
theorem kernel8 (c : Dev nD) : (dats m 0 c).arrAt 8 cfg0.N = sums (arr0 m c) (arr1 m c) (arr2 m c) (arr3 m c) (arr4 m c) (arr5 m c) := by
  refine (dats m 0 c).arrAt_eq_of_covers 8 _ (by decide +kernel) fun t hf y => ?_
  have hp := (flush0_8 t).mp hf
  obtain ⟨r, j, rfl⟩ : ∃ (r : Fin 8) (j : Fin 1024), y = (ix2 r j : S8x1024.Idx) := ⟨_, _, eq_ix2 y⟩
  have e : ((cfg0.win 8).blk t).view.emb (ix2 r j : S8x1024.Idx) = (ix2 r j : S8x1024.Idx) := by
    blk_ext [index8 t]
  rw [e]
  blk_simp
  rw [after0_8]
  have ht : t = ⟨7, by decide⟩ := Fin.ext (by have := lt_points t; show t.val = 7; omega)
  subst ht
  refine (out_at8 m c r j 7 (by decide)).trans ?_
  unfold sums
  have hA (j : Fin 1024) := sum_rows (fun r => dNorms (arr0 m c) (arr1 m c) (arr2 m c) (arr3 m c) (arr4 m c) (arr5 m c) r j)
  have hB (j : Fin 1024) := sum_rows (fun r => dRows (arr0 m c) (arr1 m c) (arr2 m c) (arr3 m c) (arr4 m c) (arr5 m c) r j * branches (arr0 m c) (arr1 m c) r j)
  simp only [← hA, ← hB, half_sum Finset.univ (fun s : Fin 8 => _)]

/-- Result: the loss. -/
theorem kernel9 (c : Dev nD) : (dats m 0 c).arrAt 9 cfg0.N = lossAt (arr0 m c) (arr1 m c) (arr2 m c) (arr3 m c) (arr4 m c) (arr5 m c) := by
  refine (dats m 0 c).arrAt_eq_of_covers 9 _ (by decide +kernel) fun t hf y => ?_
  have hp := (flush0_9 t).mp hf
  obtain ⟨r, j, rfl⟩ : ∃ (r : Fin 8) (j : Fin 128), y = (ix2 r j : S8x128.Idx) := ⟨_, _, eq_ix2 y⟩
  have e : ((cfg0.win 9).blk t).view.emb (ix2 r j : S8x128.Idx) = (ix2 r j : S8x128.Idx) := by
    blk_ext [index9 t]
  rw [e]
  blk_simp
  rw [after0_9]
  have ht : t = ⟨7, by decide⟩ := Fin.ext (by have := lt_points t; show t.val = 7; omega)
  subst ht
  refine (out_at9 m c r j 7 (by decide)).trans ?_
  unfold lossAt
  rw [← sum_rows (fun r => errs (arr0 m c) (arr1 m c) (arr2 m c) (arr3 m c) (arr4 m c) (arr5 m c) r * perColumn), half_sum]

end Kernel

section Forms

open Cert.Kernel16Ideal

/-- Two. -/
def twoF : EReal := Ideal.ofBits .f32 0x40000000#32

/-- The gradient of the normed and weighted row by the chain rule: half of the mean's part of twice the error. -/
def refOut (h g t : Fin 1024 → EReal) (j : Fin 1024) : EReal := Ideal.div half width * (twoF * err h g t j)

theorem out_forms (h g t : Fin 1024 → EReal) : refOut h g t = dOut h g t := by
  have h2 : twoF = ((2 : ℝ) : EReal) := by simp [twoF, Ideal.ofBits, Ideal.ieee, -EReal.coe_mul]; norm_num
  funext j
  unfold refOut dOut
  rw [h2, half_real, perColumn_real, width_real, Ideal.div_coe (by norm_num), ← EReal.coe_mul, ← mul_assoc, ← EReal.coe_mul, mul_comm]
  refine congrArg (fun x : ℝ => err h g t j * (x : EReal)) ?_
  norm_num

/-- The rows' gradient by the chain rule. -/
def chainRows (a0 : S4096x2816.Idx → EReal) (a1 : S2816x1024.Idx → EReal) (a2 : S4096x1024.Idx → EReal) (a3 a4 : S1024.Idx → EReal) (a5 : S4096x1024.Idx → EReal) (r : Fin 4096) (j : Fin 1024) : EReal :=
  dInputChain (fun _ => 0) (rows a0 a1 a2 a3 r) (refOut (rows a0 a1 a2 a3 r) (fun k => a4 (ix1 k)) (fun k => a5 (ix2 r k))) (fun _ => 0) (fun k => a4 (ix1 k)) j

theorem rows_forms (a0 : S4096x2816.Idx → EReal) (a1 : S2816x1024.Idx → EReal) (a2 : S4096x1024.Idx → EReal) (a3 a4 : S1024.Idx → EReal) (a5 : S4096x1024.Idx → EReal) : chainRows a0 a1 a2 a3 a4 a5 = dRows a0 a1 a2 a3 a4 a5 := by
  funext r j
  unfold chainRows dRows dRow
  rw [out_forms]
  exact input_forms _ _ _ _ _ j

end Forms

end Cert.LossHead

end
-- ==== Proof.LossHead.lean ====
/- The reference of the feed-forward's down projection with the loss behind it, and that the kernel's results are the same. -/
module

public import Idealize.ShloMosaic.Lib.KernelVsHost
public import proofs.«01_k».proof.Proof.LossArrays
public import proofs.«01_k».proof.Proof.Gen.Kernel16Ideal.Value
public import proofs.«01_k».proof.Proof.Gen.Reference16Ideal.Run
public import proofs.«01_k».proof.Defs

@[expose] public section

set_option maxRecDepth 16384

noncomputable section

namespace Cert.LossHead

open Idealize.ShloMosaic Idealize.ShloMosaic.TcCoe Idealize.SL.Sem Cert.RowSums Cert.NormGrad Cert.LossGrad

section Reference

open Cert.Reference16Ideal

variable (m : (ℓ : Loc nD τ sig) → Buf (Elt Ideal) ℓ)

theorem ref_dInputs (c : Dev nD) : Value.res_main_v59 m c = dInputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  unfold Value.res_main_v59
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  obtain ⟨r, j, rfl⟩ : ∃ r j, i = ix2 r j := ⟨i 0, i 1, eq_ix2 i⟩
  refine Eq.trans ?_ (congrFun (congrFun (rows_forms a0 a1 a2 a3 a4 a5) r) j)
  pointwise
  simp only [Fin.sum_univ_one, zero_add, add_zero, mul_one, chainRows, twoF, dInputChain, dMean, dPlain, dNormed, normed, invRms, meanSq, width, eps, negHalf, half, rows, branches, refOut, err]

theorem ref_dBranches (c : Dev nD) : Value.res_main_v68 m c = dBranches (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  unfold Value.res_main_v68
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  obtain ⟨r, j, rfl⟩ : ∃ r j, i = ix2 r j := ⟨i 0, i 1, eq_ix2 i⟩
  refine Eq.trans ?_ (congrArg (half * a3 (ix1 j) * ·) (congrFun (congrFun (rows_forms a0 a1 a2 a3 a4 a5) r) j))
  pointwise
  simp only [Fin.sum_univ_one, zero_add, add_zero, mul_one, chainRows, twoF, dInputChain, dMean, dPlain, dNormed, normed, invRms, meanSq, width, eps, negHalf, half, rows, branches, refOut, err]

theorem ref_sums (c : Dev nD) : Value.res_main_v73 m c = sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  unfold Value.res_main_v73
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  obtain ⟨r, j, rfl⟩ : ∃ r j, i = ix2 r j := ⟨i 0, i 1, eq_ix2 i⟩
  have hN (r : Fin 4096) (j : Fin 1024) : dNorms a0 a1 a2 a3 a4 a5 r j = normed (rows a0 a1 a2 a3 r) j * refOut (rows a0 a1 a2 a3 r) (fun k => a4 (ix1 k)) (fun k => a5 (ix2 r k)) j := by
    rw [out_forms]
    exact mul_comm _ _
  unfold sums
  simp only [hN, ← rows_forms]
  pointwise
  have f {x : ℕ} (A B : EReal) : (if x < 2 then if x < 1 then A else B else 0) = if x = 0 then A else if x = 1 then B else if x = 2 then 0 else if x = 3 then 0 else 0 := by
    split_ifs <;> first | rfl | (exfalso; omega)
  refine (f _ _).trans ?_
  unfold fourRows
  refine if_congr Iff.rfl ?_ (if_congr Iff.rfl ?_ rfl)
  all_goals simp only [show ((ix2 r j : S8x1024.Idx) 1) = j from rfl, Fin.sum_univ_one, zero_add, add_zero, mul_one, chainRows, twoF, dInputChain, dMean, dPlain, dNormed, normed, invRms, meanSq, width, eps, negHalf, half, rows, branches, refOut, err]

theorem ref_lossAt (c : Dev nD) : Value.res_main_v74 m c = lossAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  unfold Value.res_main_v74
  generalize (m ((c.tc : Thread nD τ).loc main_arg0)) = a0
  generalize (m ((c.tc : Thread nD τ).loc main_arg1)) = a1
  generalize (m ((c.tc : Thread nD τ).loc main_arg2)) = a2
  generalize (m ((c.tc : Thread nD τ).loc main_arg3)) = a3
  generalize (m ((c.tc : Thread nD τ).loc main_arg4)) = a4
  generalize (m ((c.tc : Thread nD τ).loc main_arg5)) = a5
  obtain ⟨r, j, rfl⟩ : ∃ r j, i = ix2 r j := ⟨i 0, i 1, eq_ix2 i⟩
  have hD (x : EReal) : x * perColumn = Ideal.div x width := by rw [perColumn_real, width_real, Ideal.div_coe (by norm_num)]
  unfold lossAt
  simp only [hD]
  pointwise
  simp only [errs, errSq, dInputChain, dMean, dPlain, dNormed, normed, invRms, meanSq, width, eps, negHalf, half, rows, branches, refOut, err]

/-- The reference ends with the rows' gradient, the branch's, the sums and the loss, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v59) = dInputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v68) = dBranches (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v73) = sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v74) = lossAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    exact ⟨h0.trans (ref_dInputs m c), h1.trans (ref_dBranches m c), h2.trans (ref_sums m c), h3.trans (ref_lossAt m c), h⟩) (Value.run m ρ)

end Reference

/-- From arguments that agree, the kernel's results are the reference's. -/
theorem algebraic : algebraic_Kernel16Ideal_Reference16Ideal (hKernel16Ideal := Cert.Kernel16Ideal.Gen.facts) (hReference16Ideal := Cert.Reference16Ideal.Gen.facts) := by
  intro m g m' g' _ hagree
  refine ⟨fun c => (Cert.Kernel16Ideal.Gen.dats m 0 c).arrAt 6 Cert.Kernel16Ideal.cfg0.N, fun c => (Cert.Kernel16Ideal.Gen.dats m 0 c).arrAt 7 Cert.Kernel16Ideal.cfg0.N, fun c => (Cert.Kernel16Ideal.Gen.dats m 0 c).arrAt 8 Cert.Kernel16Ideal.cfg0.N, fun c => (Cert.Kernel16Ideal.Gen.dats m 0 c).arrAt 9 Cert.Kernel16Ideal.cfg0.N,
    (θ_run _ _ _).mono (fun r h c => ?_) (Cert.Kernel16Ideal.Value.run_blocks m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a1, a2, a3, a4, a5]
      exact (kernel6 m c).symm
    · rw [a0, a1, a2, a3, a4, a5]
      exact (kernel7 m c).symm
    · rw [a0, a1, a2, a3, a4, a5]
      exact (kernel8 m c).symm
    · rw [a0, a1, a2, a3, a4, a5]
      exact (kernel9 m c).symm

end Cert.LossHead

end
-- ==== Proof.AdamStep.lean ====
/- One AdamW step of one weight: the moments and the weight's change. -/
module

public import Idealize.ShloMosaic.Lib.KernelVsHost

@[expose] public section

noncomputable section

namespace Cert.AdamStep

open Idealize.ShloMosaic

/-- The next mean of the gradient `g`, from the mean `a`. -/
def mean (g a : EReal) : EReal := Ideal.ofBits .f32 0x3F666666#32 * a + Ideal.ofBits .f32 0x3DCCCCCD#32 * g

/-- The next mean of its square, from the mean `b`. -/
def meanSq (g b : EReal) : EReal := Ideal.ofBits .f32 0x3F7FBE77#32 * b + Ideal.ofBits .f32 0x3A83126F#32 * (g * g)

/-- The weight's change: minus the rate times the corrected mean over the corrected root plus the decay. -/
def change (w g a b : EReal) : EReal :=
  Ideal.ofBits .f32 0xBA83126F#32 *
    (Ideal.div (mean g a * Ideal.ofBits .f32 0x3FC48605#32)
        (Ideal.sqrt (meanSq g b * Ideal.ofBits .f32 0x42C8E6D3#32) + Ideal.ofBits .f32 0x322BCC77#32)
      + Ideal.ofBits .f32 0x3C23D70A#32 * w)

end Cert.AdamStep

end
-- ==== Proof.AdamAda.lean ====
/- AdamW on the conditioning's weights. -/
module

public import Idealize.ShloMosaic.Lib.KernelVsHost
public import proofs.«01_k».proof.Proof.AdamStep
public import proofs.«01_k».proof.Proof.RowSums
public import proofs.«01_k».proof.Proof.Gen.Kernel21Ideal.Value
public import proofs.«01_k».proof.Proof.Gen.Reference21Ideal.Run
public import proofs.«01_k».proof.Defs

@[expose] public section

set_option maxRecDepth 16384

noncomputable section

namespace Cert.AdamAda

open Idealize.ShloMosaic Idealize.ShloMosaic.TcCoe Idealize.SL.Sem Cert.RowSums Cert.AdamStep

section Kernel

open Cert.Kernel21Ideal Cert.Kernel21Ideal.Gen

/-- The weights' changes, the next means and the next mean squares, entry by entry. -/
def changes (w g a b : S1024x2304.Idx → EReal) (i : S1024x2304.Idx) : EReal := change (w i) (g i) (a i) (b i)
def means (g a : S1024x2304.Idx → EReal) (i : S1024x2304.Idx) : EReal := mean (g i) (a i)
def meanSqs (g b : S1024x2304.Idx → EReal) (i : S1024x2304.Idx) : EReal := meanSq (g i) (b i)

theorem changes_apply (x0 x1 x2 x3 : S64x2304.Idx → EReal) (y : S64x2304.Idx) : out0_4 (F := Ideal) x0 x1 x2 x3 y = change (x0 y) (x1 y) (x2 y) (x3 y) := by
  unfold out0_4
  canon_tiles x e
  obtain ⟨r, j, rfl⟩ : ∃ (r : Fin 64) (j : Fin 2304), x = (ix2 r j : S64x2304.Idx) := ⟨_, _, eq_ix2 x⟩
  rw [idx_eq y r j e0 e1]
  pointwise [k0_pay1, k0_pay2, k0_pay3, View.ld]
  rfl

theorem means_apply (x0 x1 x2 x3 : S64x2304.Idx → EReal) (y : S64x2304.Idx) : out0_5 (F := Ideal) x0 x1 x2 x3 y = mean (x1 y) (x2 y) := by
  unfold out0_5
  canon_tiles x e
  obtain ⟨r, j, rfl⟩ : ∃ (r : Fin 64) (j : Fin 2304), x = (ix2 r j : S64x2304.Idx) := ⟨_, _, eq_ix2 x⟩
  rw [idx_eq y r j e0 e1]
  pointwise [k0_pay1, k0_pay2, k0_pay3, View.ld]
  rfl

theorem meanSqs_apply (x0 x1 x2 x3 : S64x2304.Idx → EReal) (y : S64x2304.Idx) : out0_6 (F := Ideal) x0 x1 x2 x3 y = meanSq (x1 y) (x3 y) := by
  unfold out0_6
  canon_tiles x e
  obtain ⟨r, j, rfl⟩ : ∃ (r : Fin 64) (j : Fin 2304), x = (ix2 r j : S64x2304.Idx) := ⟨_, _, eq_ix2 x⟩
  rw [idx_eq y r j e0 e1]
  pointwise [k0_pay1, k0_pay2, k0_pay3, View.ld]
  rfl

variable (m : (ℓ : Loc nD τ sig) → Buf (Elt Ideal) ℓ)

abbrev arr0 (c : Dev nD) : S1024x2304.Idx → EReal := m ((c.tc : Thread nD τ).loc main_arg0)
abbrev arr1 (c : Dev nD) : S1024x2304.Idx → EReal := m ((c.tc : Thread nD τ).loc main_arg1)
abbrev arr2 (c : Dev nD) : S1024x2304.Idx → EReal := m ((c.tc : Thread nD τ).loc main_arg2)
abbrev arr3 (c : Dev nD) : S1024x2304.Idx → EReal := m ((c.tc : Thread nD τ).loc main_arg3)

theorem index0 : ∀ t : Fin grid0.N, win0_0.index t = ![t.val % 16, 0] := by decide +kernel
theorem index1 : ∀ t : Fin grid0.N, win0_1.index t = ![t.val % 16, 0] := by decide +kernel
theorem index2 : ∀ t : Fin grid0.N, win0_2.index t = ![t.val % 16, 0] := by decide +kernel
theorem index3 : ∀ t : Fin grid0.N, win0_3.index t = ![t.val % 16, 0] := by decide +kernel
theorem index4 : ∀ t : Fin grid0.N, win0_4.index t = ![t.val % 16, 0] := by decide +kernel
theorem index5 : ∀ t : Fin grid0.N, win0_5.index t = ![t.val % 16, 0] := by decide +kernel
theorem index6 : ∀ t : Fin grid0.N, win0_6.index t = ![t.val % 16, 0] := by decide +kernel

theorem read0 (c : Dev nD) (t : Fin cfg0.N) (r : Fin 64) (k : Fin 2304) :
    iblk m c 0 t (ix2 r k : S64x2304.Idx) = arr0 m c (ix2 ⟨t.val % 16 * 64 + r.val, by omega⟩ k) := by
  blk_ext [iblk, V, index0 t]

theorem read1 (c : Dev nD) (t : Fin cfg0.N) (r : Fin 64) (k : Fin 2304) :
    iblk m c 1 t (ix2 r k : S64x2304.Idx) = arr1 m c (ix2 ⟨t.val % 16 * 64 + r.val, by omega⟩ k) := by
  blk_ext [iblk, V, index1 t]

theorem read2 (c : Dev nD) (t : Fin cfg0.N) (r : Fin 64) (k : Fin 2304) :
    iblk m c 2 t (ix2 r k : S64x2304.Idx) = arr2 m c (ix2 ⟨t.val % 16 * 64 + r.val, by omega⟩ k) := by
  blk_ext [iblk, V, index2 t]

theorem read3 (c : Dev nD) (t : Fin cfg0.N) (r : Fin 64) (k : Fin 2304) :
    iblk m c 3 t (ix2 r k : S64x2304.Idx) = arr3 m c (ix2 ⟨t.val % 16 * 64 + r.val, by omega⟩ k) := by
  blk_ext [iblk, V, index3 t]

theorem kernel4 (c : Dev nD) : (dats m 0 c).arrAt 4 cfg0.N = changes (arr0 m c) (arr1 m c) (arr2 m c) (arr3 m c) := by
  refine (dats m 0 c).arrAt_eq_of_covers 4 _ (by decide +kernel) fun t hf y => ?_
  obtain ⟨r, j, rfl⟩ : ∃ (r : Fin 64) (j : Fin 2304), y = (ix2 r j : S64x2304.Idx) := ⟨_, _, eq_ix2 y⟩
  have e : ((cfg0.win 4).blk t).view.emb (ix2 r j : S64x2304.Idx) = (ix2 ⟨t.val % 16 * 64 + r.val, by omega⟩ j : S1024x2304.Idx) := by
    blk_ext [index4 t]
  rw [e]
  blk_simp
  rw [after0_4]
  refine (changes_apply (iblk m c 0 t) (iblk m c 1 t) (iblk m c 2 t) (iblk m c 3 t) (ix2 r j)).trans ?_
  simp only [read0, read1, read2, read3]
  rfl

theorem kernel5 (c : Dev nD) : (dats m 0 c).arrAt 5 cfg0.N = means (arr1 m c) (arr2 m c) := by
  refine (dats m 0 c).arrAt_eq_of_covers 5 _ (by decide +kernel) fun t hf y => ?_
  obtain ⟨r, j, rfl⟩ : ∃ (r : Fin 64) (j : Fin 2304), y = (ix2 r j : S64x2304.Idx) := ⟨_, _, eq_ix2 y⟩
  have e : ((cfg0.win 5).blk t).view.emb (ix2 r j : S64x2304.Idx) = (ix2 ⟨t.val % 16 * 64 + r.val, by omega⟩ j : S1024x2304.Idx) := by
    blk_ext [index5 t]
  rw [e]
  blk_simp
  rw [after0_5]
  refine (means_apply (iblk m c 0 t) (iblk m c 1 t) (iblk m c 2 t) (iblk m c 3 t) (ix2 r j)).trans ?_
  simp only [read1, read2]
  rfl

theorem kernel6 (c : Dev nD) : (dats m 0 c).arrAt 6 cfg0.N = meanSqs (arr1 m c) (arr3 m c) := by
  refine (dats m 0 c).arrAt_eq_of_covers 6 _ (by decide +kernel) fun t hf y => ?_
  obtain ⟨r, j, rfl⟩ : ∃ (r : Fin 64) (j : Fin 2304), y = (ix2 r j : S64x2304.Idx) := ⟨_, _, eq_ix2 y⟩
  have e : ((cfg0.win 6).blk t).view.emb (ix2 r j : S64x2304.Idx) = (ix2 ⟨t.val % 16 * 64 + r.val, by omega⟩ j : S1024x2304.Idx) := by
    blk_ext [index6 t]
  rw [e]
  blk_simp
  rw [after0_6]
  refine (meanSqs_apply (iblk m c 0 t) (iblk m c 1 t) (iblk m c 2 t) (iblk m c 3 t) (ix2 r j)).trans ?_
  simp only [read1, read3]
  rfl

end Kernel

section Reference

open Cert.Reference21Ideal

variable (m : (ℓ : Loc nD τ sig) → Buf (Elt Ideal) ℓ)

/-- The reference ends with the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v23) = changes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = means (m ((c.tc : Thread nD τ).loc main_arg1)) (m ((c.tc : Thread nD τ).loc main_arg2))
      ∧ r.2.mem ((c.tc : Thread nD τ).loc main_v10) = meanSqs (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h⟩ := h c
    refine ⟨h0.trans (funext fun i => ?_), h1.trans (funext fun i => ?_), h2.trans (funext fun i => ?_), h⟩
    · clear h0 h1 h2 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      obtain ⟨r, j, rfl⟩ : ∃ (r : Fin 1024) (j : Fin 2304), i = (ix2 r j : S1024x2304.Idx) := ⟨_, _, eq_ix2 i⟩
      pointwise
      rfl
    · clear h0 h1 h2 h
      generalize (m ((c.tc : Thread nD τ).loc main_arg1)) = a1
      generalize (m ((c.tc : Thread nD τ).loc main_arg2)) = a2
      obtain ⟨r, j, rfl⟩ : ∃ (r : Fin 1024) (j : Fin 2304), i = (ix2 r j : S1024x2304.Idx) := ⟨_, _, eq_ix2 i⟩
      pointwise
      rfl
    · clear h0 h1 h2 h
      generalize (m ((c.tc : Thread nD τ).loc main_arg1)) = a1
      generalize (m ((c.tc : Thread nD τ).loc main_arg3)) = a3
      obtain ⟨r, j, rfl⟩ : ∃ (r : Fin 1024) (j : Fin 2304), i = (ix2 r j : S1024x2304.Idx) := ⟨_, _, eq_ix2 i⟩
      pointwise
      rfl)
    (Value.run m ρ)

end Reference

/-- From arguments that agree, the kernel's results are the reference's. -/
theorem algebraic : algebraic_Kernel21Ideal_Reference21Ideal (hKernel21Ideal := Cert.Kernel21Ideal.Gen.facts) (hReference21Ideal := Cert.Reference21Ideal.Gen.facts) := by
  intro m g m' g' _ hagree
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N,
    (θ_run _ _ _).mono (fun r h c => ?_) (Cert.Kernel21Ideal.Value.run_blocks m g),
    (θ_run _ _ _).mono (fun r h c => ?_) (reference_run m' g')⟩
  · exact h c
  · obtain ⟨h0, h1, h2, h⟩ := h c
    obtain ⟨a0, a1, a2, a3⟩ := hagree c
    refine ⟨h0.trans ?_, h1.trans ?_, h2.trans ?_, h⟩
    · rw [a0, a1, a2, a3]
      exact (kernel4 m c).symm
    · rw [a1, a2]
      exact (kernel5 m c).symm
    · rw [a1, a3]
      exact (kernel6 m c).symm

end Cert.AdamAda

end
-- ==== Proof.AdamSmall.lean ====
/- AdamW on the vectors, laid out in one row. -/
module

public import Idealize.ShloMosaic.Lib.KernelVsHost
public import proofs.«01_k».proof.Proof.AdamStep
public import proofs.«01_k».proof.Proof.RowSums
public import proofs.«01_k».proof.Proof.Gen.Kernel22Ideal.Value
public import proofs.«01_k».proof.Proof.Gen.Reference22Ideal.Run
public import proofs.«01_k».proof.Defs

@[expose] public section

set_option maxRecDepth 16384

noncomputable section

namespace Cert.AdamSmall

open Idealize.ShloMosaic Idealize.ShloMosaic.TcCoe Idealize.SL.Sem Cert.RowSums Cert.AdamStep

section Kernel

open Cert.Kernel22Ideal Cert.Kernel22Ideal.Gen

/-- The weights' changes, the next means and the next mean squares, entry by entry. -/
def changes (w g a b : S1x14208.Idx → EReal) (i : S1x14208.Idx) : EReal := change (w i) (g i) (a i) (b i)
def means (g a : S1x14208.Idx → EReal) (i : S1x14208.Idx) : EReal := mean (g i) (a i)
def meanSqs (g b : S1x14208.Idx → EReal) (i : S1x14208.Idx) : EReal := meanSq (g i) (b i)

theorem changes_apply (x0 x1 x2 x3 : S1x14208.Idx → EReal) (y : S1x14208.Idx) : out0_4 (F := Ideal) x0 x1 x2 x3 y = change (x0 y) (x1 y) (x2 y) (x3 y) := by
  unfold out0_4
  canon_tiles x e
  obtain ⟨r, j, rfl⟩ : ∃ (r : Fin 1) (j : Fin 14208), x = (ix2 r j : S1x14208.Idx) := ⟨_, _, eq_ix2 x⟩
  rw [idx_eq y r j e0 e1]
  obtain rfl : r = 0 := Subsingleton.elim _ _
  pointwise [k0_pay1, k0_pay2, k0_pay3, View.ld]
  rfl

theorem means_apply (x0 x1 x2 x3 : S1x14208.Idx → EReal) (y : S1x14208.Idx) : out0_5 (F := Ideal) x0 x1 x2 x3 y = mean (x1 y) (x2 y) := by
  unfold out0_5
  canon_tiles x e
  obtain ⟨r, j, rfl⟩ : ∃ (r : Fin 1) (j : Fin 14208), x = (ix2 r j : S1x14208.Idx) := ⟨_, _, eq_ix2 x⟩
  rw [idx_eq y r j e0 e1]
  obtain rfl : r = 0 := Subsingleton.elim _ _
  pointwise [k0_pay1, k0_pay2, k0_pay3, View.ld]
  rfl

theorem meanSqs_apply (x0 x1 x2 x3 : S1x14208.Idx → EReal) (y : S1x14208.Idx) : out0_6 (F := Ideal) x0 x1 x2 x3 y = meanSq (x1 y) (x3 y) := by
  unfold out0_6
  canon_tiles x e
  obtain ⟨r, j, rfl⟩ : ∃ (r : Fin 1) (j : Fin 14208), x = (ix2 r j : S1x14208.Idx) := ⟨_, _, eq_ix2 x⟩
  rw [idx_eq y r j e0 e1]
  obtain rfl : r = 0 := Subsingleton.elim _ _
  pointwise [k0_pay1, k0_pay2, k0_pay3, View.ld]
  rfl

variable (m : (ℓ : Loc nD τ sig) → Buf (Elt Ideal) ℓ)

abbrev arr0 (c : Dev nD) : S1x14208.Idx → EReal := m ((c.tc : Thread nD τ).loc main_arg0)
abbrev arr1 (c : Dev nD) : S1x14208.Idx → EReal := m ((c.tc : Thread nD τ).loc main_arg1)
abbrev arr2 (c : Dev nD) : S1x14208.Idx → EReal := m ((c.tc : Thread nD τ).loc main_arg2)
abbrev arr3 (c : Dev nD) : S1x14208.Idx → EReal := m ((c.tc : Thread nD τ).loc main_arg3)

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel

theorem read0 (c : Dev nD) (t : Fin cfg0.N) (r : Fin 1) (k : Fin 14208) :
    iblk m c 0 t (ix2 r k : S1x14208.Idx) = arr0 m c (ix2 r k) := by
  blk_ext [iblk, V, index0 t]

theorem read1 (c : Dev nD) (t : Fin cfg0.N) (r : Fin 1) (k : Fin 14208) :
    iblk m c 1 t (ix2 r k : S1x14208.Idx) = arr1 m c (ix2 r k) := by
  blk_ext [iblk, V, index1 t]

theorem read2 (c : Dev nD) (t : Fin cfg0.N) (r : Fin 1) (k : Fin 14208) :
    iblk m c 2 t (ix2 r k : S1x14208.Idx) = arr2 m c (ix2 r k) := by
  blk_ext [iblk, V, index2 t]

theorem read3 (c : Dev nD) (t : Fin cfg0.N) (r : Fin 1) (k : Fin 14208) :
    iblk m c 3 t (ix2 r k : S1x14208.Idx) = arr3 m c (ix2 r k) := by
  blk_ext [iblk, V, index3 t]

theorem kernel4 (c : Dev nD) : (dats m 0 c).arrAt 4 cfg0.N = changes (arr0 m c) (arr1 m c) (arr2 m c) (arr3 m c) := by
  refine (dats m 0 c).arrAt_eq_of_covers 4 _ (by decide +kernel) fun t hf y => ?_
  obtain ⟨r, j, rfl⟩ : ∃ (r : Fin 1) (j : Fin 14208), y = (ix2 r j : S1x14208.Idx) := ⟨_, _, eq_ix2 y⟩
  have e : ((cfg0.win 4).blk t).view.emb (ix2 r j : S1x14208.Idx) = (ix2 r j : S1x14208.Idx) := by
    blk_ext [index4 t]
  rw [e]
  blk_simp
  rw [after0_4]
  refine (changes_apply (iblk m c 0 t) (iblk m c 1 t) (iblk m c 2 t) (iblk m c 3 t) (ix2 r j)).trans ?_
  simp only [read0, read1, read2, read3]
  rfl

theorem kernel5 (c : Dev nD) : (dats m 0 c).arrAt 5 cfg0.N = means (arr1 m c) (arr2 m c) := by
  refine (dats m 0 c).arrAt_eq_of_covers 5 _ (by decide +kernel) fun t hf y => ?_
  obtain ⟨r, j, rfl⟩ : ∃ (r : Fin 1) (j : Fin 14208), y = (ix2 r j : S1x14208.Idx) := ⟨_, _, eq_ix2 y⟩
  have e : ((cfg0.win 5).blk t).view.emb (ix2 r j : S1x14208.Idx) = (ix2 r j : S1x14208.Idx) := by
    blk_ext [index5 t]
  rw [e]
  blk_simp
  rw [after0_5]
  refine (means_apply (iblk m c 0 t) (iblk m c 1 t) (iblk m c 2 t) (iblk m c 3 t) (ix2 r j)).trans ?_
  simp only [read1, read2]
  rfl

theorem kernel6 (c : Dev nD) : (dats m 0 c).arrAt 6 cfg0.N = meanSqs (arr1 m c) (arr3 m c) := by
  refine (dats m 0 c).arrAt_eq_of_covers 6 _ (by decide +kernel) fun t hf y => ?_
  obtain ⟨r, j, rfl⟩ : ∃ (r : Fin 1) (j : Fin 14208), y = (ix2 r j : S1x14208.Idx) := ⟨_, _, eq_ix2 y⟩
  have e : ((cfg0.win 6).blk t).view.emb (ix2 r j : S1x14208.Idx) = (ix2 r j : S1x14208.Idx) := by
    blk_ext [index6 t]
  rw [e]
  blk_simp
  rw [after0_6]
  refine (meanSqs_apply (iblk m c 0 t) (iblk m c 1 t) (iblk m c 2 t) (iblk m c 3 t) (ix2 r j)).trans ?_
  simp only [read1, read3]
  rfl

end Kernel

section Reference

open Cert.Reference22Ideal

variable (m : (ℓ : Loc nD τ sig) → Buf (Elt Ideal) ℓ)

/-- The reference ends with the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v23) = changes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = means (m ((c.tc : Thread nD τ).loc main_arg1)) (m ((c.tc : Thread nD τ).loc main_arg2))
      ∧ r.2.mem ((c.tc : Thread nD τ).loc main_v10) = meanSqs (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h⟩ := h c
    refine ⟨h0.trans (funext fun i => ?_), h1.trans (funext fun i => ?_), h2.trans (funext fun i => ?_), h⟩
    · clear h0 h1 h2 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      obtain ⟨r, j, rfl⟩ : ∃ (r : Fin 1) (j : Fin 14208), i = (ix2 r j : S1x14208.Idx) := ⟨_, _, eq_ix2 i⟩
      obtain rfl : r = 0 := Subsingleton.elim _ _
      pointwise
      rfl
    · clear h0 h1 h2 h
      generalize (m ((c.tc : Thread nD τ).loc main_arg1)) = a1
      generalize (m ((c.tc : Thread nD τ).loc main_arg2)) = a2
      obtain ⟨r, j, rfl⟩ : ∃ (r : Fin 1) (j : Fin 14208), i = (ix2 r j : S1x14208.Idx) := ⟨_, _, eq_ix2 i⟩
      obtain rfl : r = 0 := Subsingleton.elim _ _
      pointwise
      rfl
    · clear h0 h1 h2 h
      generalize (m ((c.tc : Thread nD τ).loc main_arg1)) = a1
      generalize (m ((c.tc : Thread nD τ).loc main_arg3)) = a3
      obtain ⟨r, j, rfl⟩ : ∃ (r : Fin 1) (j : Fin 14208), i = (ix2 r j : S1x14208.Idx) := ⟨_, _, eq_ix2 i⟩
      obtain rfl : r = 0 := Subsingleton.elim _ _
      pointwise
      rfl)
    (Value.run m ρ)

end Reference

/-- From arguments that agree, the kernel's results are the reference's. -/
theorem algebraic : algebraic_Kernel22Ideal_Reference22Ideal (hKernel22Ideal := Cert.Kernel22Ideal.Gen.facts) (hReference22Ideal := Cert.Reference22Ideal.Gen.facts) := by
  intro m g m' g' _ hagree
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N,
    (θ_run _ _ _).mono (fun r h c => ?_) (Cert.Kernel22Ideal.Value.run_blocks m g),
    (θ_run _ _ _).mono (fun r h c => ?_) (reference_run m' g')⟩
  · exact h c
  · obtain ⟨h0, h1, h2, h⟩ := h c
    obtain ⟨a0, a1, a2, a3⟩ := hagree c
    refine ⟨h0.trans ?_, h1.trans ?_, h2.trans ?_, h⟩
    · rw [a0, a1, a2, a3]
      exact (kernel4 m c).symm
    · rw [a1, a2]
      exact (kernel5 m c).symm
    · rw [a1, a3]
      exact (kernel6 m c).symm

end Cert.AdamSmall

end
-- ==== Proof.AdamHalves.lean ====
/- Which half of a weight's rows a block of a sweep over it lies in, and the choice the half decides. -/
module

public import Idealize.ShloMosaic.Lib.KernelVsHost
public import Idealize.ShloMosaic.Lib.Affine

@[expose] public section

noncomputable section

namespace Cert.AdamHalves

open Idealize.ShloMosaic

/-- The quotient of the words `i` and `n` rounded down, by the quotient rounded towards zero. -/
def half (n i : BitVec 32) : BitVec 32 :=
  Scalar.select
    (Scalar.andi
      (Scalar.cmpi .ne (Scalar.subi (Scalar.extui (Scalar.cmpi .sgt i 0#32)) (Scalar.extui (Scalar.cmpi .slt i 0#32)))
        (Scalar.subi (Scalar.extui (Scalar.cmpi .sgt n 0#32)) (Scalar.extui (Scalar.cmpi .slt n 0#32))))
      (Scalar.cmpi .ne (Scalar.remsi i n) 0#32))
    (Scalar.subi (Scalar.divsi i n) 1#32) (Scalar.divsi i n)

/-- A choice by an equality of words. -/
theorem select_eq {α : Type} (a b : BitVec 32) (x y : α) :
    Scalar.select (Scalar.cmpi .eq a b) x y = if a = b then x else y := by
  show (if IntOp.cmpi .eq a b = 1#1 then x else y) = _
  simp only [IntOp.cmpi_eq]

theorem select_eq' {α : Type} (a b : BitVec 32) (x y : α) :
    Scalar.select (IntOp.cmpi .eq a b) x y = if a = b then x else y := select_eq a b x y

theorem zero2 : (![0, 0] : Fin 2 → ℕ) = fun _ => 0 := by funext a; fin_cases a <;> rfl

end Cert.AdamHalves

end
-- ==== Proof.AdamMixIn.lean ====
/- AdamW on the mixing layer's input weights. -/
module

public import Idealize.ShloMosaic.Lib.KernelVsHost
public import proofs.«01_k».proof.Proof.AdamStep
public import proofs.«01_k».proof.Proof.AdamHalves
public import proofs.«01_k».proof.Proof.DwDownKernel
public import proofs.«01_k».proof.Proof.RowSums
public import proofs.«01_k».proof.Proof.Gen.Kernel23Ideal.Frame
public import proofs.«01_k».proof.Proof.Gen.Reference23Ideal.Run
public import proofs.«01_k».proof.Defs

@[expose] public section

set_option maxRecDepth 16384

noncomputable section

namespace Cert.AdamMixIn

open Idealize.ShloMosaic Idealize.ShloMosaic.TcCoe Idealize.SL.Sem Cert.RowSums Cert.AdamStep Cert.AdamHalves

section Kernel

open Cert.Kernel23Ideal Cert.Kernel23Ideal.Gen

/-- The gradient of the whole weight: the half of the rows this core has summed, and the other half from the other core. -/
def gradient (core : S1.Idx → BitVec 32) (own sib : S512x1280.Idx → EReal) (i : S1024x1280.Idx) : EReal :=
  if BitVec.ofNat 32 ((i 0).val / 512) = core (ix1 0) then own (ix2 ⟨(i 0).val % 512, Nat.mod_lt _ (by decide)⟩ (i 1))
  else sib (ix2 ⟨(i 0).val % 512, Nat.mod_lt _ (by decide)⟩ (i 1))

/-- The weight's change, the next means and the next mean squares, entry by entry. -/
def changes (core : S1.Idx → BitVec 32) (w : S1024x1280.Idx → EReal) (own sib : S512x1280.Idx → EReal) (a b : S1024x1280.Idx → EReal) (i : S1024x1280.Idx) : EReal :=
  change (w i) (gradient core own sib i) (a i) (b i)
def means (core : S1.Idx → BitVec 32) (own sib : S512x1280.Idx → EReal) (a : S1024x1280.Idx → EReal) (i : S1024x1280.Idx) : EReal :=
  mean (gradient core own sib i) (a i)
def meanSqs (core : S1.Idx → BitVec 32) (own sib : S512x1280.Idx → EReal) (b : S1024x1280.Idx → EReal) (i : S1024x1280.Idx) : EReal :=
  meanSq (gradient core own sib i) (b i)

/-- The gradient at a block's entry. -/
theorem gradient_block (core : S1.Idx → BitVec 32) (own sib : S512x1280.Idx → EReal) (t : Fin grid0.N) (r : Fin 128) (k : Fin 1280) :
    gradient core own sib (ix2 ⟨t.val % 8 * 128 + r.val, by omega⟩ k)
      = if BitVec.ofNat 32 (t.val % 8 / 4) = core (ix1 0) then own (ix2 ⟨t.val % 4 * 128 + r.val, by omega⟩ k) else sib (ix2 ⟨t.val % 4 * 128 + r.val, by omega⟩ k) := by
  have e : (t.val % 8 * 128 + r.val) / 512 = t.val % 8 / 4 := by omega
  have f : (t.val % 8 * 128 + r.val) % 512 = t.val % 4 * 128 + r.val := by omega
  show (if BitVec.ofNat 32 ((t.val % 8 * 128 + r.val) / 512) = core (ix1 0)
    then own (ix2 ⟨(t.val % 8 * 128 + r.val) % 512, Nat.mod_lt _ (by decide)⟩ k)
    else sib (ix2 ⟨(t.val % 8 * 128 + r.val) % 512, Nat.mod_lt _ (by decide)⟩ k)) = _
  simp only [e, f]

/-- The gradient in the first half of the rows, and in the second. -/
theorem gradient_low (core : S1.Idx → BitVec 32) (own sib : S512x1280.Idx → EReal) (r : Fin 1024) (k : Fin 1280) (hr : r.val < 512) :
    gradient core own sib (ix2 r k)
      = Scalar.select (IntOp.cmpi .eq (core (ix1 0)) 0#32) (own (ix2 ⟨r.val, hr⟩ k)) (sib (ix2 ⟨r.val, hr⟩ k)) := by
  have e : r.val / 512 = 0 := by omega
  have f : r.val % 512 = r.val := by omega
  rw [select_eq']
  show (if BitVec.ofNat 32 (r.val / 512) = core (ix1 0) then own (ix2 ⟨r.val % 512, Nat.mod_lt _ (by decide)⟩ k)
    else sib (ix2 ⟨r.val % 512, Nat.mod_lt _ (by decide)⟩ k)) = _
  simp only [e, f, eq_comm (a := core (ix1 0))]
theorem gradient_high (core : S1.Idx → BitVec 32) (own sib : S512x1280.Idx → EReal) (r : Fin 1024) (k : Fin 1280) (hr : ¬ r.val < 512) :
    gradient core own sib (ix2 r k)
      = Scalar.select (IntOp.cmpi .eq (core (ix1 0)) 1#32) (own (ix2 ⟨r.val - 512, by omega⟩ k)) (sib (ix2 ⟨r.val - 512, by omega⟩ k)) := by
  have e : r.val / 512 = 1 := by omega
  have f : r.val % 512 = r.val - 512 := by omega
  rw [select_eq']
  show (if BitVec.ofNat 32 (r.val / 512) = core (ix1 0) then own (ix2 ⟨r.val % 512, Nat.mod_lt _ (by decide)⟩ k)
    else sib (ix2 ⟨r.val % 512, Nat.mod_lt _ (by decide)⟩ k)) = _
  simp only [e, f, eq_comm (a := core (ix1 0))]

/-- The words a point computes: the half its block lies in. -/
theorem half_eq : ∀ k : Fin 8, half 4#32 (BitVec.ofNat 32 k.val) = BitVec.ofNat 32 (k.val / 4) := by decide +kernel

theorem point : ∀ t : Fin grid0.N, (grid0.coords t 0).val = t.val % 8 := by decide +kernel

/-- A block's gradient, and its results, entry by entry. -/
theorem pay2_apply (i : grid0.Coords) (w : BitVec 32) (x y : S128x1280.Idx → EReal) (r : Fin 128) (k : Fin 1280) :
    k0_pay2 (F := Ideal) i w x y (ix2 r k) = if BitVec.ofNat 32 ((i 0).val / 4) = w then x (ix2 r k) else y (ix2 r k) := by
  refine Eq.trans ?_ (congrArg (fun v => if v = w then x (ix2 r k) else y (ix2 r k)) (half_eq (i 0)))
  pointwise [k0_pay2]
  exact select_eq (half 4#32 (BitVec.ofNat 32 (i 0).val)) w _ _

theorem pay3_apply (i : grid0.Coords) (w : BitVec 32) (x y a : S128x1280.Idx → EReal) (r : Fin 128) (k : Fin 1280) :
    k0_pay3 (F := Ideal) i w x y a (ix2 r k) = mean (k0_pay2 (F := Ideal) i w x y (ix2 r k)) (a (ix2 r k)) := by
  pointwise [k0_pay3]
  rfl

theorem pay4_apply (i : grid0.Coords) (w : BitVec 32) (x y b : S128x1280.Idx → EReal) (r : Fin 128) (k : Fin 1280) :
    k0_pay4 (F := Ideal) i w x y b (ix2 r k) = meanSq (k0_pay2 (F := Ideal) i w x y (ix2 r k)) (b (ix2 r k)) := by
  pointwise [k0_pay4]
  rfl

theorem pay1_apply (i : grid0.Coords) (w : BitVec 32) (x y a b z : S128x1280.Idx → EReal) (r : Fin 128) (k : Fin 1280) :
    k0_pay1 (F := Ideal) (k0_pay3 i w x y a) (k0_pay4 i w x y b) z (ix2 r k)
      = change (z (ix2 r k)) (k0_pay2 (F := Ideal) i w x y (ix2 r k)) (a (ix2 r k)) (b (ix2 r k)) := by
  pointwise [k0_pay1]
  rw [pay3_apply, pay4_apply]
  rfl

section Points

variable (c : Dev nD) (i : grid0.Coords) (a2 : Memref sig .tc .vmem S128x1280 .f32) (h2 : a2.IsWhole) (a3 : Memref sig .tc .vmem S128x1280 .f32) (h3 : a3.IsWhole) (a4 : Memref sig .tc .vmem S128x1280 .f32) (h4 : a4.IsWhole) (a5 : Memref sig .tc .vmem S128x1280 .f32) (h5 : a5.IsWhole) (a6 : Memref sig .tc .vmem S128x1280 .f32) (h6 : a6.IsWhole) (a7 : Memref sig .tc .vmem S128x1280 .f32) (h7 : a7.IsWhole) (a8 : Memref sig .tc .vmem S128x1280 .f32) (h8 : a8.IsWhole) (a9 : Memref sig .tc .vmem S128x1280 .f32) (h9 : a9.IsWhole) (a10 : Memref sig .tc .vmem S128x1280 .f32) (h10 : a10.IsWhole)
  (x0 x1 x2 x3 x4 : Vec Ideal S128x1280 .f32) (w : TbBuf0 (F := Ideal) c tbM0_0)

theorem one (i j : S1.Idx) : i = j := funext fun a => by fin_cases a; exact Subsingleton.elim (α := Fin 1) _ _

/-- The word loaded from the one-word table. -/
theorem word (p) : View.readAt (Elt Ideal) tbM0_0.view (Rect.unit ![0] S1.size inb_S1_S1_0).toLoadRect w (Shape.Idx.first p)
    = w (ix1 (0 : Fin 1) : S1.Idx) := congrArg w (one _ _)

/-- What the body leaves in the four outputs' blocks. -/
theorem out5 : out0_A_5 c i a2 h2 a3 h3 a4 h4 a5 h5 a6 h6 a7 h7 a8 h8 a9 h9 a10 h10 x0 x1 x2 x3 x4 w
    = k0_pay2 (F := Ideal) i (w (ix1 (0 : Fin 1) : S1.Idx)) x1 x2 := by
  unfold out0_A_5
  rw [View.read_writes_eq_canon _ _ _ (cover0_A_5 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1280) zero2]
  exact congrArg (fun v => k0_pay2 (F := Ideal) i v x1 x2) (word c w _)

theorem out6 : out0_A_6 c i a2 h2 a3 h3 a4 h4 a5 h5 a6 h6 a7 h7 a8 h8 a9 h9 a10 h10 x0 x1 x2 x3 x4 w
    = k0_pay1 (F := Ideal) (k0_pay3 i (w (ix1 (0 : Fin 1) : S1.Idx)) x1 x2 x3) (k0_pay4 i (w (ix1 (0 : Fin 1) : S1.Idx)) x1 x2 x4) x0 := by
  unfold out0_A_6
  rw [View.read_writes_eq_canon _ _ _ (cover0_A_6 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1280) zero2]
  exact congrArg (fun v => k0_pay1 (F := Ideal) (k0_pay3 i v x1 x2 x3) (k0_pay4 i v x1 x2 x4) x0) (word c w _)

theorem out7 : out0_A_7 c i a2 h2 a3 h3 a4 h4 a5 h5 a6 h6 a7 h7 a8 h8 a9 h9 a10 h10 x0 x1 x2 x3 x4 w
    = k0_pay3 (F := Ideal) i (w (ix1 (0 : Fin 1) : S1.Idx)) x1 x2 x3 := by
  unfold out0_A_7
  rw [View.read_writes_eq_canon _ _ _ (cover0_A_7 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1280) zero2]
  exact congrArg (fun v => k0_pay3 (F := Ideal) i v x1 x2 x3) (word c w _)

theorem out8 : out0_A_8 c i a2 h2 a3 h3 a4 h4 a5 h5 a6 h6 a7 h7 a8 h8 a9 h9 a10 h10 x0 x1 x2 x3 x4 w
    = k0_pay4 (F := Ideal) i (w (ix1 (0 : Fin 1) : S1.Idx)) x1 x2 x4 := by
  unfold out0_A_8
  rw [View.read_writes_eq_canon _ _ _ (cover0_A_8 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1280) zero2]
  exact congrArg (fun v => k0_pay4 (F := Ideal) i v x1 x2 x4) (word c w _)

end Points

variable (m : (ℓ : Loc nD τ sig) → Buf (Elt Ideal) ℓ)

abbrev arr0 (c : Dev nD) : S1.Idx → BitVec 32 := m ((c.tc : Thread nD τ).loc main_arg0)
abbrev arr1 (c : Dev nD) : S1024x1280.Idx → EReal := m ((c.tc : Thread nD τ).loc main_arg1)
abbrev arr2 (c : Dev nD) : S512x1280.Idx → EReal := m ((c.tc : Thread nD τ).loc main_arg2)
abbrev arr3 (c : Dev nD) : S512x1280.Idx → EReal := m ((c.tc : Thread nD τ).loc main_arg3)
abbrev arr4 (c : Dev nD) : S1024x1280.Idx → EReal := m ((c.tc : Thread nD τ).loc main_arg4)
abbrev arr5 (c : Dev nD) : S1024x1280.Idx → EReal := m ((c.tc : Thread nD τ).loc main_arg5)

/-- No index map reads the table, so its contents are free. -/
theorem ok : Ok m := by
  unfold Ok ok0
  trivial

theorem table (c : Dev nD) : tbl m 0 (ix1 (0 : Fin 1) : S1.Idx) = arr0 m c (ix1 0) := by
  obtain rfl : c = 0 := Subsingleton.elim _ _
  rfl

theorem index0 (t : Fin grid0.N) : ((cfgM m (ok m)).win 0).index t = ![t.val % 8, 0] :=
  (by decide +kernel : ∀ t : Fin grid0.N, cc0_transform_0 (grid0.coords t) = ![t.val % 8, 0]) t
theorem index1 (t : Fin grid0.N) : ((cfgM m (ok m)).win 1).index t = ![t.val % 4, 0] :=
  (by decide +kernel : ∀ t : Fin grid0.N, cc0_transform_1 (grid0.coords t) = ![t.val % 4, 0]) t
theorem index2 (t : Fin grid0.N) : ((cfgM m (ok m)).win 2).index t = ![t.val % 4, 0] :=
  (by decide +kernel : ∀ t : Fin grid0.N, cc0_transform_2 (grid0.coords t) = ![t.val % 4, 0]) t
theorem index3 (t : Fin grid0.N) : ((cfgM m (ok m)).win 3).index t = ![t.val % 8, 0] :=
  (by decide +kernel : ∀ t : Fin grid0.N, cc0_transform_3 (grid0.coords t) = ![t.val % 8, 0]) t
theorem index4 (t : Fin grid0.N) : ((cfgM m (ok m)).win 4).index t = ![t.val % 8, 0] :=
  (by decide +kernel : ∀ t : Fin grid0.N, cc0_transform_4 (grid0.coords t) = ![t.val % 8, 0]) t
theorem index5 (t : Fin grid0.N) : ((cfgM m (ok m)).win 5).index t = ![t.val % 8, 0] :=
  (by decide +kernel : ∀ t : Fin grid0.N, cc0_transform_5 (grid0.coords t) = ![t.val % 8, 0]) t
theorem index6 (t : Fin grid0.N) : ((cfgM m (ok m)).win 6).index t = ![t.val % 8, 0] :=
  (by decide +kernel : ∀ t : Fin grid0.N, cc0_transform_6 (grid0.coords t) = ![t.val % 8, 0]) t
theorem index7 (t : Fin grid0.N) : ((cfgM m (ok m)).win 7).index t = ![t.val % 8, 0] :=
  (by decide +kernel : ∀ t : Fin grid0.N, cc0_transform_7 (grid0.coords t) = ![t.val % 8, 0]) t
theorem index8 (t : Fin grid0.N) : ((cfgM m (ok m)).win 8).index t = ![t.val % 8, 0] :=
  (by decide +kernel : ∀ t : Fin grid0.N, cc0_transform_8 (grid0.coords t) = ![t.val % 8, 0]) t

theorem read0 (c : Dev nD) (t : Fin (cfgM m (ok m)).N) (r : Fin 128) (k : Fin 1280) :
    iblk m (ok m) c 0 t (ix2 r k : S128x1280.Idx) = arr1 m c (ix2 ⟨t.val % 8 * 128 + r.val, by omega⟩ k) := by
  blk_ext [iblk, V, index0 m t]

theorem read1 (c : Dev nD) (t : Fin (cfgM m (ok m)).N) (r : Fin 128) (k : Fin 1280) :
    iblk m (ok m) c 1 t (ix2 r k : S128x1280.Idx) = arr2 m c (ix2 ⟨t.val % 4 * 128 + r.val, by omega⟩ k) := by
  blk_ext [iblk, V, index1 m t]

theorem read2 (c : Dev nD) (t : Fin (cfgM m (ok m)).N) (r : Fin 128) (k : Fin 1280) :
    iblk m (ok m) c 2 t (ix2 r k : S128x1280.Idx) = arr3 m c (ix2 ⟨t.val % 4 * 128 + r.val, by omega⟩ k) := by
  blk_ext [iblk, V, index2 m t]

theorem read3 (c : Dev nD) (t : Fin (cfgM m (ok m)).N) (r : Fin 128) (k : Fin 1280) :
    iblk m (ok m) c 3 t (ix2 r k : S128x1280.Idx) = arr4 m c (ix2 ⟨t.val % 8 * 128 + r.val, by omega⟩ k) := by
  blk_ext [iblk, V, index3 m t]

theorem read4 (c : Dev nD) (t : Fin (cfgM m (ok m)).N) (r : Fin 128) (k : Fin 1280) :
    iblk m (ok m) c 4 t (ix2 r k : S128x1280.Idx) = arr5 m c (ix2 ⟨t.val % 8 * 128 + r.val, by omega⟩ k) := by
  blk_ext [iblk, V, index4 m t]

/-- The block gradient a point computes is the gradient's block. -/
theorem pay2_block (c : Dev nD) (t : Fin (cfgM m (ok m)).N) (r : Fin 128) (k : Fin 1280) :
    k0_pay2 (F := Ideal) (grid0.coords t) (tbl m 0 (ix1 (0 : Fin 1) : S1.Idx)) (iblk m (ok m) c 1 t) (iblk m (ok m) c 2 t) (ix2 r k)
      = gradient (arr0 m c) (arr2 m c) (arr3 m c) (ix2 ⟨t.val % 8 * 128 + r.val, by omega⟩ k) := by
  refine (pay2_apply (grid0.coords t) _ _ _ r k).trans ?_
  rw [point, table m c, read1, read2]
  exact (gradient_block (arr0 m c) (arr2 m c) (arr3 m c) t r k).symm

/-- Contents of the table, to name the output windows by. -/
def zeros : (pcfg0 (F := Ideal)).Adm := ⟨fun | 0 => (fun _ => 0#32 : S1.Idx → BitVec 32), trivial⟩

theorem kernel5 (c : Dev nD) : (dats m (ok m) 0 c).arrAt 5 (cfgM m (ok m)).N = gradient (arr0 m c) (arr2 m c) (arr3 m c) := by
  refine (dats m (ok m) 0 c).arrAt_eq_of_covers 5 _ (by decide +kernel : ((cfg0 zeros).win 5).Covers) fun t hf y => ?_
  obtain ⟨r, j, rfl⟩ : ∃ (r : Fin 128) (j : Fin 1280), y = (ix2 r j : S128x1280.Idx) := ⟨_, _, eq_ix2 y⟩
  have e : (((cfgM m (ok m)).win 5).blk t).view.emb (ix2 r j : S128x1280.Idx) = (ix2 ⟨t.val % 8 * 128 + r.val, by omega⟩ j : S1024x1280.Idx) := by
    blk_ext [index5 m t]
  rw [e]
  blk_simp
  rw [after0_5]
  unfold outsAt0
  dsimp only
  refine (congrFun (out5 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  exact pay2_block m c t r j

theorem kernel6 (c : Dev nD) : (dats m (ok m) 0 c).arrAt 6 (cfgM m (ok m)).N = changes (arr0 m c) (arr1 m c) (arr2 m c) (arr3 m c) (arr4 m c) (arr5 m c) := by
  refine (dats m (ok m) 0 c).arrAt_eq_of_covers 6 _ (by decide +kernel : ((cfg0 zeros).win 6).Covers) fun t hf y => ?_
  obtain ⟨r, j, rfl⟩ : ∃ (r : Fin 128) (j : Fin 1280), y = (ix2 r j : S128x1280.Idx) := ⟨_, _, eq_ix2 y⟩
  have e : (((cfgM m (ok m)).win 6).blk t).view.emb (ix2 r j : S128x1280.Idx) = (ix2 ⟨t.val % 8 * 128 + r.val, by omega⟩ j : S1024x1280.Idx) := by
    blk_ext [index6 m t]
  rw [e]
  blk_simp
  rw [after0_6]
  unfold outsAt0
  dsimp only
  refine (congrFun (out6 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay1_apply _ _ _ _ _ _ _ r j).trans ?_
  rw [pay2_block m c t r j, read0, read3, read4]
  rfl

theorem kernel7 (c : Dev nD) : (dats m (ok m) 0 c).arrAt 7 (cfgM m (ok m)).N = means (arr0 m c) (arr2 m c) (arr3 m c) (arr4 m c) := by
  refine (dats m (ok m) 0 c).arrAt_eq_of_covers 7 _ (by decide +kernel : ((cfg0 zeros).win 7).Covers) fun t hf y => ?_
  obtain ⟨r, j, rfl⟩ : ∃ (r : Fin 128) (j : Fin 1280), y = (ix2 r j : S128x1280.Idx) := ⟨_, _, eq_ix2 y⟩
  have e : (((cfgM m (ok m)).win 7).blk t).view.emb (ix2 r j : S128x1280.Idx) = (ix2 ⟨t.val % 8 * 128 + r.val, by omega⟩ j : S1024x1280.Idx) := by
    blk_ext [index7 m t]
  rw [e]
  blk_simp
  rw [after0_7]
  unfold outsAt0
  dsimp only
  refine (congrFun (out7 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay3_apply _ _ _ _ _ r j).trans ?_
  rw [pay2_block m c t r j, read3]
  rfl

theorem kernel8 (c : Dev nD) : (dats m (ok m) 0 c).arrAt 8 (cfgM m (ok m)).N = meanSqs (arr0 m c) (arr2 m c) (arr3 m c) (arr5 m c) := by
  refine (dats m (ok m) 0 c).arrAt_eq_of_covers 8 _ (by decide +kernel : ((cfg0 zeros).win 8).Covers) fun t hf y => ?_
  obtain ⟨r, j, rfl⟩ : ∃ (r : Fin 128) (j : Fin 1280), y = (ix2 r j : S128x1280.Idx) := ⟨_, _, eq_ix2 y⟩
  have e : (((cfgM m (ok m)).win 8).blk t).view.emb (ix2 r j : S128x1280.Idx) = (ix2 ⟨t.val % 8 * 128 + r.val, by omega⟩ j : S1024x1280.Idx) := by
    blk_ext [index8 m t]
  rw [e]
  blk_simp
  rw [after0_8]
  unfold outsAt0
  dsimp only
  refine (congrFun (out8 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay4_apply _ _ _ _ _ r j).trans ?_
  rw [pay2_block m c t r j, read4]
  rfl

end Kernel

section Reference

open Cert.Reference23Ideal

variable (m : (ℓ : Loc nD τ sig) → Buf (Elt Ideal) ℓ)

/-- The reference ends with the gradient, the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v6) = gradient (m ((c.tc : Thread nD τ).loc main_arg0)) (m ((c.tc : Thread nD τ).loc main_arg2)) (m ((c.tc : Thread nD τ).loc main_arg3))
      ∧ r.2.mem ((c.tc : Thread nD τ).loc main_v30) = changes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = means (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v17) = meanSqs (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    refine ⟨h0.trans (funext fun i => ?_), h1.trans (funext fun i => ?_), h2.trans (funext fun i => ?_), h3.trans (funext fun i => ?_), h⟩
    · clear h0 h1 h2 h3 h
      generalize (m ((c.tc : Thread nD τ).loc main_arg0)) = a0
      generalize (m ((c.tc : Thread nD τ).loc main_arg2)) = a2
      generalize (m ((c.tc : Thread nD τ).loc main_arg3)) = a3
      obtain ⟨r, j, rfl⟩ : ∃ (r : Fin 1024) (j : Fin 1280), i = (ix2 r j : S1024x1280.Idx) := ⟨_, _, eq_ix2 i⟩
      pointwise
      by_cases hr : r.val < 512
      · simp only [dif_pos hr]
        exact (congrArg (fun g => g) (gradient_low a0 a2 a3 r j hr)).symm
      · simp only [dif_neg hr]
        exact (congrArg (fun g => g) (gradient_high a0 a2 a3 r j hr)).symm
    · clear h0 h1 h2 h3 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 1024) (j : Fin 1280), i = (ix2 r j : S1024x1280.Idx) := ⟨_, _, eq_ix2 i⟩
      pointwise
      by_cases hr : r.val < 512
      · simp only [dif_pos hr]
        exact (congrArg (fun g => change (a1 (ix2 r j)) g (a4 (ix2 r j)) (a5 (ix2 r j))) (gradient_low a0 a2 a3 r j hr)).symm
      · simp only [dif_neg hr]
        exact (congrArg (fun g => change (a1 (ix2 r j)) g (a4 (ix2 r j)) (a5 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg4)) = a4
      obtain ⟨r, j, rfl⟩ : ∃ (r : Fin 1024) (j : Fin 1280), i = (ix2 r j : S1024x1280.Idx) := ⟨_, _, eq_ix2 i⟩
      pointwise
      by_cases hr : r.val < 512
      · simp only [dif_pos hr]
        exact (congrArg (fun g => mean g (a4 (ix2 r j))) (gradient_low a0 a2 a3 r j hr)).symm
      · simp only [dif_neg hr]
        exact (congrArg (fun g => mean g (a4 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg5)) = a5
      obtain ⟨r, j, rfl⟩ : ∃ (r : Fin 1024) (j : Fin 1280), i = (ix2 r j : S1024x1280.Idx) := ⟨_, _, eq_ix2 i⟩
      pointwise
      by_cases hr : r.val < 512
      · simp only [dif_pos hr]
        exact (congrArg (fun g => meanSq g (a5 (ix2 r j))) (gradient_low a0 a2 a3 r j hr)).symm
      · simp only [dif_neg hr]
        exact (congrArg (fun g => meanSq g (a5 (ix2 r j))) (gradient_high a0 a2 a3 r j hr)).symm)
    (Value.run m ρ)

end Reference

section Run

open Cert.Kernel23Ideal Cert.Kernel23Ideal.Gen

variable (m : (ℓ : Loc nD τ sig) → Buf (Elt Ideal) ℓ)

/-- The kernel ends with its outputs' blocks put together, and its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m (ok m) 0 c).arrAt 5 (cfgM m (ok m)).N
      ∧ r.2.mem ((c.tc : Thread nD τ).loc main_v0_1) = (dats m (ok m) 0 c).arrAt 6 (cfgM m (ok m)).N
      ∧ r.2.mem ((c.tc : Thread nD τ).loc main_v0_2) = (dats m (ok m) 0 c).arrAt 7 (cfgM m (ok m)).N
      ∧ r.2.mem ((c.tc : Thread nD τ).loc main_v0_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Run

/-- From arguments that agree, the kernel's results are the reference's. -/
theorem algebraic : algebraic_Kernel23Ideal_Reference23Ideal (hKernel23Ideal := Cert.Kernel23Ideal.Gen.facts) (hReference23Ideal := Cert.Reference23Ideal.Gen.facts) := by
  intro m g m' g' _ hagree
  refine ⟨fun c => (Cert.Kernel23Ideal.Gen.dats m (ok m) 0 c).arrAt 5 (Cert.Kernel23Ideal.Gen.cfgM m (ok m)).N, fun c => (Cert.Kernel23Ideal.Gen.dats m (ok m) 0 c).arrAt 6 (Cert.Kernel23Ideal.Gen.cfgM m (ok m)).N, fun c => (Cert.Kernel23Ideal.Gen.dats m (ok m) 0 c).arrAt 7 (Cert.Kernel23Ideal.Gen.cfgM m (ok m)).N, fun c => (Cert.Kernel23Ideal.Gen.dats m (ok m) 0 c).arrAt 8 (Cert.Kernel23Ideal.Gen.cfgM m (ok m)).N,
    (θ_run _ _ _).mono (fun r h c => ?_) (kernel_run m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a2, a3]
      exact (kernel5 m c).symm
    · rw [a0, a1, a2, a3, a4, a5]
      exact (kernel6 m c).symm
    · rw [a0, a2, a3, a4]
      exact (kernel7 m c).symm
    · rw [a0, a2, a3, a5]
      exact (kernel8 m c).symm

end Cert.AdamMixIn

end
-- ==== Proof.AdamDown.lean ====
/- AdamW on a feed-forward layer's output weights. -/
module

public import Idealize.ShloMosaic.Lib.KernelVsHost
public import proofs.«01_k».proof.Proof.AdamStep
public import proofs.«01_k».proof.Proof.AdamHalves
public import proofs.«01_k».proof.Proof.DwDownKernel
public import proofs.«01_k».proof.Proof.RowSums
public import proofs.«01_k».proof.Proof.Gen.Kernel24Ideal.Frame
public import proofs.«01_k».proof.Proof.Gen.Reference24Ideal.Run
public import proofs.«01_k».proof.Defs

@[expose] public section

set_option maxRecDepth 16384

noncomputable section

namespace Cert.AdamDown

open Idealize.ShloMosaic Idealize.ShloMosaic.TcCoe Idealize.SL.Sem Cert.RowSums Cert.AdamStep Cert.AdamHalves

section Kernel

open Cert.Kernel24Ideal Cert.Kernel24Ideal.Gen

/-- The gradient of the whole weight: the half of the rows this core has summed, and the other half from the other core. -/
def gradient (core : S1.Idx → BitVec 32) (own sib : S352x1024.Idx → EReal) (i : S704x1024.Idx) : EReal :=
  if BitVec.ofNat 32 ((i 0).val / 352) = core (ix1 0) then own (ix2 ⟨(i 0).val % 352, Nat.mod_lt _ (by decide)⟩ (i 1))
  else sib (ix2 ⟨(i 0).val % 352, Nat.mod_lt _ (by decide)⟩ (i 1))

/-- The weight's change, the next means and the next mean squares, entry by entry. -/
def changes (core : S1.Idx → BitVec 32) (w : S704x1024.Idx → EReal) (own sib : S352x1024.Idx → EReal) (a b : S704x1024.Idx → EReal) (i : S704x1024.Idx) : EReal :=
  change (w i) (gradient core own sib i) (a i) (b i)
def means (core : S1.Idx → BitVec 32) (own sib : S352x1024.Idx → EReal) (a : S704x1024.Idx → EReal) (i : S704x1024.Idx) : EReal :=
  mean (gradient core own sib i) (a i)
def meanSqs (core : S1.Idx → BitVec 32) (own sib : S352x1024.Idx → EReal) (b : S704x1024.Idx → EReal) (i : S704x1024.Idx) : EReal :=
  meanSq (gradient core own sib i) (b i)

/-- The gradient at a block's entry. -/
theorem gradient_block (core : S1.Idx → BitVec 32) (own sib : S352x1024.Idx → EReal) (t : Fin grid0.N) (r : Fin 176) (k : Fin 1024) :
    gradient core own sib (ix2 ⟨t.val % 4 * 176 + r.val, by omega⟩ k)
      = if BitVec.ofNat 32 (t.val % 4 / 2) = core (ix1 0) then own (ix2 ⟨t.val % 2 * 176 + r.val, by omega⟩ k) else sib (ix2 ⟨t.val % 2 * 176 + r.val, by omega⟩ k) := by
  have e : (t.val % 4 * 176 + r.val) / 352 = t.val % 4 / 2 := by omega
  have f : (t.val % 4 * 176 + r.val) % 352 = t.val % 2 * 176 + r.val := by omega
  show (if BitVec.ofNat 32 ((t.val % 4 * 176 + r.val) / 352) = core (ix1 0)
    then own (ix2 ⟨(t.val % 4 * 176 + r.val) % 352, Nat.mod_lt _ (by decide)⟩ k)
    else sib (ix2 ⟨(t.val % 4 * 176 + r.val) % 352, Nat.mod_lt _ (by decide)⟩ k)) = _
  simp only [e, f]

/-- The gradient in the first half of the rows, and in the second. -/
theorem gradient_low (core : S1.Idx → BitVec 32) (own sib : S352x1024.Idx → EReal) (r : Fin 704) (k : Fin 1024) (hr : r.val < 352) :
    gradient core own sib (ix2 r k)
      = Scalar.select (IntOp.cmpi .eq (core (ix1 0)) 0#32) (own (ix2 ⟨r.val, hr⟩ k)) (sib (ix2 ⟨r.val, hr⟩ k)) := by
  have e : r.val / 352 = 0 := by omega
  have f : r.val % 352 = r.val := by omega
  rw [select_eq']
  show (if BitVec.ofNat 32 (r.val / 352) = core (ix1 0) then own (ix2 ⟨r.val % 352, Nat.mod_lt _ (by decide)⟩ k)
    else sib (ix2 ⟨r.val % 352, Nat.mod_lt _ (by decide)⟩ k)) = _
  simp only [e, f, eq_comm (a := core (ix1 0))]
theorem gradient_high (core : S1.Idx → BitVec 32) (own sib : S352x1024.Idx → EReal) (r : Fin 704) (k : Fin 1024) (hr : ¬ r.val < 352) :
    gradient core own sib (ix2 r k)
      = Scalar.select (IntOp.cmpi .eq (core (ix1 0)) 1#32) (own (ix2 ⟨r.val - 352, by omega⟩ k)) (sib (ix2 ⟨r.val - 352, by omega⟩ k)) := by
  have e : r.val / 352 = 1 := by omega
  have f : r.val % 352 = r.val - 352 := by omega
  rw [select_eq']
  show (if BitVec.ofNat 32 (r.val / 352) = core (ix1 0) then own (ix2 ⟨r.val % 352, Nat.mod_lt _ (by decide)⟩ k)
    else sib (ix2 ⟨r.val % 352, Nat.mod_lt _ (by decide)⟩ k)) = _
  simp only [e, f, eq_comm (a := core (ix1 0))]

/-- The words a point computes: the half its block lies in. -/
theorem half_eq : ∀ k : Fin 4, half 2#32 (BitVec.ofNat 32 k.val) = BitVec.ofNat 32 (k.val / 2) := by decide +kernel

theorem point : ∀ t : Fin grid0.N, (grid0.coords t 0).val = t.val % 4 := by decide +kernel

/-- A block's gradient, and its results, entry by entry. -/
theorem pay2_apply (i : grid0.Coords) (w : BitVec 32) (x y : S176x1024.Idx → EReal) (r : Fin 176) (k : Fin 1024) :
    k0_pay2 (F := Ideal) i w x y (ix2 r k) = if BitVec.ofNat 32 ((i 0).val / 2) = w then x (ix2 r k) else y (ix2 r k) := by
  refine Eq.trans ?_ (congrArg (fun v => if v = w then x (ix2 r k) else y (ix2 r k)) (half_eq (i 0)))
  pointwise [k0_pay2]
  exact select_eq (half 2#32 (BitVec.ofNat 32 (i 0).val)) w _ _

theorem pay3_apply (i : grid0.Coords) (w : BitVec 32) (x y a : S176x1024.Idx → EReal) (r : Fin 176) (k : Fin 1024) :
    k0_pay3 (F := Ideal) i w x y a (ix2 r k) = mean (k0_pay2 (F := Ideal) i w x y (ix2 r k)) (a (ix2 r k)) := by
  pointwise [k0_pay3]
  rfl

theorem pay4_apply (i : grid0.Coords) (w : BitVec 32) (x y b : S176x1024.Idx → EReal) (r : Fin 176) (k : Fin 1024) :
    k0_pay4 (F := Ideal) i w x y b (ix2 r k) = meanSq (k0_pay2 (F := Ideal) i w x y (ix2 r k)) (b (ix2 r k)) := by
  pointwise [k0_pay4]
  rfl

theorem pay1_apply (i : grid0.Coords) (w : BitVec 32) (x y a b z : S176x1024.Idx → EReal) (r : Fin 176) (k : Fin 1024) :
    k0_pay1 (F := Ideal) (k0_pay3 i w x y a) (k0_pay4 i w x y b) z (ix2 r k)
      = change (z (ix2 r k)) (k0_pay2 (F := Ideal) i w x y (ix2 r k)) (a (ix2 r k)) (b (ix2 r k)) := by
  pointwise [k0_pay1]
  rw [pay3_apply, pay4_apply]
  rfl

section Points

variable (c : Dev nD) (i : grid0.Coords) (a2 : Memref sig .tc .vmem S176x1024 .f32) (h2 : a2.IsWhole) (a3 : Memref sig .tc .vmem S176x1024 .f32) (h3 : a3.IsWhole) (a4 : Memref sig .tc .vmem S176x1024 .f32) (h4 : a4.IsWhole) (a5 : Memref sig .tc .vmem S176x1024 .f32) (h5 : a5.IsWhole) (a6 : Memref sig .tc .vmem S176x1024 .f32) (h6 : a6.IsWhole) (a7 : Memref sig .tc .vmem S176x1024 .f32) (h7 : a7.IsWhole) (a8 : Memref sig .tc .vmem S176x1024 .f32) (h8 : a8.IsWhole) (a9 : Memref sig .tc .vmem S176x1024 .f32) (h9 : a9.IsWhole) (a10 : Memref sig .tc .vmem S176x1024 .f32) (h10 : a10.IsWhole)
  (x0 x1 x2 x3 x4 : Vec Ideal S176x1024 .f32) (w : TbBuf0 (F := Ideal) c tbM0_0)

theorem one (i j : S1.Idx) : i = j := funext fun a => by fin_cases a; exact Subsingleton.elim (α := Fin 1) _ _

/-- The word loaded from the one-word table. -/
theorem word (p) : View.readAt (Elt Ideal) tbM0_0.view (Rect.unit ![0] S1.size inb_S1_S1_0).toLoadRect w (Shape.Idx.first p)
    = w (ix1 (0 : Fin 1) : S1.Idx) := congrArg w (one _ _)

/-- What the body leaves in the four outputs' blocks. -/
theorem out5 : out0_A_5 c i a2 h2 a3 h3 a4 h4 a5 h5 a6 h6 a7 h7 a8 h8 a9 h9 a10 h10 x0 x1 x2 x3 x4 w
    = k0_pay2 (F := Ideal) i (w (ix1 (0 : Fin 1) : S1.Idx)) x1 x2 := by
  unfold out0_A_5
  rw [View.read_writes_eq_canon _ _ _ (cover0_A_5 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S176x1024) zero2]
  exact congrArg (fun v => k0_pay2 (F := Ideal) i v x1 x2) (word c w _)

theorem out6 : out0_A_6 c i a2 h2 a3 h3 a4 h4 a5 h5 a6 h6 a7 h7 a8 h8 a9 h9 a10 h10 x0 x1 x2 x3 x4 w
    = k0_pay1 (F := Ideal) (k0_pay3 i (w (ix1 (0 : Fin 1) : S1.Idx)) x1 x2 x3) (k0_pay4 i (w (ix1 (0 : Fin 1) : S1.Idx)) x1 x2 x4) x0 := by
  unfold out0_A_6
  rw [View.read_writes_eq_canon _ _ _ (cover0_A_6 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S176x1024) zero2]
  exact congrArg (fun v => k0_pay1 (F := Ideal) (k0_pay3 i v x1 x2 x3) (k0_pay4 i v x1 x2 x4) x0) (word c w _)

theorem out7 : out0_A_7 c i a2 h2 a3 h3 a4 h4 a5 h5 a6 h6 a7 h7 a8 h8 a9 h9 a10 h10 x0 x1 x2 x3 x4 w
    = k0_pay3 (F := Ideal) i (w (ix1 (0 : Fin 1) : S1.Idx)) x1 x2 x3 := by
  unfold out0_A_7
  rw [View.read_writes_eq_canon _ _ _ (cover0_A_7 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S176x1024) zero2]
  exact congrArg (fun v => k0_pay3 (F := Ideal) i v x1 x2 x3) (word c w _)

theorem out8 : out0_A_8 c i a2 h2 a3 h3 a4 h4 a5 h5 a6 h6 a7 h7 a8 h8 a9 h9 a10 h10 x0 x1 x2 x3 x4 w
    = k0_pay4 (F := Ideal) i (w (ix1 (0 : Fin 1) : S1.Idx)) x1 x2 x4 := by
  unfold out0_A_8
  rw [View.read_writes_eq_canon _ _ _ (cover0_A_8 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S176x1024) zero2]
  exact congrArg (fun v => k0_pay4 (F := Ideal) i v x1 x2 x4) (word c w _)

end Points

variable (m : (ℓ : Loc nD τ sig) → Buf (Elt Ideal) ℓ)

abbrev arr0 (c : Dev nD) : S1.Idx → BitVec 32 := m ((c.tc : Thread nD τ).loc main_arg0)
abbrev arr1 (c : Dev nD) : S704x1024.Idx → EReal := m ((c.tc : Thread nD τ).loc main_arg1)
abbrev arr2 (c : Dev nD) : S352x1024.Idx → EReal := m ((c.tc : Thread nD τ).loc main_arg2)
abbrev arr3 (c : Dev nD) : S352x1024.Idx → EReal := m ((c.tc : Thread nD τ).loc main_arg3)
abbrev arr4 (c : Dev nD) : S704x1024.Idx → EReal := m ((c.tc : Thread nD τ).loc main_arg4)
abbrev arr5 (c : Dev nD) : S704x1024.Idx → EReal := m ((c.tc : Thread nD τ).loc main_arg5)

/-- No index map reads the table, so its contents are free. -/
theorem ok : Ok m := by
  unfold Ok ok0
  trivial

theorem table (c : Dev nD) : tbl m 0 (ix1 (0 : Fin 1) : S1.Idx) = arr0 m c (ix1 0) := by
  obtain rfl : c = 0 := Subsingleton.elim _ _
  rfl

theorem index0 (t : Fin grid0.N) : ((cfgM m (ok m)).win 0).index t = ![t.val % 4, 0] :=
  (by decide +kernel : ∀ t : Fin grid0.N, cc0_transform_0 (grid0.coords t) = ![t.val % 4, 0]) t
theorem index1 (t : Fin grid0.N) : ((cfgM m (ok m)).win 1).index t = ![t.val % 2, 0] :=
  (by decide +kernel : ∀ t : Fin grid0.N, cc0_transform_1 (grid0.coords t) = ![t.val % 2, 0]) t
theorem index2 (t : Fin grid0.N) : ((cfgM m (ok m)).win 2).index t = ![t.val % 2, 0] :=
  (by decide +kernel : ∀ t : Fin grid0.N, cc0_transform_2 (grid0.coords t) = ![t.val % 2, 0]) t
theorem index3 (t : Fin grid0.N) : ((cfgM m (ok m)).win 3).index t = ![t.val % 4, 0] :=
  (by decide +kernel : ∀ t : Fin grid0.N, cc0_transform_3 (grid0.coords t) = ![t.val % 4, 0]) t
theorem index4 (t : Fin grid0.N) : ((cfgM m (ok m)).win 4).index t = ![t.val % 4, 0] :=
  (by decide +kernel : ∀ t : Fin grid0.N, cc0_transform_4 (grid0.coords t) = ![t.val % 4, 0]) t
theorem index5 (t : Fin grid0.N) : ((cfgM m (ok m)).win 5).index t = ![t.val % 4, 0] :=
  (by decide +kernel : ∀ t : Fin grid0.N, cc0_transform_5 (grid0.coords t) = ![t.val % 4, 0]) t
theorem index6 (t : Fin grid0.N) : ((cfgM m (ok m)).win 6).index t = ![t.val % 4, 0] :=
  (by decide +kernel : ∀ t : Fin grid0.N, cc0_transform_6 (grid0.coords t) = ![t.val % 4, 0]) t
theorem index7 (t : Fin grid0.N) : ((cfgM m (ok m)).win 7).index t = ![t.val % 4, 0] :=
  (by decide +kernel : ∀ t : Fin grid0.N, cc0_transform_7 (grid0.coords t) = ![t.val % 4, 0]) t
theorem index8 (t : Fin grid0.N) : ((cfgM m (ok m)).win 8).index t = ![t.val % 4, 0] :=
  (by decide +kernel : ∀ t : Fin grid0.N, cc0_transform_8 (grid0.coords t) = ![t.val % 4, 0]) t

theorem read0 (c : Dev nD) (t : Fin (cfgM m (ok m)).N) (r : Fin 176) (k : Fin 1024) :
    iblk m (ok m) c 0 t (ix2 r k : S176x1024.Idx) = arr1 m c (ix2 ⟨t.val % 4 * 176 + r.val, by omega⟩ k) := by
  blk_ext [iblk, V, index0 m t]

theorem read1 (c : Dev nD) (t : Fin (cfgM m (ok m)).N) (r : Fin 176) (k : Fin 1024) :
    iblk m (ok m) c 1 t (ix2 r k : S176x1024.Idx) = arr2 m c (ix2 ⟨t.val % 2 * 176 + r.val, by omega⟩ k) := by
  blk_ext [iblk, V, index1 m t]

theorem read2 (c : Dev nD) (t : Fin (cfgM m (ok m)).N) (r : Fin 176) (k : Fin 1024) :
    iblk m (ok m) c 2 t (ix2 r k : S176x1024.Idx) = arr3 m c (ix2 ⟨t.val % 2 * 176 + r.val, by omega⟩ k) := by
  blk_ext [iblk, V, index2 m t]

theorem read3 (c : Dev nD) (t : Fin (cfgM m (ok m)).N) (r : Fin 176) (k : Fin 1024) :
    iblk m (ok m) c 3 t (ix2 r k : S176x1024.Idx) = arr4 m c (ix2 ⟨t.val % 4 * 176 + r.val, by omega⟩ k) := by
  blk_ext [iblk, V, index3 m t]

theorem read4 (c : Dev nD) (t : Fin (cfgM m (ok m)).N) (r : Fin 176) (k : Fin 1024) :
    iblk m (ok m) c 4 t (ix2 r k : S176x1024.Idx) = arr5 m c (ix2 ⟨t.val % 4 * 176 + r.val, by omega⟩ k) := by
  blk_ext [iblk, V, index4 m t]

/-- The block gradient a point computes is the gradient's block. -/
theorem pay2_block (c : Dev nD) (t : Fin (cfgM m (ok m)).N) (r : Fin 176) (k : Fin 1024) :
    k0_pay2 (F := Ideal) (grid0.coords t) (tbl m 0 (ix1 (0 : Fin 1) : S1.Idx)) (iblk m (ok m) c 1 t) (iblk m (ok m) c 2 t) (ix2 r k)
      = gradient (arr0 m c) (arr2 m c) (arr3 m c) (ix2 ⟨t.val % 4 * 176 + r.val, by omega⟩ k) := by
  refine (pay2_apply (grid0.coords t) _ _ _ r k).trans ?_
  rw [point, table m c, read1, read2]
  exact (gradient_block (arr0 m c) (arr2 m c) (arr3 m c) t r k).symm

/-- Contents of the table, to name the output windows by. -/
def zeros : (pcfg0 (F := Ideal)).Adm := ⟨fun | 0 => (fun _ => 0#32 : S1.Idx → BitVec 32), trivial⟩

theorem kernel5 (c : Dev nD) : (dats m (ok m) 0 c).arrAt 5 (cfgM m (ok m)).N = gradient (arr0 m c) (arr2 m c) (arr3 m c) := by
  refine (dats m (ok m) 0 c).arrAt_eq_of_covers 5 _ (by decide +kernel : ((cfg0 zeros).win 5).Covers) fun t hf y => ?_
  obtain ⟨r, j, rfl⟩ : ∃ (r : Fin 176) (j : Fin 1024), y = (ix2 r j : S176x1024.Idx) := ⟨_, _, eq_ix2 y⟩
  have e : (((cfgM m (ok m)).win 5).blk t).view.emb (ix2 r j : S176x1024.Idx) = (ix2 ⟨t.val % 4 * 176 + r.val, by omega⟩ j : S704x1024.Idx) := by
    blk_ext [index5 m t]
  rw [e]
  blk_simp
  rw [after0_5]
  unfold outsAt0
  dsimp only
  refine (congrFun (out5 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  exact pay2_block m c t r j

theorem kernel6 (c : Dev nD) : (dats m (ok m) 0 c).arrAt 6 (cfgM m (ok m)).N = changes (arr0 m c) (arr1 m c) (arr2 m c) (arr3 m c) (arr4 m c) (arr5 m c) := by
  refine (dats m (ok m) 0 c).arrAt_eq_of_covers 6 _ (by decide +kernel : ((cfg0 zeros).win 6).Covers) fun t hf y => ?_
  obtain ⟨r, j, rfl⟩ : ∃ (r : Fin 176) (j : Fin 1024), y = (ix2 r j : S176x1024.Idx) := ⟨_, _, eq_ix2 y⟩
  have e : (((cfgM m (ok m)).win 6).blk t).view.emb (ix2 r j : S176x1024.Idx) = (ix2 ⟨t.val % 4 * 176 + r.val, by omega⟩ j : S704x1024.Idx) := by
    blk_ext [index6 m t]
  rw [e]
  blk_simp
  rw [after0_6]
  unfold outsAt0
  dsimp only
  refine (congrFun (out6 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay1_apply _ _ _ _ _ _ _ r j).trans ?_
  rw [pay2_block m c t r j, read0, read3, read4]
  rfl

theorem kernel7 (c : Dev nD) : (dats m (ok m) 0 c).arrAt 7 (cfgM m (ok m)).N = means (arr0 m c) (arr2 m c) (arr3 m c) (arr4 m c) := by
  refine (dats m (ok m) 0 c).arrAt_eq_of_covers 7 _ (by decide +kernel : ((cfg0 zeros).win 7).Covers) fun t hf y => ?_
  obtain ⟨r, j, rfl⟩ : ∃ (r : Fin 176) (j : Fin 1024), y = (ix2 r j : S176x1024.Idx) := ⟨_, _, eq_ix2 y⟩
  have e : (((cfgM m (ok m)).win 7).blk t).view.emb (ix2 r j : S176x1024.Idx) = (ix2 ⟨t.val % 4 * 176 + r.val, by omega⟩ j : S704x1024.Idx) := by
    blk_ext [index7 m t]
  rw [e]
  blk_simp
  rw [after0_7]
  unfold outsAt0
  dsimp only
  refine (congrFun (out7 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay3_apply _ _ _ _ _ r j).trans ?_
  rw [pay2_block m c t r j, read3]
  rfl

theorem kernel8 (c : Dev nD) : (dats m (ok m) 0 c).arrAt 8 (cfgM m (ok m)).N = meanSqs (arr0 m c) (arr2 m c) (arr3 m c) (arr5 m c) := by
  refine (dats m (ok m) 0 c).arrAt_eq_of_covers 8 _ (by decide +kernel : ((cfg0 zeros).win 8).Covers) fun t hf y => ?_
  obtain ⟨r, j, rfl⟩ : ∃ (r : Fin 176) (j : Fin 1024), y = (ix2 r j : S176x1024.Idx) := ⟨_, _, eq_ix2 y⟩
  have e : (((cfgM m (ok m)).win 8).blk t).view.emb (ix2 r j : S176x1024.Idx) = (ix2 ⟨t.val % 4 * 176 + r.val, by omega⟩ j : S704x1024.Idx) := by
    blk_ext [index8 m t]
  rw [e]
  blk_simp
  rw [after0_8]
  unfold outsAt0
  dsimp only
  refine (congrFun (out8 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay4_apply _ _ _ _ _ r j).trans ?_
  rw [pay2_block m c t r j, read4]
  rfl

end Kernel

section Reference

open Cert.Reference24Ideal

variable (m : (ℓ : Loc nD τ sig) → Buf (Elt Ideal) ℓ)

/-- The reference ends with the gradient, the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v6) = gradient (m ((c.tc : Thread nD τ).loc main_arg0)) (m ((c.tc : Thread nD τ).loc main_arg2)) (m ((c.tc : Thread nD τ).loc main_arg3))
      ∧ r.2.mem ((c.tc : Thread nD τ).loc main_v30) = changes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = means (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v17) = meanSqs (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    refine ⟨h0.trans (funext fun i => ?_), h1.trans (funext fun i => ?_), h2.trans (funext fun i => ?_), h3.trans (funext fun i => ?_), h⟩
    · clear h0 h1 h2 h3 h
      generalize (m ((c.tc : Thread nD τ).loc main_arg0)) = a0
      generalize (m ((c.tc : Thread nD τ).loc main_arg2)) = a2
      generalize (m ((c.tc : Thread nD τ).loc main_arg3)) = a3
      obtain ⟨r, j, rfl⟩ : ∃ (r : Fin 704) (j : Fin 1024), i = (ix2 r j : S704x1024.Idx) := ⟨_, _, eq_ix2 i⟩
      pointwise
      by_cases hr : r.val < 352
      · simp only [dif_pos hr]
        exact (congrArg (fun g => g) (gradient_low a0 a2 a3 r j hr)).symm
      · simp only [dif_neg hr]
        exact (congrArg (fun g => g) (gradient_high a0 a2 a3 r j hr)).symm
    · clear h0 h1 h2 h3 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 704) (j : Fin 1024), i = (ix2 r j : S704x1024.Idx) := ⟨_, _, eq_ix2 i⟩
      pointwise
      by_cases hr : r.val < 352
      · simp only [dif_pos hr]
        exact (congrArg (fun g => change (a1 (ix2 r j)) g (a4 (ix2 r j)) (a5 (ix2 r j))) (gradient_low a0 a2 a3 r j hr)).symm
      · simp only [dif_neg hr]
        exact (congrArg (fun g => change (a1 (ix2 r j)) g (a4 (ix2 r j)) (a5 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg4)) = a4
      obtain ⟨r, j, rfl⟩ : ∃ (r : Fin 704) (j : Fin 1024), i = (ix2 r j : S704x1024.Idx) := ⟨_, _, eq_ix2 i⟩
      pointwise
      by_cases hr : r.val < 352
      · simp only [dif_pos hr]
        exact (congrArg (fun g => mean g (a4 (ix2 r j))) (gradient_low a0 a2 a3 r j hr)).symm
      · simp only [dif_neg hr]
        exact (congrArg (fun g => mean g (a4 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg5)) = a5
      obtain ⟨r, j, rfl⟩ : ∃ (r : Fin 704) (j : Fin 1024), i = (ix2 r j : S704x1024.Idx) := ⟨_, _, eq_ix2 i⟩
      pointwise
      by_cases hr : r.val < 352
      · simp only [dif_pos hr]
        exact (congrArg (fun g => meanSq g (a5 (ix2 r j))) (gradient_low a0 a2 a3 r j hr)).symm
      · simp only [dif_neg hr]
        exact (congrArg (fun g => meanSq g (a5 (ix2 r j))) (gradient_high a0 a2 a3 r j hr)).symm)
    (Value.run m ρ)

end Reference

section Run

open Cert.Kernel24Ideal Cert.Kernel24Ideal.Gen

variable (m : (ℓ : Loc nD τ sig) → Buf (Elt Ideal) ℓ)

/-- The kernel ends with its outputs' blocks put together, and its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m (ok m) 0 c).arrAt 5 (cfgM m (ok m)).N
      ∧ r.2.mem ((c.tc : Thread nD τ).loc main_v0_1) = (dats m (ok m) 0 c).arrAt 6 (cfgM m (ok m)).N
      ∧ r.2.mem ((c.tc : Thread nD τ).loc main_v0_2) = (dats m (ok m) 0 c).arrAt 7 (cfgM m (ok m)).N
      ∧ r.2.mem ((c.tc : Thread nD τ).loc main_v0_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Run

/-- From arguments that agree, the kernel's results are the reference's. -/
theorem algebraic : algebraic_Kernel24Ideal_Reference24Ideal (hKernel24Ideal := Cert.Kernel24Ideal.Gen.facts) (hReference24Ideal := Cert.Reference24Ideal.Gen.facts) := by
  intro m g m' g' _ hagree
  refine ⟨fun c => (Cert.Kernel24Ideal.Gen.dats m (ok m) 0 c).arrAt 5 (Cert.Kernel24Ideal.Gen.cfgM m (ok m)).N, fun c => (Cert.Kernel24Ideal.Gen.dats m (ok m) 0 c).arrAt 6 (Cert.Kernel24Ideal.Gen.cfgM m (ok m)).N, fun c => (Cert.Kernel24Ideal.Gen.dats m (ok m) 0 c).arrAt 7 (Cert.Kernel24Ideal.Gen.cfgM m (ok m)).N, fun c => (Cert.Kernel24Ideal.Gen.dats m (ok m) 0 c).arrAt 8 (Cert.Kernel24Ideal.Gen.cfgM m (ok m)).N,
    (θ_run _ _ _).mono (fun r h c => ?_) (kernel_run m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a2, a3]
      exact (kernel5 m c).symm
    · rw [a0, a1, a2, a3, a4, a5]
      exact (kernel6 m c).symm
    · rw [a0, a2, a3, a4]
      exact (kernel7 m c).symm
    · rw [a0, a2, a3, a5]
      exact (kernel8 m c).symm

end Cert.AdamDown

end
-- ==== Proof.AdamGateUp.lean ====
/- AdamW on a feed-forward layer's gate and input weights. -/
module

public import Idealize.ShloMosaic.Lib.KernelVsHost
public import proofs.«01_k».proof.Proof.AdamStep
public import proofs.«01_k».proof.Proof.AdamHalves
public import proofs.«01_k».proof.Proof.DwDownKernel
public import proofs.«01_k».proof.Proof.RowSums
public import proofs.«01_k».proof.Proof.Gen.Kernel25Ideal.Frame
public import proofs.«01_k».proof.Proof.Gen.Reference25Ideal.Run
public import proofs.«01_k».proof.Defs

@[expose] public section

set_option maxRecDepth 16384

noncomputable section

namespace Cert.AdamGateUp

open Idealize.ShloMosaic Idealize.ShloMosaic.TcCoe Idealize.SL.Sem Cert.RowSums Cert.AdamStep Cert.AdamHalves

section Kernel

open Cert.Kernel25Ideal Cert.Kernel25Ideal.Gen

/-- The gradient of the whole weight: the half of the rows this core has summed, and the other half from the other core. -/
def gradient (core : S1.Idx → BitVec 32) (own sib : S512x1408.Idx → EReal) (i : S1024x1408.Idx) : EReal :=
  if BitVec.ofNat 32 ((i 0).val / 512) = core (ix1 0) then own (ix2 ⟨(i 0).val % 512, Nat.mod_lt _ (by decide)⟩ (i 1))
  else sib (ix2 ⟨(i 0).val % 512, Nat.mod_lt _ (by decide)⟩ (i 1))

/-- The weight's change, the next means and the next mean squares, entry by entry. -/
def changes (core : S1.Idx → BitVec 32) (w : S1024x1408.Idx → EReal) (own sib : S512x1408.Idx → EReal) (a b : S1024x1408.Idx → EReal) (i : S1024x1408.Idx) : EReal :=
  change (w i) (gradient core own sib i) (a i) (b i)
def means (core : S1.Idx → BitVec 32) (own sib : S512x1408.Idx → EReal) (a : S1024x1408.Idx → EReal) (i : S1024x1408.Idx) : EReal :=
  mean (gradient core own sib i) (a i)
def meanSqs (core : S1.Idx → BitVec 32) (own sib : S512x1408.Idx → EReal) (b : S1024x1408.Idx → EReal) (i : S1024x1408.Idx) : EReal :=
  meanSq (gradient core own sib i) (b i)

/-- The gradient at a block's entry. -/
theorem gradient_block (core : S1.Idx → BitVec 32) (own sib : S512x1408.Idx → EReal) (t : Fin grid0.N) (r : Fin 128) (k : Fin 1408) :
    gradient core own sib (ix2 ⟨t.val % 8 * 128 + r.val, by omega⟩ k)
      = if BitVec.ofNat 32 (t.val % 8 / 4) = core (ix1 0) then own (ix2 ⟨t.val % 4 * 128 + r.val, by omega⟩ k) else sib (ix2 ⟨t.val % 4 * 128 + r.val, by omega⟩ k) := by
  have e : (t.val % 8 * 128 + r.val) / 512 = t.val % 8 / 4 := by omega
  have f : (t.val % 8 * 128 + r.val) % 512 = t.val % 4 * 128 + r.val := by omega
  show (if BitVec.ofNat 32 ((t.val % 8 * 128 + r.val) / 512) = core (ix1 0)
    then own (ix2 ⟨(t.val % 8 * 128 + r.val) % 512, Nat.mod_lt _ (by decide)⟩ k)
    else sib (ix2 ⟨(t.val % 8 * 128 + r.val) % 512, Nat.mod_lt _ (by decide)⟩ k)) = _
  simp only [e, f]

/-- The gradient in the first half of the rows, and in the second. -/
theorem gradient_low (core : S1.Idx → BitVec 32) (own sib : S512x1408.Idx → EReal) (r : Fin 1024) (k : Fin 1408) (hr : r.val < 512) :
    gradient core own sib (ix2 r k)
      = Scalar.select (IntOp.cmpi .eq (core (ix1 0)) 0#32) (own (ix2 ⟨r.val, hr⟩ k)) (sib (ix2 ⟨r.val, hr⟩ k)) := by
  have e : r.val / 512 = 0 := by omega
  have f : r.val % 512 = r.val := by omega
  rw [select_eq']
  show (if BitVec.ofNat 32 (r.val / 512) = core (ix1 0) then own (ix2 ⟨r.val % 512, Nat.mod_lt _ (by decide)⟩ k)
    else sib (ix2 ⟨r.val % 512, Nat.mod_lt _ (by decide)⟩ k)) = _
  simp only [e, f, eq_comm (a := core (ix1 0))]
theorem gradient_high (core : S1.Idx → BitVec 32) (own sib : S512x1408.Idx → EReal) (r : Fin 1024) (k : Fin 1408) (hr : ¬ r.val < 512) :
    gradient core own sib (ix2 r k)
      = Scalar.select (IntOp.cmpi .eq (core (ix1 0)) 1#32) (own (ix2 ⟨r.val - 512, by omega⟩ k)) (sib (ix2 ⟨r.val - 512, by omega⟩ k)) := by
  have e : r.val / 512 = 1 := by omega
  have f : r.val % 512 = r.val - 512 := by omega
  rw [select_eq']
  show (if BitVec.ofNat 32 (r.val / 512) = core (ix1 0) then own (ix2 ⟨r.val % 512, Nat.mod_lt _ (by decide)⟩ k)
    else sib (ix2 ⟨r.val % 512, Nat.mod_lt _ (by decide)⟩ k)) = _
  simp only [e, f, eq_comm (a := core (ix1 0))]

/-- The words a point computes: the half its block lies in. -/
theorem half_eq : ∀ k : Fin 8, half 4#32 (BitVec.ofNat 32 k.val) = BitVec.ofNat 32 (k.val / 4) := by decide +kernel

theorem point : ∀ t : Fin grid0.N, (grid0.coords t 0).val = t.val % 8 := by decide +kernel

/-- A block's gradient, and its results, entry by entry. -/
theorem pay2_apply (i : grid0.Coords) (w : BitVec 32) (x y : S128x1408.Idx → EReal) (r : Fin 128) (k : Fin 1408) :
    k0_pay2 (F := Ideal) i w x y (ix2 r k) = if BitVec.ofNat 32 ((i 0).val / 4) = w then x (ix2 r k) else y (ix2 r k) := by
  refine Eq.trans ?_ (congrArg (fun v => if v = w then x (ix2 r k) else y (ix2 r k)) (half_eq (i 0)))
  pointwise [k0_pay2]
  exact select_eq (half 4#32 (BitVec.ofNat 32 (i 0).val)) w _ _

theorem pay3_apply (i : grid0.Coords) (w : BitVec 32) (x y a : S128x1408.Idx → EReal) (r : Fin 128) (k : Fin 1408) :
    k0_pay3 (F := Ideal) i w x y a (ix2 r k) = mean (k0_pay2 (F := Ideal) i w x y (ix2 r k)) (a (ix2 r k)) := by
  pointwise [k0_pay3]
  rfl

theorem pay4_apply (i : grid0.Coords) (w : BitVec 32) (x y b : S128x1408.Idx → EReal) (r : Fin 128) (k : Fin 1408) :
    k0_pay4 (F := Ideal) i w x y b (ix2 r k) = meanSq (k0_pay2 (F := Ideal) i w x y (ix2 r k)) (b (ix2 r k)) := by
  pointwise [k0_pay4]
  rfl

theorem pay1_apply (i : grid0.Coords) (w : BitVec 32) (x y a b z : S128x1408.Idx → EReal) (r : Fin 128) (k : Fin 1408) :
    k0_pay1 (F := Ideal) (k0_pay3 i w x y a) (k0_pay4 i w x y b) z (ix2 r k)
      = change (z (ix2 r k)) (k0_pay2 (F := Ideal) i w x y (ix2 r k)) (a (ix2 r k)) (b (ix2 r k)) := by
  pointwise [k0_pay1]
  rw [pay3_apply, pay4_apply]
  rfl

section Points

variable (c : Dev nD) (i : grid0.Coords) (a2 : Memref sig .tc .vmem S128x1408 .f32) (h2 : a2.IsWhole) (a3 : Memref sig .tc .vmem S128x1408 .f32) (h3 : a3.IsWhole) (a4 : Memref sig .tc .vmem S128x1408 .f32) (h4 : a4.IsWhole) (a5 : Memref sig .tc .vmem S128x1408 .f32) (h5 : a5.IsWhole) (a6 : Memref sig .tc .vmem S128x1408 .f32) (h6 : a6.IsWhole) (a7 : Memref sig .tc .vmem S128x1408 .f32) (h7 : a7.IsWhole) (a8 : Memref sig .tc .vmem S128x1408 .f32) (h8 : a8.IsWhole) (a9 : Memref sig .tc .vmem S128x1408 .f32) (h9 : a9.IsWhole) (a10 : Memref sig .tc .vmem S128x1408 .f32) (h10 : a10.IsWhole)
  (x0 x1 x2 x3 x4 : Vec Ideal S128x1408 .f32) (w : TbBuf0 (F := Ideal) c tbM0_0)

theorem one (i j : S1.Idx) : i = j := funext fun a => by fin_cases a; exact Subsingleton.elim (α := Fin 1) _ _

/-- The word loaded from the one-word table. -/
theorem word (p) : View.readAt (Elt Ideal) tbM0_0.view (Rect.unit ![0] S1.size inb_S1_S1_0).toLoadRect w (Shape.Idx.first p)
    = w (ix1 (0 : Fin 1) : S1.Idx) := congrArg w (one _ _)

/-- What the body leaves in the four outputs' blocks. -/
theorem out5 : out0_A_5 c i a2 h2 a3 h3 a4 h4 a5 h5 a6 h6 a7 h7 a8 h8 a9 h9 a10 h10 x0 x1 x2 x3 x4 w
    = k0_pay2 (F := Ideal) i (w (ix1 (0 : Fin 1) : S1.Idx)) x1 x2 := by
  unfold out0_A_5
  rw [View.read_writes_eq_canon _ _ _ (cover0_A_5 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1408) zero2]
  exact congrArg (fun v => k0_pay2 (F := Ideal) i v x1 x2) (word c w _)

theorem out6 : out0_A_6 c i a2 h2 a3 h3 a4 h4 a5 h5 a6 h6 a7 h7 a8 h8 a9 h9 a10 h10 x0 x1 x2 x3 x4 w
    = k0_pay1 (F := Ideal) (k0_pay3 i (w (ix1 (0 : Fin 1) : S1.Idx)) x1 x2 x3) (k0_pay4 i (w (ix1 (0 : Fin 1) : S1.Idx)) x1 x2 x4) x0 := by
  unfold out0_A_6
  rw [View.read_writes_eq_canon _ _ _ (cover0_A_6 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1408) zero2]
  exact congrArg (fun v => k0_pay1 (F := Ideal) (k0_pay3 i v x1 x2 x3) (k0_pay4 i v x1 x2 x4) x0) (word c w _)

theorem out7 : out0_A_7 c i a2 h2 a3 h3 a4 h4 a5 h5 a6 h6 a7 h7 a8 h8 a9 h9 a10 h10 x0 x1 x2 x3 x4 w
    = k0_pay3 (F := Ideal) i (w (ix1 (0 : Fin 1) : S1.Idx)) x1 x2 x3 := by
  unfold out0_A_7
  rw [View.read_writes_eq_canon _ _ _ (cover0_A_7 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1408) zero2]
  exact congrArg (fun v => k0_pay3 (F := Ideal) i v x1 x2 x3) (word c w _)

theorem out8 : out0_A_8 c i a2 h2 a3 h3 a4 h4 a5 h5 a6 h6 a7 h7 a8 h8 a9 h9 a10 h10 x0 x1 x2 x3 x4 w
    = k0_pay4 (F := Ideal) i (w (ix1 (0 : Fin 1) : S1.Idx)) x1 x2 x4 := by
  unfold out0_A_8
  rw [View.read_writes_eq_canon _ _ _ (cover0_A_8 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1408) zero2]
  exact congrArg (fun v => k0_pay4 (F := Ideal) i v x1 x2 x4) (word c w _)

end Points

variable (m : (ℓ : Loc nD τ sig) → Buf (Elt Ideal) ℓ)

abbrev arr0 (c : Dev nD) : S1.Idx → BitVec 32 := m ((c.tc : Thread nD τ).loc main_arg0)
abbrev arr1 (c : Dev nD) : S1024x1408.Idx → EReal := m ((c.tc : Thread nD τ).loc main_arg1)
abbrev arr2 (c : Dev nD) : S512x1408.Idx → EReal := m ((c.tc : Thread nD τ).loc main_arg2)
abbrev arr3 (c : Dev nD) : S512x1408.Idx → EReal := m ((c.tc : Thread nD τ).loc main_arg3)
abbrev arr4 (c : Dev nD) : S1024x1408.Idx → EReal := m ((c.tc : Thread nD τ).loc main_arg4)
abbrev arr5 (c : Dev nD) : S1024x1408.Idx → EReal := m ((c.tc : Thread nD τ).loc main_arg5)

/-- No index map reads the table, so its contents are free. -/
theorem ok : Ok m := by
  unfold Ok ok0
  trivial

theorem table (c : Dev nD) : tbl m 0 (ix1 (0 : Fin 1) : S1.Idx) = arr0 m c (ix1 0) := by
  obtain rfl : c = 0 := Subsingleton.elim _ _
  rfl

theorem index0 (t : Fin grid0.N) : ((cfgM m (ok m)).win 0).index t = ![t.val % 8, 0] :=
  (by decide +kernel : ∀ t : Fin grid0.N, cc0_transform_0 (grid0.coords t) = ![t.val % 8, 0]) t
theorem index1 (t : Fin grid0.N) : ((cfgM m (ok m)).win 1).index t = ![t.val % 4, 0] :=
  (by decide +kernel : ∀ t : Fin grid0.N, cc0_transform_1 (grid0.coords t) = ![t.val % 4, 0]) t
theorem index2 (t : Fin grid0.N) : ((cfgM m (ok m)).win 2).index t = ![t.val % 4, 0] :=
  (by decide +kernel : ∀ t : Fin grid0.N, cc0_transform_2 (grid0.coords t) = ![t.val % 4, 0]) t
theorem index3 (t : Fin grid0.N) : ((cfgM m (ok m)).win 3).index t = ![t.val % 8, 0] :=
  (by decide +kernel : ∀ t : Fin grid0.N, cc0_transform_3 (grid0.coords t) = ![t.val % 8, 0]) t
theorem index4 (t : Fin grid0.N) : ((cfgM m (ok m)).win 4).index t = ![t.val % 8, 0] :=
  (by decide +kernel : ∀ t : Fin grid0.N, cc0_transform_4 (grid0.coords t) = ![t.val % 8, 0]) t
theorem index5 (t : Fin grid0.N) : ((cfgM m (ok m)).win 5).index t = ![t.val % 8, 0] :=
  (by decide +kernel : ∀ t : Fin grid0.N, cc0_transform_5 (grid0.coords t) = ![t.val % 8, 0]) t
theorem index6 (t : Fin grid0.N) : ((cfgM m (ok m)).win 6).index t = ![t.val % 8, 0] :=
  (by decide +kernel : ∀ t : Fin grid0.N, cc0_transform_6 (grid0.coords t) = ![t.val % 8, 0]) t
theorem index7 (t : Fin grid0.N) : ((cfgM m (ok m)).win 7).index t = ![t.val % 8, 0] :=
  (by decide +kernel : ∀ t : Fin grid0.N, cc0_transform_7 (grid0.coords t) = ![t.val % 8, 0]) t
theorem index8 (t : Fin grid0.N) : ((cfgM m (ok m)).win 8).index t = ![t.val % 8, 0] :=
  (by decide +kernel : ∀ t : Fin grid0.N, cc0_transform_8 (grid0.coords t) = ![t.val % 8, 0]) t

theorem read0 (c : Dev nD) (t : Fin (cfgM m (ok m)).N) (r : Fin 128) (k : Fin 1408) :
    iblk m (ok m) c 0 t (ix2 r k : S128x1408.Idx) = arr1 m c (ix2 ⟨t.val % 8 * 128 + r.val, by omega⟩ k) := by
  blk_ext [iblk, V, index0 m t]

theorem read1 (c : Dev nD) (t : Fin (cfgM m (ok m)).N) (r : Fin 128) (k : Fin 1408) :
    iblk m (ok m) c 1 t (ix2 r k : S128x1408.Idx) = arr2 m c (ix2 ⟨t.val % 4 * 128 + r.val, by omega⟩ k) := by
  blk_ext [iblk, V, index1 m t]

theorem read2 (c : Dev nD) (t : Fin (cfgM m (ok m)).N) (r : Fin 128) (k : Fin 1408) :
    iblk m (ok m) c 2 t (ix2 r k : S128x1408.Idx) = arr3 m c (ix2 ⟨t.val % 4 * 128 + r.val, by omega⟩ k) := by
  blk_ext [iblk, V, index2 m t]

theorem read3 (c : Dev nD) (t : Fin (cfgM m (ok m)).N) (r : Fin 128) (k : Fin 1408) :
    iblk m (ok m) c 3 t (ix2 r k : S128x1408.Idx) = arr4 m c (ix2 ⟨t.val % 8 * 128 + r.val, by omega⟩ k) := by
  blk_ext [iblk, V, index3 m t]

theorem read4 (c : Dev nD) (t : Fin (cfgM m (ok m)).N) (r : Fin 128) (k : Fin 1408) :
    iblk m (ok m) c 4 t (ix2 r k : S128x1408.Idx) = arr5 m c (ix2 ⟨t.val % 8 * 128 + r.val, by omega⟩ k) := by
  blk_ext [iblk, V, index4 m t]

/-- The block gradient a point computes is the gradient's block. -/
theorem pay2_block (c : Dev nD) (t : Fin (cfgM m (ok m)).N) (r : Fin 128) (k : Fin 1408) :
    k0_pay2 (F := Ideal) (grid0.coords t) (tbl m 0 (ix1 (0 : Fin 1) : S1.Idx)) (iblk m (ok m) c 1 t) (iblk m (ok m) c 2 t) (ix2 r k)
      = gradient (arr0 m c) (arr2 m c) (arr3 m c) (ix2 ⟨t.val % 8 * 128 + r.val, by omega⟩ k) := by
  refine (pay2_apply (grid0.coords t) _ _ _ r k).trans ?_
  rw [point, table m c, read1, read2]
  exact (gradient_block (arr0 m c) (arr2 m c) (arr3 m c) t r k).symm

/-- Contents of the table, to name the output windows by. -/
def zeros : (pcfg0 (F := Ideal)).Adm := ⟨fun | 0 => (fun _ => 0#32 : S1.Idx → BitVec 32), trivial⟩

theorem kernel5 (c : Dev nD) : (dats m (ok m) 0 c).arrAt 5 (cfgM m (ok m)).N = gradient (arr0 m c) (arr2 m c) (arr3 m c) := by
  refine (dats m (ok m) 0 c).arrAt_eq_of_covers 5 _ (by decide +kernel : ((cfg0 zeros).win 5).Covers) fun t hf y => ?_
  obtain ⟨r, j, rfl⟩ : ∃ (r : Fin 128) (j : Fin 1408), y = (ix2 r j : S128x1408.Idx) := ⟨_, _, eq_ix2 y⟩
  have e : (((cfgM m (ok m)).win 5).blk t).view.emb (ix2 r j : S128x1408.Idx) = (ix2 ⟨t.val % 8 * 128 + r.val, by omega⟩ j : S1024x1408.Idx) := by
    blk_ext [index5 m t]
  rw [e]
  blk_simp
  rw [after0_5]
  unfold outsAt0
  dsimp only
  refine (congrFun (out5 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  exact pay2_block m c t r j

theorem kernel6 (c : Dev nD) : (dats m (ok m) 0 c).arrAt 6 (cfgM m (ok m)).N = changes (arr0 m c) (arr1 m c) (arr2 m c) (arr3 m c) (arr4 m c) (arr5 m c) := by
  refine (dats m (ok m) 0 c).arrAt_eq_of_covers 6 _ (by decide +kernel : ((cfg0 zeros).win 6).Covers) fun t hf y => ?_
  obtain ⟨r, j, rfl⟩ : ∃ (r : Fin 128) (j : Fin 1408), y = (ix2 r j : S128x1408.Idx) := ⟨_, _, eq_ix2 y⟩
  have e : (((cfgM m (ok m)).win 6).blk t).view.emb (ix2 r j : S128x1408.Idx) = (ix2 ⟨t.val % 8 * 128 + r.val, by omega⟩ j : S1024x1408.Idx) := by
    blk_ext [index6 m t]
  rw [e]
  blk_simp
  rw [after0_6]
  unfold outsAt0
  dsimp only
  refine (congrFun (out6 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay1_apply _ _ _ _ _ _ _ r j).trans ?_
  rw [pay2_block m c t r j, read0, read3, read4]
  rfl

theorem kernel7 (c : Dev nD) : (dats m (ok m) 0 c).arrAt 7 (cfgM m (ok m)).N = means (arr0 m c) (arr2 m c) (arr3 m c) (arr4 m c) := by
  refine (dats m (ok m) 0 c).arrAt_eq_of_covers 7 _ (by decide +kernel : ((cfg0 zeros).win 7).Covers) fun t hf y => ?_
  obtain ⟨r, j, rfl⟩ : ∃ (r : Fin 128) (j : Fin 1408), y = (ix2 r j : S128x1408.Idx) := ⟨_, _, eq_ix2 y⟩
  have e : (((cfgM m (ok m)).win 7).blk t).view.emb (ix2 r j : S128x1408.Idx) = (ix2 ⟨t.val % 8 * 128 + r.val, by omega⟩ j : S1024x1408.Idx) := by
    blk_ext [index7 m t]
  rw [e]
  blk_simp
  rw [after0_7]
  unfold outsAt0
  dsimp only
  refine (congrFun (out7 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay3_apply _ _ _ _ _ r j).trans ?_
  rw [pay2_block m c t r j, read3]
  rfl

theorem kernel8 (c : Dev nD) : (dats m (ok m) 0 c).arrAt 8 (cfgM m (ok m)).N = meanSqs (arr0 m c) (arr2 m c) (arr3 m c) (arr5 m c) := by
  refine (dats m (ok m) 0 c).arrAt_eq_of_covers 8 _ (by decide +kernel : ((cfg0 zeros).win 8).Covers) fun t hf y => ?_
  obtain ⟨r, j, rfl⟩ : ∃ (r : Fin 128) (j : Fin 1408), y = (ix2 r j : S128x1408.Idx) := ⟨_, _, eq_ix2 y⟩
  have e : (((cfgM m (ok m)).win 8).blk t).view.emb (ix2 r j : S128x1408.Idx) = (ix2 ⟨t.val % 8 * 128 + r.val, by omega⟩ j : S1024x1408.Idx) := by
    blk_ext [index8 m t]
  rw [e]
  blk_simp
  rw [after0_8]
  unfold outsAt0
  dsimp only
  refine (congrFun (out8 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay4_apply _ _ _ _ _ r j).trans ?_
  rw [pay2_block m c t r j, read4]
  rfl

end Kernel

section Reference

open Cert.Reference25Ideal

variable (m : (ℓ : Loc nD τ sig) → Buf (Elt Ideal) ℓ)

/-- The reference ends with the gradient, the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v6) = gradient (m ((c.tc : Thread nD τ).loc main_arg0)) (m ((c.tc : Thread nD τ).loc main_arg2)) (m ((c.tc : Thread nD τ).loc main_arg3))
      ∧ r.2.mem ((c.tc : Thread nD τ).loc main_v30) = changes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = means (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v17) = meanSqs (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    refine ⟨h0.trans (funext fun i => ?_), h1.trans (funext fun i => ?_), h2.trans (funext fun i => ?_), h3.trans (funext fun i => ?_), h⟩
    · clear h0 h1 h2 h3 h
      generalize (m ((c.tc : Thread nD τ).loc main_arg0)) = a0
      generalize (m ((c.tc : Thread nD τ).loc main_arg2)) = a2
      generalize (m ((c.tc : Thread nD τ).loc main_arg3)) = a3
      obtain ⟨r, j, rfl⟩ : ∃ (r : Fin 1024) (j : Fin 1408), i = (ix2 r j : S1024x1408.Idx) := ⟨_, _, eq_ix2 i⟩
      pointwise
      by_cases hr : r.val < 512
      · simp only [dif_pos hr]
        exact (congrArg (fun g => g) (gradient_low a0 a2 a3 r j hr)).symm
      · simp only [dif_neg hr]
        exact (congrArg (fun g => g) (gradient_high a0 a2 a3 r j hr)).symm
    · clear h0 h1 h2 h3 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 1024) (j : Fin 1408), i = (ix2 r j : S1024x1408.Idx) := ⟨_, _, eq_ix2 i⟩
      pointwise
      by_cases hr : r.val < 512
      · simp only [dif_pos hr]
        exact (congrArg (fun g => change (a1 (ix2 r j)) g (a4 (ix2 r j)) (a5 (ix2 r j))) (gradient_low a0 a2 a3 r j hr)).symm
      · simp only [dif_neg hr]
        exact (congrArg (fun g => change (a1 (ix2 r j)) g (a4 (ix2 r j)) (a5 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg4)) = a4
      obtain ⟨r, j, rfl⟩ : ∃ (r : Fin 1024) (j : Fin 1408), i = (ix2 r j : S1024x1408.Idx) := ⟨_, _, eq_ix2 i⟩
      pointwise
      by_cases hr : r.val < 512
      · simp only [dif_pos hr]
        exact (congrArg (fun g => mean g (a4 (ix2 r j))) (gradient_low a0 a2 a3 r j hr)).symm
      · simp only [dif_neg hr]
        exact (congrArg (fun g => mean g (a4 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg5)) = a5
      obtain ⟨r, j, rfl⟩ : ∃ (r : Fin 1024) (j : Fin 1408), i = (ix2 r j : S1024x1408.Idx) := ⟨_, _, eq_ix2 i⟩
      pointwise
      by_cases hr : r.val < 512
      · simp only [dif_pos hr]
        exact (congrArg (fun g => meanSq g (a5 (ix2 r j))) (gradient_low a0 a2 a3 r j hr)).symm
      · simp only [dif_neg hr]
        exact (congrArg (fun g => meanSq g (a5 (ix2 r j))) (gradient_high a0 a2 a3 r j hr)).symm)
    (Value.run m ρ)

end Reference

section Run

open Cert.Kernel25Ideal Cert.Kernel25Ideal.Gen

variable (m : (ℓ : Loc nD τ sig) → Buf (Elt Ideal) ℓ)

/-- The kernel ends with its outputs' blocks put together, and its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m (ok m) 0 c).arrAt 5 (cfgM m (ok m)).N
      ∧ r.2.mem ((c.tc : Thread nD τ).loc main_v0_1) = (dats m (ok m) 0 c).arrAt 6 (cfgM m (ok m)).N
      ∧ r.2.mem ((c.tc : Thread nD τ).loc main_v0_2) = (dats m (ok m) 0 c).arrAt 7 (cfgM m (ok m)).N
      ∧ r.2.mem ((c.tc : Thread nD τ).loc main_v0_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Run

/-- From arguments that agree, the kernel's results are the reference's. -/
theorem algebraic : algebraic_Kernel25Ideal_Reference25Ideal (hKernel25Ideal := Cert.Kernel25Ideal.Gen.facts) (hReference25Ideal := Cert.Reference25Ideal.Gen.facts) := by
  intro m g m' g' _ hagree
  refine ⟨fun c => (Cert.Kernel25Ideal.Gen.dats m (ok m) 0 c).arrAt 5 (Cert.Kernel25Ideal.Gen.cfgM m (ok m)).N, fun c => (Cert.Kernel25Ideal.Gen.dats m (ok m) 0 c).arrAt 6 (Cert.Kernel25Ideal.Gen.cfgM m (ok m)).N, fun c => (Cert.Kernel25Ideal.Gen.dats m (ok m) 0 c).arrAt 7 (Cert.Kernel25Ideal.Gen.cfgM m (ok m)).N, fun c => (Cert.Kernel25Ideal.Gen.dats m (ok m) 0 c).arrAt 8 (Cert.Kernel25Ideal.Gen.cfgM m (ok m)).N,
    (θ_run _ _ _).mono (fun r h c => ?_) (kernel_run m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a2, a3]
      exact (kernel5 m c).symm
    · rw [a0, a1, a2, a3, a4, a5]
      exact (kernel6 m c).symm
    · rw [a0, a2, a3, a4]
      exact (kernel7 m c).symm
    · rw [a0, a2, a3, a5]
      exact (kernel8 m c).symm

end Cert.AdamGateUp

end
-- ==== Proof.AdamBranch.lean ====
/- AdamW on the output weights of the convolution or the attention. -/
module

public import Idealize.ShloMosaic.Lib.KernelVsHost
public import proofs.«01_k».proof.Proof.AdamStep
public import proofs.«01_k».proof.Proof.AdamHalves
public import proofs.«01_k».proof.Proof.DwDownKernel
public import proofs.«01_k».proof.Proof.RowSums
public import proofs.«01_k».proof.Proof.Gen.Kernel26Ideal.Frame
public import proofs.«01_k».proof.Proof.Gen.Reference26Ideal.Run
public import proofs.«01_k».proof.Defs

@[expose] public section

set_option maxRecDepth 16384

noncomputable section

namespace Cert.AdamBranch

open Idealize.ShloMosaic Idealize.ShloMosaic.TcCoe Idealize.SL.Sem Cert.RowSums Cert.AdamStep Cert.AdamHalves

section Kernel

open Cert.Kernel26Ideal Cert.Kernel26Ideal.Gen

/-- The gradient of the whole weight: the half of the rows this core has summed, and the other half from the other core. -/
def gradient (core : S1.Idx → BitVec 32) (own sib : S256x256.Idx → EReal) (i : S512x256.Idx) : EReal :=
  if BitVec.ofNat 32 ((i 0).val / 256) = core (ix1 0) then own (ix2 ⟨(i 0).val % 256, Nat.mod_lt _ (by decide)⟩ (i 1))
  else sib (ix2 ⟨(i 0).val % 256, Nat.mod_lt _ (by decide)⟩ (i 1))

/-- The weight's change, the next means and the next mean squares, entry by entry. -/
def changes (core : S1.Idx → BitVec 32) (w : S512x256.Idx → EReal) (own sib : S256x256.Idx → EReal) (a b : S512x256.Idx → EReal) (i : S512x256.Idx) : EReal :=
  change (w i) (gradient core own sib i) (a i) (b i)
def means (core : S1.Idx → BitVec 32) (own sib : S256x256.Idx → EReal) (a : S512x256.Idx → EReal) (i : S512x256.Idx) : EReal :=
  mean (gradient core own sib i) (a i)
def meanSqs (core : S1.Idx → BitVec 32) (own sib : S256x256.Idx → EReal) (b : S512x256.Idx → EReal) (i : S512x256.Idx) : EReal :=
  meanSq (gradient core own sib i) (b i)

/-- The gradient at a block's entry. -/
theorem gradient_block (core : S1.Idx → BitVec 32) (own sib : S256x256.Idx → EReal) (t : Fin grid0.N) (r : Fin 256) (k : Fin 256) :
    gradient core own sib (ix2 ⟨t.val % 2 * 256 + r.val, by omega⟩ k)
      = if BitVec.ofNat 32 (t.val % 2 / 1) = core (ix1 0) then own (ix2 r k) else sib (ix2 r k) := by
  have e : (t.val % 2 * 256 + r.val) / 256 = t.val % 2 / 1 := by omega
  have f : (t.val % 2 * 256 + r.val) % 256 = r.val := by omega
  show (if BitVec.ofNat 32 ((t.val % 2 * 256 + r.val) / 256) = core (ix1 0)
    then own (ix2 ⟨(t.val % 2 * 256 + r.val) % 256, Nat.mod_lt _ (by decide)⟩ k)
    else sib (ix2 ⟨(t.val % 2 * 256 + r.val) % 256, Nat.mod_lt _ (by decide)⟩ k)) = _
  simp only [e, f]

/-- The gradient in the first half of the rows, and in the second. -/
theorem gradient_low (core : S1.Idx → BitVec 32) (own sib : S256x256.Idx → EReal) (r : Fin 512) (k : Fin 256) (hr : r.val < 256) :
    gradient core own sib (ix2 r k)
      = Scalar.select (IntOp.cmpi .eq (core (ix1 0)) 0#32) (own (ix2 ⟨r.val, hr⟩ k)) (sib (ix2 ⟨r.val, hr⟩ k)) := by
  have e : r.val / 256 = 0 := by omega
  have f : r.val % 256 = r.val := by omega
  rw [select_eq']
  show (if BitVec.ofNat 32 (r.val / 256) = core (ix1 0) then own (ix2 ⟨r.val % 256, Nat.mod_lt _ (by decide)⟩ k)
    else sib (ix2 ⟨r.val % 256, Nat.mod_lt _ (by decide)⟩ k)) = _
  simp only [e, f, eq_comm (a := core (ix1 0))]
theorem gradient_high (core : S1.Idx → BitVec 32) (own sib : S256x256.Idx → EReal) (r : Fin 512) (k : Fin 256) (hr : ¬ r.val < 256) :
    gradient core own sib (ix2 r k)
      = Scalar.select (IntOp.cmpi .eq (core (ix1 0)) 1#32) (own (ix2 ⟨r.val - 256, by omega⟩ k)) (sib (ix2 ⟨r.val - 256, by omega⟩ k)) := by
  have e : r.val / 256 = 1 := by omega
  have f : r.val % 256 = r.val - 256 := by omega
  rw [select_eq']
  show (if BitVec.ofNat 32 (r.val / 256) = core (ix1 0) then own (ix2 ⟨r.val % 256, Nat.mod_lt _ (by decide)⟩ k)
    else sib (ix2 ⟨r.val % 256, Nat.mod_lt _ (by decide)⟩ k)) = _
  simp only [e, f, eq_comm (a := core (ix1 0))]

/-- The words a point computes: the half its block lies in. -/
theorem half_eq : ∀ k : Fin 2, half 1#32 (BitVec.ofNat 32 k.val) = BitVec.ofNat 32 (k.val / 1) := by decide +kernel

theorem point : ∀ t : Fin grid0.N, (grid0.coords t 0).val = t.val % 2 := by decide +kernel

/-- A block's gradient, and its results, entry by entry. -/
theorem pay2_apply (i : grid0.Coords) (w : BitVec 32) (x y : S256x256.Idx → EReal) (r : Fin 256) (k : Fin 256) :
    k0_pay2 (F := Ideal) i w x y (ix2 r k) = if BitVec.ofNat 32 ((i 0).val / 1) = w then x (ix2 r k) else y (ix2 r k) := by
  refine Eq.trans ?_ (congrArg (fun v => if v = w then x (ix2 r k) else y (ix2 r k)) (half_eq (i 0)))
  pointwise [k0_pay2]
  exact select_eq (half 1#32 (BitVec.ofNat 32 (i 0).val)) w _ _

theorem pay3_apply (i : grid0.Coords) (w : BitVec 32) (x y a : S256x256.Idx → EReal) (r : Fin 256) (k : Fin 256) :
    k0_pay3 (F := Ideal) i w x y a (ix2 r k) = mean (k0_pay2 (F := Ideal) i w x y (ix2 r k)) (a (ix2 r k)) := by
  pointwise [k0_pay3]
  rfl

theorem pay4_apply (i : grid0.Coords) (w : BitVec 32) (x y b : S256x256.Idx → EReal) (r : Fin 256) (k : Fin 256) :
    k0_pay4 (F := Ideal) i w x y b (ix2 r k) = meanSq (k0_pay2 (F := Ideal) i w x y (ix2 r k)) (b (ix2 r k)) := by
  pointwise [k0_pay4]
  rfl

theorem pay1_apply (i : grid0.Coords) (w : BitVec 32) (x y a b z : S256x256.Idx → EReal) (r : Fin 256) (k : Fin 256) :
    k0_pay1 (F := Ideal) (k0_pay3 i w x y a) (k0_pay4 i w x y b) z (ix2 r k)
      = change (z (ix2 r k)) (k0_pay2 (F := Ideal) i w x y (ix2 r k)) (a (ix2 r k)) (b (ix2 r k)) := by
  pointwise [k0_pay1]
  rw [pay3_apply, pay4_apply]
  rfl

section Points

variable (c : Dev nD) (i : grid0.Coords) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole)
  (x0 x1 x2 x3 x4 : Vec Ideal S256x256 .f32) (w : TbBuf0 (F := Ideal) c tbM0_0)

theorem one (i j : S1.Idx) : i = j := funext fun a => by fin_cases a; exact Subsingleton.elim (α := Fin 1) _ _

/-- The word loaded from the one-word table. -/
theorem word (p) : View.readAt (Elt Ideal) tbM0_0.view (Rect.unit ![0] S1.size inb_S1_S1_0).toLoadRect w (Shape.Idx.first p)
    = w (ix1 (0 : Fin 1) : S1.Idx) := congrArg w (one _ _)

/-- What the body leaves in the four outputs' blocks. -/
theorem out5 : out0_A_5 c i a2 h2 a3 h3 a4 h4 a5 h5 a6 h6 a7 h7 a8 h8 a9 h9 a10 h10 x0 x1 x2 x3 x4 w
    = k0_pay2 (F := Ideal) i (w (ix1 (0 : Fin 1) : S1.Idx)) x1 x2 := by
  unfold out0_A_5
  rw [View.read_writes_eq_canon _ _ _ (cover0_A_5 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S256x256) zero2]
  exact congrArg (fun v => k0_pay2 (F := Ideal) i v x1 x2) (word c w _)

theorem out6 : out0_A_6 c i a2 h2 a3 h3 a4 h4 a5 h5 a6 h6 a7 h7 a8 h8 a9 h9 a10 h10 x0 x1 x2 x3 x4 w
    = k0_pay1 (F := Ideal) (k0_pay3 i (w (ix1 (0 : Fin 1) : S1.Idx)) x1 x2 x3) (k0_pay4 i (w (ix1 (0 : Fin 1) : S1.Idx)) x1 x2 x4) x0 := by
  unfold out0_A_6
  rw [View.read_writes_eq_canon _ _ _ (cover0_A_6 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S256x256) zero2]
  exact congrArg (fun v => k0_pay1 (F := Ideal) (k0_pay3 i v x1 x2 x3) (k0_pay4 i v x1 x2 x4) x0) (word c w _)

theorem out7 : out0_A_7 c i a2 h2 a3 h3 a4 h4 a5 h5 a6 h6 a7 h7 a8 h8 a9 h9 a10 h10 x0 x1 x2 x3 x4 w
    = k0_pay3 (F := Ideal) i (w (ix1 (0 : Fin 1) : S1.Idx)) x1 x2 x3 := by
  unfold out0_A_7
  rw [View.read_writes_eq_canon _ _ _ (cover0_A_7 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S256x256) zero2]
  exact congrArg (fun v => k0_pay3 (F := Ideal) i v x1 x2 x3) (word c w _)

theorem out8 : out0_A_8 c i a2 h2 a3 h3 a4 h4 a5 h5 a6 h6 a7 h7 a8 h8 a9 h9 a10 h10 x0 x1 x2 x3 x4 w
    = k0_pay4 (F := Ideal) i (w (ix1 (0 : Fin 1) : S1.Idx)) x1 x2 x4 := by
  unfold out0_A_8
  rw [View.read_writes_eq_canon _ _ _ (cover0_A_8 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S256x256) zero2]
  exact congrArg (fun v => k0_pay4 (F := Ideal) i v x1 x2 x4) (word c w _)

end Points

variable (m : (ℓ : Loc nD τ sig) → Buf (Elt Ideal) ℓ)

abbrev arr0 (c : Dev nD) : S1.Idx → BitVec 32 := m ((c.tc : Thread nD τ).loc main_arg0)
abbrev arr1 (c : Dev nD) : S512x256.Idx → EReal := m ((c.tc : Thread nD τ).loc main_arg1)
abbrev arr2 (c : Dev nD) : S256x256.Idx → EReal := m ((c.tc : Thread nD τ).loc main_arg2)
abbrev arr3 (c : Dev nD) : S256x256.Idx → EReal := m ((c.tc : Thread nD τ).loc main_arg3)
abbrev arr4 (c : Dev nD) : S512x256.Idx → EReal := m ((c.tc : Thread nD τ).loc main_arg4)
abbrev arr5 (c : Dev nD) : S512x256.Idx → EReal := m ((c.tc : Thread nD τ).loc main_arg5)

/-- No index map reads the table, so its contents are free. -/
theorem ok : Ok m := by
  unfold Ok ok0
  trivial

theorem table (c : Dev nD) : tbl m 0 (ix1 (0 : Fin 1) : S1.Idx) = arr0 m c (ix1 0) := by
  obtain rfl : c = 0 := Subsingleton.elim _ _
  rfl

theorem index0 (t : Fin grid0.N) : ((cfgM m (ok m)).win 0).index t = ![t.val % 2, 0] :=
  (by decide +kernel : ∀ t : Fin grid0.N, cc0_transform_0 (grid0.coords t) = ![t.val % 2, 0]) t
theorem index1 (t : Fin grid0.N) : ((cfgM m (ok m)).win 1).index t = ![0, 0] :=
  (by decide +kernel : ∀ t : Fin grid0.N, cc0_transform_1 (grid0.coords t) = ![0, 0]) t
theorem index2 (t : Fin grid0.N) : ((cfgM m (ok m)).win 2).index t = ![0, 0] :=
  (by decide +kernel : ∀ t : Fin grid0.N, cc0_transform_2 (grid0.coords t) = ![0, 0]) t
theorem index3 (t : Fin grid0.N) : ((cfgM m (ok m)).win 3).index t = ![t.val % 2, 0] :=
  (by decide +kernel : ∀ t : Fin grid0.N, cc0_transform_3 (grid0.coords t) = ![t.val % 2, 0]) t
theorem index4 (t : Fin grid0.N) : ((cfgM m (ok m)).win 4).index t = ![t.val % 2, 0] :=
  (by decide +kernel : ∀ t : Fin grid0.N, cc0_transform_4 (grid0.coords t) = ![t.val % 2, 0]) t
theorem index5 (t : Fin grid0.N) : ((cfgM m (ok m)).win 5).index t = ![t.val % 2, 0] :=
  (by decide +kernel : ∀ t : Fin grid0.N, cc0_transform_5 (grid0.coords t) = ![t.val % 2, 0]) t
theorem index6 (t : Fin grid0.N) : ((cfgM m (ok m)).win 6).index t = ![t.val % 2, 0] :=
  (by decide +kernel : ∀ t : Fin grid0.N, cc0_transform_6 (grid0.coords t) = ![t.val % 2, 0]) t
theorem index7 (t : Fin grid0.N) : ((cfgM m (ok m)).win 7).index t = ![t.val % 2, 0] :=
  (by decide +kernel : ∀ t : Fin grid0.N, cc0_transform_7 (grid0.coords t) = ![t.val % 2, 0]) t
theorem index8 (t : Fin grid0.N) : ((cfgM m (ok m)).win 8).index t = ![t.val % 2, 0] :=
  (by decide +kernel : ∀ t : Fin grid0.N, cc0_transform_8 (grid0.coords t) = ![t.val % 2, 0]) t

theorem read0 (c : Dev nD) (t : Fin (cfgM m (ok m)).N) (r : Fin 256) (k : Fin 256) :
    iblk m (ok m) c 0 t (ix2 r k : S256x256.Idx) = arr1 m c (ix2 ⟨t.val % 2 * 256 + r.val, by omega⟩ k) := by
  blk_ext [iblk, V, index0 m t]

theorem read1 (c : Dev nD) (t : Fin (cfgM m (ok m)).N) (r : Fin 256) (k : Fin 256) :
    iblk m (ok m) c 1 t (ix2 r k : S256x256.Idx) = arr2 m c (ix2 r k) := by
  blk_ext [iblk, V, index1 m t]

theorem read2 (c : Dev nD) (t : Fin (cfgM m (ok m)).N) (r : Fin 256) (k : Fin 256) :
    iblk m (ok m) c 2 t (ix2 r k : S256x256.Idx) = arr3 m c (ix2 r k) := by
  blk_ext [iblk, V, index2 m t]

theorem read3 (c : Dev nD) (t : Fin (cfgM m (ok m)).N) (r : Fin 256) (k : Fin 256) :
    iblk m (ok m) c 3 t (ix2 r k : S256x256.Idx) = arr4 m c (ix2 ⟨t.val % 2 * 256 + r.val, by omega⟩ k) := by
  blk_ext [iblk, V, index3 m t]

theorem read4 (c : Dev nD) (t : Fin (cfgM m (ok m)).N) (r : Fin 256) (k : Fin 256) :
    iblk m (ok m) c 4 t (ix2 r k : S256x256.Idx) = arr5 m c (ix2 ⟨t.val % 2 * 256 + r.val, by omega⟩ k) := by
  blk_ext [iblk, V, index4 m t]

/-- The block gradient a point computes is the gradient's block. -/
theorem pay2_block (c : Dev nD) (t : Fin (cfgM m (ok m)).N) (r : Fin 256) (k : Fin 256) :
    k0_pay2 (F := Ideal) (grid0.coords t) (tbl m 0 (ix1 (0 : Fin 1) : S1.Idx)) (iblk m (ok m) c 1 t) (iblk m (ok m) c 2 t) (ix2 r k)
      = gradient (arr0 m c) (arr2 m c) (arr3 m c) (ix2 ⟨t.val % 2 * 256 + r.val, by omega⟩ k) := by
  refine (pay2_apply (grid0.coords t) _ _ _ r k).trans ?_
  rw [point, table m c, read1, read2]
  exact (gradient_block (arr0 m c) (arr2 m c) (arr3 m c) t r k).symm

/-- Contents of the table, to name the output windows by. -/
def zeros : (pcfg0 (F := Ideal)).Adm := ⟨fun | 0 => (fun _ => 0#32 : S1.Idx → BitVec 32), trivial⟩

theorem kernel5 (c : Dev nD) : (dats m (ok m) 0 c).arrAt 5 (cfgM m (ok m)).N = gradient (arr0 m c) (arr2 m c) (arr3 m c) := by
  refine (dats m (ok m) 0 c).arrAt_eq_of_covers 5 _ (by decide +kernel : ((cfg0 zeros).win 5).Covers) fun t hf y => ?_
  obtain ⟨r, j, rfl⟩ : ∃ (r : Fin 256) (j : Fin 256), y = (ix2 r j : S256x256.Idx) := ⟨_, _, eq_ix2 y⟩
  have e : (((cfgM m (ok m)).win 5).blk t).view.emb (ix2 r j : S256x256.Idx) = (ix2 ⟨t.val % 2 * 256 + r.val, by omega⟩ j : S512x256.Idx) := by
    blk_ext [index5 m t]
  rw [e]
  blk_simp
  rw [after0_5]
  unfold outsAt0
  dsimp only
  refine (congrFun (out5 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  exact pay2_block m c t r j

theorem kernel6 (c : Dev nD) : (dats m (ok m) 0 c).arrAt 6 (cfgM m (ok m)).N = changes (arr0 m c) (arr1 m c) (arr2 m c) (arr3 m c) (arr4 m c) (arr5 m c) := by
  refine (dats m (ok m) 0 c).arrAt_eq_of_covers 6 _ (by decide +kernel : ((cfg0 zeros).win 6).Covers) fun t hf y => ?_
  obtain ⟨r, j, rfl⟩ : ∃ (r : Fin 256) (j : Fin 256), y = (ix2 r j : S256x256.Idx) := ⟨_, _, eq_ix2 y⟩
  have e : (((cfgM m (ok m)).win 6).blk t).view.emb (ix2 r j : S256x256.Idx) = (ix2 ⟨t.val % 2 * 256 + r.val, by omega⟩ j : S512x256.Idx) := by
    blk_ext [index6 m t]
  rw [e]
  blk_simp
  rw [after0_6]
  unfold outsAt0
  dsimp only
  refine (congrFun (out6 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay1_apply _ _ _ _ _ _ _ r j).trans ?_
  rw [pay2_block m c t r j, read0, read3, read4]
  rfl

theorem kernel7 (c : Dev nD) : (dats m (ok m) 0 c).arrAt 7 (cfgM m (ok m)).N = means (arr0 m c) (arr2 m c) (arr3 m c) (arr4 m c) := by
  refine (dats m (ok m) 0 c).arrAt_eq_of_covers 7 _ (by decide +kernel : ((cfg0 zeros).win 7).Covers) fun t hf y => ?_
  obtain ⟨r, j, rfl⟩ : ∃ (r : Fin 256) (j : Fin 256), y = (ix2 r j : S256x256.Idx) := ⟨_, _, eq_ix2 y⟩
  have e : (((cfgM m (ok m)).win 7).blk t).view.emb (ix2 r j : S256x256.Idx) = (ix2 ⟨t.val % 2 * 256 + r.val, by omega⟩ j : S512x256.Idx) := by
    blk_ext [index7 m t]
  rw [e]
  blk_simp
  rw [after0_7]
  unfold outsAt0
  dsimp only
  refine (congrFun (out7 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay3_apply _ _ _ _ _ r j).trans ?_
  rw [pay2_block m c t r j, read3]
  rfl

theorem kernel8 (c : Dev nD) : (dats m (ok m) 0 c).arrAt 8 (cfgM m (ok m)).N = meanSqs (arr0 m c) (arr2 m c) (arr3 m c) (arr5 m c) := by
  refine (dats m (ok m) 0 c).arrAt_eq_of_covers 8 _ (by decide +kernel : ((cfg0 zeros).win 8).Covers) fun t hf y => ?_
  obtain ⟨r, j, rfl⟩ : ∃ (r : Fin 256) (j : Fin 256), y = (ix2 r j : S256x256.Idx) := ⟨_, _, eq_ix2 y⟩
  have e : (((cfgM m (ok m)).win 8).blk t).view.emb (ix2 r j : S256x256.Idx) = (ix2 ⟨t.val % 2 * 256 + r.val, by omega⟩ j : S512x256.Idx) := by
    blk_ext [index8 m t]
  rw [e]
  blk_simp
  rw [after0_8]
  unfold outsAt0
  dsimp only
  refine (congrFun (out8 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay4_apply _ _ _ _ _ r j).trans ?_
  rw [pay2_block m c t r j, read4]
  rfl

end Kernel

section Reference

open Cert.Reference26Ideal

variable (m : (ℓ : Loc nD τ sig) → Buf (Elt Ideal) ℓ)

/-- The reference ends with the gradient, the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v6) = gradient (m ((c.tc : Thread nD τ).loc main_arg0)) (m ((c.tc : Thread nD τ).loc main_arg2)) (m ((c.tc : Thread nD τ).loc main_arg3))
      ∧ r.2.mem ((c.tc : Thread nD τ).loc main_v30) = changes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = means (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v17) = meanSqs (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    refine ⟨h0.trans (funext fun i => ?_), h1.trans (funext fun i => ?_), h2.trans (funext fun i => ?_), h3.trans (funext fun i => ?_), h⟩
    · clear h0 h1 h2 h3 h
      generalize (m ((c.tc : Thread nD τ).loc main_arg0)) = a0
      generalize (m ((c.tc : Thread nD τ).loc main_arg2)) = a2
      generalize (m ((c.tc : Thread nD τ).loc main_arg3)) = a3
      obtain ⟨r, j, rfl⟩ : ∃ (r : Fin 512) (j : Fin 256), i = (ix2 r j : S512x256.Idx) := ⟨_, _, eq_ix2 i⟩
      pointwise
      by_cases hr : r.val < 256
      · simp only [dif_pos hr]
        exact (congrArg (fun g => g) (gradient_low a0 a2 a3 r j hr)).symm
      · simp only [dif_neg hr]
        exact (congrArg (fun g => g) (gradient_high a0 a2 a3 r j hr)).symm
    · clear h0 h1 h2 h3 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 512) (j : Fin 256), i = (ix2 r j : S512x256.Idx) := ⟨_, _, eq_ix2 i⟩
      pointwise
      by_cases hr : r.val < 256
      · simp only [dif_pos hr]
        exact (congrArg (fun g => change (a1 (ix2 r j)) g (a4 (ix2 r j)) (a5 (ix2 r j))) (gradient_low a0 a2 a3 r j hr)).symm
      · simp only [dif_neg hr]
        exact (congrArg (fun g => change (a1 (ix2 r j)) g (a4 (ix2 r j)) (a5 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg4)) = a4
      obtain ⟨r, j, rfl⟩ : ∃ (r : Fin 512) (j : Fin 256), i = (ix2 r j : S512x256.Idx) := ⟨_, _, eq_ix2 i⟩
      pointwise
      by_cases hr : r.val < 256
      · simp only [dif_pos hr]
        exact (congrArg (fun g => mean g (a4 (ix2 r j))) (gradient_low a0 a2 a3 r j hr)).symm
      · simp only [dif_neg hr]
        exact (congrArg (fun g => mean g (a4 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg5)) = a5
      obtain ⟨r, j, rfl⟩ : ∃ (r : Fin 512) (j : Fin 256), i = (ix2 r j : S512x256.Idx) := ⟨_, _, eq_ix2 i⟩
      pointwise
      by_cases hr : r.val < 256
      · simp only [dif_pos hr]
        exact (congrArg (fun g => meanSq g (a5 (ix2 r j))) (gradient_low a0 a2 a3 r j hr)).symm
      · simp only [dif_neg hr]
        exact (congrArg (fun g => meanSq g (a5 (ix2 r j))) (gradient_high a0 a2 a3 r j hr)).symm)
    (Value.run m ρ)

end Reference

section Run

open Cert.Kernel26Ideal Cert.Kernel26Ideal.Gen

variable (m : (ℓ : Loc nD τ sig) → Buf (Elt Ideal) ℓ)

/-- The kernel ends with its outputs' blocks put together, and its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m (ok m) 0 c).arrAt 5 (cfgM m (ok m)).N
      ∧ r.2.mem ((c.tc : Thread nD τ).loc main_v0_1) = (dats m (ok m) 0 c).arrAt 6 (cfgM m (ok m)).N
      ∧ r.2.mem ((c.tc : Thread nD τ).loc main_v0_2) = (dats m (ok m) 0 c).arrAt 7 (cfgM m (ok m)).N
      ∧ r.2.mem ((c.tc : Thread nD τ).loc main_v0_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Run

/-- From arguments that agree, the kernel's results are the reference's. -/
theorem algebraic : algebraic_Kernel26Ideal_Reference26Ideal (hKernel26Ideal := Cert.Kernel26Ideal.Gen.facts) (hReference26Ideal := Cert.Reference26Ideal.Gen.facts) := by
  intro m g m' g' _ hagree
  refine ⟨fun c => (Cert.Kernel26Ideal.Gen.dats m (ok m) 0 c).arrAt 5 (Cert.Kernel26Ideal.Gen.cfgM m (ok m)).N, fun c => (Cert.Kernel26Ideal.Gen.dats m (ok m) 0 c).arrAt 6 (Cert.Kernel26Ideal.Gen.cfgM m (ok m)).N, fun c => (Cert.Kernel26Ideal.Gen.dats m (ok m) 0 c).arrAt 7 (Cert.Kernel26Ideal.Gen.cfgM m (ok m)).N, fun c => (Cert.Kernel26Ideal.Gen.dats m (ok m) 0 c).arrAt 8 (Cert.Kernel26Ideal.Gen.cfgM m (ok m)).N,
    (θ_run _ _ _).mono (fun r h c => ?_) (kernel_run m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a2, a3]
      exact (kernel5 m c).symm
    · rw [a0, a1, a2, a3, a4, a5]
      exact (kernel6 m c).symm
    · rw [a0, a2, a3, a4]
      exact (kernel7 m c).symm
    · rw [a0, a2, a3, a5]
      exact (kernel8 m c).symm

end Cert.AdamBranch

end
-- ==== Proof.AdamOut.lean ====
/- AdamW on the mixing layer's output weights. -/
module

public import Idealize.ShloMosaic.Lib.KernelVsHost
public import proofs.«01_k».proof.Proof.AdamStep
public import proofs.«01_k».proof.Proof.AdamHalves
public import proofs.«01_k».proof.Proof.DwDownKernel
public import proofs.«01_k».proof.Proof.RowSums
public import proofs.«01_k».proof.Proof.Gen.Kernel27Ideal.Frame
public import proofs.«01_k».proof.Proof.Gen.Reference27Ideal.Run
public import proofs.«01_k».proof.Defs

@[expose] public section

set_option maxRecDepth 16384

noncomputable section

namespace Cert.AdamOut

open Idealize.ShloMosaic Idealize.ShloMosaic.TcCoe Idealize.SL.Sem Cert.RowSums Cert.AdamStep Cert.AdamHalves

section Kernel

open Cert.Kernel27Ideal Cert.Kernel27Ideal.Gen

/-- The gradient of the whole weight: the half of the rows this core has summed, and the other half from the other core. -/
def gradient (core : S1.Idx → BitVec 32) (own sib : S128x1024.Idx → EReal) (i : S256x1024.Idx) : EReal :=
  if BitVec.ofNat 32 ((i 0).val / 128) = core (ix1 0) then own (ix2 ⟨(i 0).val % 128, Nat.mod_lt _ (by decide)⟩ (i 1))
  else sib (ix2 ⟨(i 0).val % 128, Nat.mod_lt _ (by decide)⟩ (i 1))

/-- The weight's change, the next means and the next mean squares, entry by entry. -/
def changes (core : S1.Idx → BitVec 32) (w : S256x1024.Idx → EReal) (own sib : S128x1024.Idx → EReal) (a b : S256x1024.Idx → EReal) (i : S256x1024.Idx) : EReal :=
  change (w i) (gradient core own sib i) (a i) (b i)
def means (core : S1.Idx → BitVec 32) (own sib : S128x1024.Idx → EReal) (a : S256x1024.Idx → EReal) (i : S256x1024.Idx) : EReal :=
  mean (gradient core own sib i) (a i)
def meanSqs (core : S1.Idx → BitVec 32) (own sib : S128x1024.Idx → EReal) (b : S256x1024.Idx → EReal) (i : S256x1024.Idx) : EReal :=
  meanSq (gradient core own sib i) (b i)

/-- The gradient at a block's entry. -/
theorem gradient_block (core : S1.Idx → BitVec 32) (own sib : S128x1024.Idx → EReal) (t : Fin grid0.N) (r : Fin 128) (k : Fin 1024) :
    gradient core own sib (ix2 ⟨t.val % 2 * 128 + r.val, by omega⟩ k)
      = if BitVec.ofNat 32 (t.val % 2 / 1) = core (ix1 0) then own (ix2 r k) else sib (ix2 r k) := by
  have e : (t.val % 2 * 128 + r.val) / 128 = t.val % 2 / 1 := by omega
  have f : (t.val % 2 * 128 + r.val) % 128 = r.val := by omega
  show (if BitVec.ofNat 32 ((t.val % 2 * 128 + r.val) / 128) = core (ix1 0)
    then own (ix2 ⟨(t.val % 2 * 128 + r.val) % 128, Nat.mod_lt _ (by decide)⟩ k)
    else sib (ix2 ⟨(t.val % 2 * 128 + r.val) % 128, Nat.mod_lt _ (by decide)⟩ k)) = _
  simp only [e, f]

/-- The gradient in the first half of the rows, and in the second. -/
theorem gradient_low (core : S1.Idx → BitVec 32) (own sib : S128x1024.Idx → EReal) (r : Fin 256) (k : Fin 1024) (hr : r.val < 128) :
    gradient core own sib (ix2 r k)
      = Scalar.select (IntOp.cmpi .eq (core (ix1 0)) 0#32) (own (ix2 ⟨r.val, hr⟩ k)) (sib (ix2 ⟨r.val, hr⟩ k)) := by
  have e : r.val / 128 = 0 := by omega
  have f : r.val % 128 = r.val := by omega
  rw [select_eq']
  show (if BitVec.ofNat 32 (r.val / 128) = core (ix1 0) then own (ix2 ⟨r.val % 128, Nat.mod_lt _ (by decide)⟩ k)
    else sib (ix2 ⟨r.val % 128, Nat.mod_lt _ (by decide)⟩ k)) = _
  simp only [e, f, eq_comm (a := core (ix1 0))]
theorem gradient_high (core : S1.Idx → BitVec 32) (own sib : S128x1024.Idx → EReal) (r : Fin 256) (k : Fin 1024) (hr : ¬ r.val < 128) :
    gradient core own sib (ix2 r k)
      = Scalar.select (IntOp.cmpi .eq (core (ix1 0)) 1#32) (own (ix2 ⟨r.val - 128, by omega⟩ k)) (sib (ix2 ⟨r.val - 128, by omega⟩ k)) := by
  have e : r.val / 128 = 1 := by omega
  have f : r.val % 128 = r.val - 128 := by omega
  rw [select_eq']
  show (if BitVec.ofNat 32 (r.val / 128) = core (ix1 0) then own (ix2 ⟨r.val % 128, Nat.mod_lt _ (by decide)⟩ k)
    else sib (ix2 ⟨r.val % 128, Nat.mod_lt _ (by decide)⟩ k)) = _
  simp only [e, f, eq_comm (a := core (ix1 0))]

/-- The words a point computes: the half its block lies in. -/
theorem half_eq : ∀ k : Fin 2, half 1#32 (BitVec.ofNat 32 k.val) = BitVec.ofNat 32 (k.val / 1) := by decide +kernel

theorem point : ∀ t : Fin grid0.N, (grid0.coords t 0).val = t.val % 2 := by decide +kernel

/-- A block's gradient, and its results, entry by entry. -/
theorem pay2_apply (i : grid0.Coords) (w : BitVec 32) (x y : S128x1024.Idx → EReal) (r : Fin 128) (k : Fin 1024) :
    k0_pay2 (F := Ideal) i w x y (ix2 r k) = if BitVec.ofNat 32 ((i 0).val / 1) = w then x (ix2 r k) else y (ix2 r k) := by
  refine Eq.trans ?_ (congrArg (fun v => if v = w then x (ix2 r k) else y (ix2 r k)) (half_eq (i 0)))
  pointwise [k0_pay2]
  exact select_eq (half 1#32 (BitVec.ofNat 32 (i 0).val)) w _ _

theorem pay3_apply (i : grid0.Coords) (w : BitVec 32) (x y a : S128x1024.Idx → EReal) (r : Fin 128) (k : Fin 1024) :
    k0_pay3 (F := Ideal) i w x y a (ix2 r k) = mean (k0_pay2 (F := Ideal) i w x y (ix2 r k)) (a (ix2 r k)) := by
  pointwise [k0_pay3]
  rfl

theorem pay4_apply (i : grid0.Coords) (w : BitVec 32) (x y b : S128x1024.Idx → EReal) (r : Fin 128) (k : Fin 1024) :
    k0_pay4 (F := Ideal) i w x y b (ix2 r k) = meanSq (k0_pay2 (F := Ideal) i w x y (ix2 r k)) (b (ix2 r k)) := by
  pointwise [k0_pay4]
  rfl

theorem pay1_apply (i : grid0.Coords) (w : BitVec 32) (x y a b z : S128x1024.Idx → EReal) (r : Fin 128) (k : Fin 1024) :
    k0_pay1 (F := Ideal) (k0_pay3 i w x y a) (k0_pay4 i w x y b) z (ix2 r k)
      = change (z (ix2 r k)) (k0_pay2 (F := Ideal) i w x y (ix2 r k)) (a (ix2 r k)) (b (ix2 r k)) := by
  pointwise [k0_pay1]
  rw [pay3_apply, pay4_apply]
  rfl

section Points

variable (c : Dev nD) (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .f32) (h9 : a9.IsWhole) (a10 : Memref sig .tc .vmem S128x1024 .f32) (h10 : a10.IsWhole)
  (x0 x1 x2 x3 x4 : Vec Ideal S128x1024 .f32) (w : TbBuf0 (F := Ideal) c tbM0_0)

theorem one (i j : S1.Idx) : i = j := funext fun a => by fin_cases a; exact Subsingleton.elim (α := Fin 1) _ _

/-- The word loaded from the one-word table. -/
theorem word (p) : View.readAt (Elt Ideal) tbM0_0.view (Rect.unit ![0] S1.size inb_S1_S1_0).toLoadRect w (Shape.Idx.first p)
    = w (ix1 (0 : Fin 1) : S1.Idx) := congrArg w (one _ _)

/-- What the body leaves in the four outputs' blocks. -/
theorem out5 : out0_A_5 c i a2 h2 a3 h3 a4 h4 a5 h5 a6 h6 a7 h7 a8 h8 a9 h9 a10 h10 x0 x1 x2 x3 x4 w
    = k0_pay2 (F := Ideal) i (w (ix1 (0 : Fin 1) : S1.Idx)) x1 x2 := by
  unfold out0_A_5
  rw [View.read_writes_eq_canon _ _ _ (cover0_A_5 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1024) zero2]
  exact congrArg (fun v => k0_pay2 (F := Ideal) i v x1 x2) (word c w _)

theorem out6 : out0_A_6 c i a2 h2 a3 h3 a4 h4 a5 h5 a6 h6 a7 h7 a8 h8 a9 h9 a10 h10 x0 x1 x2 x3 x4 w
    = k0_pay1 (F := Ideal) (k0_pay3 i (w (ix1 (0 : Fin 1) : S1.Idx)) x1 x2 x3) (k0_pay4 i (w (ix1 (0 : Fin 1) : S1.Idx)) x1 x2 x4) x0 := by
  unfold out0_A_6
  rw [View.read_writes_eq_canon _ _ _ (cover0_A_6 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1024) zero2]
  exact congrArg (fun v => k0_pay1 (F := Ideal) (k0_pay3 i v x1 x2 x3) (k0_pay4 i v x1 x2 x4) x0) (word c w _)

theorem out7 : out0_A_7 c i a2 h2 a3 h3 a4 h4 a5 h5 a6 h6 a7 h7 a8 h8 a9 h9 a10 h10 x0 x1 x2 x3 x4 w
    = k0_pay3 (F := Ideal) i (w (ix1 (0 : Fin 1) : S1.Idx)) x1 x2 x3 := by
  unfold out0_A_7
  rw [View.read_writes_eq_canon _ _ _ (cover0_A_7 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1024) zero2]
  exact congrArg (fun v => k0_pay3 (F := Ideal) i v x1 x2 x3) (word c w _)

theorem out8 : out0_A_8 c i a2 h2 a3 h3 a4 h4 a5 h5 a6 h6 a7 h7 a8 h8 a9 h9 a10 h10 x0 x1 x2 x3 x4 w
    = k0_pay4 (F := Ideal) i (w (ix1 (0 : Fin 1) : S1.Idx)) x1 x2 x4 := by
  unfold out0_A_8
  rw [View.read_writes_eq_canon _ _ _ (cover0_A_8 c i a2 h2 a3 h3 a4 h4 a5 h5 a6 h6 a7 h7 a8 h8 a9 h9 a10 h10 x0 x1 x2 x3 x4 w)]
  unfold kernelRun0_A
  dsimp only
  rw [View.canon_unit_zero zero2]
  sl_unfold_words
  simp only [View.readAt_eq_ld, h2.read_unread, h3.read_unread, h4.read_unread, h5.read_unread, h6.read_unread, View.ld_unit_zero (S := S128x1024) zero2]
  exact congrArg (fun v => k0_pay4 (F := Ideal) i v x1 x2 x4) (word c w _)

end Points

variable (m : (ℓ : Loc nD τ sig) → Buf (Elt Ideal) ℓ)

abbrev arr0 (c : Dev nD) : S1.Idx → BitVec 32 := m ((c.tc : Thread nD τ).loc main_arg0)
abbrev arr1 (c : Dev nD) : S256x1024.Idx → EReal := m ((c.tc : Thread nD τ).loc main_arg1)
abbrev arr2 (c : Dev nD) : S128x1024.Idx → EReal := m ((c.tc : Thread nD τ).loc main_arg2)
abbrev arr3 (c : Dev nD) : S128x1024.Idx → EReal := m ((c.tc : Thread nD τ).loc main_arg3)
abbrev arr4 (c : Dev nD) : S256x1024.Idx → EReal := m ((c.tc : Thread nD τ).loc main_arg4)
abbrev arr5 (c : Dev nD) : S256x1024.Idx → EReal := m ((c.tc : Thread nD τ).loc main_arg5)

/-- No index map reads the table, so its contents are free. -/
theorem ok : Ok m := by
  unfold Ok ok0
  trivial

theorem table (c : Dev nD) : tbl m 0 (ix1 (0 : Fin 1) : S1.Idx) = arr0 m c (ix1 0) := by
  obtain rfl : c = 0 := Subsingleton.elim _ _
  rfl

theorem index0 (t : Fin grid0.N) : ((cfgM m (ok m)).win 0).index t = ![t.val % 2, 0] :=
  (by decide +kernel : ∀ t : Fin grid0.N, cc0_transform_0 (grid0.coords t) = ![t.val % 2, 0]) t
theorem index1 (t : Fin grid0.N) : ((cfgM m (ok m)).win 1).index t = ![0, 0] :=
  (by decide +kernel : ∀ t : Fin grid0.N, cc0_transform_1 (grid0.coords t) = ![0, 0]) t
theorem index2 (t : Fin grid0.N) : ((cfgM m (ok m)).win 2).index t = ![0, 0] :=
  (by decide +kernel : ∀ t : Fin grid0.N, cc0_transform_2 (grid0.coords t) = ![0, 0]) t
theorem index3 (t : Fin grid0.N) : ((cfgM m (ok m)).win 3).index t = ![t.val % 2, 0] :=
  (by decide +kernel : ∀ t : Fin grid0.N, cc0_transform_3 (grid0.coords t) = ![t.val % 2, 0]) t
theorem index4 (t : Fin grid0.N) : ((cfgM m (ok m)).win 4).index t = ![t.val % 2, 0] :=
  (by decide +kernel : ∀ t : Fin grid0.N, cc0_transform_4 (grid0.coords t) = ![t.val % 2, 0]) t
theorem index5 (t : Fin grid0.N) : ((cfgM m (ok m)).win 5).index t = ![t.val % 2, 0] :=
  (by decide +kernel : ∀ t : Fin grid0.N, cc0_transform_5 (grid0.coords t) = ![t.val % 2, 0]) t
theorem index6 (t : Fin grid0.N) : ((cfgM m (ok m)).win 6).index t = ![t.val % 2, 0] :=
  (by decide +kernel : ∀ t : Fin grid0.N, cc0_transform_6 (grid0.coords t) = ![t.val % 2, 0]) t
theorem index7 (t : Fin grid0.N) : ((cfgM m (ok m)).win 7).index t = ![t.val % 2, 0] :=
  (by decide +kernel : ∀ t : Fin grid0.N, cc0_transform_7 (grid0.coords t) = ![t.val % 2, 0]) t
theorem index8 (t : Fin grid0.N) : ((cfgM m (ok m)).win 8).index t = ![t.val % 2, 0] :=
  (by decide +kernel : ∀ t : Fin grid0.N, cc0_transform_8 (grid0.coords t) = ![t.val % 2, 0]) t

theorem read0 (c : Dev nD) (t : Fin (cfgM m (ok m)).N) (r : Fin 128) (k : Fin 1024) :
    iblk m (ok m) c 0 t (ix2 r k : S128x1024.Idx) = arr1 m c (ix2 ⟨t.val % 2 * 128 + r.val, by omega⟩ k) := by
  blk_ext [iblk, V, index0 m t]

theorem read1 (c : Dev nD) (t : Fin (cfgM m (ok m)).N) (r : Fin 128) (k : Fin 1024) :
    iblk m (ok m) c 1 t (ix2 r k : S128x1024.Idx) = arr2 m c (ix2 r k) := by
  blk_ext [iblk, V, index1 m t]

theorem read2 (c : Dev nD) (t : Fin (cfgM m (ok m)).N) (r : Fin 128) (k : Fin 1024) :
    iblk m (ok m) c 2 t (ix2 r k : S128x1024.Idx) = arr3 m c (ix2 r k) := by
  blk_ext [iblk, V, index2 m t]

theorem read3 (c : Dev nD) (t : Fin (cfgM m (ok m)).N) (r : Fin 128) (k : Fin 1024) :
    iblk m (ok m) c 3 t (ix2 r k : S128x1024.Idx) = arr4 m c (ix2 ⟨t.val % 2 * 128 + r.val, by omega⟩ k) := by
  blk_ext [iblk, V, index3 m t]

theorem read4 (c : Dev nD) (t : Fin (cfgM m (ok m)).N) (r : Fin 128) (k : Fin 1024) :
    iblk m (ok m) c 4 t (ix2 r k : S128x1024.Idx) = arr5 m c (ix2 ⟨t.val % 2 * 128 + r.val, by omega⟩ k) := by
  blk_ext [iblk, V, index4 m t]

/-- The block gradient a point computes is the gradient's block. -/
theorem pay2_block (c : Dev nD) (t : Fin (cfgM m (ok m)).N) (r : Fin 128) (k : Fin 1024) :
    k0_pay2 (F := Ideal) (grid0.coords t) (tbl m 0 (ix1 (0 : Fin 1) : S1.Idx)) (iblk m (ok m) c 1 t) (iblk m (ok m) c 2 t) (ix2 r k)
      = gradient (arr0 m c) (arr2 m c) (arr3 m c) (ix2 ⟨t.val % 2 * 128 + r.val, by omega⟩ k) := by
  refine (pay2_apply (grid0.coords t) _ _ _ r k).trans ?_
  rw [point, table m c, read1, read2]
  exact (gradient_block (arr0 m c) (arr2 m c) (arr3 m c) t r k).symm

/-- Contents of the table, to name the output windows by. -/
def zeros : (pcfg0 (F := Ideal)).Adm := ⟨fun | 0 => (fun _ => 0#32 : S1.Idx → BitVec 32), trivial⟩

theorem kernel5 (c : Dev nD) : (dats m (ok m) 0 c).arrAt 5 (cfgM m (ok m)).N = gradient (arr0 m c) (arr2 m c) (arr3 m c) := by
  refine (dats m (ok m) 0 c).arrAt_eq_of_covers 5 _ (by decide +kernel : ((cfg0 zeros).win 5).Covers) fun t hf y => ?_
  obtain ⟨r, j, rfl⟩ : ∃ (r : Fin 128) (j : Fin 1024), y = (ix2 r j : S128x1024.Idx) := ⟨_, _, eq_ix2 y⟩
  have e : (((cfgM m (ok m)).win 5).blk t).view.emb (ix2 r j : S128x1024.Idx) = (ix2 ⟨t.val % 2 * 128 + r.val, by omega⟩ j : S256x1024.Idx) := by
    blk_ext [index5 m t]
  rw [e]
  blk_simp
  rw [after0_5]
  unfold outsAt0
  dsimp only
  refine (congrFun (out5 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  exact pay2_block m c t r j

theorem kernel6 (c : Dev nD) : (dats m (ok m) 0 c).arrAt 6 (cfgM m (ok m)).N = changes (arr0 m c) (arr1 m c) (arr2 m c) (arr3 m c) (arr4 m c) (arr5 m c) := by
  refine (dats m (ok m) 0 c).arrAt_eq_of_covers 6 _ (by decide +kernel : ((cfg0 zeros).win 6).Covers) fun t hf y => ?_
  obtain ⟨r, j, rfl⟩ : ∃ (r : Fin 128) (j : Fin 1024), y = (ix2 r j : S128x1024.Idx) := ⟨_, _, eq_ix2 y⟩
  have e : (((cfgM m (ok m)).win 6).blk t).view.emb (ix2 r j : S128x1024.Idx) = (ix2 ⟨t.val % 2 * 128 + r.val, by omega⟩ j : S256x1024.Idx) := by
    blk_ext [index6 m t]
  rw [e]
  blk_simp
  rw [after0_6]
  unfold outsAt0
  dsimp only
  refine (congrFun (out6 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay1_apply _ _ _ _ _ _ _ r j).trans ?_
  rw [pay2_block m c t r j, read0, read3, read4]
  rfl

theorem kernel7 (c : Dev nD) : (dats m (ok m) 0 c).arrAt 7 (cfgM m (ok m)).N = means (arr0 m c) (arr2 m c) (arr3 m c) (arr4 m c) := by
  refine (dats m (ok m) 0 c).arrAt_eq_of_covers 7 _ (by decide +kernel : ((cfg0 zeros).win 7).Covers) fun t hf y => ?_
  obtain ⟨r, j, rfl⟩ : ∃ (r : Fin 128) (j : Fin 1024), y = (ix2 r j : S128x1024.Idx) := ⟨_, _, eq_ix2 y⟩
  have e : (((cfgM m (ok m)).win 7).blk t).view.emb (ix2 r j : S128x1024.Idx) = (ix2 ⟨t.val % 2 * 128 + r.val, by omega⟩ j : S256x1024.Idx) := by
    blk_ext [index7 m t]
  rw [e]
  blk_simp
  rw [after0_7]
  unfold outsAt0
  dsimp only
  refine (congrFun (out7 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay3_apply _ _ _ _ _ r j).trans ?_
  rw [pay2_block m c t r j, read3]
  rfl

theorem kernel8 (c : Dev nD) : (dats m (ok m) 0 c).arrAt 8 (cfgM m (ok m)).N = meanSqs (arr0 m c) (arr2 m c) (arr3 m c) (arr5 m c) := by
  refine (dats m (ok m) 0 c).arrAt_eq_of_covers 8 _ (by decide +kernel : ((cfg0 zeros).win 8).Covers) fun t hf y => ?_
  obtain ⟨r, j, rfl⟩ : ∃ (r : Fin 128) (j : Fin 1024), y = (ix2 r j : S128x1024.Idx) := ⟨_, _, eq_ix2 y⟩
  have e : (((cfgM m (ok m)).win 8).blk t).view.emb (ix2 r j : S128x1024.Idx) = (ix2 ⟨t.val % 2 * 128 + r.val, by omega⟩ j : S256x1024.Idx) := by
    blk_ext [index8 m t]
  rw [e]
  blk_simp
  rw [after0_8]
  unfold outsAt0
  dsimp only
  refine (congrFun (out8 c (grid0.coords t) _ _ _ _ _ _ _ _ _ _ _ _ _ _ _ _ _ _ (iblk m (ok m) c 0 t) (iblk m (ok m) c 1 t)
    (iblk m (ok m) c 2 t) (iblk m (ok m) c 3 t) (iblk m (ok m) c 4 t) (tbl m 0)) (ix2 r j)).trans ?_
  refine (pay4_apply _ _ _ _ _ r j).trans ?_
  rw [pay2_block m c t r j, read4]
  rfl

end Kernel

section Reference

open Cert.Reference27Ideal

variable (m : (ℓ : Loc nD τ sig) → Buf (Elt Ideal) ℓ)

/-- The reference ends with the gradient, the changes, the next moments, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v6) = gradient (m ((c.tc : Thread nD τ).loc main_arg0)) (m ((c.tc : Thread nD τ).loc main_arg2)) (m ((c.tc : Thread nD τ).loc main_arg3))
      ∧ r.2.mem ((c.tc : Thread nD τ).loc main_v30) = changes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = means (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v17) = meanSqs (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h⟩ := h c
    refine ⟨h0.trans (funext fun i => ?_), h1.trans (funext fun i => ?_), h2.trans (funext fun i => ?_), h3.trans (funext fun i => ?_), h⟩
    · clear h0 h1 h2 h3 h
      generalize (m ((c.tc : Thread nD τ).loc main_arg0)) = a0
      generalize (m ((c.tc : Thread nD τ).loc main_arg2)) = a2
      generalize (m ((c.tc : Thread nD τ).loc main_arg3)) = a3
      obtain ⟨r, j, rfl⟩ : ∃ (r : Fin 256) (j : Fin 1024), i = (ix2 r j : S256x1024.Idx) := ⟨_, _, eq_ix2 i⟩
      pointwise
      by_cases hr : r.val < 128
      · simp only [dif_pos hr]
        exact (congrArg (fun g => g) (gradient_low a0 a2 a3 r j hr)).symm
      · simp only [dif_neg hr]
        exact (congrArg (fun g => g) (gradient_high a0 a2 a3 r j hr)).symm
    · clear h0 h1 h2 h3 h
      generalize (m ((c.tc : Thread nD τ).loc main_arg0)) = a0
      generalize (m ((c.tc : Thread nD τ).loc main_arg1)) = a1
      generalize (m ((c.tc : Thread nD τ).loc main_arg2)) = a2
      generalize (m ((c.tc : Thread nD τ).loc main_arg3)) = a3
      generalize (m ((c.tc : Thread nD τ).loc main_arg4)) = a4
      generalize (m ((c.tc : Thread nD τ).loc main_arg5)) = a5
      obtain ⟨r, j, rfl⟩ : ∃ (r : Fin 256) (j : Fin 1024), i = (ix2 r j : S256x1024.Idx) := ⟨_, _, eq_ix2 i⟩
      pointwise
      by_cases hr : r.val < 128
      · simp only [dif_pos hr]
        exact (congrArg (fun g => change (a1 (ix2 r j)) g (a4 (ix2 r j)) (a5 (ix2 r j))) (gradient_low a0 a2 a3 r j hr)).symm
      · simp only [dif_neg hr]
        exact (congrArg (fun g => change (a1 (ix2 r j)) g (a4 (ix2 r j)) (a5 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg4)) = a4
      obtain ⟨r, j, rfl⟩ : ∃ (r : Fin 256) (j : Fin 1024), i = (ix2 r j : S256x1024.Idx) := ⟨_, _, eq_ix2 i⟩
      pointwise
      by_cases hr : r.val < 128
      · simp only [dif_pos hr]
        exact (congrArg (fun g => mean g (a4 (ix2 r j))) (gradient_low a0 a2 a3 r j hr)).symm
      · simp only [dif_neg hr]
        exact (congrArg (fun g => mean g (a4 (ix2 r j))) (gradient_high a0 a2 a3 r j hr)).symm
    · clear h0 h1 h2 h3 h
      generalize (m ((c.tc : Thread nD τ).loc main_arg0)) = a0
      generalize (m ((c.tc : Thread nD τ).loc main_arg2)) = a2
      generalize (m ((c.tc : Thread nD τ).loc main_arg3)) = a3
      generalize (m ((c.tc : Thread nD τ).loc main_arg5)) = a5
      obtain ⟨r, j, rfl⟩ : ∃ (r : Fin 256) (j : Fin 1024), i = (ix2 r j : S256x1024.Idx) := ⟨_, _, eq_ix2 i⟩
      pointwise
      by_cases hr : r.val < 128
      · simp only [dif_pos hr]
        exact (congrArg (fun g => meanSq g (a5 (ix2 r j))) (gradient_low a0 a2 a3 r j hr)).symm
      · simp only [dif_neg hr]
        exact (congrArg (fun g => meanSq g (a5 (ix2 r j))) (gradient_high a0 a2 a3 r j hr)).symm)
    (Value.run m ρ)

end Reference

section Run

open Cert.Kernel27Ideal Cert.Kernel27Ideal.Gen

variable (m : (ℓ : Loc nD τ sig) → Buf (Elt Ideal) ℓ)

/-- The kernel ends with its outputs' blocks put together, and its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0_0) = (dats m (ok m) 0 c).arrAt 5 (cfgM m (ok m)).N
      ∧ r.2.mem ((c.tc : Thread nD τ).loc main_v0_1) = (dats m (ok m) 0 c).arrAt 6 (cfgM m (ok m)).N
      ∧ r.2.mem ((c.tc : Thread nD τ).loc main_v0_2) = (dats m (ok m) 0 c).arrAt 7 (cfgM m (ok m)).N
      ∧ r.2.mem ((c.tc : Thread nD τ).loc main_v0_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Run

/-- From arguments that agree, the kernel's results are the reference's. -/
theorem algebraic : algebraic_Kernel27Ideal_Reference27Ideal (hKernel27Ideal := Cert.Kernel27Ideal.Gen.facts) (hReference27Ideal := Cert.Reference27Ideal.Gen.facts) := by
  intro m g m' g' _ hagree
  refine ⟨fun c => (Cert.Kernel27Ideal.Gen.dats m (ok m) 0 c).arrAt 5 (Cert.Kernel27Ideal.Gen.cfgM m (ok m)).N, fun c => (Cert.Kernel27Ideal.Gen.dats m (ok m) 0 c).arrAt 6 (Cert.Kernel27Ideal.Gen.cfgM m (ok m)).N, fun c => (Cert.Kernel27Ideal.Gen.dats m (ok m) 0 c).arrAt 7 (Cert.Kernel27Ideal.Gen.cfgM m (ok m)).N, fun c => (Cert.Kernel27Ideal.Gen.dats m (ok m) 0 c).arrAt 8 (Cert.Kernel27Ideal.Gen.cfgM m (ok m)).N,
    (θ_run _ _ _).mono (fun r h c => ?_) (kernel_run m g),
    (θ_run _ _ _).mono (fun r h c => ?_) (reference_run m' g')⟩
  · exact h c
  · obtain ⟨h0, h1, h2, h3, h⟩ := h c
    obtain ⟨a0, a1, a2, a3, a4, a5⟩ := hagree c
    refine ⟨h0.trans ?_, h1.trans ?_, h2.trans ?_, h3.trans ?_, h⟩
    · rw [a0, a2, a3]
      exact (kernel5 m c).symm
    · rw [a0, a1, a2, a3, a4, a5]
      exact (kernel6 m c).symm
    · rw [a0, a2, a3, a4]
      exact (kernel7 m c).symm
    · rw [a0, a2, a3, a5]
      exact (kernel8 m c).symm

end Cert.AdamOut

end
-- ==== Proof.SmallSums.lean ====
/- The sum over the eight devices of the vectors' gradients and the loss. -/
module

public import Idealize.ShloMosaic.Lib.KernelVsHost
public import proofs.«01_k».proof.Proof.RowSums
public import proofs.«01_k».proof.Proof.Gen.Kernel28Ideal.Value
public import proofs.«01_k».proof.Proof.Gen.Reference28Ideal.Run
public import proofs.«01_k».proof.Defs

@[expose] public section

set_option maxRecDepth 16384

noncomputable section

namespace Cert.SmallSums

open Idealize.ShloMosaic Idealize.ShloMosaic.TcCoe Idealize.SL.Sem Cert.RowSums

section Kernel

open Cert.Kernel28Ideal Cert.Kernel28Ideal.Gen

/-- Every column's sum over the eight rows. -/
def total (x : S8x17408.Idx → EReal) (i : S1x17408.Idx) : EReal := ∑ k : Fin 8, x (ix2 k (i 1))

theorem total_apply (x0 : S8x17408.Idx → EReal) (r : Fin 1) (j : Fin 17408) : out0_1 (F := Ideal) x0 (ix2 r j) = ∑ k : Fin 8, x0 (ix2 k j) := by
  refine congrFun (?_ : _ = fun y : S1x17408.Idx => ∑ k : Fin 8, x0 (ix2 k (y 1))) (ix2 r j)
  funext y
  unfold out0_1
  canon_tiles x e
  obtain ⟨r, j, rfl⟩ : ∃ (r : Fin 1) (j : Fin 17408), x = (ix2 r j : S1x17408.Idx) := ⟨_, _, eq_ix2 x⟩
  rw [idx_eq y r j e0 e1]
  pointwise [k0_pay1, View.ld]
  rw [Fin.sum_univ_eight]

variable (m : (ℓ : Loc nD τ sig) → Buf (Elt Ideal) ℓ)

abbrev arr0 (c : Dev nD) : S8x17408.Idx → EReal := m ((c.tc : Thread nD τ).loc main_arg0)

theorem index0 : ∀ t : Fin grid0.N, win0_0.index t = ![0, 0] := by decide +kernel
theorem index1 : ∀ t : Fin grid0.N, win0_1.index t = ![0, 0] := by decide +kernel

theorem read0 (c : Dev nD) (t : Fin cfg0.N) (r : Fin 8) (k : Fin 17408) : iblk m c 0 t (ix2 r k : S8x17408.Idx) = arr0 m c (ix2 r k) := by
  blk_ext [iblk, V, index0 t]

theorem kernel1 (c : Dev nD) : (dats m 0 c).arrAt 1 cfg0.N = total (arr0 m c) := by
  refine (dats m 0 c).arrAt_eq_of_covers 1 _ (by decide +kernel) fun t hf y => ?_
  obtain ⟨r, j, rfl⟩ : ∃ (r : Fin 1) (j : Fin 17408), y = (ix2 r j : S1x17408.Idx) := ⟨_, _, eq_ix2 y⟩
  have e : ((cfg0.win 1).blk t).view.emb (ix2 r j : S1x17408.Idx) = (ix2 r j : S1x17408.Idx) := by
    blk_ext [index1 t]
  rw [e]
  blk_simp
  rw [after0_1]
  refine (total_apply (iblk m c 0 t) r j).trans ?_
  simp only [read0]
  rfl

end Kernel

section Reference

open Cert.Reference28Ideal

variable (m : (ℓ : Loc nD τ sig) → Buf (Elt Ideal) ℓ)

/-- The reference ends with the sums, and its argument as it was. -/
theorem reference_run (ρ : Dev nD → PrngReg) :
    θ_run defs (onTc (τ := τ) (main (F := Ideal))) ⟨m, fun _ => 0, ρ⟩ fun r => ∀ c : Dev nD,
      r.2.mem ((c.tc : Thread nD τ).loc main_v1) = total (m ((c.tc : Thread nD τ).loc main_arg0))
      ∧ r.2.mem ((c.tc : Thread nD τ).loc main_arg0) = m ((c.tc : Thread nD τ).loc main_arg0) :=
  (θ_run defs _ _).mono (fun r h c => by
    obtain ⟨h0, h⟩ := h c
    refine ⟨h0.trans (funext fun i => ?_), h⟩
    · clear h0 h
      generalize (m ((c.tc : Thread nD τ).loc main_arg0)) = a0
      obtain ⟨r, j, rfl⟩ : ∃ (r : Fin 1) (j : Fin 17408), i = (ix2 r j : S1x17408.Idx) := ⟨_, _, eq_ix2 i⟩
      pointwise
      rfl)
    (Value.run m ρ)

end Reference

/-- From arguments that agree, the kernel's results are the reference's. -/
theorem algebraic : algebraic_Kernel28Ideal_Reference28Ideal (hKernel28Ideal := Cert.Kernel28Ideal.Gen.facts) (hReference28Ideal := Cert.Reference28Ideal.Gen.facts) := by
  intro m g m' g' _ hagree
  refine ⟨fun c => (Cert.Kernel28Ideal.Gen.dats m 0 c).arrAt 1 Cert.Kernel28Ideal.cfg0.N,
    (θ_run _ _ _).mono (fun r h c => ?_) (Cert.Kernel28Ideal.Value.run_blocks m g),
    (θ_run _ _ _).mono (fun r h c => ?_) (reference_run m' g')⟩
  · exact h c
  · obtain ⟨h0, h⟩ := h c
    have a0 := hagree c
    refine ⟨h0.trans ?_, h⟩
    · rw [a0]
      exact (kernel1 m c).symm

end Cert.SmallSums

end
-- ==== Proof.SumTables.lean ====
/- A word that a precondition keeps between 0 and a bound. -/
module

public import Idealize.ShloMosaic.Lib.KernelVsHost
public import Idealize.ShloMosaic.Lib.Affine
public import Idealize.ShloMosaic.Lib.WordCmp

@[expose] public section

namespace Cert.SumTables

open Idealize.ShloMosaic

/-- A bit that is the conjunction of two is set only when both are. -/
theorem both {a b : BitVec 1} (h : IntOp.andi a b = 1#1) : a = 1#1 ∧ b = 1#1 := by
  revert a b
  decide

/-- A signed word that is at least 0 and below `k` is one of the `k` numbers. -/
theorem below {k : ℕ} (hk : k < 2 ^ 31) {w : BitVec 32} (h : IntOp.andi (IntOp.cmpi .sge w 0#32) (IntOp.cmpi .slt w (BitVec.ofNat 32 k)) = 1#1) :
    ∃ n : Fin k, w = BitVec.ofNat 32 n.val := by
  obtain ⟨h0, h1⟩ := both h
  have bit : ∀ b : Bool, BitVec.ofBool b = 1#1 → b = true := by decide
  have e0 := of_decide_eq_true (bit _ ((WordCmp.cmpi_sge_eq w 0#32).symm.trans h0))
  have e1 := of_decide_eq_true (bit _ ((WordCmp.cmpi_slt_eq w _).symm.trans h1))
  have hw := w.isLt
  simp only [BitVec.toInt_eq_toNat_cond, BitVec.toNat_ofNat] at e0 e1
  refine ⟨⟨w.toNat, ?_⟩, BitVec.eq_of_toNat_eq (by simp)⟩
  rw [Nat.mod_eq_of_lt (by omega : k < 2 ^ 32)] at e1
  split_ifs at e0 e1 <;> omega

end Cert.SumTables
-- ==== Proof.PairSum.lean ====
/- The sum over the two cores of the mixing layer's input weights' gradient: this core's half of the rows. -/
module

public import Idealize.ShloMosaic.Lib.KernelVsHost
public import Idealize.ShloMosaic.Lib.Pipeline.ValueKit
public import proofs.«01_k».proof.Proof.AdamHalves
public import proofs.«01_k».proof.Proof.SumTables
public import proofs.«01_k».proof.Proof.Gen.Kernel29.Frame
public import proofs.«01_k».proof.Proof.Gen.Kernel29Ideal.Frame
public import proofs.«01_k».proof.Proof.Gen.Reference29Ideal.Run
public import proofs.«01_k».proof.Defs

@[expose] public section

set_option maxRecDepth 16384

noncomputable section

namespace Cert.PairSum

open Idealize.ShloMosaic Idealize.ShloMosaic.TcCoe Idealize.SL.Sem Cert.AdamHalves Cert.SumTables

section Precondition

open Cert.Pre_a_core

/-- The side conditions of the precondition's operations. -/
theorem pre_facts : Cert.Pre_a_core.Facts where
  bcast_S_S1 := by decide

theorem one (i j : S1.Idx) : i = j := funext fun a => by fin_cases a; exact Subsingleton.elim (α := Fin 1) _ _

/-- The precondition keeps the core's number below two. -/
theorem core_below [Facts] {F : FTy → Type} [FloatOps F] {x : IVec S1 32} {g : FVec F S4x2x512x1280 .bf16} {v : FVec F S4x512x1280 .bf16}
    (h : fn (F := F) x g v = fun _ => 1#1) : ∃ n : Fin 2, x = fun _ => BitVec.ofNat 32 n.val := by
  obtain ⟨n, hn⟩ := below (k := 2) (by decide) (congrFun h (ix1 0))
  exact ⟨n, funext fun i => (congrArg x (one i _)).trans hn⟩

end Precondition

section Bits

open Cert.Kernel29 Cert.Kernel29.Gen

/-- The table that holds one word. -/
def tableBits (n : Fin 2) : pre0.Contents (Elt Bits) := fun | 0 => (fun _ => BitVec.ofNat 32 n.val : S1.Idx → BitVec 32)

/-- With the core's number below two, every block the table names lies inside its array. -/
theorem okBits [Cert.Pre_a_core.Facts] (m : (ℓ : Loc nD τ sig) → Buf (Elt Bits) ℓ) (h : Pre_Kernel29 m) : Ok m := by
  obtain ⟨n, hn⟩ := core_below (h 0)
  have e : tbl m = tableBits n := funext fun | 0 => hn
  show ok0 (tbl m)
  rw [e]
  exact (by decide +kernel : ∀ n, ok0 (tableBits n)) n

end Bits

section Kernel

open Cert.Kernel29Ideal Cert.Kernel29Ideal.Gen

/-- The core's half of the gradient and what the other core sent, added. -/
def total (n : Fin 2) (g : S4x2x512x1280.Idx → EReal) (v : S4x512x1280.Idx → EReal) (i : S4x512x1280.Idx) : EReal :=
  g (ix4 (i 0) n (i 1) (i 2)) + v i

theorem entry (y : S1x512x1280.Idx) : ∃ (r : Fin 512) (j : Fin 1280), y = ix3 0 r j :=
  ⟨_, _, (eq_ix3 y).trans (congrArg (fun z => ix3 z (y 1) (y 2)) (Subsingleton.elim (α := Fin 1) _ _))⟩

theorem pay1_apply (x : S1x1x512x1280.Idx → EReal) (y : S1x512x1280.Idx → EReal) (r : Fin 512) (k : Fin 1280) :
    k0_pay1 (F := Ideal) x y (ix3 0 r k) = x (ix4 0 0 r k) + y (ix3 0 r k) := by
  pointwise [k0_pay1]

theorem zero3 : (![0, 0, 0] : Fin 3 → ℕ) = fun _ => 0 := by funext a; fin_cases a <;> rfl
theorem zero4 : (![0, 0, 0, 0] : Fin 4 → ℕ) = fun _ => 0 := by funext a; fin_cases a <;> rfl

/-- What the body leaves in the output's block. -/
theorem out2 (c : Dev nD) (i : grid0.Coords) (a3 : Memref sig .tc .vmem S1x1x512x1280 .bf16) (h3 : a3.IsWhole) (a4 : Memref sig .tc .vmem S1x512x1280 .bf16) (h4 : a4.IsWhole)
    (a5 : Memref sig .tc .vmem S1x512x1280 .bf16) (h5 : a5.IsWhole) (x0 : Vec Ideal S1x1x512x1280 .bf16) (x1 : Vec Ideal S1x512x1280 .bf16) (w : TbBuf0 (F := Ideal) c tbM0_0) :
    out0_A_2 c i a3 h3 a4 h4 a5 h5 x0 x1 w = k0_pay1 (F := Ideal) x0 x1 := by
  unfold out0_A_2
  rw [View.read_writes_eq_canon _ _ _ (cover0_A_2 c i a3 h3 a4 h4 a5 h5 x0 x1 w)]
  unfold kernelRun0_A
  dsimp only
  rw [View.canon_unit_zero zero3]
  simp only [View.readAt_eq_ld, h3.read_unread, h4.read_unread, View.ld_unit_zero (S := S1x1x512x1280) zero4, View.ld_unit_zero (S := S1x512x1280) zero3]

variable (m : (ℓ : Loc nD τ sig) → Buf (Elt Ideal) ℓ)

abbrev arr0 (c : Dev nD) : S1.Idx → BitVec 32 := m ((c.tc : Thread nD τ).loc main_arg0)
abbrev arr1 (c : Dev nD) : S4x2x512x1280.Idx → EReal := m ((c.tc : Thread nD τ).loc main_arg1)
abbrev arr2 (c : Dev nD) : S4x512x1280.Idx → EReal := m ((c.tc : Thread nD τ).loc main_arg2)

/-- The table that holds one word. -/
def table (n : Fin 2) : pre0.Contents (Elt Ideal) := fun | 0 => (fun _ => BitVec.ofNat 32 n.val : S1.Idx → BitVec 32)

theorem table_ok : ∀ n, ok0 (table n) := by decide +kernel

variable (n : Fin 2) (hn : arr0 m 0 = fun _ => BitVec.ofNat 32 n.val)
include hn

theorem table_eq : tbl m = table n := funext fun | 0 => hn

/-- With the core's number below two, every block the table names lies inside its array. -/
theorem ok : Ok m := by
  show ok0 (tbl m)
  rw [table_eq m n hn]
  exact table_ok n

theorem index0 (t : Fin grid0.N) : ((cfgM m (ok m n hn)).win 0).index t = ![t.val, n.val, 0, 0] := by
  show cc0_transform_0 _ _ (tbl m) (grid0.coords t) = _
  rw [table_eq m n hn]
  exact (by decide +kernel : ∀ (n : Fin 2) (t : Fin grid0.N), cc0_transform_0 inb_S1_S1_0 numel1_S1 (table n) (grid0.coords t) = ![t.val, n.val, 0, 0]) n t
theorem index1 (t : Fin grid0.N) : ((cfgM m (ok m n hn)).win 1).index t = ![t.val, 0, 0] :=
  (by decide +kernel : ∀ t : Fin grid0.N, cc0_transform_1 (grid0.coords t) = ![t.val, 0, 0]) t
theorem index2 (t : Fin grid0.N) : ((cfgM m (ok m n hn)).win 2).index t = ![t.val, 0, 0] :=
  (by decide +kernel : ∀ t : Fin grid0.N, cc0_transform_2 (grid0.coords t) = ![t.val, 0, 0]) t

theorem read0 (c : Dev nD) (t : Fin grid0.N) (r : Fin 512) (k : Fin 1280) :
    iblk m (ok m n hn) c 0 t (ix4 0 0 r k : S1x1x512x1280.Idx) = arr1 m c (ix4 t n r k : S4x2x512x1280.Idx) := by
  blk_ext [iblk, V, index0 m n hn t]

theorem read1 (c : Dev nD) (t : Fin grid0.N) (r : Fin 512) (k : Fin 1280) :
    iblk m (ok m n hn) c 1 t (ix3 0 r k : S1x512x1280.Idx) = arr2 m c (ix3 t r k : S4x512x1280.Idx) := by
  blk_ext [iblk, V, index1 m n hn t]

theorem kernel_out (c : Dev nD) : (dats m (ok m n hn) 0 c).arrAt 2 (cfgM m (ok m n hn)).N = total n (arr1 m c) (arr2 m c) := by
  refine (dats m (ok m n hn) 0 c).arrAt_eq_of_covers 2 _ (by decide +kernel : ((cfg0 ⟨table 0, table_ok 0⟩).win 2).Covers) fun t hf y => ?_
  obtain ⟨r, j, rfl⟩ := entry y
  have e : (((cfgM m (ok m n hn)).win 2).blk t).view.emb (ix3 0 r j : S1x512x1280.Idx) = (ix3 (t : Fin grid0.N) r j : S4x512x1280.Idx) := by
    blk_ext [index2 m n hn t]
  rw [e]
  blk_simp
  rw [after0_2]
  unfold outsAt0
  dsimp only
  refine (congrFun (out2 c (grid0.coords t) _ _ _ _ _ _ (iblk m (ok m n hn) c 0 t) (iblk m (ok m n hn) c 1 t) (tbl m 0)) (ix3 0 r j)).trans ?_
  refine (pay1_apply _ _ r j).trans ?_
  rw [read0 m n hn, read1 m n hn]
  rfl

end Kernel

section Reference

open Cert.Reference29Ideal

variable (m : (ℓ : Loc nD τ sig) → Buf (Elt Ideal) ℓ) (n : Fin 2) (hn : ∀ c : Dev nD, m ((c.tc : Thread nD τ).loc main_arg0) = (fun _ => BitVec.ofNat 32 n.val : S1.Idx → BitVec 32))
include hn

/-- The reference ends with the same sums, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v10) = total n (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h⟩ := h c
    refine ⟨h0.trans (funext fun i => ?_), h⟩
    rw [hn c]
    clear h0 h
    generalize (m ((c.tc : Thread nD τ).loc main_arg1)) = g
    generalize (m ((c.tc : Thread nD τ).loc main_arg2)) = v
    obtain ⟨a, r, j, rfl⟩ : ∃ (a : Fin 4) (r : Fin 512) (j : Fin 1280), i = (ix3 a r j : S4x512x1280.Idx) := ⟨_, _, _, eq_ix3 i⟩
    fin_cases n
    · pointwise
      rfl
    · pointwise
      rfl)
    (Value.run m ρ)

end Reference

section Run

open Cert.Kernel29Ideal Cert.Kernel29Ideal.Gen

variable (m : (ℓ : Loc nD τ sig) → Buf (Elt Ideal) ℓ)

theorem okIdeal [Cert.Pre_a_core.Facts] (h : Pre_Kernel29Ideal m) : Ok m := by
  obtain ⟨n, hn⟩ := core_below (h 0)
  exact ok m n hn

/-- The kernel ends with its output's blocks put together, and its arguments as they were. -/
theorem kernel_run (hO : Ok m) (ρ : Dev nD → PrngReg) :
    θ_run defs (onTc (τ := τ) (main (F := Ideal))) ⟨m, fun _ => 0, ρ⟩ fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1 2,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
    (run_main m ρ hO)

end Run

/-- With the core's number below two, from arguments that agree, the kernel's result is the reference's. -/
theorem algebraic [Cert.Pre_a_core.Facts] : algebraic_Kernel29Ideal_Reference29Ideal
    (hKernel29Ideal := Cert.Kernel29Ideal.Gen.facts) (hReference29Ideal := Cert.Reference29Ideal.Gen.facts) := by
  intro m g m' g' hpre hagree
  obtain ⟨n, hn⟩ := core_below (hpre 0)
  have hn' : ∀ c : Dev Cert.Kernel29Ideal.nD, m' ((c.tc : Thread Cert.Reference29Ideal.nD Cert.Reference29Ideal.τ).loc Cert.Reference29Ideal.main_arg0)
      = (fun _ => BitVec.ofNat 32 n.val : Cert.Reference29Ideal.S1.Idx → BitVec 32) := fun c => by
    obtain rfl : c = 0 := Subsingleton.elim _ _
    exact (hagree 0).1.trans hn
  refine ⟨fun c => (Cert.Kernel29Ideal.Gen.dats m (ok m n hn) 0 c).arrAt 2 (Cert.Kernel29Ideal.Gen.cfgM m (ok m n hn)).N,
    (θ_run _ _ _).mono (fun r h c => ?_) (kernel_run m (ok m n hn) g),
    (θ_run _ _ _).mono (fun r h c => ?_) (reference_run m' n hn' g')⟩
  · exact h c
  · obtain ⟨h0, h⟩ := h c
    obtain ⟨a0, a1, a2⟩ := hagree c
    refine ⟨h0.trans ?_, h⟩
    rw [a1, a2]
    exact (kernel_out m n hn c).symm

end Cert.PairSum

end
-- ==== Proof.ChipSum.lean ====
/- The sum over the four chips of the mixing layer's input weights' gradient. -/
module

public import Idealize.ShloMosaic.Lib.KernelVsHost
public import Idealize.ShloMosaic.Lib.Pipeline.ValueKit
public import proofs.«01_k».proof.Proof.AdamHalves
public import proofs.«01_k».proof.Proof.SumTables
public import proofs.«01_k».proof.Proof.Gen.Kernel30.Frame
public import proofs.«01_k».proof.Proof.Gen.Kernel30Ideal.Frame
public import proofs.«01_k».proof.Proof.Gen.Reference30Ideal.Run
public import proofs.«01_k».proof.Defs

@[expose] public section

set_option maxRecDepth 16384

noncomputable section

namespace Cert.ChipSum

open Idealize.ShloMosaic Idealize.ShloMosaic.TcCoe Idealize.SL.Sem Cert.AdamHalves Cert.SumTables

section Precondition

open Cert.Pre_a_chip

/-- The side conditions of the precondition's operations. -/
theorem pre_facts : Cert.Pre_a_chip.Facts where
  bcast_S_S1 := by decide

theorem one (i j : S1.Idx) : i = j := funext fun a => by fin_cases a; exact Subsingleton.elim (α := Fin 1) _ _

/-- The precondition keeps the chip's number below four. -/
theorem chip_below [Facts] {F : FTy → Type} [FloatOps F] {x : IVec S1 32} {g v : FVec F S4x512x1280 .bf16}
    (h : fn (F := F) x g v = fun _ => 1#1) : ∃ n : Fin 4, x = fun _ => BitVec.ofNat 32 n.val := by
  obtain ⟨n, hn⟩ := below (k := 4) (by decide) (congrFun h (ix1 0))
  exact ⟨n, funext fun i => (congrArg x (one i _)).trans hn⟩

end Precondition

section Bits

open Cert.Kernel30 Cert.Kernel30.Gen

/-- The table that holds one word. -/
def tableBits (n : Fin 4) : pre0.Contents (Elt Bits) := fun | 0 => (fun _ => BitVec.ofNat 32 n.val : S1.Idx → BitVec 32)

/-- With the chip's number below four, every block the table names lies inside its array. -/
theorem okBits [Cert.Pre_a_chip.Facts] (m : (ℓ : Loc nD τ sig) → Buf (Elt Bits) ℓ) (h : Pre_Kernel30 m) : Ok m := by
  obtain ⟨n, hn⟩ := chip_below (h 0)
  have e : tbl m = tableBits n := funext fun | 0 => hn
  show ok0 (tbl m)
  rw [e]
  exact (by decide +kernel : ∀ n, ok0 (tableBits n)) n

end Bits

section Kernel

open Cert.Kernel30Ideal Cert.Kernel30Ideal.Gen

/-- The chips' gradients added: this chip's own, and what came from each of the others. -/
def total (n : Fin 4) (came part : S4x512x1280.Idx → EReal) (i : S512x1280.Idx) : EReal :=
  ∑ k : Fin 4, if k = n then part (ix3 k (i 0) (i 1)) else came (ix3 k (i 0) (i 1))

theorem pay_apply (n : Fin 4) {v : BitVec 32} (hv : v = BitVec.ofNat 32 n.val) (y a b c d : S1x512x1280.Idx → EReal) (r : Fin 512) (k : Fin 1280) :
    k0_pay1 (F := Ideal) (k0_pay2 v y c) (k0_pay3 v y d) (k0_pay4 v y a y b) (ix2 r k)
      = (if 0 = n then y (ix3 0 r k) else a (ix3 0 r k)) + (if 1 = n then y (ix3 0 r k) else b (ix3 0 r k))
        + (if 2 = n then y (ix3 0 r k) else c (ix3 0 r k)) + (if 3 = n then y (ix3 0 r k) else d (ix3 0 r k)) := by
  subst hv
  fin_cases n <;> pointwise [k0_pay1, k0_pay2, k0_pay3, k0_pay4] <;> rfl

theorem zero3 : (![0, 0, 0] : Fin 3 → ℕ) = fun _ => 0 := by funext a; fin_cases a <;> rfl

/-- The word loaded from the one-word table. -/
theorem word (c : Dev nD) (w : TbBuf0 (F := Ideal) c tbM0_0) (p) : View.readAt (Elt Ideal) tbM0_0.view (Rect.unit ![0] S1.size inb_S1_S1_0).toLoadRect w (Shape.Idx.first p)
    = w (ix1 (0 : Fin 1) : S1.Idx) := congrArg w (one _ _)

/-- What the body leaves in the output's block. -/
theorem out2 (c : Dev nD) (i : grid0.Coords) (a2 : Memref sig .tc .vmem S4x512x1280 .bf16) (h2 : a2.IsWhole) (a3 : Memref sig .tc .vmem S1x512x1280 .bf16) (h3 : a3.IsWhole)
    (a4 : Memref sig .tc .vmem S512x1280 .f32) (h4 : a4.IsWhole) (x0 : Vec Ideal S4x512x1280 .bf16) (x1 : Vec Ideal S1x512x1280 .bf16) (w : TbBuf0 (F := Ideal) c tbM0_0)
    (n : Fin 4) (hw : w (ix1 (0 : Fin 1) : S1.Idx) = BitVec.ofNat 32 n.val) (r : Fin 512) (k : Fin 1280) :
    out0_A_2 c i a2 h2 a3 h3 a4 h4 x0 x1 w (ix2 r k) = ∑ q : Fin 4, if q = n then x1 (ix3 0 r k) else x0 (ix3 q r k) := by
  unfold out0_A_2
  rw [View.read_writes_eq_canon _ _ _ (cover0_A_2 c i a2 h2 a3 h3 a4 h4 x0 x1 w)]
  unfold kernelRun0_A
  dsimp only
  rw [View.canon_unit_zero zero2]
  sl_unfold_words
  simp only [View.readAt_eq_ld, h2.read_unread, h3.read_unread, View.ld_unit_zero (S := S1x512x1280) zero3]
  refine (pay_apply n ((word c w _).trans hw) _ _ _ _ _ r k).trans ?_
  rw [Fin.sum_univ_four]
  pointwise [View.ld]

variable (m : (ℓ : Loc nD τ sig) → Buf (Elt Ideal) ℓ)

abbrev arr0 (c : Dev nD) : S1.Idx → BitVec 32 := m ((c.tc : Thread nD τ).loc main_arg0)
abbrev arr1 (c : Dev nD) : S4x512x1280.Idx → EReal := m ((c.tc : Thread nD τ).loc main_arg1)
abbrev arr2 (c : Dev nD) : S4x512x1280.Idx → EReal := m ((c.tc : Thread nD τ).loc main_arg2)

/-- The table that holds one word. -/
def table (n : Fin 4) : pre0.Contents (Elt Ideal) := fun | 0 => (fun _ => BitVec.ofNat 32 n.val : S1.Idx → BitVec 32)

theorem table_ok : ∀ n, ok0 (table n) := by decide +kernel

variable (n : Fin 4) (hn : arr0 m 0 = fun _ => BitVec.ofNat 32 n.val)
include hn

theorem table_eq : tbl m = table n := funext fun | 0 => hn

/-- With the chip's number below four, every block the table names lies inside its array. -/
theorem ok : Ok m := by
  show ok0 (tbl m)
  rw [table_eq m n hn]
  exact table_ok n

theorem index0 (t : Fin grid0.N) : ((cfgM m (ok m n hn)).win 0).index t = ![0, 0, 0] :=
  (by decide +kernel : ∀ t : Fin grid0.N, cc0_transform_0 (grid0.coords t) = ![0, 0, 0]) t
theorem index1 (t : Fin grid0.N) : ((cfgM m (ok m n hn)).win 1).index t = ![n.val, 0, 0] := by
  show cc0_transform_1 _ _ (tbl m) (grid0.coords t) = _
  rw [table_eq m n hn]
  exact (by decide +kernel : ∀ (n : Fin 4) (t : Fin grid0.N), cc0_transform_1 inb_S1_S1_0 numel1_S1 (table n) (grid0.coords t) = ![n.val, 0, 0]) n t
theorem index2 (t : Fin grid0.N) : ((cfgM m (ok m n hn)).win 2).index t = ![0, 0] :=
  (by decide +kernel : ∀ t : Fin grid0.N, cc0_transform_2 (grid0.coords t) = ![0, 0]) t

theorem read0 (c : Dev nD) (t : Fin grid0.N) (q : Fin 4) (r : Fin 512) (k : Fin 1280) :
    iblk m (ok m n hn) c 0 t (ix3 q r k : S4x512x1280.Idx) = arr1 m c (ix3 q r k : S4x512x1280.Idx) := by
  blk_ext [iblk, V, index0 m n hn t]

theorem read1 (c : Dev nD) (t : Fin grid0.N) (r : Fin 512) (k : Fin 1280) :
    iblk m (ok m n hn) c 1 t (ix3 0 r k : S1x512x1280.Idx) = arr2 m c (ix3 n r k : S4x512x1280.Idx) := by
  blk_ext [iblk, V, index1 m n hn t]

theorem kernel_out (c : Dev nD) : (dats m (ok m n hn) 0 c).arrAt 2 (cfgM m (ok m n hn)).N = total n (arr1 m c) (arr2 m c) := by
  refine (dats m (ok m n hn) 0 c).arrAt_eq_of_covers 2 _ (by decide +kernel : ((cfg0 ⟨table 0, table_ok 0⟩).win 2).Covers) fun t hf y => ?_
  obtain ⟨r, j, rfl⟩ : ∃ (r : Fin 512) (j : Fin 1280), y = (ix2 r j : S512x1280.Idx) := ⟨_, _, eq_ix2 y⟩
  have e : (((cfgM m (ok m n hn)).win 2).blk t).view.emb (ix2 r j : S512x1280.Idx) = (ix2 r j : S512x1280.Idx) := by
    blk_ext [index2 m n hn t]
  rw [e]
  blk_simp
  rw [after0_2]
  unfold outsAt0
  dsimp only
  refine (out2 c (grid0.coords t) _ _ _ _ _ _ (iblk m (ok m n hn) c 0 t) (iblk m (ok m n hn) c 1 t) (tbl m 0) n (congrFun hn _) r j).trans ?_
  refine Finset.sum_congr rfl fun q _ => ?_
  rw [read0 m n hn, read1 m n hn]
  split_ifs with hq
  · subst hq
    rfl
  · rfl

end Kernel

section Reference

open Cert.Reference30Ideal

variable (m : (ℓ : Loc nD τ sig) → Buf (Elt Ideal) ℓ) (n : Fin 4) (hn : ∀ c : Dev nD, m ((c.tc : Thread nD τ).loc main_arg0) = (fun _ => BitVec.ofNat 32 n.val : S1.Idx → BitVec 32))
include hn

/-- The reference ends with the same sums, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v7) = total n (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h⟩ := h c
    refine ⟨h0.trans (funext fun i => ?_), h⟩
    rw [hn c]
    clear h0 h
    generalize (m ((c.tc : Thread nD τ).loc main_arg1)) = g
    generalize (m ((c.tc : Thread nD τ).loc main_arg2)) = v
    obtain ⟨r, j, rfl⟩ : ∃ (r : Fin 512) (j : Fin 1280), i = (ix2 r j : S512x1280.Idx) := ⟨_, _, eq_ix2 i⟩
    pointwise
    refine Finset.sum_congr rfl fun q _ => ?_
    fin_cases n <;> fin_cases q <;> rfl)
    (Value.run m ρ)

end Reference

section Run

open Cert.Kernel30Ideal Cert.Kernel30Ideal.Gen

variable (m : (ℓ : Loc nD τ sig) → Buf (Elt Ideal) ℓ)

theorem okIdeal [Cert.Pre_a_chip.Facts] (h : Pre_Kernel30Ideal m) : Ok m := by
  obtain ⟨n, hn⟩ := chip_below (h 0)
  exact ok m n hn

/-- The kernel ends with its output's blocks put together, and its arguments as they were. -/
theorem kernel_run (hO : Ok m) (ρ : Dev nD → PrngReg) :
    θ_run defs (onTc (τ := τ) (main (F := Ideal))) ⟨m, fun _ => 0, ρ⟩ fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1 2,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
    (run_main m ρ hO)

end Run

/-- With the chip's number below four, from arguments that agree, the kernel's result is the reference's. -/
theorem algebraic [Cert.Pre_a_chip.Facts] : algebraic_Kernel30Ideal_Reference30Ideal
    (hKernel30Ideal := Cert.Kernel30Ideal.Gen.facts) (hReference30Ideal := Cert.Reference30Ideal.Gen.facts) := by
  intro m g m' g' hpre hagree
  obtain ⟨n, hn⟩ := chip_below (hpre 0)
  have hn' : ∀ c : Dev Cert.Kernel30Ideal.nD, m' ((c.tc : Thread Cert.Reference30Ideal.nD Cert.Reference30Ideal.τ).loc Cert.Reference30Ideal.main_arg0)
      = (fun _ => BitVec.ofNat 32 n.val : Cert.Reference30Ideal.S1.Idx → BitVec 32) := fun c => by
    obtain rfl : c = 0 := Subsingleton.elim _ _
    exact (hagree 0).1.trans hn
  refine ⟨fun c => (Cert.Kernel30Ideal.Gen.dats m (ok m n hn) 0 c).arrAt 2 (Cert.Kernel30Ideal.Gen.cfgM m (ok m n hn)).N,
    (θ_run _ _ _).mono (fun r h c => ?_) (kernel_run m (ok m n hn) g),
    (θ_run _ _ _).mono (fun r h c => ?_) (reference_run m' n hn' g')⟩
  · exact h c
  · obtain ⟨h0, h⟩ := h c
    obtain ⟨a0, a1, a2⟩ := hagree c
    refine ⟨h0.trans ?_, h⟩
    rw [a1, a2]
    exact (kernel_out m n hn c).symm

end Cert.ChipSum

end
-- ==== Proof.DeviceSum.lean ====
/- The sum over the eight devices of the output layer's weights' gradient. -/
module

public import Idealize.ShloMosaic.Lib.KernelVsHost
public import Idealize.ShloMosaic.Lib.Pipeline.ValueKit
public import proofs.«01_k».proof.Proof.AdamHalves
public import proofs.«01_k».proof.Proof.SumTables
public import proofs.«01_k».proof.Proof.Gen.Kernel31.Frame
public import proofs.«01_k».proof.Proof.Gen.Kernel31Ideal.Frame
public import proofs.«01_k».proof.Proof.Gen.Reference31Ideal.Run
public import proofs.«01_k».proof.Defs

@[expose] public section

set_option maxRecDepth 16384

noncomputable section

namespace Cert.DeviceSum

open Idealize.ShloMosaic Idealize.ShloMosaic.TcCoe Idealize.SL.Sem Cert.AdamHalves Cert.SumTables

section Precondition

open Cert.Pre_a_place

/-- The side conditions of the precondition's operations. -/
theorem pre_facts : Cert.Pre_a_place.Facts where
  bcast_S_S2 := by decide

/-- The two words that number a device: its chip and its core. -/
def words (a : Fin 4) (b : Fin 2) (i : S2.Idx) : BitVec 32 := if (i 0).val = 0 then BitVec.ofNat 32 a.val else BitVec.ofNat 32 b.val

/-- The precondition keeps the chip's number below four and the core's below two. -/
theorem place_below [Facts] {F : FTy → Type} [FloatOps F] {x : IVec S2 32} {g v : FVec F S4x2x128x1024 .bf16}
    (h : fn (F := F) x g v = fun _ => 1#1) : ∃ (a : Fin 4) (b : Fin 2), x = words a b := by
  obtain ⟨a, ha⟩ := below (k := 4) (by decide) (congrFun h (ix1 0))
  obtain ⟨b, hb⟩ := below (k := 2) (by decide) (congrFun h (ix1 1))
  refine ⟨a, b, funext fun i => ?_⟩
  obtain ⟨k, rfl⟩ : ∃ k : Fin 2, i = (ix1 k : S2.Idx) := ⟨_, eq_ix1 i⟩
  fin_cases k
  · exact ha
  · exact hb

end Precondition

section Bits

open Cert.Kernel31 Cert.Kernel31.Gen

/-- The table that holds the two words. -/
def tableBits (a : Fin 4) (b : Fin 2) : pre0.Contents (Elt Bits) := fun | 0 => words a b

/-- With the chip's number below four and the core's below two, every block the table a bames lies inside its array. -/
theorem okBits [Cert.Pre_a_place.Facts] (m : (ℓ : Loc nD τ sig) → Buf (Elt Bits) ℓ) (h : Pre_Kernel31 m) : Ok m := by
  obtain ⟨a, b, hn⟩ := place_below (h 0)
  have e : tbl m = tableBits a b := funext fun | 0 => hn
  show ok0 (tbl m)
  rw [e]
  exact (by decide +kernel : ∀ a b, ok0 (tableBits a b)) a b

end Bits

section Kernel

open Cert.Kernel31Ideal Cert.Kernel31Ideal.Gen

/-- The devices' gradients added: this device's own, and what came from each of the others. -/
def total (a : Fin 4) (b : Fin 2) (came part : S4x2x128x1024.Idx → EReal) (i : S128x1024.Idx) : EReal :=
  ∑ k : Fin 4, ∑ l : Fin 2, if k = a ∧ l = b then part (ix4 k l (i 0) (i 1)) else came (ix4 k l (i 0) (i 1))

theorem pay_apply (a : Fin 4) (b : Fin 2) {p q : BitVec 32} (hp : p = BitVec.ofNat 32 a.val) (hq : q = BitVec.ofNat 32 b.val)
    (y c00 c01 c10 c11 c20 c21 c30 c31 : S1x1x128x1024.Idx → EReal) (r : Fin 128) (k : Fin 1024) :
    k0_pay1 (F := Ideal) (k0_pay4 (k0_pay3 (k0_pay2 p q y c00 p q y c01) (Scalar.andi (Scalar.cmpi .eq p 1#32) (Scalar.cmpi .eq q 0#32)) y c10 p q y c11 p q y c20) p q y c21 p q y c30)
        (Scalar.andi (Scalar.cmpi .eq p 3#32) (Scalar.cmpi .eq q 1#32)) y c31 (ix2 r k)
      = (if ((0 : Fin 4) = a ∧ (0 : Fin 2) = b) then y (ix4 0 0 r k) else c00 (ix4 0 0 r k))
        + (if ((0 : Fin 4) = a ∧ (1 : Fin 2) = b) then y (ix4 0 0 r k) else c01 (ix4 0 0 r k))
        + (if ((1 : Fin 4) = a ∧ (0 : Fin 2) = b) then y (ix4 0 0 r k) else c10 (ix4 0 0 r k))
        + (if ((1 : Fin 4) = a ∧ (1 : Fin 2) = b) then y (ix4 0 0 r k) else c11 (ix4 0 0 r k))
        + (if ((2 : Fin 4) = a ∧ (0 : Fin 2) = b) then y (ix4 0 0 r k) else c20 (ix4 0 0 r k))
        + (if ((2 : Fin 4) = a ∧ (1 : Fin 2) = b) then y (ix4 0 0 r k) else c21 (ix4 0 0 r k))
        + (if ((3 : Fin 4) = a ∧ (0 : Fin 2) = b) then y (ix4 0 0 r k) else c30 (ix4 0 0 r k))
        + (if ((3 : Fin 4) = a ∧ (1 : Fin 2) = b) then y (ix4 0 0 r k) else c31 (ix4 0 0 r k)) := by
  subst hp hq
  fin_cases a <;> fin_cases b <;> pointwise [k0_pay1, k0_pay2, k0_pay3, k0_pay4] <;> rfl

theorem zero4 : (![0, 0, 0, 0] : Fin 4 → ℕ) = fun _ => 0 := by funext a; fin_cases a <;> rfl

/-- The two words loaded from the table. -/
theorem word0 (c : Dev nD) (w : TbBuf0 (F := Ideal) c tbM0_0) (p) : View.readAt (Elt Ideal) tbM0_0.view (Rect.unit (s := S2) ![0] S1.size inb_S2_S1_0).toLoadRect w (Shape.Idx.first p)
    = w (ix1 (0 : Fin 2) : S2.Idx) := congrArg w (funext fun a => by fin_cases a; exact Fin.ext rfl)
theorem word1 (c : Dev nD) (w : TbBuf0 (F := Ideal) c tbM0_0) (p) : View.readAt (Elt Ideal) tbM0_0.view (Rect.unit (s := S2) ![1] S1.size inb_S2_S1_1).toLoadRect w (Shape.Idx.first p)
    = w (ix1 (1 : Fin 2) : S2.Idx) := congrArg w (funext fun a => by fin_cases a; exact Fin.ext rfl)

/-- What the body leaves in the output's block. -/
theorem out2 (c : Dev nD) (i : grid0.Coords) (a2 : Memref sig .tc .vmem S4x2x128x1024 .bf16) (h2 : a2.IsWhole) (a3 : Memref sig .tc .vmem S1x1x128x1024 .bf16) (h3 : a3.IsWhole)
    (a4 : Memref sig .tc .vmem S128x1024 .f32) (h4 : a4.IsWhole) (x0 : Vec Ideal S4x2x128x1024 .bf16) (x1 : Vec Ideal S1x1x128x1024 .bf16) (w : TbBuf0 (F := Ideal) c tbM0_0)
    (a : Fin 4) (b : Fin 2) (hp : w (ix1 (0 : Fin 2) : S2.Idx) = BitVec.ofNat 32 a.val) (hq : w (ix1 (1 : Fin 2) : S2.Idx) = BitVec.ofNat 32 b.val) (r : Fin 128) (k : Fin 1024) :
    out0_A_2 c i a2 h2 a3 h3 a4 h4 x0 x1 w (ix2 r k) = ∑ q : Fin 4, ∑ l : Fin 2, if q = a ∧ l = b then x1 (ix4 0 0 r k) else x0 (ix4 q l r k) := by
  unfold out0_A_2
  rw [View.read_writes_eq_canon _ _ _ (cover0_A_2 c i a2 h2 a3 h3 a4 h4 x0 x1 w)]
  unfold kernelRun0_A
  dsimp only
  rw [View.canon_unit_zero zero2]
  sl_unfold_words
  simp only [View.readAt_eq_ld, h2.read_unread, h3.read_unread, View.ld_unit_zero (S := S1x1x128x1024) zero4]
  refine (pay_apply a b ((word0 c w _).trans hp) ((word1 c w _).trans hq) _ _ _ _ _ _ _ _ _ r k).trans ?_
  simp only [Fin.sum_univ_four, Fin.sum_univ_two, ← add_assoc]
  pointwise [View.ld]

variable (m : (ℓ : Loc nD τ sig) → Buf (Elt Ideal) ℓ)

abbrev arr0 (c : Dev nD) : S2.Idx → BitVec 32 := m ((c.tc : Thread nD τ).loc main_arg0)
abbrev arr1 (c : Dev nD) : S4x2x128x1024.Idx → EReal := m ((c.tc : Thread nD τ).loc main_arg1)
abbrev arr2 (c : Dev nD) : S4x2x128x1024.Idx → EReal := m ((c.tc : Thread nD τ).loc main_arg2)

/-- The table that holds the two words. -/
def table (a : Fin 4) (b : Fin 2) : pre0.Contents (Elt Ideal) := fun | 0 => words a b

theorem table_ok : ∀ a b, ok0 (table a b) := by decide +kernel

variable (a : Fin 4) (b : Fin 2) (hn : arr0 m 0 = words a b)
include hn

theorem table_eq : tbl m = table a b := funext fun | 0 => hn

/-- With the chip's number below four and the core's below two, every block the table a bames lies inside its array. -/
theorem ok : Ok m := by
  show ok0 (tbl m)
  rw [table_eq m a b hn]
  exact table_ok a b

theorem index0 (t : Fin grid0.N) : ((cfgM m (ok m a b hn)).win 0).index t = ![0, 0, 0, 0] :=
  (by decide +kernel : ∀ t : Fin grid0.N, cc0_transform_0 (grid0.coords t) = ![0, 0, 0, 0]) t
theorem index1 (t : Fin grid0.N) : ((cfgM m (ok m a b hn)).win 1).index t = ![a.val, b.val, 0, 0] := by
  show cc0_transform_1 _ _ _ (tbl m) (grid0.coords t) = _
  rw [table_eq m a b hn]
  exact (by decide +kernel : ∀ (a : Fin 4) (b : Fin 2) (t : Fin grid0.N),
    cc0_transform_1 inb_S2_S1_0 numel1_S1 inb_S2_S1_1 (table a b) (grid0.coords t) = ![a.val, b.val, 0, 0]) a b t
theorem index2 (t : Fin grid0.N) : ((cfgM m (ok m a b hn)).win 2).index t = ![0, 0] :=
  (by decide +kernel : ∀ t : Fin grid0.N, cc0_transform_2 (grid0.coords t) = ![0, 0]) t

theorem read0 (c : Dev nD) (t : Fin grid0.N) (q : Fin 4) (l : Fin 2) (r : Fin 128) (k : Fin 1024) :
    iblk m (ok m a b hn) c 0 t (ix4 q l r k : S4x2x128x1024.Idx) = arr1 m c (ix4 q l r k : S4x2x128x1024.Idx) := by
  blk_ext [iblk, V, index0 m a b hn t]

theorem read1 (c : Dev nD) (t : Fin grid0.N) (r : Fin 128) (k : Fin 1024) :
    iblk m (ok m a b hn) c 1 t (ix4 0 0 r k : S1x1x128x1024.Idx) = arr2 m c (ix4 a b r k : S4x2x128x1024.Idx) := by
  blk_ext [iblk, V, index1 m a b hn t]

theorem kernel_out (c : Dev nD) : (dats m (ok m a b hn) 0 c).arrAt 2 (cfgM m (ok m a b hn)).N = total a b (arr1 m c) (arr2 m c) := by
  refine (dats m (ok m a b hn) 0 c).arrAt_eq_of_covers 2 _ (by decide +kernel : ((cfg0 ⟨table 0 0, table_ok 0 0⟩).win 2).Covers) fun t hf y => ?_
  obtain ⟨r, j, rfl⟩ : ∃ (r : Fin 128) (j : Fin 1024), y = (ix2 r j : S128x1024.Idx) := ⟨_, _, eq_ix2 y⟩
  have e : (((cfgM m (ok m a b hn)).win 2).blk t).view.emb (ix2 r j : S128x1024.Idx) = (ix2 r j : S128x1024.Idx) := by
    blk_ext [index2 m a b hn t]
  rw [e]
  blk_simp
  rw [after0_2]
  unfold outsAt0
  dsimp only
  refine (out2 c (grid0.coords t) _ _ _ _ _ _ (iblk m (ok m a b hn) c 0 t) (iblk m (ok m a b hn) c 1 t) (tbl m 0) a b (congrFun hn _) (congrFun hn _) r j).trans ?_
  refine Finset.sum_congr rfl fun q _ => Finset.sum_congr rfl fun l _ => ?_
  rw [read0 m a b hn, read1 m a b hn]
  split_ifs with hq
  · obtain ⟨rfl, rfl⟩ := hq
    rfl
  · rfl

end Kernel

section Reference

open Cert.Reference31Ideal

/-- A sum over the first two of four axes, written as two sums. -/
theorem sum_devices (h : S4x2x128x1024.ReducesTo [0, 1] S128x1024) (v : S4x2x128x1024.Idx → EReal) (r : Fin 128) (j : Fin 1024) :
    Ideal.hostReduceAdd h v 0 (ix2 r j) = ∑ k : Fin 4, ∑ l : Fin 2, v (ix4 k l r j) := by
  have fiber : ∀ i : S4x2x128x1024.Idx, h.drop i = (ix2 r j : S128x1024.Idx) ↔ ∃ k : Fin 4 × Fin 2, ix4 k.1 k.2 r j = i := by
    intro i
    constructor
    · intro e
      refine ⟨(i 0, i 1), funext fun a => ?_⟩
      match a with
      | ⟨0, _⟩ => rfl
      | ⟨1, _⟩ => rfl
      | ⟨2, _⟩ => exact Fin.ext (congrArg Fin.val (congrFun e 0)).symm
      | ⟨3, _⟩ => exact Fin.ext (congrArg Fin.val (congrFun e 1)).symm
    · rintro ⟨k, rfl⟩
      funext b
      match b with
      | ⟨0, _⟩ => rfl
      | ⟨1, _⟩ => rfl
  refine (zero_add _).trans ((Finset.sum_filter_eq_sum_of_fiber _ (fun k : Fin 4 × Fin 2 => (ix4 k.1 k.2 r j : S4x2x128x1024.Idx))
    (fun _ _ e => Prod.ext (congrFun e 0) (congrFun e 1)) fiber v).trans ?_)
  simp only [Fintype.sum_prod_type]

variable (m : (ℓ : Loc nD τ sig) → Buf (Elt Ideal) ℓ) (a : Fin 4) (b : Fin 2) (hn : ∀ c : Dev nD, m ((c.tc : Thread nD τ).loc main_arg0) = words a b)
include hn

/-- The reference ends with the same sums, and its arguments as they were. -/
theorem reference_run (ρ : Dev nD → PrngReg) :
    θ_run defs (onTc (τ := τ) (main (F := Ideal))) ⟨m, fun _ => 0, ρ⟩ fun r => ∀ c : Dev nD,
      r.2.mem ((c.tc : Thread nD τ).loc main_v17) = total a b (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h⟩ := h c
    refine ⟨h0.trans (funext fun i => ?_), h⟩
    rw [hn c]
    clear h0 h
    generalize (m ((c.tc : Thread nD τ).loc main_arg1)) = g
    generalize (m ((c.tc : Thread nD τ).loc main_arg2)) = v
    obtain ⟨r, j, rfl⟩ : ∃ (r : Fin 128) (j : Fin 1024), i = (ix2 r j : S128x1024.Idx) := ⟨_, _, eq_ix2 i⟩
    pointwise
    refine (sum_devices _ _ r j).trans (Finset.sum_congr rfl fun q _ => Finset.sum_congr rfl fun l _ => ?_)
    pointwise
    fin_cases a <;> fin_cases b <;> fin_cases q <;> fin_cases l <;> rfl)
    (Value.run m ρ)

end Reference

section Run

open Cert.Kernel31Ideal Cert.Kernel31Ideal.Gen

variable (m : (ℓ : Loc nD τ sig) → Buf (Elt Ideal) ℓ)

theorem okIdeal [Cert.Pre_a_place.Facts] (h : Pre_Kernel31Ideal m) : Ok m := by
  obtain ⟨a, b, hn⟩ := place_below (h 0)
  exact ok m a b hn

/-- The kernel ends with its output's blocks put together, and its arguments as they were. -/
theorem kernel_run (hO : Ok m) (ρ : Dev nD → PrngReg) :
    θ_run defs (onTc (τ := τ) (main (F := Ideal))) ⟨m, fun _ => 0, ρ⟩ fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1 2,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩)
    (run_main m ρ hO)

end Run

/-- With the chip's number below four and the core's below two, from arguments that agree, the kernel's result is the reference's. -/
theorem algebraic [Cert.Pre_a_place.Facts] : algebraic_Kernel31Ideal_Reference31Ideal
    (hKernel31Ideal := Cert.Kernel31Ideal.Gen.facts) (hReference31Ideal := Cert.Reference31Ideal.Gen.facts) := by
  intro m g m' g' hpre hagree
  obtain ⟨a, b, hn⟩ := place_below (hpre 0)
  have hn' : ∀ c : Dev Cert.Kernel31Ideal.nD, m' ((c.tc : Thread Cert.Reference31Ideal.nD Cert.Reference31Ideal.τ).loc Cert.Reference31Ideal.main_arg0)
      = words a b := fun c => by
    obtain rfl : c = 0 := Subsingleton.elim _ _
    exact (hagree 0).1.trans hn
  refine ⟨fun c => (Cert.Kernel31Ideal.Gen.dats m (ok m a b hn) 0 c).arrAt 2 (Cert.Kernel31Ideal.Gen.cfgM m (ok m a b hn)).N,
    (θ_run _ _ _).mono (fun r h c => ?_) (kernel_run m (ok m a b hn) g),
    (θ_run _ _ _).mono (fun r h c => ?_) (reference_run m' a b hn' g')⟩
  · exact h c
  · obtain ⟨h0, h⟩ := h c
    obtain ⟨a0, a1, a2⟩ := hagree c
    refine ⟨h0.trans ?_, h⟩
    rw [a1, a2]
    exact (kernel_out m a b hn c).symm

end Cert.DeviceSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Reference31Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.ShortConvKernel
public import proofs.«01_k».proof.Proof.ShortConvReference
public import proofs.«01_k».proof.Proof.DwDown
public import proofs.«01_k».proof.Proof.DwGateUp
public import proofs.«01_k».proof.Proof.DwMixIn
public import proofs.«01_k».proof.Proof.DwOut
public import proofs.«01_k».proof.Proof.MixerOutBwd
public import proofs.«01_k».proof.Proof.MixerOutDw
public import proofs.«01_k».proof.Proof.Merge
public import proofs.«01_k».proof.Proof.FfnDown
public import proofs.«01_k».proof.Proof.MixIn
public import proofs.«01_k».proof.Proof.FfnUp
public import proofs.«01_k».proof.Proof.GateUp
public import proofs.«01_k».proof.Proof.MixProj
public import proofs.«01_k».proof.Proof.MixOut
public import proofs.«01_k».proof.Proof.MergeFwd
public import proofs.«01_k».proof.Proof.ConvFwd
public import proofs.«01_k».proof.Proof.NormFwd
public import proofs.«01_k».proof.Proof.AdaFwd
public import proofs.«01_k».proof.Proof.AdaBwd
public import proofs.«01_k».proof.Proof.LossHead
public import proofs.«01_k».proof.Proof.AdamAda
public import proofs.«01_k».proof.Proof.AdamSmall
public import proofs.«01_k».proof.Proof.AdamMixIn
public import proofs.«01_k».proof.Proof.AdamDown
public import proofs.«01_k».proof.Proof.AdamGateUp
public import proofs.«01_k».proof.Proof.AdamBranch
public import proofs.«01_k».proof.Proof.AdamOut
public import proofs.«01_k».proof.Proof.SmallSums
public import proofs.«01_k».proof.Proof.PairSum
public import proofs.«01_k».proof.Proof.ChipSum
public import proofs.«01_k».proof.Proof.DeviceSum
public import Idealize.ShloMosaic.Adequacy
public import Idealize.ShloMosaic.Init

@[expose] public section

noncomputable section

namespace Cert.Proof

open Idealize.ShloMosaic Idealize.SL.Sem Cert.Kernel

/-- The short convolution's gradient, kernel against reference: both end at the four formulas. -/
theorem algebraic : algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    (θ_run _ _ _).mono (fun r h c => ?_) (Cert.KernelIdeal.Value.run_blocks m g),
    (θ_run _ _ _).mono (fun r h c => ?_) (Cert.ShortConv.reference_run m' g')⟩
  · exact h c
  · obtain ⟨h0, h1, h2, h3, h⟩ := h c
    obtain ⟨a0, a1, a2⟩ := hagree c
    refine ⟨h0.trans ?_, h1.trans ?_, h2.trans ?_, h3.trans ?_, h⟩ <;> rw [a0, a1] <;> try rw [a2]
    · exact (Cert.ShortConv.kernel_dGate m c).symm
    · exact (Cert.ShortConv.kernel_dC m c).symm
    · exact (Cert.ShortConv.kernel_dX m c).symm
    · exact (Cert.ShortConv.kernel_dW m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.FfnDown.finite_facts, Cert.PairSum.pre_facts, Cert.ChipSum.pre_facts, Cert.DeviceSum.pre_facts,
  fun m ρ _ => Cert.Kernel.Gen.frame m ρ,
  fun m ρ _ => Cert.KernelIdeal.Gen.frame m ρ,
  fun m ρ _ => (θ_run _ _ _).mono
    (fun r h => ⟨fun c => (h c).2.2.2.2, Idealize.ShloMosaic.sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => (θ_run _ _ _).mono
    (fun r h => ⟨fun c => (h c).2.2.2.2.2, Idealize.ShloMosaic.sem_eq_zero_of_no_sems (by decide) r.2⟩)
    (Cert.Reference2Ideal.Value.run m ρ),
  fun m ρ _ => Cert.Kernel3.Gen.frame m ρ,
  fun m ρ _ => Cert.Kernel3Ideal.Gen.frame m ρ,
  fun m ρ _ => (θ_run _ _ _).mono
    (fun r h => ⟨fun c => (h c).2.2.2, Idealize.ShloMosaic.sem_eq_zero_of_no_sems (by decide) r.2⟩)
    (Cert.Reference3Ideal.Value.run m ρ),
  fun m ρ _ => Cert.Kernel4.Gen.frame m ρ,
  fun m ρ _ => Cert.Kernel4Ideal.Gen.frame m ρ,
  fun m ρ _ => (θ_run _ _ _).mono
    (fun r h => ⟨fun c => (h c).2.2.2, Idealize.ShloMosaic.sem_eq_zero_of_no_sems (by decide) r.2⟩)
    (Cert.Reference4Ideal.Value.run m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run _ _ _).mono
    (fun r h => ⟨fun c => (h c).2, Idealize.ShloMosaic.sem_eq_zero_of_no_sems (by decide) r.2⟩)
    (Cert.Reference5Ideal.Value.run m ρ),
  fun m ρ _ => (θ_run _ _ _).mono
    (fun r h => ⟨fun c => (h c).2, Idealize.ShloMosaic.sem_eq_zero_of_no_sems (by decide) r.2⟩)
    (Cert.Reference5Ideal.Value.run m ρ),
  fun m ρ _ => Cert.Kernel6.Gen.frame m ρ,
  fun m ρ _ => Cert.Kernel6Ideal.Gen.frame m ρ,
  fun m ρ _ => (θ_run _ _ _).mono
    (fun r h => ⟨fun c => (h c).2, Idealize.ShloMosaic.sem_eq_zero_of_no_sems (by decide) r.2⟩)
    (Cert.Reference6Ideal.Value.run m ρ),
  fun m ρ _ => Cert.Kernel7.Gen.frame m ρ,
  fun m ρ _ => Cert.Kernel7Ideal.Gen.frame m ρ,
  fun m ρ _ => (θ_run _ _ _).mono
    (fun r h => ⟨fun c => (h c).2, Idealize.ShloMosaic.sem_eq_zero_of_no_sems (by decide) r.2⟩)
    (Cert.Reference7Ideal.Value.run m ρ),
  fun m ρ _ => Cert.Kernel8.Gen.frame m ρ,
  fun m ρ _ => Cert.Kernel8Ideal.Gen.frame m ρ,
  fun m ρ _ => (θ_run _ _ _).mono
    (fun r h => ⟨fun c => (h c).2, Idealize.ShloMosaic.sem_eq_zero_of_no_sems (by decide) r.2⟩)
    (Cert.Reference8Ideal.Value.run m ρ),
  fun m ρ _ => Cert.Kernel9.Gen.frame m ρ,
  fun m ρ _ => Cert.Kernel9Ideal.Gen.frame m ρ,
  fun m ρ _ => (θ_run _ _ _).mono
    (fun r h => ⟨fun c => (h c).2, Idealize.ShloMosaic.sem_eq_zero_of_no_sems (by decide) r.2⟩)
    (Cert.Reference9Ideal.Value.run m ρ),
  fun m ρ _ => Cert.Kernel10.Gen.frame m ρ,
  fun m ρ _ => Cert.Kernel10Ideal.Gen.frame m ρ,
  fun m ρ _ => (θ_run _ _ _).mono
    (fun r h => ⟨fun c => (h c).2.2, Idealize.ShloMosaic.sem_eq_zero_of_no_sems (by decide) r.2⟩)
    (Cert.Reference10Ideal.Value.run m ρ),
  fun m ρ _ => Cert.Kernel11.Gen.frame m ρ,
  fun m ρ _ => Cert.Kernel11Ideal.Gen.frame m ρ,
  fun m ρ _ => (θ_run _ _ _).mono
    (fun r h => ⟨fun c => (h c).2.2, Idealize.ShloMosaic.sem_eq_zero_of_no_sems (by decide) r.2⟩)
    (Cert.Reference11Ideal.Value.run m ρ),
  fun m ρ _ => Cert.Kernel12.Gen.frame m ρ,
  fun m ρ _ => Cert.Kernel12Ideal.Gen.frame m ρ,
  fun m ρ _ => (θ_run _ _ _).mono
    (fun r h => ⟨fun c => (h c).2.2, Idealize.ShloMosaic.sem_eq_zero_of_no_sems (by decide) r.2⟩)
    (Cert.Reference12Ideal.Value.run m ρ),
  fun m ρ _ => Cert.Kernel13.Gen.frame m ρ,
  fun m ρ _ => Cert.Kernel13Ideal.Gen.frame m ρ,
  fun m ρ _ => (θ_run _ _ _).mono
    (fun r h => ⟨fun c => (h c).2, Idealize.ShloMosaic.sem_eq_zero_of_no_sems (by decide) r.2⟩)
    (Cert.Reference13Ideal.Value.run m ρ),
  fun m ρ _ => Cert.Kernel14.Gen.frame m ρ,
  fun m ρ _ => Cert.Kernel14Ideal.Gen.frame m ρ,
  fun m ρ _ => (θ_run _ _ _).mono
    (fun r h => ⟨fun c => (h c).2.2.2, Idealize.ShloMosaic.sem_eq_zero_of_no_sems (by decide) r.2⟩)
    (Cert.Reference14Ideal.Value.run m ρ),
  fun m ρ _ => Cert.Kernel15.Gen.frame m ρ,
  fun m ρ _ => Cert.Kernel15Ideal.Gen.frame m ρ,
  fun m ρ _ => (θ_run _ _ _).mono
    (fun r h => ⟨fun c => (h c).2.2.2, Idealize.ShloMosaic.sem_eq_zero_of_no_sems (by decide) r.2⟩)
    (Cert.Reference15Ideal.Value.run m ρ),
  fun m ρ _ => Cert.Kernel16.Gen.frame m ρ,
  fun m ρ _ => Cert.Kernel16Ideal.Gen.frame m ρ,
  fun m ρ _ => (θ_run _ _ _).mono
    (fun r h => ⟨fun c => (h c).2.2.2.2, Idealize.ShloMosaic.sem_eq_zero_of_no_sems (by decide) r.2⟩)
    (Cert.Reference16Ideal.Value.run m ρ),
  fun m ρ _ => Cert.Kernel17.Gen.frame m ρ,
  fun m ρ _ => Cert.Kernel17Ideal.Gen.frame m ρ,
  fun m ρ _ => (θ_run _ _ _).mono
    (fun r h => ⟨fun c => (h c).2, Idealize.ShloMosaic.sem_eq_zero_of_no_sems (by decide) r.2⟩)
    (Cert.Reference17Ideal.Value.run m ρ),
  fun m ρ _ => Cert.Kernel18.Gen.frame m ρ,
  fun m ρ _ => Cert.Kernel18Ideal.Gen.frame m ρ,
  fun m ρ _ => (θ_run _ _ _).mono
    (fun r h => ⟨fun c => (h c).2, Idealize.ShloMosaic.sem_eq_zero_of_no_sems (by decide) r.2⟩)
    (Cert.Reference18Ideal.Value.run m ρ),
  fun m ρ _ => Cert.Kernel19.Gen.frame m ρ,
  fun m ρ _ => Cert.Kernel19Ideal.Gen.frame m ρ,
  fun m ρ _ => (θ_run _ _ _).mono
    (fun r h => ⟨fun c => (h c).2, Idealize.ShloMosaic.sem_eq_zero_of_no_sems (by decide) r.2⟩)
    (Cert.Reference19Ideal.Value.run m ρ),
  fun m ρ _ => Cert.Kernel20.Gen.frame m ρ,
  fun m ρ _ => Cert.Kernel20Ideal.Gen.frame m ρ,
  fun m ρ _ => (θ_run _ _ _).mono
    (fun r h => ⟨fun c => (h c).2, Idealize.ShloMosaic.sem_eq_zero_of_no_sems (by decide) r.2⟩)
    (Cert.Reference20Ideal.Value.run m ρ),
  fun m ρ _ => Cert.Kernel21.Gen.frame m ρ,
  fun m ρ _ => Cert.Kernel21Ideal.Gen.frame m ρ,
  fun m ρ _ => (θ_run _ _ _).mono
    (fun r h => ⟨fun c => (h c).2.2.2, Idealize.ShloMosaic.sem_eq_zero_of_no_sems (by decide) r.2⟩)
    (Cert.Reference21Ideal.Value.run m ρ),
  fun m ρ _ => Cert.Kernel22.Gen.frame m ρ,
  fun m ρ _ => Cert.Kernel22Ideal.Gen.frame m ρ,
  fun m ρ _ => (θ_run _ _ _).mono
    (fun r h => ⟨fun c => (h c).2.2.2, Idealize.ShloMosaic.sem_eq_zero_of_no_sems (by decide) r.2⟩)
    (Cert.Reference22Ideal.Value.run m ρ),
  fun m ρ _ => Cert.Kernel23.Gen.frame m ρ (by unfold Cert.Kernel23.Gen.Ok Cert.Kernel23.ok0; trivial),
  fun m ρ _ => Cert.Kernel23Ideal.Gen.frame m ρ (by unfold Cert.Kernel23Ideal.Gen.Ok Cert.Kernel23Ideal.ok0; trivial),
  fun m ρ _ => (θ_run _ _ _).mono
    (fun r h => ⟨fun c => (h c).2.2.2.2, Idealize.ShloMosaic.sem_eq_zero_of_no_sems (by decide) r.2⟩)
    (Cert.Reference23Ideal.Value.run m ρ),
  fun m ρ _ => Cert.Kernel24.Gen.frame m ρ (by unfold Cert.Kernel24.Gen.Ok Cert.Kernel24.ok0; trivial),
  fun m ρ _ => Cert.Kernel24Ideal.Gen.frame m ρ (by unfold Cert.Kernel24Ideal.Gen.Ok Cert.Kernel24Ideal.ok0; trivial),
  fun m ρ _ => (θ_run _ _ _).mono
    (fun r h => ⟨fun c => (h c).2.2.2.2, Idealize.ShloMosaic.sem_eq_zero_of_no_sems (by decide) r.2⟩)
    (Cert.Reference24Ideal.Value.run m ρ),
  fun m ρ _ => Cert.Kernel25.Gen.frame m ρ (by unfold Cert.Kernel25.Gen.Ok Cert.Kernel25.ok0; trivial),
  fun m ρ _ => Cert.Kernel25Ideal.Gen.frame m ρ (by unfold Cert.Kernel25Ideal.Gen.Ok Cert.Kernel25Ideal.ok0; trivial),
  fun m ρ _ => (θ_run _ _ _).mono
    (fun r h => ⟨fun c => (h c).2.2.2.2, Idealize.ShloMosaic.sem_eq_zero_of_no_sems (by decide) r.2⟩)
    (Cert.Reference25Ideal.Value.run m ρ),
  fun m ρ _ => Cert.Kernel26.Gen.frame m ρ (by unfold Cert.Kernel26.Gen.Ok Cert.Kernel26.ok0; trivial),
  fun m ρ _ => Cert.Kernel26Ideal.Gen.frame m ρ (by unfold Cert.Kernel26Ideal.Gen.Ok Cert.Kernel26Ideal.ok0; trivial),
  fun m ρ _ => (θ_run _ _ _).mono
    (fun r h => ⟨fun c => (h c).2.2.2.2, Idealize.ShloMosaic.sem_eq_zero_of_no_sems (by decide) r.2⟩)
    (Cert.Reference26Ideal.Value.run m ρ),
  fun m ρ _ => Cert.Kernel27.Gen.frame m ρ (by unfold Cert.Kernel27.Gen.Ok Cert.Kernel27.ok0; trivial),
  fun m ρ _ => Cert.Kernel27Ideal.Gen.frame m ρ (by unfold Cert.Kernel27Ideal.Gen.Ok Cert.Kernel27Ideal.ok0; trivial),
  fun m ρ _ => (θ_run _ _ _).mono
    (fun r h => ⟨fun c => (h c).2.2.2.2, Idealize.ShloMosaic.sem_eq_zero_of_no_sems (by decide) r.2⟩)
    (Cert.Reference27Ideal.Value.run m ρ),
  fun m ρ _ => Cert.Kernel28.Gen.frame m ρ,
  fun m ρ _ => Cert.Kernel28Ideal.Gen.frame m ρ,
  fun m ρ _ => (θ_run _ _ _).mono
    (fun r h => ⟨fun c => (h c).2, Idealize.ShloMosaic.sem_eq_zero_of_no_sems (by decide) r.2⟩)
    (Cert.Reference28Ideal.Value.run m ρ),
  fun m ρ h => haveI := Cert.PairSum.pre_facts; Cert.Kernel29.Gen.frame m ρ (Cert.PairSum.okBits m h),
  fun m ρ h => haveI := Cert.PairSum.pre_facts; Cert.Kernel29Ideal.Gen.frame m ρ (Cert.PairSum.okIdeal m h),
  fun m ρ _ => (θ_run _ _ _).mono
    (fun r h => ⟨fun c => (h c).2, Idealize.ShloMosaic.sem_eq_zero_of_no_sems (by decide) r.2⟩)
    (Cert.Reference29Ideal.Value.run m ρ),
  fun m ρ _ => (θ_run _ _ _).mono
    (fun r h => ⟨fun c => (h c).2, Idealize.ShloMosaic.sem_eq_zero_of_no_sems (by decide) r.2⟩)
    (Cert.Reference29Ideal.Value.run m ρ),
  fun m ρ h => haveI := Cert.ChipSum.pre_facts; Cert.Kernel30.Gen.frame m ρ (Cert.ChipSum.okBits m h),
  fun m ρ h => haveI := Cert.ChipSum.pre_facts; Cert.Kernel30Ideal.Gen.frame m ρ (Cert.ChipSum.okIdeal m h),
  fun m ρ _ => (θ_run _ _ _).mono
    (fun r h => ⟨fun c => (h c).2, Idealize.ShloMosaic.sem_eq_zero_of_no_sems (by decide) r.2⟩)
    (Cert.Reference30Ideal.Value.run m ρ),
  fun m ρ _ => (θ_run _ _ _).mono
    (fun r h => ⟨fun c => (h c).2, Idealize.ShloMosaic.sem_eq_zero_of_no_sems (by decide) r.2⟩)
    (Cert.Reference30Ideal.Value.run m ρ),
  fun m ρ h => haveI := Cert.DeviceSum.pre_facts; Cert.Kernel31.Gen.frame m ρ (Cert.DeviceSum.okBits m h),
  fun m ρ h => haveI := Cert.DeviceSum.pre_facts; Cert.Kernel31Ideal.Gen.frame m ρ (Cert.DeviceSum.okIdeal m h),
  fun m ρ _ => (θ_run _ _ _).mono
    (fun r h => ⟨fun c => (h c).2, Idealize.ShloMosaic.sem_eq_zero_of_no_sems (by decide) r.2⟩)
    (Cert.Reference31Ideal.Value.run m ρ),
  fun m ρ _ => (θ_run _ _ _).mono
    (fun r h => ⟨fun c => (h c).2, Idealize.ShloMosaic.sem_eq_zero_of_no_sems (by decide) r.2⟩)
    (Cert.Reference31Ideal.Value.run m ρ),
  trivial,
  algebraic,
  trivial,
  Cert.Merge.algebraic,
  trivial,
  Cert.MixIn.algebraic,
  trivial,
  Cert.FfnUp.algebraic,
  trivial,
  haveI := Cert.FfnDown.finite_facts; Cert.FfnDown.algebraic,
  trivial,
  Cert.DwDown.algebraic,
  trivial,
  Cert.DwGateUp.algebraic,
  trivial,
  Cert.DwMixIn.algebraic,
  trivial,
  Cert.DwOut.algebraic,
  trivial,
  Cert.MixerOutBwd.algebraic,
  trivial,
  Cert.MixerOutDw.algebraic,
  trivial,
  Cert.GateUp.algebraic,
  trivial,
  Cert.MixProj.algebraic,
  trivial,
  Cert.MixOut.algebraic,
  trivial,
  Cert.MergeFwd.algebraic,
  trivial,
  Cert.LossHead.algebraic,
  trivial,
  Cert.ConvFwd.algebraic,
  trivial,
  Cert.NormFwd.algebraic,
  trivial,
  Cert.AdaFwd.algebraic,
  trivial,
  Cert.AdaBwd.algebraic,
  trivial,
  Cert.AdamAda.algebraic,
  trivial,
  Cert.AdamSmall.algebraic,
  trivial,
  Cert.AdamMixIn.algebraic,
  trivial,
  Cert.AdamDown.algebraic,
  trivial,
  Cert.AdamGateUp.algebraic,
  trivial,
  Cert.AdamBranch.algebraic,
  trivial,
  Cert.AdamOut.algebraic,
  trivial,
  Cert.SmallSums.algebraic,
  trivial,
  haveI := Cert.PairSum.pre_facts; Cert.PairSum.algebraic,
  trivial,
  haveI := Cert.ChipSum.pre_facts; Cert.ChipSum.algebraic,
  trivial,
  haveI := Cert.DeviceSum.pre_facts; Cert.DeviceSum.algebraic⟩

end Cert.Proof

end
